-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S201x64 : Shape := ⟨2, ![201, 64]⟩
abbrev S819200 : Shape := ⟨1, ![819200]⟩
abbrev S12864 : Shape := ⟨1, ![12864]⟩
abbrev S52428800 : Shape := ⟨1, ![52428800]⟩
abbrev S12816 : Shape := ⟨1, ![12816]⟩
abbrev S8x12800 : Shape := ⟨2, ![8, 12800]⟩
abbrev S_ : Shape := ⟨0, ![]⟩
abbrev S16 : Shape := ⟨1, ![16]⟩
abbrev S12800 : Shape := ⟨1, ![12800]⟩
abbrev S1x12800 : Shape := ⟨2, ![1, 12800]⟩
abbrev S1 : Shape := ⟨1, ![1]⟩
abbrev S4096x200x64 : Shape := ⟨3, ![4096, 200, 64]⟩

abbrev nBuf : Table → Nat
  | .hbm => 6
  | .local .scVector .vmem => 3
  | _ => 0

abbrev bufTy : (tb : Table) → Fin (nBuf tb) → BufTy
  | .hbm, ⟨0, _⟩ => ⟨S4096x200, .i32⟩
  | .hbm, ⟨1, _⟩ => ⟨S201x64, .f32⟩
  | .hbm, ⟨2, _⟩ => ⟨S819200, .i32⟩
  | .hbm, ⟨3, _⟩ => ⟨S12864, .f32⟩
  | .hbm, ⟨4, _⟩ => ⟨S52428800, .f32⟩
  | .hbm, ⟨5, _⟩ => ⟨S4096x200x64, .f32⟩
  | .local .scVector .vmem, ⟨0, _⟩ => ⟨S12816, .i32⟩
  | .local .scVector .vmem, ⟨1, _⟩ => ⟨S12864, .f32⟩
  | .local .scVector .vmem, ⟨2, _⟩ => ⟨S8x12800, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c16_i32 : BitVec 32 := 16#32
  let v11 : BitVec 32 := Scalar.addi c0_i32_2 c16_i32
  let c1_i32_3 : BitVec 32 := 1#32
  ⟨c0_i32_2, v11, c1_i32_3⟩
def k0_cond1 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c63_i32_26 : BitVec 32 := 63#32
  let v71 : BitVec 32 := Scalar.andi v69 c63_i32_26
  let c0_i32_27 : BitVec 32 := 0#32
  let v72 : BitVec 1 := Scalar.cmpi .eq v71 c0_i32_27
  let v73 : BitVec 32 := Scalar.extui v72
  let c0_i32_28 : BitVec 32 := 0#32
  let v74 : BitVec 1 := Scalar.cmpi .ne v73 c0_i32_28
  v74

def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c6_i32_188 : BitVec 32 := 6#32
  let v308 : BitVec 32 := Scalar.shrsi v69 c6_i32_188
  let c12800_i32_189 : BitVec 32 := 12800#32
  let v309 : BitVec 32 := Scalar.muli v308 c12800_i32_189
  let v310 : BitVec 32 := Scalar.addi v3 v309
  ![v310.toNat]
def k0_cond2 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c8_i32_29 : BitVec 32 := 8#32
  let v75 : BitVec 1 := Scalar.cmpi .sge v69 c8_i32_29
  let v76 : BitVec 32 := Scalar.extui v75
  let c0_i32_30 : BitVec 32 := 0#32
  let v77 : BitVec 1 := Scalar.cmpi .ne v76 c0_i32_30
  v77

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c8_i32_188 : BitVec 32 := 8#32
  let v308 : BitVec 32 := Scalar.subi v69 c8_i32_188
  let c12800_i32_189 : BitVec 32 := 12800#32
  let v309 : BitVec 32 := Scalar.muli v308 c12800_i32_189
  let v310 : BitVec 32 := Scalar.addi v5 v309
  ![v310.toNat]
@[reducible] def k0_t2_loop : Scf.Loop 32 :=
  let c0_i32_32 : BitVec 32 := 0#32
  let c12_i32 : BitVec 32 := 12#32
  let v78 : BitVec 32 := Scalar.addi c0_i32_32 c12_i32
  let c1_i32_33 : BitVec 32 := 1#32
  ⟨c0_i32_32, v78, c1_i32_33⟩
def k0_off3 (k0_t1 : Fin k0_t1_loop.trips) (k0_t2 : Fin k0_t2_loop.trips) : Fin 1 → Nat :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c63_i32 : BitVec 32 := 63#32
  let v70 : BitVec 32 := Scalar.andi v69 c63_i32
  let c200_i32_188 : BitVec 32 := 200#32
  let v308 : BitVec 32 := Scalar.muli v70 c200_i32_188
  let c16_i32_189 : BitVec 32 := 16#32
  let c0_i32_32 : BitVec 32 := 0#32
  let c1_i32_33 : BitVec 32 := 1#32
  let arg17 : BitVec 32 := Scf.iv c0_i32_32 c1_i32_33 k0_t2
  let v309 : BitVec 32 := Scalar.muli c16_i32_189 arg17
  let v310 : BitVec 32 := Scalar.addi v308 v309
  let v311 : Index := Scalar.indexCast v310
  ![v311.toNat]
def k0_off4 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c63_i32 : BitVec 32 := 63#32
  let v70 : BitVec 32 := Scalar.andi v69 c63_i32
  let c200_i32_35 : BitVec 32 := 200#32
  let v80 : BitVec 32 := Scalar.muli v70 c200_i32_35
  let c192_i32 : BitVec 32 := 192#32
  let v81 : BitVec 32 := Scalar.addi v80 c192_i32
  let v82 : Index := Scalar.indexCast v81
  ![v82.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c12800_i32_188 : BitVec 32 := 12800#32
  let v308 : BitVec 32 := Scalar.muli v69 c12800_i32_188
  let v309 : BitVec 32 := Scalar.addi v5 v308
  ![v309.toNat]
@[reducible] def k0_t3_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off6 (k0_t1 : Fin k0_t1_loop.trips) (k0_t3 : Fin k0_t3_loop.trips) : Fin 1 → Nat :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c63_i32 : BitVec 32 := 63#32
  let v70 : BitVec 32 := Scalar.andi v69 c63_i32
  let c200_i32_208 : BitVec 32 := 200#32
  let v335 : BitVec 32 := Scalar.muli v70 c200_i32_208
  let c16_i32_209 : BitVec 32 := 16#32
  let c0_i32_190 : BitVec 32 := 0#32
  let c1_i32_192 : BitVec 32 := 1#32
  let arg17 : BitVec 32 := Scf.iv c0_i32_190 c1_i32_192 k0_t3
  let v336 : BitVec 32 := Scalar.muli c16_i32_209 arg17
  let v337 : BitVec 32 := Scalar.addi v335 v336
  let v338 : Index := Scalar.indexCast v337
  ![v338.toNat]
@[reducible] def k0_t4_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off7 (arg18 : BitVec 32) (k0_t4 : Fin k0_t4_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t4
  let c16_i32_223 : BitVec 32 := 16#32
  let v358 : BitVec 32 := Scalar.muli arg19 c16_i32_223
  let v359 : BitVec 32 := Scalar.addi v355 v358
  let v360 : Index := Scalar.indexCast v359
  ![v360.toNat]
def k0_cond4 (v79 : BitVec 32) (v90 : BitVec 32) : BitVec 1 :=
  let v91 : BitVec 32 := Scalar.addi v79 v90
  let c0_i32_39 : BitVec 32 := 0#32
  let v95 : BitVec 1 := Scalar.cmpi .sgt v91 c0_i32_39
  let v96 : BitVec 32 := Scalar.extui v95
  let c0_i32_40 : BitVec 32 := 0#32
  let v97 : BitVec 1 := Scalar.cmpi .ne v96 c0_i32_40
  v97

def k0_cond5 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk1 (v79 : BitVec 32) (v90 : BitVec 32) (arg18 : BitVec 32) (v345 : BitVec 32) : Prop :=
  (∀ k0_t4 : Fin k0_t4_loop.trips, ∀ (k0_h4 : k0_cond4 v79 v90 = 1#1), ∀ (k0_h5 : k0_cond5 v345 = 1#1), ∀ a, (k0_off7 arg18 k0_t4) a + S16.size a ≤ S12864.size a)
theorem k0_off7_inb : ∀ (v79 : BitVec 32) (v90 : BitVec 32) (arg18 : BitVec 32) (v345 : BitVec 32) (k0_hw1 : k0_chk1 v79 v90 arg18 v345) (k0_t4 : Fin k0_t4_loop.trips), ∀ (k0_h4 : k0_cond4 v79 v90 = 1#1), ∀ (k0_h5 : k0_cond5 v345 = 1#1), ∀ a, (k0_off7 arg18 k0_t4) a + S16.size a ≤ S12864.size a := fun v79 v90 arg18 v345 k0_hw1 k0_t4 k0_h4 k0_h5 => k0_hw1 k0_t4 k0_h4 k0_h5

def k0_off8 (k0_t3 : Fin k0_t3_loop.trips) (k0_t4 : Fin k0_t4_loop.trips) : Fin 1 → Nat :=
  let c0_i32_190 : BitVec 32 := 0#32
  let c1_i32_192 : BitVec 32 := 1#32
  let arg17 : BitVec 32 := Scf.iv c0_i32_190 c1_i32_192 k0_t3
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t4
  let c16_i32_224 : BitVec 32 := 16#32
  let v362 : BitVec 32 := Scalar.muli arg19 c16_i32_224
  let v363 : BitVec 32 := Scalar.addi v356 v362
  let v366 : Index := Scalar.indexCast v363
  ![v366.toNat]
def k0_off9 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond6 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk2 (v79 : BitVec 32) (v90 : BitVec 32) (arg18 : BitVec 32) (v345 : BitVec 32) (v356 : BitVec 32) : Prop :=
  (∀ (k0_h4 : k0_cond4 v79 v90 = 1#1), ∀ (k0_h6 : k0_cond6 v345 = 1#1), ∀ (r : Fin 4), ∀ a, (k0_off9 arg18 v356 (BitVec.ofNat 32 (16 * r.val))) a + S16.size a ≤ S12864.size a)
theorem k0_off9_inb : ∀ (v79 : BitVec 32) (v90 : BitVec 32) (arg18 : BitVec 32) (v345 : BitVec 32) (v356 : BitVec 32) (k0_hw2 : k0_chk2 v79 v90 arg18 v345 v356), ∀ (k0_h4 : k0_cond4 v79 v90 = 1#1), ∀ (k0_h6 : k0_cond6 v345 = 1#1), ∀ (r : Fin 4), ∀ a, (k0_off9 arg18 v356 (BitVec.ofNat 32 (16 * r.val))) a + S16.size a ≤ S12864.size a := fun v79 v90 arg18 v345 v356 k0_hw2 k0_h4 k0_h6 r => k0_hw2 k0_h4 k0_h6 r

def k0_off10 (k0_t3 : Fin k0_t3_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off11 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk3 (v79 : BitVec 32) (v90 : BitVec 32) (arg18 : BitVec 32) (v345 : BitVec 32) (v356 : BitVec 32) (v397 : BitVec 32) : Prop :=
  (∀ (k0_h4 : k0_cond4 v79 v90 = 1#1), ∀ (k0_h6 : k0_cond6 v345 = 1#1), ∀ (r : Fin 4), ∀ a, (k0_off11 arg18 v356 v397 (BitVec.ofNat 32 (16 * r.val))) a + S16.size a ≤ S12864.size a)
theorem k0_off11_inb : ∀ (v79 : BitVec 32) (v90 : BitVec 32) (arg18 : BitVec 32) (v345 : BitVec 32) (v356 : BitVec 32) (v397 : BitVec 32) (k0_hw3 : k0_chk3 v79 v90 arg18 v345 v356 v397), ∀ (k0_h4 : k0_cond4 v79 v90 = 1#1), ∀ (k0_h6 : k0_cond6 v345 = 1#1), ∀ (r : Fin 4), ∀ a, (k0_off11 arg18 v356 v397 (BitVec.ofNat 32 (16 * r.val))) a + S16.size a ≤ S12864.size a := fun v79 v90 arg18 v345 v356 v397 k0_hw3 k0_h4 k0_h6 r => k0_hw3 k0_h4 k0_h6 r

def k0_off12 (k0_t3 : Fin k0_t3_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off13 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk4 (v79 : BitVec 32) (v90 : BitVec 32) (arg18 : BitVec 32) (v345 : BitVec 32) (v356 : BitVec 32) (v397 : BitVec 32) (v438 : BitVec 32) : Prop :=
  (∀ (k0_h4 : k0_cond4 v79 v90 = 1#1), ∀ (k0_h6 : k0_cond6 v345 = 1#1), ∀ (r : Fin 4), ∀ a, (k0_off13 arg18 v356 v397 v438 (BitVec.ofNat 32 (16 * r.val))) a + S16.size a ≤ S12864.size a)
theorem k0_off13_inb : ∀ (v79 : BitVec 32) (v90 : BitVec 32) (arg18 : BitVec 32) (v345 : BitVec 32) (v356 : BitVec 32) (v397 : BitVec 32) (v438 : BitVec 32) (k0_hw4 : k0_chk4 v79 v90 arg18 v345 v356 v397 v438), ∀ (k0_h4 : k0_cond4 v79 v90 = 1#1), ∀ (k0_h6 : k0_cond6 v345 = 1#1), ∀ (r : Fin 4), ∀ a, (k0_off13 arg18 v356 v397 v438 (BitVec.ofNat 32 (16 * r.val))) a + S16.size a ≤ S12864.size a := fun v79 v90 arg18 v345 v356 v397 v438 k0_hw4 k0_h4 k0_h6 r => k0_hw4 k0_h4 k0_h6 r

def k0_off14 (k0_t3 : Fin k0_t3_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off15 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk5 (v79 : BitVec 32) (v90 : BitVec 32) (arg18 : BitVec 32) (v345 : BitVec 32) (v356 : BitVec 32) (v397 : BitVec 32) (v438 : BitVec 32) (v479 : BitVec 32) : Prop :=
  (∀ (k0_h4 : k0_cond4 v79 v90 = 1#1), ∀ (k0_h6 : k0_cond6 v345 = 1#1), ∀ (r : Fin 4), ∀ a, (k0_off15 arg18 v356 v397 v438 v479 (BitVec.ofNat 32 (16 * r.val))) a + S16.size a ≤ S12864.size a)
theorem k0_off15_inb : ∀ (v79 : BitVec 32) (v90 : BitVec 32) (arg18 : BitVec 32) (v345 : BitVec 32) (v356 : BitVec 32) (v397 : BitVec 32) (v438 : BitVec 32) (v479 : BitVec 32) (k0_hw5 : k0_chk5 v79 v90 arg18 v345 v356 v397 v438 v479), ∀ (k0_h4 : k0_cond4 v79 v90 = 1#1), ∀ (k0_h6 : k0_cond6 v345 = 1#1), ∀ (r : Fin 4), ∀ a, (k0_off15 arg18 v356 v397 v438 v479 (BitVec.ofNat 32 (16 * r.val))) a + S16.size a ≤ S12864.size a := fun v79 v90 arg18 v345 v356 v397 v438 v479 k0_hw5 k0_h4 k0_h6 r => k0_hw5 k0_h4 k0_h6 r

def k0_off16 (k0_t3 : Fin k0_t3_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off17 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk6 (v79 : BitVec 32) (v90 : BitVec 32) (arg18 : BitVec 32) (v345 : BitVec 32) (v356 : BitVec 32) (v397 : BitVec 32) (v438 : BitVec 32) (v479 : BitVec 32) (v520 : BitVec 32) : Prop :=
  (∀ (k0_h4 : k0_cond4 v79 v90 = 1#1), ∀ (k0_h6 : k0_cond6 v345 = 1#1), ∀ (r : Fin 4), ∀ a, (k0_off17 arg18 v356 v397 v438 v479 v520 (BitVec.ofNat 32 (16 * r.val))) a + S16.size a ≤ S12864.size a)
theorem k0_off17_inb : ∀ (v79 : BitVec 32) (v90 : BitVec 32) (arg18 : BitVec 32) (v345 : BitVec 32) (v356 : BitVec 32) (v397 : BitVec 32) (v438 : BitVec 32) (v479 : BitVec 32) (v520 : BitVec 32) (k0_hw6 : k0_chk6 v79 v90 arg18 v345 v356 v397 v438 v479 v520), ∀ (k0_h4 : k0_cond4 v79 v90 = 1#1), ∀ (k0_h6 : k0_cond6 v345 = 1#1), ∀ (r : Fin 4), ∀ a, (k0_off17 arg18 v356 v397 v438 v479 v520 (BitVec.ofNat 32 (16 * r.val))) a + S16.size a ≤ S12864.size a := fun v79 v90 arg18 v345 v356 v397 v438 v479 v520 k0_hw6 k0_h4 k0_h6 r => k0_hw6 k0_h4 k0_h6 r

def k0_off18 (k0_t3 : Fin k0_t3_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off19 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk7 (v79 : BitVec 32) (v90 : BitVec 32) (arg18 : BitVec 32) (v345 : BitVec 32) (v356 : BitVec 32) (v397 : BitVec 32) (v438 : BitVec 32) (v479 : BitVec 32) (v520 : BitVec 32) (v561 : BitVec 32) : Prop :=
  (∀ (k0_h4 : k0_cond4 v79 v90 = 1#1), ∀ (k0_h6 : k0_cond6 v345 = 1#1), ∀ (r : Fin 4), ∀ a, (k0_off19 arg18 v356 v397 v438 v479 v520 v561 (BitVec.ofNat 32 (16 * r.val))) a + S16.size a ≤ S12864.size a)
theorem k0_off19_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (k0_hw7 : k0_chk7 v79 v90 arg18 v345 v356 v397 v438 v479 v520 v561), ∀ (k0_h4 : k0_cond4 v79 v90 = 1#1), ∀ (k0_h6 : k0_cond6 v345 = 1#1), ∀ (r : Fin 4), ∀ a, (k0_off19 arg18 v356 v397 v438 v479 v520 v561 (BitVec.ofNat 32 (16 * r.val))) a + S16.size a ≤ S12864.size a := fun v79 v90 arg18 v345 v356 v397 v438 v479 v520 v561 k0_hw7 k0_h4 k0_h6 r => k0_hw7 k0_h4 k0_h6 r

def k0_off20 (k0_t3 : Fin k0_t3_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off21 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk8 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h4 : k0_cond4 v79 v90 = 1#1), ∀ (k0_h6 : k0_cond6 v345 = 1#1), ∀ (r : Fin 4), ∀ a, (k0_off21 arg18 v356 v397 v438 v479 v520 v561 v602 (BitVec.ofNat 32 (16 * r.val))) a + S16.size a ≤ S12864.size a)
theorem k0_off21_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (k0_hw8 : k0_chk8 v79 v90 arg18 v345 v356 v397 v438 v479 v520 v561 v602), ∀ (k0_h4 : k0_cond4 v79 v90 = 1#1), ∀ (k0_h6 : k0_cond6 v345 = 1#1), ∀ (r : Fin 4), ∀ a, (k0_off21 arg18 v356 v397 v438 v479 v520 v561 v602 (BitVec.ofNat 32 (16 * r.val))) a + S16.size a ≤ S12864.size a := fun v79 v90 arg18 v345 v356 v397 v438 v479 v520 v561 v602 k0_hw8 k0_h4 k0_h6 r => k0_hw8 k0_h4 k0_h6 r

def k0_off22 (k0_t3 : Fin k0_t3_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off23 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk9 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h4 : k0_cond4 v79 v90 = 1#1), ∀ (k0_h6 : k0_cond6 v345 = 1#1), ∀ (r : Fin 4), ∀ a, (k0_off23 arg18 v356 v397 v438 v479 v520 v561 v602 v643 (BitVec.ofNat 32 (16 * r.val))) a + S16.size a ≤ S12864.size a)
theorem k0_off23_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw9 : k0_chk9 v79 v90 arg18 v345 v356 v397 v438 v479 v520 v561 v602 v643), ∀ (k0_h4 : k0_cond4 v79 v90 = 1#1), ∀ (k0_h6 : k0_cond6 v345 = 1#1), ∀ (r : Fin 4), ∀ a, (k0_off23 arg18 v356 v397 v438 v479 v520 v561 v602 v643 (BitVec.ofNat 32 (16 * r.val))) a + S16.size a ≤ S12864.size a := fun v79 v90 arg18 v345 v356 v397 v438 v479 v520 v561 v602 v643 k0_hw9 k0_h4 k0_h6 r => k0_hw9 k0_h4 k0_h6 r

def k0_off24 (k0_t3 : Fin k0_t3_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off25 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk10 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h4 : k0_cond4 v79 v90 = 1#1), ∀ (k0_h6 : k0_cond6 v345 = 1#1), ∀ (r : Fin 4), ∀ a, (k0_off25 arg18 v356 v397 v438 v479 v520 v561 v602 v643 v684 (BitVec.ofNat 32 (16 * r.val))) a + S16.size a ≤ S12864.size a)
theorem k0_off25_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw10 : k0_chk10 v79 v90 arg18 v345 v356 v397 v438 v479 v520 v561 v602 v643 v684), ∀ (k0_h4 : k0_cond4 v79 v90 = 1#1), ∀ (k0_h6 : k0_cond6 v345 = 1#1), ∀ (r : Fin 4), ∀ a, (k0_off25 arg18 v356 v397 v438 v479 v520 v561 v602 v643 v684 (BitVec.ofNat 32 (16 * r.val))) a + S16.size a ≤ S12864.size a := fun v79 v90 arg18 v345 v356 v397 v438 v479 v520 v561 v602 v643 v684 k0_hw10 k0_h4 k0_h6 r => k0_hw10 k0_h4 k0_h6 r

def k0_off26 (k0_t3 : Fin k0_t3_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off27 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk11 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h4 : k0_cond4 v79 v90 = 1#1), ∀ (k0_h6 : k0_cond6 v345 = 1#1), ∀ (r : Fin 4), ∀ a, (k0_off27 arg18 v356 v397 v438 v479 v520 v561 v602 v643 v684 v725 (BitVec.ofNat 32 (16 * r.val))) a + S16.size a ≤ S12864.size a)
theorem k0_off27_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw11 : k0_chk11 v79 v90 arg18 v345 v356 v397 v438 v479 v520 v561 v602 v643 v684 v725), ∀ (k0_h4 : k0_cond4 v79 v90 = 1#1), ∀ (k0_h6 : k0_cond6 v345 = 1#1), ∀ (r : Fin 4), ∀ a, (k0_off27 arg18 v356 v397 v438 v479 v520 v561 v602 v643 v684 v725 (BitVec.ofNat 32 (16 * r.val))) a + S16.size a ≤ S12864.size a := fun v79 v90 arg18 v345 v356 v397 v438 v479 v520 v561 v602 v643 v684 v725 k0_hw11 k0_h4 k0_h6 r => k0_hw11 k0_h4 k0_h6 r

def k0_off28 (k0_t3 : Fin k0_t3_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off29 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk12 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h4 : k0_cond4 v79 v90 = 1#1), ∀ (k0_h6 : k0_cond6 v345 = 1#1), ∀ (r : Fin 4), ∀ a, (k0_off29 arg18 v356 v397 v438 v479 v520 v561 v602 v643 v684 v725 v766 (BitVec.ofNat 32 (16 * r.val))) a + S16.size a ≤ S12864.size a)
theorem k0_off29_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw12 : k0_chk12 v79 v90 arg18 v345 v356 v397 v438 v479 v520 v561 v602 v643 v684 v725 v766), ∀ (k0_h4 : k0_cond4 v79 v90 = 1#1), ∀ (k0_h6 : k0_cond6 v345 = 1#1), ∀ (r : Fin 4), ∀ a, (k0_off29 arg18 v356 v397 v438 v479 v520 v561 v602 v643 v684 v725 v766 (BitVec.ofNat 32 (16 * r.val))) a + S16.size a ≤ S12864.size a := fun v79 v90 arg18 v345 v356 v397 v438 v479 v520 v561 v602 v643 v684 v725 v766 k0_hw12 k0_h4 k0_h6 r => k0_hw12 k0_h4 k0_h6 r

def k0_off30 (k0_t3 : Fin k0_t3_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off31 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk13 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h4 : k0_cond4 v79 v90 = 1#1), ∀ (k0_h6 : k0_cond6 v345 = 1#1), ∀ (r : Fin 4), ∀ a, (k0_off31 arg18 v356 v397 v438 v479 v520 v561 v602 v643 v684 v725 v766 v807 (BitVec.ofNat 32 (16 * r.val))) a + S16.size a ≤ S12864.size a)
theorem k0_off31_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw13 : k0_chk13 v79 v90 arg18 v345 v356 v397 v438 v479 v520 v561 v602 v643 v684 v725 v766 v807), ∀ (k0_h4 : k0_cond4 v79 v90 = 1#1), ∀ (k0_h6 : k0_cond6 v345 = 1#1), ∀ (r : Fin 4), ∀ a, (k0_off31 arg18 v356 v397 v438 v479 v520 v561 v602 v643 v684 v725 v766 v807 (BitVec.ofNat 32 (16 * r.val))) a + S16.size a ≤ S12864.size a := fun v79 v90 arg18 v345 v356 v397 v438 v479 v520 v561 v602 v643 v684 v725 v766 v807 k0_hw13 k0_h4 k0_h6 r => k0_hw13 k0_h4 k0_h6 r

def k0_off32 (k0_t3 : Fin k0_t3_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off33 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk14 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h4 : k0_cond4 v79 v90 = 1#1), ∀ (k0_h6 : k0_cond6 v345 = 1#1), ∀ (r : Fin 4), ∀ a, (k0_off33 arg18 v356 v397 v438 v479 v520 v561 v602 v643 v684 v725 v766 v807 v848 (BitVec.ofNat 32 (16 * r.val))) a + S16.size a ≤ S12864.size a)
theorem k0_off33_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw14 : k0_chk14 v79 v90 arg18 v345 v356 v397 v438 v479 v520 v561 v602 v643 v684 v725 v766 v807 v848), ∀ (k0_h4 : k0_cond4 v79 v90 = 1#1), ∀ (k0_h6 : k0_cond6 v345 = 1#1), ∀ (r : Fin 4), ∀ a, (k0_off33 arg18 v356 v397 v438 v479 v520 v561 v602 v643 v684 v725 v766 v807 v848 (BitVec.ofNat 32 (16 * r.val))) a + S16.size a ≤ S12864.size a := fun v79 v90 arg18 v345 v356 v397 v438 v479 v520 v561 v602 v643 v684 v725 v766 v807 v848 k0_hw14 k0_h4 k0_h6 r => k0_hw14 k0_h4 k0_h6 r

def k0_off34 (k0_t3 : Fin k0_t3_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off35 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk15 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h4 : k0_cond4 v79 v90 = 1#1), ∀ (k0_h6 : k0_cond6 v345 = 1#1), ∀ (r : Fin 4), ∀ a, (k0_off35 arg18 v356 v397 v438 v479 v520 v561 v602 v643 v684 v725 v766 v807 v848 v889 (BitVec.ofNat 32 (16 * r.val))) a + S16.size a ≤ S12864.size a)
theorem k0_off35_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw15 : k0_chk15 v79 v90 arg18 v345 v356 v397 v438 v479 v520 v561 v602 v643 v684 v725 v766 v807 v848 v889), ∀ (k0_h4 : k0_cond4 v79 v90 = 1#1), ∀ (k0_h6 : k0_cond6 v345 = 1#1), ∀ (r : Fin 4), ∀ a, (k0_off35 arg18 v356 v397 v438 v479 v520 v561 v602 v643 v684 v725 v766 v807 v848 v889 (BitVec.ofNat 32 (16 * r.val))) a + S16.size a ≤ S12864.size a := fun v79 v90 arg18 v345 v356 v397 v438 v479 v520 v561 v602 v643 v684 v725 v766 v807 v848 v889 k0_hw15 k0_h4 k0_h6 r => k0_hw15 k0_h4 k0_h6 r

def k0_off36 (k0_t3 : Fin k0_t3_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off37 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk16 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h4 : k0_cond4 v79 v90 = 1#1), ∀ (k0_h6 : k0_cond6 v345 = 1#1), ∀ (r : Fin 4), ∀ a, (k0_off37 arg18 v356 v397 v438 v479 v520 v561 v602 v643 v684 v725 v766 v807 v848 v889 v930 (BitVec.ofNat 32 (16 * r.val))) a + S16.size a ≤ S12864.size a)
theorem k0_off37_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw16 : k0_chk16 v79 v90 arg18 v345 v356 v397 v438 v479 v520 v561 v602 v643 v684 v725 v766 v807 v848 v889 v930), ∀ (k0_h4 : k0_cond4 v79 v90 = 1#1), ∀ (k0_h6 : k0_cond6 v345 = 1#1), ∀ (r : Fin 4), ∀ a, (k0_off37 arg18 v356 v397 v438 v479 v520 v561 v602 v643 v684 v725 v766 v807 v848 v889 v930 (BitVec.ofNat 32 (16 * r.val))) a + S16.size a ≤ S12864.size a := fun v79 v90 arg18 v345 v356 v397 v438 v479 v520 v561 v602 v643 v684 v725 v766 v807 v848 v889 v930 k0_hw16 k0_h4 k0_h6 r => k0_hw16 k0_h4 k0_h6 r

def k0_off38 (k0_t3 : Fin k0_t3_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off39 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk17 (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h4 : k0_cond4 v79 v90 = 1#1), ∀ (k0_h6 : k0_cond6 v345 = 1#1), ∀ (r : Fin 4), ∀ a, (k0_off39 arg18 v356 v397 v438 v479 v520 v561 v602 v643 v684 v725 v766 v807 v848 v889 v930 v971 (BitVec.ofNat 32 (16 * r.val))) a + S16.size a ≤ S12864.size a)
theorem k0_off39_inb : ∀ (v79 : BitVec 32) (v90 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw17 : k0_chk17 v79 v90 arg18 v345 v356 v397 v438 v479 v520 v561 v602 v643 v684 v725 v766 v807 v848 v889 v930 v971), ∀ (k0_h4 : k0_cond4 v79 v90 = 1#1), ∀ (k0_h6 : k0_cond6 v345 = 1#1), ∀ (r : Fin 4), ∀ a, (k0_off39 arg18 v356 v397 v438 v479 v520 v561 v602 v643 v684 v725 v766 v807 v848 v889 v930 v971 (BitVec.ofNat 32 (16 * r.val))) a + S16.size a ≤ S12864.size a := fun v79 v90 arg18 v345 v356 v397 v438 v479 v520 v561 v602 v643 v684 v725 v766 v807 v848 v889 v930 v971 k0_hw17 k0_h4 k0_h6 r => k0_hw17 k0_h4 k0_h6 r

def k0_off40 (k0_t3 : Fin k0_t3_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t3
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off41 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c63_i32 : BitVec 32 := 63#32
  let v70 : BitVec 32 := Scalar.andi v69 c63_i32
  let c200_i32_194 : BitVec 32 := 200#32
  let v310 : BitVec 32 := Scalar.muli v70 c200_i32_194
  let c192_i32_195 : BitVec 32 := 192#32
  let v311 : BitVec 32 := Scalar.addi v310 c192_i32_195
  let v312 : Index := Scalar.indexCast v311
  ![v312.toNat]
@[reducible] def k0_t5_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off42 (v309 : BitVec 32) (k0_t5 : Fin k0_t5_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t5
  let c16_i32_213 : BitVec 32 := 16#32
  let v338 : BitVec 32 := Scalar.muli arg17 c16_i32_213
  let v339 : BitVec 32 := Scalar.addi v336 v338
  let v340 : Index := Scalar.indexCast v339
  ![v340.toNat]
def k0_cond7 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk18 (v79 : BitVec 32) (v90 : BitVec 32) (v309 : BitVec 32) (v320 : BitVec 32) : Prop :=
  (∀ k0_t5 : Fin k0_t5_loop.trips, ∀ (k0_h4 : k0_cond4 v79 v90 = 1#1), ∀ (k0_h7 : k0_cond7 v320 = 1#1), ∀ a, (k0_off42 v309 k0_t5) a + S16.size a ≤ S12864.size a)
theorem k0_off42_inb : ∀ (v79 : BitVec 32) (v90 : BitVec 32) (v309 : BitVec 32) (v320 : BitVec 32) (k0_hw18 : k0_chk18 v79 v90 v309 v320) (k0_t5 : Fin k0_t5_loop.trips), ∀ (k0_h4 : k0_cond4 v79 v90 = 1#1), ∀ (k0_h7 : k0_cond7 v320 = 1#1), ∀ a, (k0_off42 v309 k0_t5) a + S16.size a ≤ S12864.size a := fun v79 v90 v309 v320 k0_hw18 k0_t5 k0_h4 k0_h7 => k0_hw18 k0_t5 k0_h4 k0_h7

def k0_off43 (k0_t5 : Fin k0_t5_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t5
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off44 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond8 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk19 (v79 : BitVec 32) (v90 : BitVec 32) (v309 : BitVec 32) (v320 : BitVec 32) (v336 : BitVec 32) : Prop :=
  (∀ (k0_h4 : k0_cond4 v79 v90 = 1#1), ∀ (k0_h8 : k0_cond8 v320 = 1#1), ∀ (r : Fin 4), ∀ a, (k0_off44 v309 v336 (BitVec.ofNat 32 (16 * r.val))) a + S16.size a ≤ S12864.size a)
theorem k0_off44_inb : ∀ (v79 : BitVec 32) (v90 : BitVec 32) (v309 : BitVec 32) (v320 : BitVec 32) (v336 : BitVec 32) (k0_hw19 : k0_chk19 v79 v90 v309 v320 v336), ∀ (k0_h4 : k0_cond4 v79 v90 = 1#1), ∀ (k0_h8 : k0_cond8 v320 = 1#1), ∀ (r : Fin 4), ∀ a, (k0_off44 v309 v336 (BitVec.ofNat 32 (16 * r.val))) a + S16.size a ≤ S12864.size a := fun v79 v90 v309 v320 v336 k0_hw19 k0_h4 k0_h8 r => k0_hw19 k0_h4 k0_h8 r

def k0_off45 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk20 (v79 : BitVec 32) (v90 : BitVec 32) (v309 : BitVec 32) (v320 : BitVec 32) (v336 : BitVec 32) (v367 : BitVec 32) : Prop :=
  (∀ (k0_h4 : k0_cond4 v79 v90 = 1#1), ∀ (k0_h8 : k0_cond8 v320 = 1#1), ∀ (r : Fin 4), ∀ a, (k0_off45 v309 v336 v367 (BitVec.ofNat 32 (16 * r.val))) a + S16.size a ≤ S12864.size a)
theorem k0_off45_inb : ∀ (v79 : BitVec 32) (v90 : BitVec 32) (v309 : BitVec 32) (v320 : BitVec 32) (v336 : BitVec 32) (v367 : BitVec 32) (k0_hw20 : k0_chk20 v79 v90 v309 v320 v336 v367), ∀ (k0_h4 : k0_cond4 v79 v90 = 1#1), ∀ (k0_h8 : k0_cond8 v320 = 1#1), ∀ (r : Fin 4), ∀ a, (k0_off45 v309 v336 v367 (BitVec.ofNat 32 (16 * r.val))) a + S16.size a ≤ S12864.size a := fun v79 v90 v309 v320 v336 v367 k0_hw20 k0_h4 k0_h8 r => k0_hw20 k0_h4 k0_h8 r

def k0_off46 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk21 (v79 : BitVec 32) (v90 : BitVec 32) (v309 : BitVec 32) (v320 : BitVec 32) (v336 : BitVec 32) (v367 : BitVec 32) (v398 : BitVec 32) : Prop :=
  (∀ (k0_h4 : k0_cond4 v79 v90 = 1#1), ∀ (k0_h8 : k0_cond8 v320 = 1#1), ∀ (r : Fin 4), ∀ a, (k0_off46 v309 v336 v367 v398 (BitVec.ofNat 32 (16 * r.val))) a + S16.size a ≤ S12864.size a)
theorem k0_off46_inb : ∀ (v79 : BitVec 32) (v90 : BitVec 32) (v309 : BitVec 32) (v320 : BitVec 32) (v336 : BitVec 32) (v367 : BitVec 32) (v398 : BitVec 32) (k0_hw21 : k0_chk21 v79 v90 v309 v320 v336 v367 v398), ∀ (k0_h4 : k0_cond4 v79 v90 = 1#1), ∀ (k0_h8 : k0_cond8 v320 = 1#1), ∀ (r : Fin 4), ∀ a, (k0_off46 v309 v336 v367 v398 (BitVec.ofNat 32 (16 * r.val))) a + S16.size a ≤ S12864.size a := fun v79 v90 v309 v320 v336 v367 v398 k0_hw21 k0_h4 k0_h8 r => k0_hw21 k0_h4 k0_h8 r

def k0_off47 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk22 (v79 : BitVec 32) (v90 : BitVec 32) (v309 : BitVec 32) (v320 : BitVec 32) (v336 : BitVec 32) (v367 : BitVec 32) (v398 : BitVec 32) (v429 : BitVec 32) : Prop :=
  (∀ (k0_h4 : k0_cond4 v79 v90 = 1#1), ∀ (k0_h8 : k0_cond8 v320 = 1#1), ∀ (r : Fin 4), ∀ a, (k0_off47 v309 v336 v367 v398 v429 (BitVec.ofNat 32 (16 * r.val))) a + S16.size a ≤ S12864.size a)
theorem k0_off47_inb : ∀ (v79 : BitVec 32) (v90 : BitVec 32) (v309 : BitVec 32) (v320 : BitVec 32) (v336 : BitVec 32) (v367 : BitVec 32) (v398 : BitVec 32) (v429 : BitVec 32) (k0_hw22 : k0_chk22 v79 v90 v309 v320 v336 v367 v398 v429), ∀ (k0_h4 : k0_cond4 v79 v90 = 1#1), ∀ (k0_h8 : k0_cond8 v320 = 1#1), ∀ (r : Fin 4), ∀ a, (k0_off47 v309 v336 v367 v398 v429 (BitVec.ofNat 32 (16 * r.val))) a + S16.size a ≤ S12864.size a := fun v79 v90 v309 v320 v336 v367 v398 v429 k0_hw22 k0_h4 k0_h8 r => k0_hw22 k0_h4 k0_h8 r

def k0_off48 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk23 (v79 : BitVec 32) (v90 : BitVec 32) (v309 : BitVec 32) (v320 : BitVec 32) (v336 : BitVec 32) (v367 : BitVec 32) (v398 : BitVec 32) (v429 : BitVec 32) (v460 : BitVec 32) : Prop :=
  (∀ (k0_h4 : k0_cond4 v79 v90 = 1#1), ∀ (k0_h8 : k0_cond8 v320 = 1#1), ∀ (r : Fin 4), ∀ a, (k0_off48 v309 v336 v367 v398 v429 v460 (BitVec.ofNat 32 (16 * r.val))) a + S16.size a ≤ S12864.size a)
theorem k0_off48_inb : ∀ (v79 : BitVec 32) (v90 : BitVec 32) (v309 : BitVec 32) (v320 : BitVec 32) (v336 : BitVec 32) (v367 : BitVec 32) (v398 : BitVec 32) (v429 : BitVec 32) (v460 : BitVec 32) (k0_hw23 : k0_chk23 v79 v90 v309 v320 v336 v367 v398 v429 v460), ∀ (k0_h4 : k0_cond4 v79 v90 = 1#1), ∀ (k0_h8 : k0_cond8 v320 = 1#1), ∀ (r : Fin 4), ∀ a, (k0_off48 v309 v336 v367 v398 v429 v460 (BitVec.ofNat 32 (16 * r.val))) a + S16.size a ≤ S12864.size a := fun v79 v90 v309 v320 v336 v367 v398 v429 v460 k0_hw23 k0_h4 k0_h8 r => k0_hw23 k0_h4 k0_h8 r

def k0_off49 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk24 (v79 : BitVec 32) (v90 : BitVec 32) (v309 : BitVec 32) (v320 : BitVec 32) (v336 : BitVec 32) (v367 : BitVec 32) (v398 : BitVec 32) (v429 : BitVec 32) (v460 : BitVec 32) (v491 : BitVec 32) : Prop :=
  (∀ (k0_h4 : k0_cond4 v79 v90 = 1#1), ∀ (k0_h8 : k0_cond8 v320 = 1#1), ∀ (r : Fin 4), ∀ a, (k0_off49 v309 v336 v367 v398 v429 v460 v491 (BitVec.ofNat 32 (16 * r.val))) a + S16.size a ≤ S12864.size a)
theorem k0_off49_inb : ∀ (v79 : BitVec 32) (v90 : BitVec 32) (v309 : BitVec 32) (v320 : BitVec 32) (v336 : BitVec 32) (v367 : BitVec 32) (v398 : BitVec 32) (v429 : BitVec 32) (v460 : BitVec 32) (v491 : BitVec 32) (k0_hw24 : k0_chk24 v79 v90 v309 v320 v336 v367 v398 v429 v460 v491), ∀ (k0_h4 : k0_cond4 v79 v90 = 1#1), ∀ (k0_h8 : k0_cond8 v320 = 1#1), ∀ (r : Fin 4), ∀ a, (k0_off49 v309 v336 v367 v398 v429 v460 v491 (BitVec.ofNat 32 (16 * r.val))) a + S16.size a ≤ S12864.size a := fun v79 v90 v309 v320 v336 v367 v398 v429 v460 v491 k0_hw24 k0_h4 k0_h8 r => k0_hw24 k0_h4 k0_h8 r

def k0_off50 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk25 (v79 : BitVec 32) (v90 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h4 : k0_cond4 v79 v90 = 1#1), ∀ (k0_h8 : k0_cond8 v320 = 1#1), ∀ (r : Fin 4), ∀ a, (k0_off50 v309 v336 v367 v398 v429 v460 v491 v522 (BitVec.ofNat 32 (16 * r.val))) a + S16.size a ≤ S12864.size a)
theorem k0_off50_inb : ∀ (v79 : BitVec 32) (v90 : BitVec 32) (v309 : BitVec 32) (v320 : BitVec 32) (v336 : BitVec 32) (v367 : BitVec 32) (v398 : BitVec 32) (v429 : BitVec 32) (v460 : BitVec 32) (v491 : BitVec 32) (v522 : BitVec 32) (k0_hw25 : k0_chk25 v79 v90 v309 v320 v336 v367 v398 v429 v460 v491 v522), ∀ (k0_h4 : k0_cond4 v79 v90 = 1#1), ∀ (k0_h8 : k0_cond8 v320 = 1#1), ∀ (r : Fin 4), ∀ a, (k0_off50 v309 v336 v367 v398 v429 v460 v491 v522 (BitVec.ofNat 32 (16 * r.val))) a + S16.size a ≤ S12864.size a := fun v79 v90 v309 v320 v336 v367 v398 v429 v460 v491 v522 k0_hw25 k0_h4 k0_h8 r => k0_hw25 k0_h4 k0_h8 r

def k0_off51 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk26 (v79 : BitVec 32) (v90 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h4 : k0_cond4 v79 v90 = 1#1), ∀ (k0_h8 : k0_cond8 v320 = 1#1), ∀ (r : Fin 4), ∀ a, (k0_off51 v309 v336 v367 v398 v429 v460 v491 v522 v553 (BitVec.ofNat 32 (16 * r.val))) a + S16.size a ≤ S12864.size a)
theorem k0_off51_inb : ∀ (v79 : BitVec 32) (v90 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw26 : k0_chk26 v79 v90 v309 v320 v336 v367 v398 v429 v460 v491 v522 v553), ∀ (k0_h4 : k0_cond4 v79 v90 = 1#1), ∀ (k0_h8 : k0_cond8 v320 = 1#1), ∀ (r : Fin 4), ∀ a, (k0_off51 v309 v336 v367 v398 v429 v460 v491 v522 v553 (BitVec.ofNat 32 (16 * r.val))) a + S16.size a ≤ S12864.size a := fun v79 v90 v309 v320 v336 v367 v398 v429 v460 v491 v522 v553 k0_hw26 k0_h4 k0_h8 r => k0_hw26 k0_h4 k0_h8 r

def k0_off52 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_24 : BitVec 32 := 8#32
  let v68 : BitVec 32 := Scalar.muli arg16 c8_i32_24
  let c0_i32_25 : BitVec 32 := 0#32
  let v69 : BitVec 32 := Scalar.addi v68 c0_i32_25
  let c12800_i32_204 : BitVec 32 := 12800#32
  let v327 : BitVec 32 := Scalar.muli v69 c12800_i32_204
  let v328 : BitVec 32 := Scalar.addi v5 v327
  ![v328.toNat]
def k0_cond9 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c63_i32_44 : BitVec 32 := 63#32
  let v101 : BitVec 32 := Scalar.andi v99 c63_i32_44
  let c0_i32_45 : BitVec 32 := 0#32
  let v102 : BitVec 1 := Scalar.cmpi .eq v101 c0_i32_45
  let v103 : BitVec 32 := Scalar.extui v102
  let c0_i32_46 : BitVec 32 := 0#32
  let v104 : BitVec 1 := Scalar.cmpi .ne v103 c0_i32_46
  v104

def k0_off53 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c6_i32_188 : BitVec 32 := 6#32
  let v308 : BitVec 32 := Scalar.shrsi v99 c6_i32_188
  let c12800_i32_189 : BitVec 32 := 12800#32
  let v309 : BitVec 32 := Scalar.muli v308 c12800_i32_189
  let v310 : BitVec 32 := Scalar.addi v3 v309
  ![v310.toNat]
def k0_cond10 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c8_i32_47 : BitVec 32 := 8#32
  let v105 : BitVec 1 := Scalar.cmpi .sge v99 c8_i32_47
  let v106 : BitVec 32 := Scalar.extui v105
  let c0_i32_48 : BitVec 32 := 0#32
  let v107 : BitVec 1 := Scalar.cmpi .ne v106 c0_i32_48
  v107

def k0_off54 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c8_i32_188 : BitVec 32 := 8#32
  let v308 : BitVec 32 := Scalar.subi v99 c8_i32_188
  let c12800_i32_189 : BitVec 32 := 12800#32
  let v309 : BitVec 32 := Scalar.muli v308 c12800_i32_189
  let v310 : BitVec 32 := Scalar.addi v5 v309
  ![v310.toNat]
@[reducible] def k0_t6_loop : Scf.Loop 32 :=
  let c0_i32_50 : BitVec 32 := 0#32
  let c12_i32_51 : BitVec 32 := 12#32
  let v108 : BitVec 32 := Scalar.addi c0_i32_50 c12_i32_51
  let c1_i32_52 : BitVec 32 := 1#32
  ⟨c0_i32_50, v108, c1_i32_52⟩
def k0_off55 (k0_t1 : Fin k0_t1_loop.trips) (k0_t6 : Fin k0_t6_loop.trips) : Fin 1 → Nat :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c63_i32_43 : BitVec 32 := 63#32
  let v100 : BitVec 32 := Scalar.andi v99 c63_i32_43
  let c200_i32_188 : BitVec 32 := 200#32
  let v308 : BitVec 32 := Scalar.muli v100 c200_i32_188
  let c16_i32_189 : BitVec 32 := 16#32
  let c0_i32_50 : BitVec 32 := 0#32
  let c1_i32_52 : BitVec 32 := 1#32
  let arg17 : BitVec 32 := Scf.iv c0_i32_50 c1_i32_52 k0_t6
  let v309 : BitVec 32 := Scalar.muli c16_i32_189 arg17
  let v310 : BitVec 32 := Scalar.addi v308 v309
  let v311 : Index := Scalar.indexCast v310
  ![v311.toNat]
def k0_off56 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c63_i32_43 : BitVec 32 := 63#32
  let v100 : BitVec 32 := Scalar.andi v99 c63_i32_43
  let c200_i32_54 : BitVec 32 := 200#32
  let v110 : BitVec 32 := Scalar.muli v100 c200_i32_54
  let c192_i32_55 : BitVec 32 := 192#32
  let v111 : BitVec 32 := Scalar.addi v110 c192_i32_55
  let v112 : Index := Scalar.indexCast v111
  ![v112.toNat]
def k0_off57 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c12800_i32_188 : BitVec 32 := 12800#32
  let v308 : BitVec 32 := Scalar.muli v99 c12800_i32_188
  let v309 : BitVec 32 := Scalar.addi v5 v308
  ![v309.toNat]
@[reducible] def k0_t7_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off58 (k0_t1 : Fin k0_t1_loop.trips) (k0_t7 : Fin k0_t7_loop.trips) : Fin 1 → Nat :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c63_i32_43 : BitVec 32 := 63#32
  let v100 : BitVec 32 := Scalar.andi v99 c63_i32_43
  let c200_i32_208 : BitVec 32 := 200#32
  let v335 : BitVec 32 := Scalar.muli v100 c200_i32_208
  let c16_i32_209 : BitVec 32 := 16#32
  let c0_i32_190 : BitVec 32 := 0#32
  let c1_i32_192 : BitVec 32 := 1#32
  let arg17 : BitVec 32 := Scf.iv c0_i32_190 c1_i32_192 k0_t7
  let v336 : BitVec 32 := Scalar.muli c16_i32_209 arg17
  let v337 : BitVec 32 := Scalar.addi v335 v336
  let v338 : Index := Scalar.indexCast v337
  ![v338.toNat]
@[reducible] def k0_t8_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off59 (arg18 : BitVec 32) (k0_t8 : Fin k0_t8_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t8
  let c16_i32_223 : BitVec 32 := 16#32
  let v358 : BitVec 32 := Scalar.muli arg19 c16_i32_223
  let v359 : BitVec 32 := Scalar.addi v355 v358
  let v360 : Index := Scalar.indexCast v359
  ![v360.toNat]
def k0_cond12 (v109 : BitVec 32) (v120 : BitVec 32) : BitVec 1 :=
  let v121 : BitVec 32 := Scalar.addi v109 v120
  let c0_i32_60 : BitVec 32 := 0#32
  let v125 : BitVec 1 := Scalar.cmpi .sgt v121 c0_i32_60
  let v126 : BitVec 32 := Scalar.extui v125
  let c0_i32_61 : BitVec 32 := 0#32
  let v127 : BitVec 1 := Scalar.cmpi .ne v126 c0_i32_61
  v127

def k0_cond13 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk27 (v109 : BitVec 32) (v120 : BitVec 32) (arg18 : BitVec 32) (v345 : BitVec 32) : Prop :=
  (∀ k0_t8 : Fin k0_t8_loop.trips, ∀ (k0_h12 : k0_cond12 v109 v120 = 1#1), ∀ (k0_h13 : k0_cond13 v345 = 1#1), ∀ a, (k0_off59 arg18 k0_t8) a + S16.size a ≤ S12864.size a)
theorem k0_off59_inb : ∀ (v109 : BitVec 32) (v120 : BitVec 32) (arg18 : BitVec 32) (v345 : BitVec 32) (k0_hw27 : k0_chk27 v109 v120 arg18 v345) (k0_t8 : Fin k0_t8_loop.trips), ∀ (k0_h12 : k0_cond12 v109 v120 = 1#1), ∀ (k0_h13 : k0_cond13 v345 = 1#1), ∀ a, (k0_off59 arg18 k0_t8) a + S16.size a ≤ S12864.size a := fun v109 v120 arg18 v345 k0_hw27 k0_t8 k0_h12 k0_h13 => k0_hw27 k0_t8 k0_h12 k0_h13

def k0_off60 (k0_t7 : Fin k0_t7_loop.trips) (k0_t8 : Fin k0_t8_loop.trips) : Fin 1 → Nat :=
  let c0_i32_190 : BitVec 32 := 0#32
  let c1_i32_192 : BitVec 32 := 1#32
  let arg17 : BitVec 32 := Scf.iv c0_i32_190 c1_i32_192 k0_t7
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t8
  let c16_i32_224 : BitVec 32 := 16#32
  let v362 : BitVec 32 := Scalar.muli arg19 c16_i32_224
  let v363 : BitVec 32 := Scalar.addi v356 v362
  let v366 : Index := Scalar.indexCast v363
  ![v366.toNat]
def k0_off61 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond14 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk28 (v109 : BitVec 32) (v120 : BitVec 32) (arg18 : BitVec 32) (v345 : BitVec 32) (v356 : BitVec 32) : Prop :=
  (∀ (k0_h12 : k0_cond12 v109 v120 = 1#1), ∀ (k0_h14 : k0_cond14 v345 = 1#1), ∀ (r : Fin 4), ∀ a, (k0_off61 arg18 v356 (BitVec.ofNat 32 (16 * r.val))) a + S16.size a ≤ S12864.size a)
theorem k0_off61_inb : ∀ (v109 : BitVec 32) (v120 : BitVec 32) (arg18 : BitVec 32) (v345 : BitVec 32) (v356 : BitVec 32) (k0_hw28 : k0_chk28 v109 v120 arg18 v345 v356), ∀ (k0_h12 : k0_cond12 v109 v120 = 1#1), ∀ (k0_h14 : k0_cond14 v345 = 1#1), ∀ (r : Fin 4), ∀ a, (k0_off61 arg18 v356 (BitVec.ofNat 32 (16 * r.val))) a + S16.size a ≤ S12864.size a := fun v109 v120 arg18 v345 v356 k0_hw28 k0_h12 k0_h14 r => k0_hw28 k0_h12 k0_h14 r

def k0_off62 (k0_t7 : Fin k0_t7_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off63 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk29 (v109 : BitVec 32) (v120 : BitVec 32) (arg18 : BitVec 32) (v345 : BitVec 32) (v356 : BitVec 32) (v397 : BitVec 32) : Prop :=
  (∀ (k0_h12 : k0_cond12 v109 v120 = 1#1), ∀ (k0_h14 : k0_cond14 v345 = 1#1), ∀ (r : Fin 4), ∀ a, (k0_off63 arg18 v356 v397 (BitVec.ofNat 32 (16 * r.val))) a + S16.size a ≤ S12864.size a)
theorem k0_off63_inb : ∀ (v109 : BitVec 32) (v120 : BitVec 32) (arg18 : BitVec 32) (v345 : BitVec 32) (v356 : BitVec 32) (v397 : BitVec 32) (k0_hw29 : k0_chk29 v109 v120 arg18 v345 v356 v397), ∀ (k0_h12 : k0_cond12 v109 v120 = 1#1), ∀ (k0_h14 : k0_cond14 v345 = 1#1), ∀ (r : Fin 4), ∀ a, (k0_off63 arg18 v356 v397 (BitVec.ofNat 32 (16 * r.val))) a + S16.size a ≤ S12864.size a := fun v109 v120 arg18 v345 v356 v397 k0_hw29 k0_h12 k0_h14 r => k0_hw29 k0_h12 k0_h14 r

def k0_off64 (k0_t7 : Fin k0_t7_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off65 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk30 (v109 : BitVec 32) (v120 : BitVec 32) (arg18 : BitVec 32) (v345 : BitVec 32) (v356 : BitVec 32) (v397 : BitVec 32) (v438 : BitVec 32) : Prop :=
  (∀ (k0_h12 : k0_cond12 v109 v120 = 1#1), ∀ (k0_h14 : k0_cond14 v345 = 1#1), ∀ (r : Fin 4), ∀ a, (k0_off65 arg18 v356 v397 v438 (BitVec.ofNat 32 (16 * r.val))) a + S16.size a ≤ S12864.size a)
theorem k0_off65_inb : ∀ (v109 : BitVec 32) (v120 : BitVec 32) (arg18 : BitVec 32) (v345 : BitVec 32) (v356 : BitVec 32) (v397 : BitVec 32) (v438 : BitVec 32) (k0_hw30 : k0_chk30 v109 v120 arg18 v345 v356 v397 v438), ∀ (k0_h12 : k0_cond12 v109 v120 = 1#1), ∀ (k0_h14 : k0_cond14 v345 = 1#1), ∀ (r : Fin 4), ∀ a, (k0_off65 arg18 v356 v397 v438 (BitVec.ofNat 32 (16 * r.val))) a + S16.size a ≤ S12864.size a := fun v109 v120 arg18 v345 v356 v397 v438 k0_hw30 k0_h12 k0_h14 r => k0_hw30 k0_h12 k0_h14 r

def k0_off66 (k0_t7 : Fin k0_t7_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off67 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk31 (v109 : BitVec 32) (v120 : BitVec 32) (arg18 : BitVec 32) (v345 : BitVec 32) (v356 : BitVec 32) (v397 : BitVec 32) (v438 : BitVec 32) (v479 : BitVec 32) : Prop :=
  (∀ (k0_h12 : k0_cond12 v109 v120 = 1#1), ∀ (k0_h14 : k0_cond14 v345 = 1#1), ∀ (r : Fin 4), ∀ a, (k0_off67 arg18 v356 v397 v438 v479 (BitVec.ofNat 32 (16 * r.val))) a + S16.size a ≤ S12864.size a)
theorem k0_off67_inb : ∀ (v109 : BitVec 32) (v120 : BitVec 32) (arg18 : BitVec 32) (v345 : BitVec 32) (v356 : BitVec 32) (v397 : BitVec 32) (v438 : BitVec 32) (v479 : BitVec 32) (k0_hw31 : k0_chk31 v109 v120 arg18 v345 v356 v397 v438 v479), ∀ (k0_h12 : k0_cond12 v109 v120 = 1#1), ∀ (k0_h14 : k0_cond14 v345 = 1#1), ∀ (r : Fin 4), ∀ a, (k0_off67 arg18 v356 v397 v438 v479 (BitVec.ofNat 32 (16 * r.val))) a + S16.size a ≤ S12864.size a := fun v109 v120 arg18 v345 v356 v397 v438 v479 k0_hw31 k0_h12 k0_h14 r => k0_hw31 k0_h12 k0_h14 r

def k0_off68 (k0_t7 : Fin k0_t7_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off69 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk32 (v109 : BitVec 32) (v120 : BitVec 32) (arg18 : BitVec 32) (v345 : BitVec 32) (v356 : BitVec 32) (v397 : BitVec 32) (v438 : BitVec 32) (v479 : BitVec 32) (v520 : BitVec 32) : Prop :=
  (∀ (k0_h12 : k0_cond12 v109 v120 = 1#1), ∀ (k0_h14 : k0_cond14 v345 = 1#1), ∀ (r : Fin 4), ∀ a, (k0_off69 arg18 v356 v397 v438 v479 v520 (BitVec.ofNat 32 (16 * r.val))) a + S16.size a ≤ S12864.size a)
theorem k0_off69_inb : ∀ (v109 : BitVec 32) (v120 : BitVec 32) (arg18 : BitVec 32) (v345 : BitVec 32) (v356 : BitVec 32) (v397 : BitVec 32) (v438 : BitVec 32) (v479 : BitVec 32) (v520 : BitVec 32) (k0_hw32 : k0_chk32 v109 v120 arg18 v345 v356 v397 v438 v479 v520), ∀ (k0_h12 : k0_cond12 v109 v120 = 1#1), ∀ (k0_h14 : k0_cond14 v345 = 1#1), ∀ (r : Fin 4), ∀ a, (k0_off69 arg18 v356 v397 v438 v479 v520 (BitVec.ofNat 32 (16 * r.val))) a + S16.size a ≤ S12864.size a := fun v109 v120 arg18 v345 v356 v397 v438 v479 v520 k0_hw32 k0_h12 k0_h14 r => k0_hw32 k0_h12 k0_h14 r

def k0_off70 (k0_t7 : Fin k0_t7_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off71 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk33 (v109 : BitVec 32) (v120 : BitVec 32) (arg18 : BitVec 32) (v345 : BitVec 32) (v356 : BitVec 32) (v397 : BitVec 32) (v438 : BitVec 32) (v479 : BitVec 32) (v520 : BitVec 32) (v561 : BitVec 32) : Prop :=
  (∀ (k0_h12 : k0_cond12 v109 v120 = 1#1), ∀ (k0_h14 : k0_cond14 v345 = 1#1), ∀ (r : Fin 4), ∀ a, (k0_off71 arg18 v356 v397 v438 v479 v520 v561 (BitVec.ofNat 32 (16 * r.val))) a + S16.size a ≤ S12864.size a)
theorem k0_off71_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (k0_hw33 : k0_chk33 v109 v120 arg18 v345 v356 v397 v438 v479 v520 v561), ∀ (k0_h12 : k0_cond12 v109 v120 = 1#1), ∀ (k0_h14 : k0_cond14 v345 = 1#1), ∀ (r : Fin 4), ∀ a, (k0_off71 arg18 v356 v397 v438 v479 v520 v561 (BitVec.ofNat 32 (16 * r.val))) a + S16.size a ≤ S12864.size a := fun v109 v120 arg18 v345 v356 v397 v438 v479 v520 v561 k0_hw33 k0_h12 k0_h14 r => k0_hw33 k0_h12 k0_h14 r

def k0_off72 (k0_t7 : Fin k0_t7_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off73 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk34 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h12 : k0_cond12 v109 v120 = 1#1), ∀ (k0_h14 : k0_cond14 v345 = 1#1), ∀ (r : Fin 4), ∀ a, (k0_off73 arg18 v356 v397 v438 v479 v520 v561 v602 (BitVec.ofNat 32 (16 * r.val))) a + S16.size a ≤ S12864.size a)
theorem k0_off73_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (k0_hw34 : k0_chk34 v109 v120 arg18 v345 v356 v397 v438 v479 v520 v561 v602), ∀ (k0_h12 : k0_cond12 v109 v120 = 1#1), ∀ (k0_h14 : k0_cond14 v345 = 1#1), ∀ (r : Fin 4), ∀ a, (k0_off73 arg18 v356 v397 v438 v479 v520 v561 v602 (BitVec.ofNat 32 (16 * r.val))) a + S16.size a ≤ S12864.size a := fun v109 v120 arg18 v345 v356 v397 v438 v479 v520 v561 v602 k0_hw34 k0_h12 k0_h14 r => k0_hw34 k0_h12 k0_h14 r

def k0_off74 (k0_t7 : Fin k0_t7_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off75 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk35 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h12 : k0_cond12 v109 v120 = 1#1), ∀ (k0_h14 : k0_cond14 v345 = 1#1), ∀ (r : Fin 4), ∀ a, (k0_off75 arg18 v356 v397 v438 v479 v520 v561 v602 v643 (BitVec.ofNat 32 (16 * r.val))) a + S16.size a ≤ S12864.size a)
theorem k0_off75_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw35 : k0_chk35 v109 v120 arg18 v345 v356 v397 v438 v479 v520 v561 v602 v643), ∀ (k0_h12 : k0_cond12 v109 v120 = 1#1), ∀ (k0_h14 : k0_cond14 v345 = 1#1), ∀ (r : Fin 4), ∀ a, (k0_off75 arg18 v356 v397 v438 v479 v520 v561 v602 v643 (BitVec.ofNat 32 (16 * r.val))) a + S16.size a ≤ S12864.size a := fun v109 v120 arg18 v345 v356 v397 v438 v479 v520 v561 v602 v643 k0_hw35 k0_h12 k0_h14 r => k0_hw35 k0_h12 k0_h14 r

def k0_off76 (k0_t7 : Fin k0_t7_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off77 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk36 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h12 : k0_cond12 v109 v120 = 1#1), ∀ (k0_h14 : k0_cond14 v345 = 1#1), ∀ (r : Fin 4), ∀ a, (k0_off77 arg18 v356 v397 v438 v479 v520 v561 v602 v643 v684 (BitVec.ofNat 32 (16 * r.val))) a + S16.size a ≤ S12864.size a)
theorem k0_off77_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw36 : k0_chk36 v109 v120 arg18 v345 v356 v397 v438 v479 v520 v561 v602 v643 v684), ∀ (k0_h12 : k0_cond12 v109 v120 = 1#1), ∀ (k0_h14 : k0_cond14 v345 = 1#1), ∀ (r : Fin 4), ∀ a, (k0_off77 arg18 v356 v397 v438 v479 v520 v561 v602 v643 v684 (BitVec.ofNat 32 (16 * r.val))) a + S16.size a ≤ S12864.size a := fun v109 v120 arg18 v345 v356 v397 v438 v479 v520 v561 v602 v643 v684 k0_hw36 k0_h12 k0_h14 r => k0_hw36 k0_h12 k0_h14 r

def k0_off78 (k0_t7 : Fin k0_t7_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off79 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk37 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h12 : k0_cond12 v109 v120 = 1#1), ∀ (k0_h14 : k0_cond14 v345 = 1#1), ∀ (r : Fin 4), ∀ a, (k0_off79 arg18 v356 v397 v438 v479 v520 v561 v602 v643 v684 v725 (BitVec.ofNat 32 (16 * r.val))) a + S16.size a ≤ S12864.size a)
theorem k0_off79_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw37 : k0_chk37 v109 v120 arg18 v345 v356 v397 v438 v479 v520 v561 v602 v643 v684 v725), ∀ (k0_h12 : k0_cond12 v109 v120 = 1#1), ∀ (k0_h14 : k0_cond14 v345 = 1#1), ∀ (r : Fin 4), ∀ a, (k0_off79 arg18 v356 v397 v438 v479 v520 v561 v602 v643 v684 v725 (BitVec.ofNat 32 (16 * r.val))) a + S16.size a ≤ S12864.size a := fun v109 v120 arg18 v345 v356 v397 v438 v479 v520 v561 v602 v643 v684 v725 k0_hw37 k0_h12 k0_h14 r => k0_hw37 k0_h12 k0_h14 r

def k0_off80 (k0_t7 : Fin k0_t7_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off81 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk38 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h12 : k0_cond12 v109 v120 = 1#1), ∀ (k0_h14 : k0_cond14 v345 = 1#1), ∀ (r : Fin 4), ∀ a, (k0_off81 arg18 v356 v397 v438 v479 v520 v561 v602 v643 v684 v725 v766 (BitVec.ofNat 32 (16 * r.val))) a + S16.size a ≤ S12864.size a)
theorem k0_off81_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw38 : k0_chk38 v109 v120 arg18 v345 v356 v397 v438 v479 v520 v561 v602 v643 v684 v725 v766), ∀ (k0_h12 : k0_cond12 v109 v120 = 1#1), ∀ (k0_h14 : k0_cond14 v345 = 1#1), ∀ (r : Fin 4), ∀ a, (k0_off81 arg18 v356 v397 v438 v479 v520 v561 v602 v643 v684 v725 v766 (BitVec.ofNat 32 (16 * r.val))) a + S16.size a ≤ S12864.size a := fun v109 v120 arg18 v345 v356 v397 v438 v479 v520 v561 v602 v643 v684 v725 v766 k0_hw38 k0_h12 k0_h14 r => k0_hw38 k0_h12 k0_h14 r

def k0_off82 (k0_t7 : Fin k0_t7_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off83 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk39 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h12 : k0_cond12 v109 v120 = 1#1), ∀ (k0_h14 : k0_cond14 v345 = 1#1), ∀ (r : Fin 4), ∀ a, (k0_off83 arg18 v356 v397 v438 v479 v520 v561 v602 v643 v684 v725 v766 v807 (BitVec.ofNat 32 (16 * r.val))) a + S16.size a ≤ S12864.size a)
theorem k0_off83_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw39 : k0_chk39 v109 v120 arg18 v345 v356 v397 v438 v479 v520 v561 v602 v643 v684 v725 v766 v807), ∀ (k0_h12 : k0_cond12 v109 v120 = 1#1), ∀ (k0_h14 : k0_cond14 v345 = 1#1), ∀ (r : Fin 4), ∀ a, (k0_off83 arg18 v356 v397 v438 v479 v520 v561 v602 v643 v684 v725 v766 v807 (BitVec.ofNat 32 (16 * r.val))) a + S16.size a ≤ S12864.size a := fun v109 v120 arg18 v345 v356 v397 v438 v479 v520 v561 v602 v643 v684 v725 v766 v807 k0_hw39 k0_h12 k0_h14 r => k0_hw39 k0_h12 k0_h14 r

def k0_off84 (k0_t7 : Fin k0_t7_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off85 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk40 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h12 : k0_cond12 v109 v120 = 1#1), ∀ (k0_h14 : k0_cond14 v345 = 1#1), ∀ (r : Fin 4), ∀ a, (k0_off85 arg18 v356 v397 v438 v479 v520 v561 v602 v643 v684 v725 v766 v807 v848 (BitVec.ofNat 32 (16 * r.val))) a + S16.size a ≤ S12864.size a)
theorem k0_off85_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw40 : k0_chk40 v109 v120 arg18 v345 v356 v397 v438 v479 v520 v561 v602 v643 v684 v725 v766 v807 v848), ∀ (k0_h12 : k0_cond12 v109 v120 = 1#1), ∀ (k0_h14 : k0_cond14 v345 = 1#1), ∀ (r : Fin 4), ∀ a, (k0_off85 arg18 v356 v397 v438 v479 v520 v561 v602 v643 v684 v725 v766 v807 v848 (BitVec.ofNat 32 (16 * r.val))) a + S16.size a ≤ S12864.size a := fun v109 v120 arg18 v345 v356 v397 v438 v479 v520 v561 v602 v643 v684 v725 v766 v807 v848 k0_hw40 k0_h12 k0_h14 r => k0_hw40 k0_h12 k0_h14 r

def k0_off86 (k0_t7 : Fin k0_t7_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off87 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk41 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h12 : k0_cond12 v109 v120 = 1#1), ∀ (k0_h14 : k0_cond14 v345 = 1#1), ∀ (r : Fin 4), ∀ a, (k0_off87 arg18 v356 v397 v438 v479 v520 v561 v602 v643 v684 v725 v766 v807 v848 v889 (BitVec.ofNat 32 (16 * r.val))) a + S16.size a ≤ S12864.size a)
theorem k0_off87_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw41 : k0_chk41 v109 v120 arg18 v345 v356 v397 v438 v479 v520 v561 v602 v643 v684 v725 v766 v807 v848 v889), ∀ (k0_h12 : k0_cond12 v109 v120 = 1#1), ∀ (k0_h14 : k0_cond14 v345 = 1#1), ∀ (r : Fin 4), ∀ a, (k0_off87 arg18 v356 v397 v438 v479 v520 v561 v602 v643 v684 v725 v766 v807 v848 v889 (BitVec.ofNat 32 (16 * r.val))) a + S16.size a ≤ S12864.size a := fun v109 v120 arg18 v345 v356 v397 v438 v479 v520 v561 v602 v643 v684 v725 v766 v807 v848 v889 k0_hw41 k0_h12 k0_h14 r => k0_hw41 k0_h12 k0_h14 r

def k0_off88 (k0_t7 : Fin k0_t7_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off89 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk42 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h12 : k0_cond12 v109 v120 = 1#1), ∀ (k0_h14 : k0_cond14 v345 = 1#1), ∀ (r : Fin 4), ∀ a, (k0_off89 arg18 v356 v397 v438 v479 v520 v561 v602 v643 v684 v725 v766 v807 v848 v889 v930 (BitVec.ofNat 32 (16 * r.val))) a + S16.size a ≤ S12864.size a)
theorem k0_off89_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw42 : k0_chk42 v109 v120 arg18 v345 v356 v397 v438 v479 v520 v561 v602 v643 v684 v725 v766 v807 v848 v889 v930), ∀ (k0_h12 : k0_cond12 v109 v120 = 1#1), ∀ (k0_h14 : k0_cond14 v345 = 1#1), ∀ (r : Fin 4), ∀ a, (k0_off89 arg18 v356 v397 v438 v479 v520 v561 v602 v643 v684 v725 v766 v807 v848 v889 v930 (BitVec.ofNat 32 (16 * r.val))) a + S16.size a ≤ S12864.size a := fun v109 v120 arg18 v345 v356 v397 v438 v479 v520 v561 v602 v643 v684 v725 v766 v807 v848 v889 v930 k0_hw42 k0_h12 k0_h14 r => k0_hw42 k0_h12 k0_h14 r

def k0_off90 (k0_t7 : Fin k0_t7_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off91 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk43 (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h12 : k0_cond12 v109 v120 = 1#1), ∀ (k0_h14 : k0_cond14 v345 = 1#1), ∀ (r : Fin 4), ∀ a, (k0_off91 arg18 v356 v397 v438 v479 v520 v561 v602 v643 v684 v725 v766 v807 v848 v889 v930 v971 (BitVec.ofNat 32 (16 * r.val))) a + S16.size a ≤ S12864.size a)
theorem k0_off91_inb : ∀ (v109 : BitVec 32) (v120 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw43 : k0_chk43 v109 v120 arg18 v345 v356 v397 v438 v479 v520 v561 v602 v643 v684 v725 v766 v807 v848 v889 v930 v971), ∀ (k0_h12 : k0_cond12 v109 v120 = 1#1), ∀ (k0_h14 : k0_cond14 v345 = 1#1), ∀ (r : Fin 4), ∀ a, (k0_off91 arg18 v356 v397 v438 v479 v520 v561 v602 v643 v684 v725 v766 v807 v848 v889 v930 v971 (BitVec.ofNat 32 (16 * r.val))) a + S16.size a ≤ S12864.size a := fun v109 v120 arg18 v345 v356 v397 v438 v479 v520 v561 v602 v643 v684 v725 v766 v807 v848 v889 v930 v971 k0_hw43 k0_h12 k0_h14 r => k0_hw43 k0_h12 k0_h14 r

def k0_off92 (k0_t7 : Fin k0_t7_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t7
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off93 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c63_i32_43 : BitVec 32 := 63#32
  let v100 : BitVec 32 := Scalar.andi v99 c63_i32_43
  let c200_i32_194 : BitVec 32 := 200#32
  let v310 : BitVec 32 := Scalar.muli v100 c200_i32_194
  let c192_i32_195 : BitVec 32 := 192#32
  let v311 : BitVec 32 := Scalar.addi v310 c192_i32_195
  let v312 : Index := Scalar.indexCast v311
  ![v312.toNat]
@[reducible] def k0_t9_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off94 (v309 : BitVec 32) (k0_t9 : Fin k0_t9_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t9
  let c16_i32_213 : BitVec 32 := 16#32
  let v338 : BitVec 32 := Scalar.muli arg17 c16_i32_213
  let v339 : BitVec 32 := Scalar.addi v336 v338
  let v340 : Index := Scalar.indexCast v339
  ![v340.toNat]
def k0_cond15 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk44 (v109 : BitVec 32) (v120 : BitVec 32) (v309 : BitVec 32) (v320 : BitVec 32) : Prop :=
  (∀ k0_t9 : Fin k0_t9_loop.trips, ∀ (k0_h12 : k0_cond12 v109 v120 = 1#1), ∀ (k0_h15 : k0_cond15 v320 = 1#1), ∀ a, (k0_off94 v309 k0_t9) a + S16.size a ≤ S12864.size a)
theorem k0_off94_inb : ∀ (v109 : BitVec 32) (v120 : BitVec 32) (v309 : BitVec 32) (v320 : BitVec 32) (k0_hw44 : k0_chk44 v109 v120 v309 v320) (k0_t9 : Fin k0_t9_loop.trips), ∀ (k0_h12 : k0_cond12 v109 v120 = 1#1), ∀ (k0_h15 : k0_cond15 v320 = 1#1), ∀ a, (k0_off94 v309 k0_t9) a + S16.size a ≤ S12864.size a := fun v109 v120 v309 v320 k0_hw44 k0_t9 k0_h12 k0_h15 => k0_hw44 k0_t9 k0_h12 k0_h15

def k0_off95 (k0_t9 : Fin k0_t9_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t9
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off96 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond16 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk45 (v109 : BitVec 32) (v120 : BitVec 32) (v309 : BitVec 32) (v320 : BitVec 32) (v336 : BitVec 32) : Prop :=
  (∀ (k0_h12 : k0_cond12 v109 v120 = 1#1), ∀ (k0_h16 : k0_cond16 v320 = 1#1), ∀ (r : Fin 4), ∀ a, (k0_off96 v309 v336 (BitVec.ofNat 32 (16 * r.val))) a + S16.size a ≤ S12864.size a)
theorem k0_off96_inb : ∀ (v109 : BitVec 32) (v120 : BitVec 32) (v309 : BitVec 32) (v320 : BitVec 32) (v336 : BitVec 32) (k0_hw45 : k0_chk45 v109 v120 v309 v320 v336), ∀ (k0_h12 : k0_cond12 v109 v120 = 1#1), ∀ (k0_h16 : k0_cond16 v320 = 1#1), ∀ (r : Fin 4), ∀ a, (k0_off96 v309 v336 (BitVec.ofNat 32 (16 * r.val))) a + S16.size a ≤ S12864.size a := fun v109 v120 v309 v320 v336 k0_hw45 k0_h12 k0_h16 r => k0_hw45 k0_h12 k0_h16 r

def k0_off97 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk46 (v109 : BitVec 32) (v120 : BitVec 32) (v309 : BitVec 32) (v320 : BitVec 32) (v336 : BitVec 32) (v367 : BitVec 32) : Prop :=
  (∀ (k0_h12 : k0_cond12 v109 v120 = 1#1), ∀ (k0_h16 : k0_cond16 v320 = 1#1), ∀ (r : Fin 4), ∀ a, (k0_off97 v309 v336 v367 (BitVec.ofNat 32 (16 * r.val))) a + S16.size a ≤ S12864.size a)
theorem k0_off97_inb : ∀ (v109 : BitVec 32) (v120 : BitVec 32) (v309 : BitVec 32) (v320 : BitVec 32) (v336 : BitVec 32) (v367 : BitVec 32) (k0_hw46 : k0_chk46 v109 v120 v309 v320 v336 v367), ∀ (k0_h12 : k0_cond12 v109 v120 = 1#1), ∀ (k0_h16 : k0_cond16 v320 = 1#1), ∀ (r : Fin 4), ∀ a, (k0_off97 v309 v336 v367 (BitVec.ofNat 32 (16 * r.val))) a + S16.size a ≤ S12864.size a := fun v109 v120 v309 v320 v336 v367 k0_hw46 k0_h12 k0_h16 r => k0_hw46 k0_h12 k0_h16 r

def k0_off98 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk47 (v109 : BitVec 32) (v120 : BitVec 32) (v309 : BitVec 32) (v320 : BitVec 32) (v336 : BitVec 32) (v367 : BitVec 32) (v398 : BitVec 32) : Prop :=
  (∀ (k0_h12 : k0_cond12 v109 v120 = 1#1), ∀ (k0_h16 : k0_cond16 v320 = 1#1), ∀ (r : Fin 4), ∀ a, (k0_off98 v309 v336 v367 v398 (BitVec.ofNat 32 (16 * r.val))) a + S16.size a ≤ S12864.size a)
theorem k0_off98_inb : ∀ (v109 : BitVec 32) (v120 : BitVec 32) (v309 : BitVec 32) (v320 : BitVec 32) (v336 : BitVec 32) (v367 : BitVec 32) (v398 : BitVec 32) (k0_hw47 : k0_chk47 v109 v120 v309 v320 v336 v367 v398), ∀ (k0_h12 : k0_cond12 v109 v120 = 1#1), ∀ (k0_h16 : k0_cond16 v320 = 1#1), ∀ (r : Fin 4), ∀ a, (k0_off98 v309 v336 v367 v398 (BitVec.ofNat 32 (16 * r.val))) a + S16.size a ≤ S12864.size a := fun v109 v120 v309 v320 v336 v367 v398 k0_hw47 k0_h12 k0_h16 r => k0_hw47 k0_h12 k0_h16 r

def k0_off99 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk48 (v109 : BitVec 32) (v120 : BitVec 32) (v309 : BitVec 32) (v320 : BitVec 32) (v336 : BitVec 32) (v367 : BitVec 32) (v398 : BitVec 32) (v429 : BitVec 32) : Prop :=
  (∀ (k0_h12 : k0_cond12 v109 v120 = 1#1), ∀ (k0_h16 : k0_cond16 v320 = 1#1), ∀ (r : Fin 4), ∀ a, (k0_off99 v309 v336 v367 v398 v429 (BitVec.ofNat 32 (16 * r.val))) a + S16.size a ≤ S12864.size a)
theorem k0_off99_inb : ∀ (v109 : BitVec 32) (v120 : BitVec 32) (v309 : BitVec 32) (v320 : BitVec 32) (v336 : BitVec 32) (v367 : BitVec 32) (v398 : BitVec 32) (v429 : BitVec 32) (k0_hw48 : k0_chk48 v109 v120 v309 v320 v336 v367 v398 v429), ∀ (k0_h12 : k0_cond12 v109 v120 = 1#1), ∀ (k0_h16 : k0_cond16 v320 = 1#1), ∀ (r : Fin 4), ∀ a, (k0_off99 v309 v336 v367 v398 v429 (BitVec.ofNat 32 (16 * r.val))) a + S16.size a ≤ S12864.size a := fun v109 v120 v309 v320 v336 v367 v398 v429 k0_hw48 k0_h12 k0_h16 r => k0_hw48 k0_h12 k0_h16 r

def k0_off100 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk49 (v109 : BitVec 32) (v120 : BitVec 32) (v309 : BitVec 32) (v320 : BitVec 32) (v336 : BitVec 32) (v367 : BitVec 32) (v398 : BitVec 32) (v429 : BitVec 32) (v460 : BitVec 32) : Prop :=
  (∀ (k0_h12 : k0_cond12 v109 v120 = 1#1), ∀ (k0_h16 : k0_cond16 v320 = 1#1), ∀ (r : Fin 4), ∀ a, (k0_off100 v309 v336 v367 v398 v429 v460 (BitVec.ofNat 32 (16 * r.val))) a + S16.size a ≤ S12864.size a)
theorem k0_off100_inb : ∀ (v109 : BitVec 32) (v120 : BitVec 32) (v309 : BitVec 32) (v320 : BitVec 32) (v336 : BitVec 32) (v367 : BitVec 32) (v398 : BitVec 32) (v429 : BitVec 32) (v460 : BitVec 32) (k0_hw49 : k0_chk49 v109 v120 v309 v320 v336 v367 v398 v429 v460), ∀ (k0_h12 : k0_cond12 v109 v120 = 1#1), ∀ (k0_h16 : k0_cond16 v320 = 1#1), ∀ (r : Fin 4), ∀ a, (k0_off100 v309 v336 v367 v398 v429 v460 (BitVec.ofNat 32 (16 * r.val))) a + S16.size a ≤ S12864.size a := fun v109 v120 v309 v320 v336 v367 v398 v429 v460 k0_hw49 k0_h12 k0_h16 r => k0_hw49 k0_h12 k0_h16 r

def k0_off101 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk50 (v109 : BitVec 32) (v120 : BitVec 32) (v309 : BitVec 32) (v320 : BitVec 32) (v336 : BitVec 32) (v367 : BitVec 32) (v398 : BitVec 32) (v429 : BitVec 32) (v460 : BitVec 32) (v491 : BitVec 32) : Prop :=
  (∀ (k0_h12 : k0_cond12 v109 v120 = 1#1), ∀ (k0_h16 : k0_cond16 v320 = 1#1), ∀ (r : Fin 4), ∀ a, (k0_off101 v309 v336 v367 v398 v429 v460 v491 (BitVec.ofNat 32 (16 * r.val))) a + S16.size a ≤ S12864.size a)
theorem k0_off101_inb : ∀ (v109 : BitVec 32) (v120 : BitVec 32) (v309 : BitVec 32) (v320 : BitVec 32) (v336 : BitVec 32) (v367 : BitVec 32) (v398 : BitVec 32) (v429 : BitVec 32) (v460 : BitVec 32) (v491 : BitVec 32) (k0_hw50 : k0_chk50 v109 v120 v309 v320 v336 v367 v398 v429 v460 v491), ∀ (k0_h12 : k0_cond12 v109 v120 = 1#1), ∀ (k0_h16 : k0_cond16 v320 = 1#1), ∀ (r : Fin 4), ∀ a, (k0_off101 v309 v336 v367 v398 v429 v460 v491 (BitVec.ofNat 32 (16 * r.val))) a + S16.size a ≤ S12864.size a := fun v109 v120 v309 v320 v336 v367 v398 v429 v460 v491 k0_hw50 k0_h12 k0_h16 r => k0_hw50 k0_h12 k0_h16 r

def k0_off102 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk51 (v109 : BitVec 32) (v120 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h12 : k0_cond12 v109 v120 = 1#1), ∀ (k0_h16 : k0_cond16 v320 = 1#1), ∀ (r : Fin 4), ∀ a, (k0_off102 v309 v336 v367 v398 v429 v460 v491 v522 (BitVec.ofNat 32 (16 * r.val))) a + S16.size a ≤ S12864.size a)
theorem k0_off102_inb : ∀ (v109 : BitVec 32) (v120 : BitVec 32) (v309 : BitVec 32) (v320 : BitVec 32) (v336 : BitVec 32) (v367 : BitVec 32) (v398 : BitVec 32) (v429 : BitVec 32) (v460 : BitVec 32) (v491 : BitVec 32) (v522 : BitVec 32) (k0_hw51 : k0_chk51 v109 v120 v309 v320 v336 v367 v398 v429 v460 v491 v522), ∀ (k0_h12 : k0_cond12 v109 v120 = 1#1), ∀ (k0_h16 : k0_cond16 v320 = 1#1), ∀ (r : Fin 4), ∀ a, (k0_off102 v309 v336 v367 v398 v429 v460 v491 v522 (BitVec.ofNat 32 (16 * r.val))) a + S16.size a ≤ S12864.size a := fun v109 v120 v309 v320 v336 v367 v398 v429 v460 v491 v522 k0_hw51 k0_h12 k0_h16 r => k0_hw51 k0_h12 k0_h16 r

def k0_off103 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk52 (v109 : BitVec 32) (v120 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h12 : k0_cond12 v109 v120 = 1#1), ∀ (k0_h16 : k0_cond16 v320 = 1#1), ∀ (r : Fin 4), ∀ a, (k0_off103 v309 v336 v367 v398 v429 v460 v491 v522 v553 (BitVec.ofNat 32 (16 * r.val))) a + S16.size a ≤ S12864.size a)
theorem k0_off103_inb : ∀ (v109 : BitVec 32) (v120 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw52 : k0_chk52 v109 v120 v309 v320 v336 v367 v398 v429 v460 v491 v522 v553), ∀ (k0_h12 : k0_cond12 v109 v120 = 1#1), ∀ (k0_h16 : k0_cond16 v320 = 1#1), ∀ (r : Fin 4), ∀ a, (k0_off103 v309 v336 v367 v398 v429 v460 v491 v522 v553 (BitVec.ofNat 32 (16 * r.val))) a + S16.size a ≤ S12864.size a := fun v109 v120 v309 v320 v336 v367 v398 v429 v460 v491 v522 v553 k0_hw52 k0_h12 k0_h16 r => k0_hw52 k0_h12 k0_h16 r

def k0_off104 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_41 : BitVec 32 := 8#32
  let v98 : BitVec 32 := Scalar.muli arg16 c8_i32_41
  let c1_i32_42 : BitVec 32 := 1#32
  let v99 : BitVec 32 := Scalar.addi v98 c1_i32_42
  let c12800_i32_204 : BitVec 32 := 12800#32
  let v327 : BitVec 32 := Scalar.muli v99 c12800_i32_204
  let v328 : BitVec 32 := Scalar.addi v5 v327
  ![v328.toNat]
def k0_cond17 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c63_i32_65 : BitVec 32 := 63#32
  let v131 : BitVec 32 := Scalar.andi v129 c63_i32_65
  let c0_i32_66 : BitVec 32 := 0#32
  let v132 : BitVec 1 := Scalar.cmpi .eq v131 c0_i32_66
  let v133 : BitVec 32 := Scalar.extui v132
  let c0_i32_67 : BitVec 32 := 0#32
  let v134 : BitVec 1 := Scalar.cmpi .ne v133 c0_i32_67
  v134

def k0_off105 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c6_i32_188 : BitVec 32 := 6#32
  let v308 : BitVec 32 := Scalar.shrsi v129 c6_i32_188
  let c12800_i32_189 : BitVec 32 := 12800#32
  let v309 : BitVec 32 := Scalar.muli v308 c12800_i32_189
  let v310 : BitVec 32 := Scalar.addi v3 v309
  ![v310.toNat]
def k0_cond18 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c8_i32_68 : BitVec 32 := 8#32
  let v135 : BitVec 1 := Scalar.cmpi .sge v129 c8_i32_68
  let v136 : BitVec 32 := Scalar.extui v135
  let c0_i32_69 : BitVec 32 := 0#32
  let v137 : BitVec 1 := Scalar.cmpi .ne v136 c0_i32_69
  v137

def k0_off106 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c8_i32_188 : BitVec 32 := 8#32
  let v308 : BitVec 32 := Scalar.subi v129 c8_i32_188
  let c12800_i32_189 : BitVec 32 := 12800#32
  let v309 : BitVec 32 := Scalar.muli v308 c12800_i32_189
  let v310 : BitVec 32 := Scalar.addi v5 v309
  ![v310.toNat]
@[reducible] def k0_t10_loop : Scf.Loop 32 :=
  let c0_i32_71 : BitVec 32 := 0#32
  let c12_i32_72 : BitVec 32 := 12#32
  let v138 : BitVec 32 := Scalar.addi c0_i32_71 c12_i32_72
  let c1_i32_73 : BitVec 32 := 1#32
  ⟨c0_i32_71, v138, c1_i32_73⟩
def k0_off107 (k0_t1 : Fin k0_t1_loop.trips) (k0_t10 : Fin k0_t10_loop.trips) : Fin 1 → Nat :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c63_i32_64 : BitVec 32 := 63#32
  let v130 : BitVec 32 := Scalar.andi v129 c63_i32_64
  let c200_i32_188 : BitVec 32 := 200#32
  let v308 : BitVec 32 := Scalar.muli v130 c200_i32_188
  let c16_i32_189 : BitVec 32 := 16#32
  let c0_i32_71 : BitVec 32 := 0#32
  let c1_i32_73 : BitVec 32 := 1#32
  let arg17 : BitVec 32 := Scf.iv c0_i32_71 c1_i32_73 k0_t10
  let v309 : BitVec 32 := Scalar.muli c16_i32_189 arg17
  let v310 : BitVec 32 := Scalar.addi v308 v309
  let v311 : Index := Scalar.indexCast v310
  ![v311.toNat]
def k0_off108 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c63_i32_64 : BitVec 32 := 63#32
  let v130 : BitVec 32 := Scalar.andi v129 c63_i32_64
  let c200_i32_75 : BitVec 32 := 200#32
  let v140 : BitVec 32 := Scalar.muli v130 c200_i32_75
  let c192_i32_76 : BitVec 32 := 192#32
  let v141 : BitVec 32 := Scalar.addi v140 c192_i32_76
  let v142 : Index := Scalar.indexCast v141
  ![v142.toNat]
def k0_off109 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c12800_i32_188 : BitVec 32 := 12800#32
  let v308 : BitVec 32 := Scalar.muli v129 c12800_i32_188
  let v309 : BitVec 32 := Scalar.addi v5 v308
  ![v309.toNat]
@[reducible] def k0_t11_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off110 (k0_t1 : Fin k0_t1_loop.trips) (k0_t11 : Fin k0_t11_loop.trips) : Fin 1 → Nat :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c63_i32_64 : BitVec 32 := 63#32
  let v130 : BitVec 32 := Scalar.andi v129 c63_i32_64
  let c200_i32_208 : BitVec 32 := 200#32
  let v335 : BitVec 32 := Scalar.muli v130 c200_i32_208
  let c16_i32_209 : BitVec 32 := 16#32
  let c0_i32_190 : BitVec 32 := 0#32
  let c1_i32_192 : BitVec 32 := 1#32
  let arg17 : BitVec 32 := Scf.iv c0_i32_190 c1_i32_192 k0_t11
  let v336 : BitVec 32 := Scalar.muli c16_i32_209 arg17
  let v337 : BitVec 32 := Scalar.addi v335 v336
  let v338 : Index := Scalar.indexCast v337
  ![v338.toNat]
@[reducible] def k0_t12_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off111 (arg18 : BitVec 32) (k0_t12 : Fin k0_t12_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t12
  let c16_i32_223 : BitVec 32 := 16#32
  let v358 : BitVec 32 := Scalar.muli arg19 c16_i32_223
  let v359 : BitVec 32 := Scalar.addi v355 v358
  let v360 : Index := Scalar.indexCast v359
  ![v360.toNat]
def k0_cond20 (v139 : BitVec 32) (v150 : BitVec 32) : BitVec 1 :=
  let v151 : BitVec 32 := Scalar.addi v139 v150
  let c0_i32_81 : BitVec 32 := 0#32
  let v155 : BitVec 1 := Scalar.cmpi .sgt v151 c0_i32_81
  let v156 : BitVec 32 := Scalar.extui v155
  let c0_i32_82 : BitVec 32 := 0#32
  let v157 : BitVec 1 := Scalar.cmpi .ne v156 c0_i32_82
  v157

def k0_cond21 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk53 (v139 : BitVec 32) (v150 : BitVec 32) (arg18 : BitVec 32) (v345 : BitVec 32) : Prop :=
  (∀ k0_t12 : Fin k0_t12_loop.trips, ∀ (k0_h20 : k0_cond20 v139 v150 = 1#1), ∀ (k0_h21 : k0_cond21 v345 = 1#1), ∀ a, (k0_off111 arg18 k0_t12) a + S16.size a ≤ S12864.size a)
theorem k0_off111_inb : ∀ (v139 : BitVec 32) (v150 : BitVec 32) (arg18 : BitVec 32) (v345 : BitVec 32) (k0_hw53 : k0_chk53 v139 v150 arg18 v345) (k0_t12 : Fin k0_t12_loop.trips), ∀ (k0_h20 : k0_cond20 v139 v150 = 1#1), ∀ (k0_h21 : k0_cond21 v345 = 1#1), ∀ a, (k0_off111 arg18 k0_t12) a + S16.size a ≤ S12864.size a := fun v139 v150 arg18 v345 k0_hw53 k0_t12 k0_h20 k0_h21 => k0_hw53 k0_t12 k0_h20 k0_h21

def k0_off112 (k0_t11 : Fin k0_t11_loop.trips) (k0_t12 : Fin k0_t12_loop.trips) : Fin 1 → Nat :=
  let c0_i32_190 : BitVec 32 := 0#32
  let c1_i32_192 : BitVec 32 := 1#32
  let arg17 : BitVec 32 := Scf.iv c0_i32_190 c1_i32_192 k0_t11
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t12
  let c16_i32_224 : BitVec 32 := 16#32
  let v362 : BitVec 32 := Scalar.muli arg19 c16_i32_224
  let v363 : BitVec 32 := Scalar.addi v356 v362
  let v366 : Index := Scalar.indexCast v363
  ![v366.toNat]
def k0_off113 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond22 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk54 (v139 : BitVec 32) (v150 : BitVec 32) (arg18 : BitVec 32) (v345 : BitVec 32) (v356 : BitVec 32) : Prop :=
  (∀ (k0_h20 : k0_cond20 v139 v150 = 1#1), ∀ (k0_h22 : k0_cond22 v345 = 1#1), ∀ (r : Fin 4), ∀ a, (k0_off113 arg18 v356 (BitVec.ofNat 32 (16 * r.val))) a + S16.size a ≤ S12864.size a)
theorem k0_off113_inb : ∀ (v139 : BitVec 32) (v150 : BitVec 32) (arg18 : BitVec 32) (v345 : BitVec 32) (v356 : BitVec 32) (k0_hw54 : k0_chk54 v139 v150 arg18 v345 v356), ∀ (k0_h20 : k0_cond20 v139 v150 = 1#1), ∀ (k0_h22 : k0_cond22 v345 = 1#1), ∀ (r : Fin 4), ∀ a, (k0_off113 arg18 v356 (BitVec.ofNat 32 (16 * r.val))) a + S16.size a ≤ S12864.size a := fun v139 v150 arg18 v345 v356 k0_hw54 k0_h20 k0_h22 r => k0_hw54 k0_h20 k0_h22 r

def k0_off114 (k0_t11 : Fin k0_t11_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off115 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk55 (v139 : BitVec 32) (v150 : BitVec 32) (arg18 : BitVec 32) (v345 : BitVec 32) (v356 : BitVec 32) (v397 : BitVec 32) : Prop :=
  (∀ (k0_h20 : k0_cond20 v139 v150 = 1#1), ∀ (k0_h22 : k0_cond22 v345 = 1#1), ∀ (r : Fin 4), ∀ a, (k0_off115 arg18 v356 v397 (BitVec.ofNat 32 (16 * r.val))) a + S16.size a ≤ S12864.size a)
theorem k0_off115_inb : ∀ (v139 : BitVec 32) (v150 : BitVec 32) (arg18 : BitVec 32) (v345 : BitVec 32) (v356 : BitVec 32) (v397 : BitVec 32) (k0_hw55 : k0_chk55 v139 v150 arg18 v345 v356 v397), ∀ (k0_h20 : k0_cond20 v139 v150 = 1#1), ∀ (k0_h22 : k0_cond22 v345 = 1#1), ∀ (r : Fin 4), ∀ a, (k0_off115 arg18 v356 v397 (BitVec.ofNat 32 (16 * r.val))) a + S16.size a ≤ S12864.size a := fun v139 v150 arg18 v345 v356 v397 k0_hw55 k0_h20 k0_h22 r => k0_hw55 k0_h20 k0_h22 r

def k0_off116 (k0_t11 : Fin k0_t11_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off117 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk56 (v139 : BitVec 32) (v150 : BitVec 32) (arg18 : BitVec 32) (v345 : BitVec 32) (v356 : BitVec 32) (v397 : BitVec 32) (v438 : BitVec 32) : Prop :=
  (∀ (k0_h20 : k0_cond20 v139 v150 = 1#1), ∀ (k0_h22 : k0_cond22 v345 = 1#1), ∀ (r : Fin 4), ∀ a, (k0_off117 arg18 v356 v397 v438 (BitVec.ofNat 32 (16 * r.val))) a + S16.size a ≤ S12864.size a)
theorem k0_off117_inb : ∀ (v139 : BitVec 32) (v150 : BitVec 32) (arg18 : BitVec 32) (v345 : BitVec 32) (v356 : BitVec 32) (v397 : BitVec 32) (v438 : BitVec 32) (k0_hw56 : k0_chk56 v139 v150 arg18 v345 v356 v397 v438), ∀ (k0_h20 : k0_cond20 v139 v150 = 1#1), ∀ (k0_h22 : k0_cond22 v345 = 1#1), ∀ (r : Fin 4), ∀ a, (k0_off117 arg18 v356 v397 v438 (BitVec.ofNat 32 (16 * r.val))) a + S16.size a ≤ S12864.size a := fun v139 v150 arg18 v345 v356 v397 v438 k0_hw56 k0_h20 k0_h22 r => k0_hw56 k0_h20 k0_h22 r

def k0_off118 (k0_t11 : Fin k0_t11_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off119 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk57 (v139 : BitVec 32) (v150 : BitVec 32) (arg18 : BitVec 32) (v345 : BitVec 32) (v356 : BitVec 32) (v397 : BitVec 32) (v438 : BitVec 32) (v479 : BitVec 32) : Prop :=
  (∀ (k0_h20 : k0_cond20 v139 v150 = 1#1), ∀ (k0_h22 : k0_cond22 v345 = 1#1), ∀ (r : Fin 4), ∀ a, (k0_off119 arg18 v356 v397 v438 v479 (BitVec.ofNat 32 (16 * r.val))) a + S16.size a ≤ S12864.size a)
theorem k0_off119_inb : ∀ (v139 : BitVec 32) (v150 : BitVec 32) (arg18 : BitVec 32) (v345 : BitVec 32) (v356 : BitVec 32) (v397 : BitVec 32) (v438 : BitVec 32) (v479 : BitVec 32) (k0_hw57 : k0_chk57 v139 v150 arg18 v345 v356 v397 v438 v479), ∀ (k0_h20 : k0_cond20 v139 v150 = 1#1), ∀ (k0_h22 : k0_cond22 v345 = 1#1), ∀ (r : Fin 4), ∀ a, (k0_off119 arg18 v356 v397 v438 v479 (BitVec.ofNat 32 (16 * r.val))) a + S16.size a ≤ S12864.size a := fun v139 v150 arg18 v345 v356 v397 v438 v479 k0_hw57 k0_h20 k0_h22 r => k0_hw57 k0_h20 k0_h22 r

def k0_off120 (k0_t11 : Fin k0_t11_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off121 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk58 (v139 : BitVec 32) (v150 : BitVec 32) (arg18 : BitVec 32) (v345 : BitVec 32) (v356 : BitVec 32) (v397 : BitVec 32) (v438 : BitVec 32) (v479 : BitVec 32) (v520 : BitVec 32) : Prop :=
  (∀ (k0_h20 : k0_cond20 v139 v150 = 1#1), ∀ (k0_h22 : k0_cond22 v345 = 1#1), ∀ (r : Fin 4), ∀ a, (k0_off121 arg18 v356 v397 v438 v479 v520 (BitVec.ofNat 32 (16 * r.val))) a + S16.size a ≤ S12864.size a)
theorem k0_off121_inb : ∀ (v139 : BitVec 32) (v150 : BitVec 32) (arg18 : BitVec 32) (v345 : BitVec 32) (v356 : BitVec 32) (v397 : BitVec 32) (v438 : BitVec 32) (v479 : BitVec 32) (v520 : BitVec 32) (k0_hw58 : k0_chk58 v139 v150 arg18 v345 v356 v397 v438 v479 v520), ∀ (k0_h20 : k0_cond20 v139 v150 = 1#1), ∀ (k0_h22 : k0_cond22 v345 = 1#1), ∀ (r : Fin 4), ∀ a, (k0_off121 arg18 v356 v397 v438 v479 v520 (BitVec.ofNat 32 (16 * r.val))) a + S16.size a ≤ S12864.size a := fun v139 v150 arg18 v345 v356 v397 v438 v479 v520 k0_hw58 k0_h20 k0_h22 r => k0_hw58 k0_h20 k0_h22 r

def k0_off122 (k0_t11 : Fin k0_t11_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off123 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk59 (v139 : BitVec 32) (v150 : BitVec 32) (arg18 : BitVec 32) (v345 : BitVec 32) (v356 : BitVec 32) (v397 : BitVec 32) (v438 : BitVec 32) (v479 : BitVec 32) (v520 : BitVec 32) (v561 : BitVec 32) : Prop :=
  (∀ (k0_h20 : k0_cond20 v139 v150 = 1#1), ∀ (k0_h22 : k0_cond22 v345 = 1#1), ∀ (r : Fin 4), ∀ a, (k0_off123 arg18 v356 v397 v438 v479 v520 v561 (BitVec.ofNat 32 (16 * r.val))) a + S16.size a ≤ S12864.size a)
theorem k0_off123_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (k0_hw59 : k0_chk59 v139 v150 arg18 v345 v356 v397 v438 v479 v520 v561), ∀ (k0_h20 : k0_cond20 v139 v150 = 1#1), ∀ (k0_h22 : k0_cond22 v345 = 1#1), ∀ (r : Fin 4), ∀ a, (k0_off123 arg18 v356 v397 v438 v479 v520 v561 (BitVec.ofNat 32 (16 * r.val))) a + S16.size a ≤ S12864.size a := fun v139 v150 arg18 v345 v356 v397 v438 v479 v520 v561 k0_hw59 k0_h20 k0_h22 r => k0_hw59 k0_h20 k0_h22 r

def k0_off124 (k0_t11 : Fin k0_t11_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off125 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk60 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h20 : k0_cond20 v139 v150 = 1#1), ∀ (k0_h22 : k0_cond22 v345 = 1#1), ∀ (r : Fin 4), ∀ a, (k0_off125 arg18 v356 v397 v438 v479 v520 v561 v602 (BitVec.ofNat 32 (16 * r.val))) a + S16.size a ≤ S12864.size a)
theorem k0_off125_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (k0_hw60 : k0_chk60 v139 v150 arg18 v345 v356 v397 v438 v479 v520 v561 v602), ∀ (k0_h20 : k0_cond20 v139 v150 = 1#1), ∀ (k0_h22 : k0_cond22 v345 = 1#1), ∀ (r : Fin 4), ∀ a, (k0_off125 arg18 v356 v397 v438 v479 v520 v561 v602 (BitVec.ofNat 32 (16 * r.val))) a + S16.size a ≤ S12864.size a := fun v139 v150 arg18 v345 v356 v397 v438 v479 v520 v561 v602 k0_hw60 k0_h20 k0_h22 r => k0_hw60 k0_h20 k0_h22 r

def k0_off126 (k0_t11 : Fin k0_t11_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off127 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk61 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h20 : k0_cond20 v139 v150 = 1#1), ∀ (k0_h22 : k0_cond22 v345 = 1#1), ∀ (r : Fin 4), ∀ a, (k0_off127 arg18 v356 v397 v438 v479 v520 v561 v602 v643 (BitVec.ofNat 32 (16 * r.val))) a + S16.size a ≤ S12864.size a)
theorem k0_off127_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw61 : k0_chk61 v139 v150 arg18 v345 v356 v397 v438 v479 v520 v561 v602 v643), ∀ (k0_h20 : k0_cond20 v139 v150 = 1#1), ∀ (k0_h22 : k0_cond22 v345 = 1#1), ∀ (r : Fin 4), ∀ a, (k0_off127 arg18 v356 v397 v438 v479 v520 v561 v602 v643 (BitVec.ofNat 32 (16 * r.val))) a + S16.size a ≤ S12864.size a := fun v139 v150 arg18 v345 v356 v397 v438 v479 v520 v561 v602 v643 k0_hw61 k0_h20 k0_h22 r => k0_hw61 k0_h20 k0_h22 r

def k0_off128 (k0_t11 : Fin k0_t11_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off129 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk62 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h20 : k0_cond20 v139 v150 = 1#1), ∀ (k0_h22 : k0_cond22 v345 = 1#1), ∀ (r : Fin 4), ∀ a, (k0_off129 arg18 v356 v397 v438 v479 v520 v561 v602 v643 v684 (BitVec.ofNat 32 (16 * r.val))) a + S16.size a ≤ S12864.size a)
theorem k0_off129_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw62 : k0_chk62 v139 v150 arg18 v345 v356 v397 v438 v479 v520 v561 v602 v643 v684), ∀ (k0_h20 : k0_cond20 v139 v150 = 1#1), ∀ (k0_h22 : k0_cond22 v345 = 1#1), ∀ (r : Fin 4), ∀ a, (k0_off129 arg18 v356 v397 v438 v479 v520 v561 v602 v643 v684 (BitVec.ofNat 32 (16 * r.val))) a + S16.size a ≤ S12864.size a := fun v139 v150 arg18 v345 v356 v397 v438 v479 v520 v561 v602 v643 v684 k0_hw62 k0_h20 k0_h22 r => k0_hw62 k0_h20 k0_h22 r

def k0_off130 (k0_t11 : Fin k0_t11_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off131 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk63 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h20 : k0_cond20 v139 v150 = 1#1), ∀ (k0_h22 : k0_cond22 v345 = 1#1), ∀ (r : Fin 4), ∀ a, (k0_off131 arg18 v356 v397 v438 v479 v520 v561 v602 v643 v684 v725 (BitVec.ofNat 32 (16 * r.val))) a + S16.size a ≤ S12864.size a)
theorem k0_off131_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw63 : k0_chk63 v139 v150 arg18 v345 v356 v397 v438 v479 v520 v561 v602 v643 v684 v725), ∀ (k0_h20 : k0_cond20 v139 v150 = 1#1), ∀ (k0_h22 : k0_cond22 v345 = 1#1), ∀ (r : Fin 4), ∀ a, (k0_off131 arg18 v356 v397 v438 v479 v520 v561 v602 v643 v684 v725 (BitVec.ofNat 32 (16 * r.val))) a + S16.size a ≤ S12864.size a := fun v139 v150 arg18 v345 v356 v397 v438 v479 v520 v561 v602 v643 v684 v725 k0_hw63 k0_h20 k0_h22 r => k0_hw63 k0_h20 k0_h22 r

def k0_off132 (k0_t11 : Fin k0_t11_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off133 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk64 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h20 : k0_cond20 v139 v150 = 1#1), ∀ (k0_h22 : k0_cond22 v345 = 1#1), ∀ (r : Fin 4), ∀ a, (k0_off133 arg18 v356 v397 v438 v479 v520 v561 v602 v643 v684 v725 v766 (BitVec.ofNat 32 (16 * r.val))) a + S16.size a ≤ S12864.size a)
theorem k0_off133_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw64 : k0_chk64 v139 v150 arg18 v345 v356 v397 v438 v479 v520 v561 v602 v643 v684 v725 v766), ∀ (k0_h20 : k0_cond20 v139 v150 = 1#1), ∀ (k0_h22 : k0_cond22 v345 = 1#1), ∀ (r : Fin 4), ∀ a, (k0_off133 arg18 v356 v397 v438 v479 v520 v561 v602 v643 v684 v725 v766 (BitVec.ofNat 32 (16 * r.val))) a + S16.size a ≤ S12864.size a := fun v139 v150 arg18 v345 v356 v397 v438 v479 v520 v561 v602 v643 v684 v725 v766 k0_hw64 k0_h20 k0_h22 r => k0_hw64 k0_h20 k0_h22 r

def k0_off134 (k0_t11 : Fin k0_t11_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off135 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk65 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h20 : k0_cond20 v139 v150 = 1#1), ∀ (k0_h22 : k0_cond22 v345 = 1#1), ∀ (r : Fin 4), ∀ a, (k0_off135 arg18 v356 v397 v438 v479 v520 v561 v602 v643 v684 v725 v766 v807 (BitVec.ofNat 32 (16 * r.val))) a + S16.size a ≤ S12864.size a)
theorem k0_off135_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw65 : k0_chk65 v139 v150 arg18 v345 v356 v397 v438 v479 v520 v561 v602 v643 v684 v725 v766 v807), ∀ (k0_h20 : k0_cond20 v139 v150 = 1#1), ∀ (k0_h22 : k0_cond22 v345 = 1#1), ∀ (r : Fin 4), ∀ a, (k0_off135 arg18 v356 v397 v438 v479 v520 v561 v602 v643 v684 v725 v766 v807 (BitVec.ofNat 32 (16 * r.val))) a + S16.size a ≤ S12864.size a := fun v139 v150 arg18 v345 v356 v397 v438 v479 v520 v561 v602 v643 v684 v725 v766 v807 k0_hw65 k0_h20 k0_h22 r => k0_hw65 k0_h20 k0_h22 r

def k0_off136 (k0_t11 : Fin k0_t11_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off137 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk66 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h20 : k0_cond20 v139 v150 = 1#1), ∀ (k0_h22 : k0_cond22 v345 = 1#1), ∀ (r : Fin 4), ∀ a, (k0_off137 arg18 v356 v397 v438 v479 v520 v561 v602 v643 v684 v725 v766 v807 v848 (BitVec.ofNat 32 (16 * r.val))) a + S16.size a ≤ S12864.size a)
theorem k0_off137_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw66 : k0_chk66 v139 v150 arg18 v345 v356 v397 v438 v479 v520 v561 v602 v643 v684 v725 v766 v807 v848), ∀ (k0_h20 : k0_cond20 v139 v150 = 1#1), ∀ (k0_h22 : k0_cond22 v345 = 1#1), ∀ (r : Fin 4), ∀ a, (k0_off137 arg18 v356 v397 v438 v479 v520 v561 v602 v643 v684 v725 v766 v807 v848 (BitVec.ofNat 32 (16 * r.val))) a + S16.size a ≤ S12864.size a := fun v139 v150 arg18 v345 v356 v397 v438 v479 v520 v561 v602 v643 v684 v725 v766 v807 v848 k0_hw66 k0_h20 k0_h22 r => k0_hw66 k0_h20 k0_h22 r

def k0_off138 (k0_t11 : Fin k0_t11_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off139 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk67 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h20 : k0_cond20 v139 v150 = 1#1), ∀ (k0_h22 : k0_cond22 v345 = 1#1), ∀ (r : Fin 4), ∀ a, (k0_off139 arg18 v356 v397 v438 v479 v520 v561 v602 v643 v684 v725 v766 v807 v848 v889 (BitVec.ofNat 32 (16 * r.val))) a + S16.size a ≤ S12864.size a)
theorem k0_off139_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw67 : k0_chk67 v139 v150 arg18 v345 v356 v397 v438 v479 v520 v561 v602 v643 v684 v725 v766 v807 v848 v889), ∀ (k0_h20 : k0_cond20 v139 v150 = 1#1), ∀ (k0_h22 : k0_cond22 v345 = 1#1), ∀ (r : Fin 4), ∀ a, (k0_off139 arg18 v356 v397 v438 v479 v520 v561 v602 v643 v684 v725 v766 v807 v848 v889 (BitVec.ofNat 32 (16 * r.val))) a + S16.size a ≤ S12864.size a := fun v139 v150 arg18 v345 v356 v397 v438 v479 v520 v561 v602 v643 v684 v725 v766 v807 v848 v889 k0_hw67 k0_h20 k0_h22 r => k0_hw67 k0_h20 k0_h22 r

def k0_off140 (k0_t11 : Fin k0_t11_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off141 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk68 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h20 : k0_cond20 v139 v150 = 1#1), ∀ (k0_h22 : k0_cond22 v345 = 1#1), ∀ (r : Fin 4), ∀ a, (k0_off141 arg18 v356 v397 v438 v479 v520 v561 v602 v643 v684 v725 v766 v807 v848 v889 v930 (BitVec.ofNat 32 (16 * r.val))) a + S16.size a ≤ S12864.size a)
theorem k0_off141_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw68 : k0_chk68 v139 v150 arg18 v345 v356 v397 v438 v479 v520 v561 v602 v643 v684 v725 v766 v807 v848 v889 v930), ∀ (k0_h20 : k0_cond20 v139 v150 = 1#1), ∀ (k0_h22 : k0_cond22 v345 = 1#1), ∀ (r : Fin 4), ∀ a, (k0_off141 arg18 v356 v397 v438 v479 v520 v561 v602 v643 v684 v725 v766 v807 v848 v889 v930 (BitVec.ofNat 32 (16 * r.val))) a + S16.size a ≤ S12864.size a := fun v139 v150 arg18 v345 v356 v397 v438 v479 v520 v561 v602 v643 v684 v725 v766 v807 v848 v889 v930 k0_hw68 k0_h20 k0_h22 r => k0_hw68 k0_h20 k0_h22 r

def k0_off142 (k0_t11 : Fin k0_t11_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off143 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk69 (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h20 : k0_cond20 v139 v150 = 1#1), ∀ (k0_h22 : k0_cond22 v345 = 1#1), ∀ (r : Fin 4), ∀ a, (k0_off143 arg18 v356 v397 v438 v479 v520 v561 v602 v643 v684 v725 v766 v807 v848 v889 v930 v971 (BitVec.ofNat 32 (16 * r.val))) a + S16.size a ≤ S12864.size a)
theorem k0_off143_inb : ∀ (v139 : BitVec 32) (v150 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw69 : k0_chk69 v139 v150 arg18 v345 v356 v397 v438 v479 v520 v561 v602 v643 v684 v725 v766 v807 v848 v889 v930 v971), ∀ (k0_h20 : k0_cond20 v139 v150 = 1#1), ∀ (k0_h22 : k0_cond22 v345 = 1#1), ∀ (r : Fin 4), ∀ a, (k0_off143 arg18 v356 v397 v438 v479 v520 v561 v602 v643 v684 v725 v766 v807 v848 v889 v930 v971 (BitVec.ofNat 32 (16 * r.val))) a + S16.size a ≤ S12864.size a := fun v139 v150 arg18 v345 v356 v397 v438 v479 v520 v561 v602 v643 v684 v725 v766 v807 v848 v889 v930 v971 k0_hw69 k0_h20 k0_h22 r => k0_hw69 k0_h20 k0_h22 r

def k0_off144 (k0_t11 : Fin k0_t11_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t11
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off145 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c63_i32_64 : BitVec 32 := 63#32
  let v130 : BitVec 32 := Scalar.andi v129 c63_i32_64
  let c200_i32_194 : BitVec 32 := 200#32
  let v310 : BitVec 32 := Scalar.muli v130 c200_i32_194
  let c192_i32_195 : BitVec 32 := 192#32
  let v311 : BitVec 32 := Scalar.addi v310 c192_i32_195
  let v312 : Index := Scalar.indexCast v311
  ![v312.toNat]
@[reducible] def k0_t13_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off146 (v309 : BitVec 32) (k0_t13 : Fin k0_t13_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t13
  let c16_i32_213 : BitVec 32 := 16#32
  let v338 : BitVec 32 := Scalar.muli arg17 c16_i32_213
  let v339 : BitVec 32 := Scalar.addi v336 v338
  let v340 : Index := Scalar.indexCast v339
  ![v340.toNat]
def k0_cond23 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk70 (v139 : BitVec 32) (v150 : BitVec 32) (v309 : BitVec 32) (v320 : BitVec 32) : Prop :=
  (∀ k0_t13 : Fin k0_t13_loop.trips, ∀ (k0_h20 : k0_cond20 v139 v150 = 1#1), ∀ (k0_h23 : k0_cond23 v320 = 1#1), ∀ a, (k0_off146 v309 k0_t13) a + S16.size a ≤ S12864.size a)
theorem k0_off146_inb : ∀ (v139 : BitVec 32) (v150 : BitVec 32) (v309 : BitVec 32) (v320 : BitVec 32) (k0_hw70 : k0_chk70 v139 v150 v309 v320) (k0_t13 : Fin k0_t13_loop.trips), ∀ (k0_h20 : k0_cond20 v139 v150 = 1#1), ∀ (k0_h23 : k0_cond23 v320 = 1#1), ∀ a, (k0_off146 v309 k0_t13) a + S16.size a ≤ S12864.size a := fun v139 v150 v309 v320 k0_hw70 k0_t13 k0_h20 k0_h23 => k0_hw70 k0_t13 k0_h20 k0_h23

def k0_off147 (k0_t13 : Fin k0_t13_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t13
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off148 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond24 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk71 (v139 : BitVec 32) (v150 : BitVec 32) (v309 : BitVec 32) (v320 : BitVec 32) (v336 : BitVec 32) : Prop :=
  (∀ (k0_h20 : k0_cond20 v139 v150 = 1#1), ∀ (k0_h24 : k0_cond24 v320 = 1#1), ∀ (r : Fin 4), ∀ a, (k0_off148 v309 v336 (BitVec.ofNat 32 (16 * r.val))) a + S16.size a ≤ S12864.size a)
theorem k0_off148_inb : ∀ (v139 : BitVec 32) (v150 : BitVec 32) (v309 : BitVec 32) (v320 : BitVec 32) (v336 : BitVec 32) (k0_hw71 : k0_chk71 v139 v150 v309 v320 v336), ∀ (k0_h20 : k0_cond20 v139 v150 = 1#1), ∀ (k0_h24 : k0_cond24 v320 = 1#1), ∀ (r : Fin 4), ∀ a, (k0_off148 v309 v336 (BitVec.ofNat 32 (16 * r.val))) a + S16.size a ≤ S12864.size a := fun v139 v150 v309 v320 v336 k0_hw71 k0_h20 k0_h24 r => k0_hw71 k0_h20 k0_h24 r

def k0_off149 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk72 (v139 : BitVec 32) (v150 : BitVec 32) (v309 : BitVec 32) (v320 : BitVec 32) (v336 : BitVec 32) (v367 : BitVec 32) : Prop :=
  (∀ (k0_h20 : k0_cond20 v139 v150 = 1#1), ∀ (k0_h24 : k0_cond24 v320 = 1#1), ∀ (r : Fin 4), ∀ a, (k0_off149 v309 v336 v367 (BitVec.ofNat 32 (16 * r.val))) a + S16.size a ≤ S12864.size a)
theorem k0_off149_inb : ∀ (v139 : BitVec 32) (v150 : BitVec 32) (v309 : BitVec 32) (v320 : BitVec 32) (v336 : BitVec 32) (v367 : BitVec 32) (k0_hw72 : k0_chk72 v139 v150 v309 v320 v336 v367), ∀ (k0_h20 : k0_cond20 v139 v150 = 1#1), ∀ (k0_h24 : k0_cond24 v320 = 1#1), ∀ (r : Fin 4), ∀ a, (k0_off149 v309 v336 v367 (BitVec.ofNat 32 (16 * r.val))) a + S16.size a ≤ S12864.size a := fun v139 v150 v309 v320 v336 v367 k0_hw72 k0_h20 k0_h24 r => k0_hw72 k0_h20 k0_h24 r

def k0_off150 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk73 (v139 : BitVec 32) (v150 : BitVec 32) (v309 : BitVec 32) (v320 : BitVec 32) (v336 : BitVec 32) (v367 : BitVec 32) (v398 : BitVec 32) : Prop :=
  (∀ (k0_h20 : k0_cond20 v139 v150 = 1#1), ∀ (k0_h24 : k0_cond24 v320 = 1#1), ∀ (r : Fin 4), ∀ a, (k0_off150 v309 v336 v367 v398 (BitVec.ofNat 32 (16 * r.val))) a + S16.size a ≤ S12864.size a)
theorem k0_off150_inb : ∀ (v139 : BitVec 32) (v150 : BitVec 32) (v309 : BitVec 32) (v320 : BitVec 32) (v336 : BitVec 32) (v367 : BitVec 32) (v398 : BitVec 32) (k0_hw73 : k0_chk73 v139 v150 v309 v320 v336 v367 v398), ∀ (k0_h20 : k0_cond20 v139 v150 = 1#1), ∀ (k0_h24 : k0_cond24 v320 = 1#1), ∀ (r : Fin 4), ∀ a, (k0_off150 v309 v336 v367 v398 (BitVec.ofNat 32 (16 * r.val))) a + S16.size a ≤ S12864.size a := fun v139 v150 v309 v320 v336 v367 v398 k0_hw73 k0_h20 k0_h24 r => k0_hw73 k0_h20 k0_h24 r

def k0_off151 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk74 (v139 : BitVec 32) (v150 : BitVec 32) (v309 : BitVec 32) (v320 : BitVec 32) (v336 : BitVec 32) (v367 : BitVec 32) (v398 : BitVec 32) (v429 : BitVec 32) : Prop :=
  (∀ (k0_h20 : k0_cond20 v139 v150 = 1#1), ∀ (k0_h24 : k0_cond24 v320 = 1#1), ∀ (r : Fin 4), ∀ a, (k0_off151 v309 v336 v367 v398 v429 (BitVec.ofNat 32 (16 * r.val))) a + S16.size a ≤ S12864.size a)
theorem k0_off151_inb : ∀ (v139 : BitVec 32) (v150 : BitVec 32) (v309 : BitVec 32) (v320 : BitVec 32) (v336 : BitVec 32) (v367 : BitVec 32) (v398 : BitVec 32) (v429 : BitVec 32) (k0_hw74 : k0_chk74 v139 v150 v309 v320 v336 v367 v398 v429), ∀ (k0_h20 : k0_cond20 v139 v150 = 1#1), ∀ (k0_h24 : k0_cond24 v320 = 1#1), ∀ (r : Fin 4), ∀ a, (k0_off151 v309 v336 v367 v398 v429 (BitVec.ofNat 32 (16 * r.val))) a + S16.size a ≤ S12864.size a := fun v139 v150 v309 v320 v336 v367 v398 v429 k0_hw74 k0_h20 k0_h24 r => k0_hw74 k0_h20 k0_h24 r

def k0_off152 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk75 (v139 : BitVec 32) (v150 : BitVec 32) (v309 : BitVec 32) (v320 : BitVec 32) (v336 : BitVec 32) (v367 : BitVec 32) (v398 : BitVec 32) (v429 : BitVec 32) (v460 : BitVec 32) : Prop :=
  (∀ (k0_h20 : k0_cond20 v139 v150 = 1#1), ∀ (k0_h24 : k0_cond24 v320 = 1#1), ∀ (r : Fin 4), ∀ a, (k0_off152 v309 v336 v367 v398 v429 v460 (BitVec.ofNat 32 (16 * r.val))) a + S16.size a ≤ S12864.size a)
theorem k0_off152_inb : ∀ (v139 : BitVec 32) (v150 : BitVec 32) (v309 : BitVec 32) (v320 : BitVec 32) (v336 : BitVec 32) (v367 : BitVec 32) (v398 : BitVec 32) (v429 : BitVec 32) (v460 : BitVec 32) (k0_hw75 : k0_chk75 v139 v150 v309 v320 v336 v367 v398 v429 v460), ∀ (k0_h20 : k0_cond20 v139 v150 = 1#1), ∀ (k0_h24 : k0_cond24 v320 = 1#1), ∀ (r : Fin 4), ∀ a, (k0_off152 v309 v336 v367 v398 v429 v460 (BitVec.ofNat 32 (16 * r.val))) a + S16.size a ≤ S12864.size a := fun v139 v150 v309 v320 v336 v367 v398 v429 v460 k0_hw75 k0_h20 k0_h24 r => k0_hw75 k0_h20 k0_h24 r

def k0_off153 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk76 (v139 : BitVec 32) (v150 : BitVec 32) (v309 : BitVec 32) (v320 : BitVec 32) (v336 : BitVec 32) (v367 : BitVec 32) (v398 : BitVec 32) (v429 : BitVec 32) (v460 : BitVec 32) (v491 : BitVec 32) : Prop :=
  (∀ (k0_h20 : k0_cond20 v139 v150 = 1#1), ∀ (k0_h24 : k0_cond24 v320 = 1#1), ∀ (r : Fin 4), ∀ a, (k0_off153 v309 v336 v367 v398 v429 v460 v491 (BitVec.ofNat 32 (16 * r.val))) a + S16.size a ≤ S12864.size a)
theorem k0_off153_inb : ∀ (v139 : BitVec 32) (v150 : BitVec 32) (v309 : BitVec 32) (v320 : BitVec 32) (v336 : BitVec 32) (v367 : BitVec 32) (v398 : BitVec 32) (v429 : BitVec 32) (v460 : BitVec 32) (v491 : BitVec 32) (k0_hw76 : k0_chk76 v139 v150 v309 v320 v336 v367 v398 v429 v460 v491), ∀ (k0_h20 : k0_cond20 v139 v150 = 1#1), ∀ (k0_h24 : k0_cond24 v320 = 1#1), ∀ (r : Fin 4), ∀ a, (k0_off153 v309 v336 v367 v398 v429 v460 v491 (BitVec.ofNat 32 (16 * r.val))) a + S16.size a ≤ S12864.size a := fun v139 v150 v309 v320 v336 v367 v398 v429 v460 v491 k0_hw76 k0_h20 k0_h24 r => k0_hw76 k0_h20 k0_h24 r

def k0_off154 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk77 (v139 : BitVec 32) (v150 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h20 : k0_cond20 v139 v150 = 1#1), ∀ (k0_h24 : k0_cond24 v320 = 1#1), ∀ (r : Fin 4), ∀ a, (k0_off154 v309 v336 v367 v398 v429 v460 v491 v522 (BitVec.ofNat 32 (16 * r.val))) a + S16.size a ≤ S12864.size a)
theorem k0_off154_inb : ∀ (v139 : BitVec 32) (v150 : BitVec 32) (v309 : BitVec 32) (v320 : BitVec 32) (v336 : BitVec 32) (v367 : BitVec 32) (v398 : BitVec 32) (v429 : BitVec 32) (v460 : BitVec 32) (v491 : BitVec 32) (v522 : BitVec 32) (k0_hw77 : k0_chk77 v139 v150 v309 v320 v336 v367 v398 v429 v460 v491 v522), ∀ (k0_h20 : k0_cond20 v139 v150 = 1#1), ∀ (k0_h24 : k0_cond24 v320 = 1#1), ∀ (r : Fin 4), ∀ a, (k0_off154 v309 v336 v367 v398 v429 v460 v491 v522 (BitVec.ofNat 32 (16 * r.val))) a + S16.size a ≤ S12864.size a := fun v139 v150 v309 v320 v336 v367 v398 v429 v460 v491 v522 k0_hw77 k0_h20 k0_h24 r => k0_hw77 k0_h20 k0_h24 r

def k0_off155 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk78 (v139 : BitVec 32) (v150 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h20 : k0_cond20 v139 v150 = 1#1), ∀ (k0_h24 : k0_cond24 v320 = 1#1), ∀ (r : Fin 4), ∀ a, (k0_off155 v309 v336 v367 v398 v429 v460 v491 v522 v553 (BitVec.ofNat 32 (16 * r.val))) a + S16.size a ≤ S12864.size a)
theorem k0_off155_inb : ∀ (v139 : BitVec 32) (v150 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw78 : k0_chk78 v139 v150 v309 v320 v336 v367 v398 v429 v460 v491 v522 v553), ∀ (k0_h20 : k0_cond20 v139 v150 = 1#1), ∀ (k0_h24 : k0_cond24 v320 = 1#1), ∀ (r : Fin 4), ∀ a, (k0_off155 v309 v336 v367 v398 v429 v460 v491 v522 v553 (BitVec.ofNat 32 (16 * r.val))) a + S16.size a ≤ S12864.size a := fun v139 v150 v309 v320 v336 v367 v398 v429 v460 v491 v522 v553 k0_hw78 k0_h20 k0_h24 r => k0_hw78 k0_h20 k0_h24 r

def k0_off156 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_62 : BitVec 32 := 8#32
  let v128 : BitVec 32 := Scalar.muli arg16 c8_i32_62
  let c2_i32_63 : BitVec 32 := 2#32
  let v129 : BitVec 32 := Scalar.addi v128 c2_i32_63
  let c12800_i32_204 : BitVec 32 := 12800#32
  let v327 : BitVec 32 := Scalar.muli v129 c12800_i32_204
  let v328 : BitVec 32 := Scalar.addi v5 v327
  ![v328.toNat]
def k0_cond25 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c63_i32_86 : BitVec 32 := 63#32
  let v161 : BitVec 32 := Scalar.andi v159 c63_i32_86
  let c0_i32_87 : BitVec 32 := 0#32
  let v162 : BitVec 1 := Scalar.cmpi .eq v161 c0_i32_87
  let v163 : BitVec 32 := Scalar.extui v162
  let c0_i32_88 : BitVec 32 := 0#32
  let v164 : BitVec 1 := Scalar.cmpi .ne v163 c0_i32_88
  v164

def k0_off157 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c6_i32_188 : BitVec 32 := 6#32
  let v308 : BitVec 32 := Scalar.shrsi v159 c6_i32_188
  let c12800_i32_189 : BitVec 32 := 12800#32
  let v309 : BitVec 32 := Scalar.muli v308 c12800_i32_189
  let v310 : BitVec 32 := Scalar.addi v3 v309
  ![v310.toNat]
def k0_cond26 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c8_i32_89 : BitVec 32 := 8#32
  let v165 : BitVec 1 := Scalar.cmpi .sge v159 c8_i32_89
  let v166 : BitVec 32 := Scalar.extui v165
  let c0_i32_90 : BitVec 32 := 0#32
  let v167 : BitVec 1 := Scalar.cmpi .ne v166 c0_i32_90
  v167

def k0_off158 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c8_i32_188 : BitVec 32 := 8#32
  let v308 : BitVec 32 := Scalar.subi v159 c8_i32_188
  let c12800_i32_189 : BitVec 32 := 12800#32
  let v309 : BitVec 32 := Scalar.muli v308 c12800_i32_189
  let v310 : BitVec 32 := Scalar.addi v5 v309
  ![v310.toNat]
@[reducible] def k0_t14_loop : Scf.Loop 32 :=
  let c0_i32_92 : BitVec 32 := 0#32
  let c12_i32_93 : BitVec 32 := 12#32
  let v168 : BitVec 32 := Scalar.addi c0_i32_92 c12_i32_93
  let c1_i32_94 : BitVec 32 := 1#32
  ⟨c0_i32_92, v168, c1_i32_94⟩
def k0_off159 (k0_t1 : Fin k0_t1_loop.trips) (k0_t14 : Fin k0_t14_loop.trips) : Fin 1 → Nat :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c63_i32_85 : BitVec 32 := 63#32
  let v160 : BitVec 32 := Scalar.andi v159 c63_i32_85
  let c200_i32_188 : BitVec 32 := 200#32
  let v308 : BitVec 32 := Scalar.muli v160 c200_i32_188
  let c16_i32_189 : BitVec 32 := 16#32
  let c0_i32_92 : BitVec 32 := 0#32
  let c1_i32_94 : BitVec 32 := 1#32
  let arg17 : BitVec 32 := Scf.iv c0_i32_92 c1_i32_94 k0_t14
  let v309 : BitVec 32 := Scalar.muli c16_i32_189 arg17
  let v310 : BitVec 32 := Scalar.addi v308 v309
  let v311 : Index := Scalar.indexCast v310
  ![v311.toNat]
def k0_off160 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c63_i32_85 : BitVec 32 := 63#32
  let v160 : BitVec 32 := Scalar.andi v159 c63_i32_85
  let c200_i32_96 : BitVec 32 := 200#32
  let v170 : BitVec 32 := Scalar.muli v160 c200_i32_96
  let c192_i32_97 : BitVec 32 := 192#32
  let v171 : BitVec 32 := Scalar.addi v170 c192_i32_97
  let v172 : Index := Scalar.indexCast v171
  ![v172.toNat]
def k0_off161 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c12800_i32_188 : BitVec 32 := 12800#32
  let v308 : BitVec 32 := Scalar.muli v159 c12800_i32_188
  let v309 : BitVec 32 := Scalar.addi v5 v308
  ![v309.toNat]
@[reducible] def k0_t15_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off162 (k0_t1 : Fin k0_t1_loop.trips) (k0_t15 : Fin k0_t15_loop.trips) : Fin 1 → Nat :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c63_i32_85 : BitVec 32 := 63#32
  let v160 : BitVec 32 := Scalar.andi v159 c63_i32_85
  let c200_i32_208 : BitVec 32 := 200#32
  let v335 : BitVec 32 := Scalar.muli v160 c200_i32_208
  let c16_i32_209 : BitVec 32 := 16#32
  let c0_i32_190 : BitVec 32 := 0#32
  let c1_i32_192 : BitVec 32 := 1#32
  let arg17 : BitVec 32 := Scf.iv c0_i32_190 c1_i32_192 k0_t15
  let v336 : BitVec 32 := Scalar.muli c16_i32_209 arg17
  let v337 : BitVec 32 := Scalar.addi v335 v336
  let v338 : Index := Scalar.indexCast v337
  ![v338.toNat]
@[reducible] def k0_t16_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off163 (arg18 : BitVec 32) (k0_t16 : Fin k0_t16_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t16
  let c16_i32_223 : BitVec 32 := 16#32
  let v358 : BitVec 32 := Scalar.muli arg19 c16_i32_223
  let v359 : BitVec 32 := Scalar.addi v355 v358
  let v360 : Index := Scalar.indexCast v359
  ![v360.toNat]
def k0_cond28 (v169 : BitVec 32) (v180 : BitVec 32) : BitVec 1 :=
  let v181 : BitVec 32 := Scalar.addi v169 v180
  let c0_i32_102 : BitVec 32 := 0#32
  let v185 : BitVec 1 := Scalar.cmpi .sgt v181 c0_i32_102
  let v186 : BitVec 32 := Scalar.extui v185
  let c0_i32_103 : BitVec 32 := 0#32
  let v187 : BitVec 1 := Scalar.cmpi .ne v186 c0_i32_103
  v187

def k0_cond29 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk79 (v169 : BitVec 32) (v180 : BitVec 32) (arg18 : BitVec 32) (v345 : BitVec 32) : Prop :=
  (∀ k0_t16 : Fin k0_t16_loop.trips, ∀ (k0_h28 : k0_cond28 v169 v180 = 1#1), ∀ (k0_h29 : k0_cond29 v345 = 1#1), ∀ a, (k0_off163 arg18 k0_t16) a + S16.size a ≤ S12864.size a)
theorem k0_off163_inb : ∀ (v169 : BitVec 32) (v180 : BitVec 32) (arg18 : BitVec 32) (v345 : BitVec 32) (k0_hw79 : k0_chk79 v169 v180 arg18 v345) (k0_t16 : Fin k0_t16_loop.trips), ∀ (k0_h28 : k0_cond28 v169 v180 = 1#1), ∀ (k0_h29 : k0_cond29 v345 = 1#1), ∀ a, (k0_off163 arg18 k0_t16) a + S16.size a ≤ S12864.size a := fun v169 v180 arg18 v345 k0_hw79 k0_t16 k0_h28 k0_h29 => k0_hw79 k0_t16 k0_h28 k0_h29

def k0_off164 (k0_t15 : Fin k0_t15_loop.trips) (k0_t16 : Fin k0_t16_loop.trips) : Fin 1 → Nat :=
  let c0_i32_190 : BitVec 32 := 0#32
  let c1_i32_192 : BitVec 32 := 1#32
  let arg17 : BitVec 32 := Scf.iv c0_i32_190 c1_i32_192 k0_t15
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t16
  let c16_i32_224 : BitVec 32 := 16#32
  let v362 : BitVec 32 := Scalar.muli arg19 c16_i32_224
  let v363 : BitVec 32 := Scalar.addi v356 v362
  let v366 : Index := Scalar.indexCast v363
  ![v366.toNat]
def k0_off165 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond30 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk80 (v169 : BitVec 32) (v180 : BitVec 32) (arg18 : BitVec 32) (v345 : BitVec 32) (v356 : BitVec 32) : Prop :=
  (∀ (k0_h28 : k0_cond28 v169 v180 = 1#1), ∀ (k0_h30 : k0_cond30 v345 = 1#1), ∀ (r : Fin 4), ∀ a, (k0_off165 arg18 v356 (BitVec.ofNat 32 (16 * r.val))) a + S16.size a ≤ S12864.size a)
theorem k0_off165_inb : ∀ (v169 : BitVec 32) (v180 : BitVec 32) (arg18 : BitVec 32) (v345 : BitVec 32) (v356 : BitVec 32) (k0_hw80 : k0_chk80 v169 v180 arg18 v345 v356), ∀ (k0_h28 : k0_cond28 v169 v180 = 1#1), ∀ (k0_h30 : k0_cond30 v345 = 1#1), ∀ (r : Fin 4), ∀ a, (k0_off165 arg18 v356 (BitVec.ofNat 32 (16 * r.val))) a + S16.size a ≤ S12864.size a := fun v169 v180 arg18 v345 v356 k0_hw80 k0_h28 k0_h30 r => k0_hw80 k0_h28 k0_h30 r

def k0_off166 (k0_t15 : Fin k0_t15_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off167 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk81 (v169 : BitVec 32) (v180 : BitVec 32) (arg18 : BitVec 32) (v345 : BitVec 32) (v356 : BitVec 32) (v397 : BitVec 32) : Prop :=
  (∀ (k0_h28 : k0_cond28 v169 v180 = 1#1), ∀ (k0_h30 : k0_cond30 v345 = 1#1), ∀ (r : Fin 4), ∀ a, (k0_off167 arg18 v356 v397 (BitVec.ofNat 32 (16 * r.val))) a + S16.size a ≤ S12864.size a)
theorem k0_off167_inb : ∀ (v169 : BitVec 32) (v180 : BitVec 32) (arg18 : BitVec 32) (v345 : BitVec 32) (v356 : BitVec 32) (v397 : BitVec 32) (k0_hw81 : k0_chk81 v169 v180 arg18 v345 v356 v397), ∀ (k0_h28 : k0_cond28 v169 v180 = 1#1), ∀ (k0_h30 : k0_cond30 v345 = 1#1), ∀ (r : Fin 4), ∀ a, (k0_off167 arg18 v356 v397 (BitVec.ofNat 32 (16 * r.val))) a + S16.size a ≤ S12864.size a := fun v169 v180 arg18 v345 v356 v397 k0_hw81 k0_h28 k0_h30 r => k0_hw81 k0_h28 k0_h30 r

def k0_off168 (k0_t15 : Fin k0_t15_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off169 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk82 (v169 : BitVec 32) (v180 : BitVec 32) (arg18 : BitVec 32) (v345 : BitVec 32) (v356 : BitVec 32) (v397 : BitVec 32) (v438 : BitVec 32) : Prop :=
  (∀ (k0_h28 : k0_cond28 v169 v180 = 1#1), ∀ (k0_h30 : k0_cond30 v345 = 1#1), ∀ (r : Fin 4), ∀ a, (k0_off169 arg18 v356 v397 v438 (BitVec.ofNat 32 (16 * r.val))) a + S16.size a ≤ S12864.size a)
theorem k0_off169_inb : ∀ (v169 : BitVec 32) (v180 : BitVec 32) (arg18 : BitVec 32) (v345 : BitVec 32) (v356 : BitVec 32) (v397 : BitVec 32) (v438 : BitVec 32) (k0_hw82 : k0_chk82 v169 v180 arg18 v345 v356 v397 v438), ∀ (k0_h28 : k0_cond28 v169 v180 = 1#1), ∀ (k0_h30 : k0_cond30 v345 = 1#1), ∀ (r : Fin 4), ∀ a, (k0_off169 arg18 v356 v397 v438 (BitVec.ofNat 32 (16 * r.val))) a + S16.size a ≤ S12864.size a := fun v169 v180 arg18 v345 v356 v397 v438 k0_hw82 k0_h28 k0_h30 r => k0_hw82 k0_h28 k0_h30 r

def k0_off170 (k0_t15 : Fin k0_t15_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off171 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk83 (v169 : BitVec 32) (v180 : BitVec 32) (arg18 : BitVec 32) (v345 : BitVec 32) (v356 : BitVec 32) (v397 : BitVec 32) (v438 : BitVec 32) (v479 : BitVec 32) : Prop :=
  (∀ (k0_h28 : k0_cond28 v169 v180 = 1#1), ∀ (k0_h30 : k0_cond30 v345 = 1#1), ∀ (r : Fin 4), ∀ a, (k0_off171 arg18 v356 v397 v438 v479 (BitVec.ofNat 32 (16 * r.val))) a + S16.size a ≤ S12864.size a)
theorem k0_off171_inb : ∀ (v169 : BitVec 32) (v180 : BitVec 32) (arg18 : BitVec 32) (v345 : BitVec 32) (v356 : BitVec 32) (v397 : BitVec 32) (v438 : BitVec 32) (v479 : BitVec 32) (k0_hw83 : k0_chk83 v169 v180 arg18 v345 v356 v397 v438 v479), ∀ (k0_h28 : k0_cond28 v169 v180 = 1#1), ∀ (k0_h30 : k0_cond30 v345 = 1#1), ∀ (r : Fin 4), ∀ a, (k0_off171 arg18 v356 v397 v438 v479 (BitVec.ofNat 32 (16 * r.val))) a + S16.size a ≤ S12864.size a := fun v169 v180 arg18 v345 v356 v397 v438 v479 k0_hw83 k0_h28 k0_h30 r => k0_hw83 k0_h28 k0_h30 r

def k0_off172 (k0_t15 : Fin k0_t15_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off173 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk84 (v169 : BitVec 32) (v180 : BitVec 32) (arg18 : BitVec 32) (v345 : BitVec 32) (v356 : BitVec 32) (v397 : BitVec 32) (v438 : BitVec 32) (v479 : BitVec 32) (v520 : BitVec 32) : Prop :=
  (∀ (k0_h28 : k0_cond28 v169 v180 = 1#1), ∀ (k0_h30 : k0_cond30 v345 = 1#1), ∀ (r : Fin 4), ∀ a, (k0_off173 arg18 v356 v397 v438 v479 v520 (BitVec.ofNat 32 (16 * r.val))) a + S16.size a ≤ S12864.size a)
theorem k0_off173_inb : ∀ (v169 : BitVec 32) (v180 : BitVec 32) (arg18 : BitVec 32) (v345 : BitVec 32) (v356 : BitVec 32) (v397 : BitVec 32) (v438 : BitVec 32) (v479 : BitVec 32) (v520 : BitVec 32) (k0_hw84 : k0_chk84 v169 v180 arg18 v345 v356 v397 v438 v479 v520), ∀ (k0_h28 : k0_cond28 v169 v180 = 1#1), ∀ (k0_h30 : k0_cond30 v345 = 1#1), ∀ (r : Fin 4), ∀ a, (k0_off173 arg18 v356 v397 v438 v479 v520 (BitVec.ofNat 32 (16 * r.val))) a + S16.size a ≤ S12864.size a := fun v169 v180 arg18 v345 v356 v397 v438 v479 v520 k0_hw84 k0_h28 k0_h30 r => k0_hw84 k0_h28 k0_h30 r

def k0_off174 (k0_t15 : Fin k0_t15_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off175 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk85 (v169 : BitVec 32) (v180 : BitVec 32) (arg18 : BitVec 32) (v345 : BitVec 32) (v356 : BitVec 32) (v397 : BitVec 32) (v438 : BitVec 32) (v479 : BitVec 32) (v520 : BitVec 32) (v561 : BitVec 32) : Prop :=
  (∀ (k0_h28 : k0_cond28 v169 v180 = 1#1), ∀ (k0_h30 : k0_cond30 v345 = 1#1), ∀ (r : Fin 4), ∀ a, (k0_off175 arg18 v356 v397 v438 v479 v520 v561 (BitVec.ofNat 32 (16 * r.val))) a + S16.size a ≤ S12864.size a)
theorem k0_off175_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (k0_hw85 : k0_chk85 v169 v180 arg18 v345 v356 v397 v438 v479 v520 v561), ∀ (k0_h28 : k0_cond28 v169 v180 = 1#1), ∀ (k0_h30 : k0_cond30 v345 = 1#1), ∀ (r : Fin 4), ∀ a, (k0_off175 arg18 v356 v397 v438 v479 v520 v561 (BitVec.ofNat 32 (16 * r.val))) a + S16.size a ≤ S12864.size a := fun v169 v180 arg18 v345 v356 v397 v438 v479 v520 v561 k0_hw85 k0_h28 k0_h30 r => k0_hw85 k0_h28 k0_h30 r

def k0_off176 (k0_t15 : Fin k0_t15_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off177 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk86 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h28 : k0_cond28 v169 v180 = 1#1), ∀ (k0_h30 : k0_cond30 v345 = 1#1), ∀ (r : Fin 4), ∀ a, (k0_off177 arg18 v356 v397 v438 v479 v520 v561 v602 (BitVec.ofNat 32 (16 * r.val))) a + S16.size a ≤ S12864.size a)
theorem k0_off177_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (k0_hw86 : k0_chk86 v169 v180 arg18 v345 v356 v397 v438 v479 v520 v561 v602), ∀ (k0_h28 : k0_cond28 v169 v180 = 1#1), ∀ (k0_h30 : k0_cond30 v345 = 1#1), ∀ (r : Fin 4), ∀ a, (k0_off177 arg18 v356 v397 v438 v479 v520 v561 v602 (BitVec.ofNat 32 (16 * r.val))) a + S16.size a ≤ S12864.size a := fun v169 v180 arg18 v345 v356 v397 v438 v479 v520 v561 v602 k0_hw86 k0_h28 k0_h30 r => k0_hw86 k0_h28 k0_h30 r

def k0_off178 (k0_t15 : Fin k0_t15_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off179 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk87 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h28 : k0_cond28 v169 v180 = 1#1), ∀ (k0_h30 : k0_cond30 v345 = 1#1), ∀ (r : Fin 4), ∀ a, (k0_off179 arg18 v356 v397 v438 v479 v520 v561 v602 v643 (BitVec.ofNat 32 (16 * r.val))) a + S16.size a ≤ S12864.size a)
theorem k0_off179_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw87 : k0_chk87 v169 v180 arg18 v345 v356 v397 v438 v479 v520 v561 v602 v643), ∀ (k0_h28 : k0_cond28 v169 v180 = 1#1), ∀ (k0_h30 : k0_cond30 v345 = 1#1), ∀ (r : Fin 4), ∀ a, (k0_off179 arg18 v356 v397 v438 v479 v520 v561 v602 v643 (BitVec.ofNat 32 (16 * r.val))) a + S16.size a ≤ S12864.size a := fun v169 v180 arg18 v345 v356 v397 v438 v479 v520 v561 v602 v643 k0_hw87 k0_h28 k0_h30 r => k0_hw87 k0_h28 k0_h30 r

def k0_off180 (k0_t15 : Fin k0_t15_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off181 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk88 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h28 : k0_cond28 v169 v180 = 1#1), ∀ (k0_h30 : k0_cond30 v345 = 1#1), ∀ (r : Fin 4), ∀ a, (k0_off181 arg18 v356 v397 v438 v479 v520 v561 v602 v643 v684 (BitVec.ofNat 32 (16 * r.val))) a + S16.size a ≤ S12864.size a)
theorem k0_off181_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw88 : k0_chk88 v169 v180 arg18 v345 v356 v397 v438 v479 v520 v561 v602 v643 v684), ∀ (k0_h28 : k0_cond28 v169 v180 = 1#1), ∀ (k0_h30 : k0_cond30 v345 = 1#1), ∀ (r : Fin 4), ∀ a, (k0_off181 arg18 v356 v397 v438 v479 v520 v561 v602 v643 v684 (BitVec.ofNat 32 (16 * r.val))) a + S16.size a ≤ S12864.size a := fun v169 v180 arg18 v345 v356 v397 v438 v479 v520 v561 v602 v643 v684 k0_hw88 k0_h28 k0_h30 r => k0_hw88 k0_h28 k0_h30 r

def k0_off182 (k0_t15 : Fin k0_t15_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off183 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk89 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h28 : k0_cond28 v169 v180 = 1#1), ∀ (k0_h30 : k0_cond30 v345 = 1#1), ∀ (r : Fin 4), ∀ a, (k0_off183 arg18 v356 v397 v438 v479 v520 v561 v602 v643 v684 v725 (BitVec.ofNat 32 (16 * r.val))) a + S16.size a ≤ S12864.size a)
theorem k0_off183_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw89 : k0_chk89 v169 v180 arg18 v345 v356 v397 v438 v479 v520 v561 v602 v643 v684 v725), ∀ (k0_h28 : k0_cond28 v169 v180 = 1#1), ∀ (k0_h30 : k0_cond30 v345 = 1#1), ∀ (r : Fin 4), ∀ a, (k0_off183 arg18 v356 v397 v438 v479 v520 v561 v602 v643 v684 v725 (BitVec.ofNat 32 (16 * r.val))) a + S16.size a ≤ S12864.size a := fun v169 v180 arg18 v345 v356 v397 v438 v479 v520 v561 v602 v643 v684 v725 k0_hw89 k0_h28 k0_h30 r => k0_hw89 k0_h28 k0_h30 r

def k0_off184 (k0_t15 : Fin k0_t15_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off185 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk90 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h28 : k0_cond28 v169 v180 = 1#1), ∀ (k0_h30 : k0_cond30 v345 = 1#1), ∀ (r : Fin 4), ∀ a, (k0_off185 arg18 v356 v397 v438 v479 v520 v561 v602 v643 v684 v725 v766 (BitVec.ofNat 32 (16 * r.val))) a + S16.size a ≤ S12864.size a)
theorem k0_off185_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw90 : k0_chk90 v169 v180 arg18 v345 v356 v397 v438 v479 v520 v561 v602 v643 v684 v725 v766), ∀ (k0_h28 : k0_cond28 v169 v180 = 1#1), ∀ (k0_h30 : k0_cond30 v345 = 1#1), ∀ (r : Fin 4), ∀ a, (k0_off185 arg18 v356 v397 v438 v479 v520 v561 v602 v643 v684 v725 v766 (BitVec.ofNat 32 (16 * r.val))) a + S16.size a ≤ S12864.size a := fun v169 v180 arg18 v345 v356 v397 v438 v479 v520 v561 v602 v643 v684 v725 v766 k0_hw90 k0_h28 k0_h30 r => k0_hw90 k0_h28 k0_h30 r

def k0_off186 (k0_t15 : Fin k0_t15_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off187 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk91 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h28 : k0_cond28 v169 v180 = 1#1), ∀ (k0_h30 : k0_cond30 v345 = 1#1), ∀ (r : Fin 4), ∀ a, (k0_off187 arg18 v356 v397 v438 v479 v520 v561 v602 v643 v684 v725 v766 v807 (BitVec.ofNat 32 (16 * r.val))) a + S16.size a ≤ S12864.size a)
theorem k0_off187_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw91 : k0_chk91 v169 v180 arg18 v345 v356 v397 v438 v479 v520 v561 v602 v643 v684 v725 v766 v807), ∀ (k0_h28 : k0_cond28 v169 v180 = 1#1), ∀ (k0_h30 : k0_cond30 v345 = 1#1), ∀ (r : Fin 4), ∀ a, (k0_off187 arg18 v356 v397 v438 v479 v520 v561 v602 v643 v684 v725 v766 v807 (BitVec.ofNat 32 (16 * r.val))) a + S16.size a ≤ S12864.size a := fun v169 v180 arg18 v345 v356 v397 v438 v479 v520 v561 v602 v643 v684 v725 v766 v807 k0_hw91 k0_h28 k0_h30 r => k0_hw91 k0_h28 k0_h30 r

def k0_off188 (k0_t15 : Fin k0_t15_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off189 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk92 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h28 : k0_cond28 v169 v180 = 1#1), ∀ (k0_h30 : k0_cond30 v345 = 1#1), ∀ (r : Fin 4), ∀ a, (k0_off189 arg18 v356 v397 v438 v479 v520 v561 v602 v643 v684 v725 v766 v807 v848 (BitVec.ofNat 32 (16 * r.val))) a + S16.size a ≤ S12864.size a)
theorem k0_off189_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw92 : k0_chk92 v169 v180 arg18 v345 v356 v397 v438 v479 v520 v561 v602 v643 v684 v725 v766 v807 v848), ∀ (k0_h28 : k0_cond28 v169 v180 = 1#1), ∀ (k0_h30 : k0_cond30 v345 = 1#1), ∀ (r : Fin 4), ∀ a, (k0_off189 arg18 v356 v397 v438 v479 v520 v561 v602 v643 v684 v725 v766 v807 v848 (BitVec.ofNat 32 (16 * r.val))) a + S16.size a ≤ S12864.size a := fun v169 v180 arg18 v345 v356 v397 v438 v479 v520 v561 v602 v643 v684 v725 v766 v807 v848 k0_hw92 k0_h28 k0_h30 r => k0_hw92 k0_h28 k0_h30 r

def k0_off190 (k0_t15 : Fin k0_t15_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off191 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk93 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h28 : k0_cond28 v169 v180 = 1#1), ∀ (k0_h30 : k0_cond30 v345 = 1#1), ∀ (r : Fin 4), ∀ a, (k0_off191 arg18 v356 v397 v438 v479 v520 v561 v602 v643 v684 v725 v766 v807 v848 v889 (BitVec.ofNat 32 (16 * r.val))) a + S16.size a ≤ S12864.size a)
theorem k0_off191_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw93 : k0_chk93 v169 v180 arg18 v345 v356 v397 v438 v479 v520 v561 v602 v643 v684 v725 v766 v807 v848 v889), ∀ (k0_h28 : k0_cond28 v169 v180 = 1#1), ∀ (k0_h30 : k0_cond30 v345 = 1#1), ∀ (r : Fin 4), ∀ a, (k0_off191 arg18 v356 v397 v438 v479 v520 v561 v602 v643 v684 v725 v766 v807 v848 v889 (BitVec.ofNat 32 (16 * r.val))) a + S16.size a ≤ S12864.size a := fun v169 v180 arg18 v345 v356 v397 v438 v479 v520 v561 v602 v643 v684 v725 v766 v807 v848 v889 k0_hw93 k0_h28 k0_h30 r => k0_hw93 k0_h28 k0_h30 r

def k0_off192 (k0_t15 : Fin k0_t15_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off193 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk94 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h28 : k0_cond28 v169 v180 = 1#1), ∀ (k0_h30 : k0_cond30 v345 = 1#1), ∀ (r : Fin 4), ∀ a, (k0_off193 arg18 v356 v397 v438 v479 v520 v561 v602 v643 v684 v725 v766 v807 v848 v889 v930 (BitVec.ofNat 32 (16 * r.val))) a + S16.size a ≤ S12864.size a)
theorem k0_off193_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw94 : k0_chk94 v169 v180 arg18 v345 v356 v397 v438 v479 v520 v561 v602 v643 v684 v725 v766 v807 v848 v889 v930), ∀ (k0_h28 : k0_cond28 v169 v180 = 1#1), ∀ (k0_h30 : k0_cond30 v345 = 1#1), ∀ (r : Fin 4), ∀ a, (k0_off193 arg18 v356 v397 v438 v479 v520 v561 v602 v643 v684 v725 v766 v807 v848 v889 v930 (BitVec.ofNat 32 (16 * r.val))) a + S16.size a ≤ S12864.size a := fun v169 v180 arg18 v345 v356 v397 v438 v479 v520 v561 v602 v643 v684 v725 v766 v807 v848 v889 v930 k0_hw94 k0_h28 k0_h30 r => k0_hw94 k0_h28 k0_h30 r

def k0_off194 (k0_t15 : Fin k0_t15_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off195 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk95 (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h28 : k0_cond28 v169 v180 = 1#1), ∀ (k0_h30 : k0_cond30 v345 = 1#1), ∀ (r : Fin 4), ∀ a, (k0_off195 arg18 v356 v397 v438 v479 v520 v561 v602 v643 v684 v725 v766 v807 v848 v889 v930 v971 (BitVec.ofNat 32 (16 * r.val))) a + S16.size a ≤ S12864.size a)
theorem k0_off195_inb : ∀ (v169 : BitVec 32) (v180 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw95 : k0_chk95 v169 v180 arg18 v345 v356 v397 v438 v479 v520 v561 v602 v643 v684 v725 v766 v807 v848 v889 v930 v971), ∀ (k0_h28 : k0_cond28 v169 v180 = 1#1), ∀ (k0_h30 : k0_cond30 v345 = 1#1), ∀ (r : Fin 4), ∀ a, (k0_off195 arg18 v356 v397 v438 v479 v520 v561 v602 v643 v684 v725 v766 v807 v848 v889 v930 v971 (BitVec.ofNat 32 (16 * r.val))) a + S16.size a ≤ S12864.size a := fun v169 v180 arg18 v345 v356 v397 v438 v479 v520 v561 v602 v643 v684 v725 v766 v807 v848 v889 v930 v971 k0_hw95 k0_h28 k0_h30 r => k0_hw95 k0_h28 k0_h30 r

def k0_off196 (k0_t15 : Fin k0_t15_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t15
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off197 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c63_i32_85 : BitVec 32 := 63#32
  let v160 : BitVec 32 := Scalar.andi v159 c63_i32_85
  let c200_i32_194 : BitVec 32 := 200#32
  let v310 : BitVec 32 := Scalar.muli v160 c200_i32_194
  let c192_i32_195 : BitVec 32 := 192#32
  let v311 : BitVec 32 := Scalar.addi v310 c192_i32_195
  let v312 : Index := Scalar.indexCast v311
  ![v312.toNat]
@[reducible] def k0_t17_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off198 (v309 : BitVec 32) (k0_t17 : Fin k0_t17_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t17
  let c16_i32_213 : BitVec 32 := 16#32
  let v338 : BitVec 32 := Scalar.muli arg17 c16_i32_213
  let v339 : BitVec 32 := Scalar.addi v336 v338
  let v340 : Index := Scalar.indexCast v339
  ![v340.toNat]
def k0_cond31 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk96 (v169 : BitVec 32) (v180 : BitVec 32) (v309 : BitVec 32) (v320 : BitVec 32) : Prop :=
  (∀ k0_t17 : Fin k0_t17_loop.trips, ∀ (k0_h28 : k0_cond28 v169 v180 = 1#1), ∀ (k0_h31 : k0_cond31 v320 = 1#1), ∀ a, (k0_off198 v309 k0_t17) a + S16.size a ≤ S12864.size a)
theorem k0_off198_inb : ∀ (v169 : BitVec 32) (v180 : BitVec 32) (v309 : BitVec 32) (v320 : BitVec 32) (k0_hw96 : k0_chk96 v169 v180 v309 v320) (k0_t17 : Fin k0_t17_loop.trips), ∀ (k0_h28 : k0_cond28 v169 v180 = 1#1), ∀ (k0_h31 : k0_cond31 v320 = 1#1), ∀ a, (k0_off198 v309 k0_t17) a + S16.size a ≤ S12864.size a := fun v169 v180 v309 v320 k0_hw96 k0_t17 k0_h28 k0_h31 => k0_hw96 k0_t17 k0_h28 k0_h31

def k0_off199 (k0_t17 : Fin k0_t17_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t17
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off200 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond32 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk97 (v169 : BitVec 32) (v180 : BitVec 32) (v309 : BitVec 32) (v320 : BitVec 32) (v336 : BitVec 32) : Prop :=
  (∀ (k0_h28 : k0_cond28 v169 v180 = 1#1), ∀ (k0_h32 : k0_cond32 v320 = 1#1), ∀ (r : Fin 4), ∀ a, (k0_off200 v309 v336 (BitVec.ofNat 32 (16 * r.val))) a + S16.size a ≤ S12864.size a)
theorem k0_off200_inb : ∀ (v169 : BitVec 32) (v180 : BitVec 32) (v309 : BitVec 32) (v320 : BitVec 32) (v336 : BitVec 32) (k0_hw97 : k0_chk97 v169 v180 v309 v320 v336), ∀ (k0_h28 : k0_cond28 v169 v180 = 1#1), ∀ (k0_h32 : k0_cond32 v320 = 1#1), ∀ (r : Fin 4), ∀ a, (k0_off200 v309 v336 (BitVec.ofNat 32 (16 * r.val))) a + S16.size a ≤ S12864.size a := fun v169 v180 v309 v320 v336 k0_hw97 k0_h28 k0_h32 r => k0_hw97 k0_h28 k0_h32 r

def k0_off201 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk98 (v169 : BitVec 32) (v180 : BitVec 32) (v309 : BitVec 32) (v320 : BitVec 32) (v336 : BitVec 32) (v367 : BitVec 32) : Prop :=
  (∀ (k0_h28 : k0_cond28 v169 v180 = 1#1), ∀ (k0_h32 : k0_cond32 v320 = 1#1), ∀ (r : Fin 4), ∀ a, (k0_off201 v309 v336 v367 (BitVec.ofNat 32 (16 * r.val))) a + S16.size a ≤ S12864.size a)
theorem k0_off201_inb : ∀ (v169 : BitVec 32) (v180 : BitVec 32) (v309 : BitVec 32) (v320 : BitVec 32) (v336 : BitVec 32) (v367 : BitVec 32) (k0_hw98 : k0_chk98 v169 v180 v309 v320 v336 v367), ∀ (k0_h28 : k0_cond28 v169 v180 = 1#1), ∀ (k0_h32 : k0_cond32 v320 = 1#1), ∀ (r : Fin 4), ∀ a, (k0_off201 v309 v336 v367 (BitVec.ofNat 32 (16 * r.val))) a + S16.size a ≤ S12864.size a := fun v169 v180 v309 v320 v336 v367 k0_hw98 k0_h28 k0_h32 r => k0_hw98 k0_h28 k0_h32 r

def k0_off202 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk99 (v169 : BitVec 32) (v180 : BitVec 32) (v309 : BitVec 32) (v320 : BitVec 32) (v336 : BitVec 32) (v367 : BitVec 32) (v398 : BitVec 32) : Prop :=
  (∀ (k0_h28 : k0_cond28 v169 v180 = 1#1), ∀ (k0_h32 : k0_cond32 v320 = 1#1), ∀ (r : Fin 4), ∀ a, (k0_off202 v309 v336 v367 v398 (BitVec.ofNat 32 (16 * r.val))) a + S16.size a ≤ S12864.size a)
theorem k0_off202_inb : ∀ (v169 : BitVec 32) (v180 : BitVec 32) (v309 : BitVec 32) (v320 : BitVec 32) (v336 : BitVec 32) (v367 : BitVec 32) (v398 : BitVec 32) (k0_hw99 : k0_chk99 v169 v180 v309 v320 v336 v367 v398), ∀ (k0_h28 : k0_cond28 v169 v180 = 1#1), ∀ (k0_h32 : k0_cond32 v320 = 1#1), ∀ (r : Fin 4), ∀ a, (k0_off202 v309 v336 v367 v398 (BitVec.ofNat 32 (16 * r.val))) a + S16.size a ≤ S12864.size a := fun v169 v180 v309 v320 v336 v367 v398 k0_hw99 k0_h28 k0_h32 r => k0_hw99 k0_h28 k0_h32 r

def k0_off203 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk100 (v169 : BitVec 32) (v180 : BitVec 32) (v309 : BitVec 32) (v320 : BitVec 32) (v336 : BitVec 32) (v367 : BitVec 32) (v398 : BitVec 32) (v429 : BitVec 32) : Prop :=
  (∀ (k0_h28 : k0_cond28 v169 v180 = 1#1), ∀ (k0_h32 : k0_cond32 v320 = 1#1), ∀ (r : Fin 4), ∀ a, (k0_off203 v309 v336 v367 v398 v429 (BitVec.ofNat 32 (16 * r.val))) a + S16.size a ≤ S12864.size a)
theorem k0_off203_inb : ∀ (v169 : BitVec 32) (v180 : BitVec 32) (v309 : BitVec 32) (v320 : BitVec 32) (v336 : BitVec 32) (v367 : BitVec 32) (v398 : BitVec 32) (v429 : BitVec 32) (k0_hw100 : k0_chk100 v169 v180 v309 v320 v336 v367 v398 v429), ∀ (k0_h28 : k0_cond28 v169 v180 = 1#1), ∀ (k0_h32 : k0_cond32 v320 = 1#1), ∀ (r : Fin 4), ∀ a, (k0_off203 v309 v336 v367 v398 v429 (BitVec.ofNat 32 (16 * r.val))) a + S16.size a ≤ S12864.size a := fun v169 v180 v309 v320 v336 v367 v398 v429 k0_hw100 k0_h28 k0_h32 r => k0_hw100 k0_h28 k0_h32 r

def k0_off204 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk101 (v169 : BitVec 32) (v180 : BitVec 32) (v309 : BitVec 32) (v320 : BitVec 32) (v336 : BitVec 32) (v367 : BitVec 32) (v398 : BitVec 32) (v429 : BitVec 32) (v460 : BitVec 32) : Prop :=
  (∀ (k0_h28 : k0_cond28 v169 v180 = 1#1), ∀ (k0_h32 : k0_cond32 v320 = 1#1), ∀ (r : Fin 4), ∀ a, (k0_off204 v309 v336 v367 v398 v429 v460 (BitVec.ofNat 32 (16 * r.val))) a + S16.size a ≤ S12864.size a)
theorem k0_off204_inb : ∀ (v169 : BitVec 32) (v180 : BitVec 32) (v309 : BitVec 32) (v320 : BitVec 32) (v336 : BitVec 32) (v367 : BitVec 32) (v398 : BitVec 32) (v429 : BitVec 32) (v460 : BitVec 32) (k0_hw101 : k0_chk101 v169 v180 v309 v320 v336 v367 v398 v429 v460), ∀ (k0_h28 : k0_cond28 v169 v180 = 1#1), ∀ (k0_h32 : k0_cond32 v320 = 1#1), ∀ (r : Fin 4), ∀ a, (k0_off204 v309 v336 v367 v398 v429 v460 (BitVec.ofNat 32 (16 * r.val))) a + S16.size a ≤ S12864.size a := fun v169 v180 v309 v320 v336 v367 v398 v429 v460 k0_hw101 k0_h28 k0_h32 r => k0_hw101 k0_h28 k0_h32 r

def k0_off205 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk102 (v169 : BitVec 32) (v180 : BitVec 32) (v309 : BitVec 32) (v320 : BitVec 32) (v336 : BitVec 32) (v367 : BitVec 32) (v398 : BitVec 32) (v429 : BitVec 32) (v460 : BitVec 32) (v491 : BitVec 32) : Prop :=
  (∀ (k0_h28 : k0_cond28 v169 v180 = 1#1), ∀ (k0_h32 : k0_cond32 v320 = 1#1), ∀ (r : Fin 4), ∀ a, (k0_off205 v309 v336 v367 v398 v429 v460 v491 (BitVec.ofNat 32 (16 * r.val))) a + S16.size a ≤ S12864.size a)
theorem k0_off205_inb : ∀ (v169 : BitVec 32) (v180 : BitVec 32) (v309 : BitVec 32) (v320 : BitVec 32) (v336 : BitVec 32) (v367 : BitVec 32) (v398 : BitVec 32) (v429 : BitVec 32) (v460 : BitVec 32) (v491 : BitVec 32) (k0_hw102 : k0_chk102 v169 v180 v309 v320 v336 v367 v398 v429 v460 v491), ∀ (k0_h28 : k0_cond28 v169 v180 = 1#1), ∀ (k0_h32 : k0_cond32 v320 = 1#1), ∀ (r : Fin 4), ∀ a, (k0_off205 v309 v336 v367 v398 v429 v460 v491 (BitVec.ofNat 32 (16 * r.val))) a + S16.size a ≤ S12864.size a := fun v169 v180 v309 v320 v336 v367 v398 v429 v460 v491 k0_hw102 k0_h28 k0_h32 r => k0_hw102 k0_h28 k0_h32 r

def k0_off206 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk103 (v169 : BitVec 32) (v180 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h28 : k0_cond28 v169 v180 = 1#1), ∀ (k0_h32 : k0_cond32 v320 = 1#1), ∀ (r : Fin 4), ∀ a, (k0_off206 v309 v336 v367 v398 v429 v460 v491 v522 (BitVec.ofNat 32 (16 * r.val))) a + S16.size a ≤ S12864.size a)
theorem k0_off206_inb : ∀ (v169 : BitVec 32) (v180 : BitVec 32) (v309 : BitVec 32) (v320 : BitVec 32) (v336 : BitVec 32) (v367 : BitVec 32) (v398 : BitVec 32) (v429 : BitVec 32) (v460 : BitVec 32) (v491 : BitVec 32) (v522 : BitVec 32) (k0_hw103 : k0_chk103 v169 v180 v309 v320 v336 v367 v398 v429 v460 v491 v522), ∀ (k0_h28 : k0_cond28 v169 v180 = 1#1), ∀ (k0_h32 : k0_cond32 v320 = 1#1), ∀ (r : Fin 4), ∀ a, (k0_off206 v309 v336 v367 v398 v429 v460 v491 v522 (BitVec.ofNat 32 (16 * r.val))) a + S16.size a ≤ S12864.size a := fun v169 v180 v309 v320 v336 v367 v398 v429 v460 v491 v522 k0_hw103 k0_h28 k0_h32 r => k0_hw103 k0_h28 k0_h32 r

def k0_off207 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk104 (v169 : BitVec 32) (v180 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h28 : k0_cond28 v169 v180 = 1#1), ∀ (k0_h32 : k0_cond32 v320 = 1#1), ∀ (r : Fin 4), ∀ a, (k0_off207 v309 v336 v367 v398 v429 v460 v491 v522 v553 (BitVec.ofNat 32 (16 * r.val))) a + S16.size a ≤ S12864.size a)
theorem k0_off207_inb : ∀ (v169 : BitVec 32) (v180 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw104 : k0_chk104 v169 v180 v309 v320 v336 v367 v398 v429 v460 v491 v522 v553), ∀ (k0_h28 : k0_cond28 v169 v180 = 1#1), ∀ (k0_h32 : k0_cond32 v320 = 1#1), ∀ (r : Fin 4), ∀ a, (k0_off207 v309 v336 v367 v398 v429 v460 v491 v522 v553 (BitVec.ofNat 32 (16 * r.val))) a + S16.size a ≤ S12864.size a := fun v169 v180 v309 v320 v336 v367 v398 v429 v460 v491 v522 v553 k0_hw104 k0_h28 k0_h32 r => k0_hw104 k0_h28 k0_h32 r

def k0_off208 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_83 : BitVec 32 := 8#32
  let v158 : BitVec 32 := Scalar.muli arg16 c8_i32_83
  let c3_i32_84 : BitVec 32 := 3#32
  let v159 : BitVec 32 := Scalar.addi v158 c3_i32_84
  let c12800_i32_204 : BitVec 32 := 12800#32
  let v327 : BitVec 32 := Scalar.muli v159 c12800_i32_204
  let v328 : BitVec 32 := Scalar.addi v5 v327
  ![v328.toNat]
def k0_cond33 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c63_i32_107 : BitVec 32 := 63#32
  let v191 : BitVec 32 := Scalar.andi v189 c63_i32_107
  let c0_i32_108 : BitVec 32 := 0#32
  let v192 : BitVec 1 := Scalar.cmpi .eq v191 c0_i32_108
  let v193 : BitVec 32 := Scalar.extui v192
  let c0_i32_109 : BitVec 32 := 0#32
  let v194 : BitVec 1 := Scalar.cmpi .ne v193 c0_i32_109
  v194

def k0_off209 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c6_i32_188 : BitVec 32 := 6#32
  let v308 : BitVec 32 := Scalar.shrsi v189 c6_i32_188
  let c12800_i32_189 : BitVec 32 := 12800#32
  let v309 : BitVec 32 := Scalar.muli v308 c12800_i32_189
  let v310 : BitVec 32 := Scalar.addi v3 v309
  ![v310.toNat]
def k0_cond34 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c8_i32_110 : BitVec 32 := 8#32
  let v195 : BitVec 1 := Scalar.cmpi .sge v189 c8_i32_110
  let v196 : BitVec 32 := Scalar.extui v195
  let c0_i32_111 : BitVec 32 := 0#32
  let v197 : BitVec 1 := Scalar.cmpi .ne v196 c0_i32_111
  v197

def k0_off210 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c8_i32_188 : BitVec 32 := 8#32
  let v308 : BitVec 32 := Scalar.subi v189 c8_i32_188
  let c12800_i32_189 : BitVec 32 := 12800#32
  let v309 : BitVec 32 := Scalar.muli v308 c12800_i32_189
  let v310 : BitVec 32 := Scalar.addi v5 v309
  ![v310.toNat]
@[reducible] def k0_t18_loop : Scf.Loop 32 :=
  let c0_i32_113 : BitVec 32 := 0#32
  let c12_i32_114 : BitVec 32 := 12#32
  let v198 : BitVec 32 := Scalar.addi c0_i32_113 c12_i32_114
  let c1_i32_115 : BitVec 32 := 1#32
  ⟨c0_i32_113, v198, c1_i32_115⟩
def k0_off211 (k0_t1 : Fin k0_t1_loop.trips) (k0_t18 : Fin k0_t18_loop.trips) : Fin 1 → Nat :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c63_i32_106 : BitVec 32 := 63#32
  let v190 : BitVec 32 := Scalar.andi v189 c63_i32_106
  let c200_i32_188 : BitVec 32 := 200#32
  let v308 : BitVec 32 := Scalar.muli v190 c200_i32_188
  let c16_i32_189 : BitVec 32 := 16#32
  let c0_i32_113 : BitVec 32 := 0#32
  let c1_i32_115 : BitVec 32 := 1#32
  let arg17 : BitVec 32 := Scf.iv c0_i32_113 c1_i32_115 k0_t18
  let v309 : BitVec 32 := Scalar.muli c16_i32_189 arg17
  let v310 : BitVec 32 := Scalar.addi v308 v309
  let v311 : Index := Scalar.indexCast v310
  ![v311.toNat]
def k0_off212 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c63_i32_106 : BitVec 32 := 63#32
  let v190 : BitVec 32 := Scalar.andi v189 c63_i32_106
  let c200_i32_117 : BitVec 32 := 200#32
  let v200 : BitVec 32 := Scalar.muli v190 c200_i32_117
  let c192_i32_118 : BitVec 32 := 192#32
  let v201 : BitVec 32 := Scalar.addi v200 c192_i32_118
  let v202 : Index := Scalar.indexCast v201
  ![v202.toNat]
def k0_off213 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c12800_i32_188 : BitVec 32 := 12800#32
  let v308 : BitVec 32 := Scalar.muli v189 c12800_i32_188
  let v309 : BitVec 32 := Scalar.addi v5 v308
  ![v309.toNat]
@[reducible] def k0_t19_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off214 (k0_t1 : Fin k0_t1_loop.trips) (k0_t19 : Fin k0_t19_loop.trips) : Fin 1 → Nat :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c63_i32_106 : BitVec 32 := 63#32
  let v190 : BitVec 32 := Scalar.andi v189 c63_i32_106
  let c200_i32_208 : BitVec 32 := 200#32
  let v335 : BitVec 32 := Scalar.muli v190 c200_i32_208
  let c16_i32_209 : BitVec 32 := 16#32
  let c0_i32_190 : BitVec 32 := 0#32
  let c1_i32_192 : BitVec 32 := 1#32
  let arg17 : BitVec 32 := Scf.iv c0_i32_190 c1_i32_192 k0_t19
  let v336 : BitVec 32 := Scalar.muli c16_i32_209 arg17
  let v337 : BitVec 32 := Scalar.addi v335 v336
  let v338 : Index := Scalar.indexCast v337
  ![v338.toNat]
@[reducible] def k0_t20_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off215 (arg18 : BitVec 32) (k0_t20 : Fin k0_t20_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t20
  let c16_i32_223 : BitVec 32 := 16#32
  let v358 : BitVec 32 := Scalar.muli arg19 c16_i32_223
  let v359 : BitVec 32 := Scalar.addi v355 v358
  let v360 : Index := Scalar.indexCast v359
  ![v360.toNat]
def k0_cond36 (v199 : BitVec 32) (v210 : BitVec 32) : BitVec 1 :=
  let v211 : BitVec 32 := Scalar.addi v199 v210
  let c0_i32_123 : BitVec 32 := 0#32
  let v215 : BitVec 1 := Scalar.cmpi .sgt v211 c0_i32_123
  let v216 : BitVec 32 := Scalar.extui v215
  let c0_i32_124 : BitVec 32 := 0#32
  let v217 : BitVec 1 := Scalar.cmpi .ne v216 c0_i32_124
  v217

def k0_cond37 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk105 (v199 : BitVec 32) (v210 : BitVec 32) (arg18 : BitVec 32) (v345 : BitVec 32) : Prop :=
  (∀ k0_t20 : Fin k0_t20_loop.trips, ∀ (k0_h36 : k0_cond36 v199 v210 = 1#1), ∀ (k0_h37 : k0_cond37 v345 = 1#1), ∀ a, (k0_off215 arg18 k0_t20) a + S16.size a ≤ S12864.size a)
theorem k0_off215_inb : ∀ (v199 : BitVec 32) (v210 : BitVec 32) (arg18 : BitVec 32) (v345 : BitVec 32) (k0_hw105 : k0_chk105 v199 v210 arg18 v345) (k0_t20 : Fin k0_t20_loop.trips), ∀ (k0_h36 : k0_cond36 v199 v210 = 1#1), ∀ (k0_h37 : k0_cond37 v345 = 1#1), ∀ a, (k0_off215 arg18 k0_t20) a + S16.size a ≤ S12864.size a := fun v199 v210 arg18 v345 k0_hw105 k0_t20 k0_h36 k0_h37 => k0_hw105 k0_t20 k0_h36 k0_h37

def k0_off216 (k0_t19 : Fin k0_t19_loop.trips) (k0_t20 : Fin k0_t20_loop.trips) : Fin 1 → Nat :=
  let c0_i32_190 : BitVec 32 := 0#32
  let c1_i32_192 : BitVec 32 := 1#32
  let arg17 : BitVec 32 := Scf.iv c0_i32_190 c1_i32_192 k0_t19
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t20
  let c16_i32_224 : BitVec 32 := 16#32
  let v362 : BitVec 32 := Scalar.muli arg19 c16_i32_224
  let v363 : BitVec 32 := Scalar.addi v356 v362
  let v366 : Index := Scalar.indexCast v363
  ![v366.toNat]
def k0_off217 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond38 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk106 (v199 : BitVec 32) (v210 : BitVec 32) (arg18 : BitVec 32) (v345 : BitVec 32) (v356 : BitVec 32) : Prop :=
  (∀ (k0_h36 : k0_cond36 v199 v210 = 1#1), ∀ (k0_h38 : k0_cond38 v345 = 1#1), ∀ (r : Fin 4), ∀ a, (k0_off217 arg18 v356 (BitVec.ofNat 32 (16 * r.val))) a + S16.size a ≤ S12864.size a)
theorem k0_off217_inb : ∀ (v199 : BitVec 32) (v210 : BitVec 32) (arg18 : BitVec 32) (v345 : BitVec 32) (v356 : BitVec 32) (k0_hw106 : k0_chk106 v199 v210 arg18 v345 v356), ∀ (k0_h36 : k0_cond36 v199 v210 = 1#1), ∀ (k0_h38 : k0_cond38 v345 = 1#1), ∀ (r : Fin 4), ∀ a, (k0_off217 arg18 v356 (BitVec.ofNat 32 (16 * r.val))) a + S16.size a ≤ S12864.size a := fun v199 v210 arg18 v345 v356 k0_hw106 k0_h36 k0_h38 r => k0_hw106 k0_h36 k0_h38 r

def k0_off218 (k0_t19 : Fin k0_t19_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off219 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk107 (v199 : BitVec 32) (v210 : BitVec 32) (arg18 : BitVec 32) (v345 : BitVec 32) (v356 : BitVec 32) (v397 : BitVec 32) : Prop :=
  (∀ (k0_h36 : k0_cond36 v199 v210 = 1#1), ∀ (k0_h38 : k0_cond38 v345 = 1#1), ∀ (r : Fin 4), ∀ a, (k0_off219 arg18 v356 v397 (BitVec.ofNat 32 (16 * r.val))) a + S16.size a ≤ S12864.size a)
theorem k0_off219_inb : ∀ (v199 : BitVec 32) (v210 : BitVec 32) (arg18 : BitVec 32) (v345 : BitVec 32) (v356 : BitVec 32) (v397 : BitVec 32) (k0_hw107 : k0_chk107 v199 v210 arg18 v345 v356 v397), ∀ (k0_h36 : k0_cond36 v199 v210 = 1#1), ∀ (k0_h38 : k0_cond38 v345 = 1#1), ∀ (r : Fin 4), ∀ a, (k0_off219 arg18 v356 v397 (BitVec.ofNat 32 (16 * r.val))) a + S16.size a ≤ S12864.size a := fun v199 v210 arg18 v345 v356 v397 k0_hw107 k0_h36 k0_h38 r => k0_hw107 k0_h36 k0_h38 r

def k0_off220 (k0_t19 : Fin k0_t19_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off221 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk108 (v199 : BitVec 32) (v210 : BitVec 32) (arg18 : BitVec 32) (v345 : BitVec 32) (v356 : BitVec 32) (v397 : BitVec 32) (v438 : BitVec 32) : Prop :=
  (∀ (k0_h36 : k0_cond36 v199 v210 = 1#1), ∀ (k0_h38 : k0_cond38 v345 = 1#1), ∀ (r : Fin 4), ∀ a, (k0_off221 arg18 v356 v397 v438 (BitVec.ofNat 32 (16 * r.val))) a + S16.size a ≤ S12864.size a)
theorem k0_off221_inb : ∀ (v199 : BitVec 32) (v210 : BitVec 32) (arg18 : BitVec 32) (v345 : BitVec 32) (v356 : BitVec 32) (v397 : BitVec 32) (v438 : BitVec 32) (k0_hw108 : k0_chk108 v199 v210 arg18 v345 v356 v397 v438), ∀ (k0_h36 : k0_cond36 v199 v210 = 1#1), ∀ (k0_h38 : k0_cond38 v345 = 1#1), ∀ (r : Fin 4), ∀ a, (k0_off221 arg18 v356 v397 v438 (BitVec.ofNat 32 (16 * r.val))) a + S16.size a ≤ S12864.size a := fun v199 v210 arg18 v345 v356 v397 v438 k0_hw108 k0_h36 k0_h38 r => k0_hw108 k0_h36 k0_h38 r

def k0_off222 (k0_t19 : Fin k0_t19_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off223 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk109 (v199 : BitVec 32) (v210 : BitVec 32) (arg18 : BitVec 32) (v345 : BitVec 32) (v356 : BitVec 32) (v397 : BitVec 32) (v438 : BitVec 32) (v479 : BitVec 32) : Prop :=
  (∀ (k0_h36 : k0_cond36 v199 v210 = 1#1), ∀ (k0_h38 : k0_cond38 v345 = 1#1), ∀ (r : Fin 4), ∀ a, (k0_off223 arg18 v356 v397 v438 v479 (BitVec.ofNat 32 (16 * r.val))) a + S16.size a ≤ S12864.size a)
theorem k0_off223_inb : ∀ (v199 : BitVec 32) (v210 : BitVec 32) (arg18 : BitVec 32) (v345 : BitVec 32) (v356 : BitVec 32) (v397 : BitVec 32) (v438 : BitVec 32) (v479 : BitVec 32) (k0_hw109 : k0_chk109 v199 v210 arg18 v345 v356 v397 v438 v479), ∀ (k0_h36 : k0_cond36 v199 v210 = 1#1), ∀ (k0_h38 : k0_cond38 v345 = 1#1), ∀ (r : Fin 4), ∀ a, (k0_off223 arg18 v356 v397 v438 v479 (BitVec.ofNat 32 (16 * r.val))) a + S16.size a ≤ S12864.size a := fun v199 v210 arg18 v345 v356 v397 v438 v479 k0_hw109 k0_h36 k0_h38 r => k0_hw109 k0_h36 k0_h38 r

def k0_off224 (k0_t19 : Fin k0_t19_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off225 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk110 (v199 : BitVec 32) (v210 : BitVec 32) (arg18 : BitVec 32) (v345 : BitVec 32) (v356 : BitVec 32) (v397 : BitVec 32) (v438 : BitVec 32) (v479 : BitVec 32) (v520 : BitVec 32) : Prop :=
  (∀ (k0_h36 : k0_cond36 v199 v210 = 1#1), ∀ (k0_h38 : k0_cond38 v345 = 1#1), ∀ (r : Fin 4), ∀ a, (k0_off225 arg18 v356 v397 v438 v479 v520 (BitVec.ofNat 32 (16 * r.val))) a + S16.size a ≤ S12864.size a)
theorem k0_off225_inb : ∀ (v199 : BitVec 32) (v210 : BitVec 32) (arg18 : BitVec 32) (v345 : BitVec 32) (v356 : BitVec 32) (v397 : BitVec 32) (v438 : BitVec 32) (v479 : BitVec 32) (v520 : BitVec 32) (k0_hw110 : k0_chk110 v199 v210 arg18 v345 v356 v397 v438 v479 v520), ∀ (k0_h36 : k0_cond36 v199 v210 = 1#1), ∀ (k0_h38 : k0_cond38 v345 = 1#1), ∀ (r : Fin 4), ∀ a, (k0_off225 arg18 v356 v397 v438 v479 v520 (BitVec.ofNat 32 (16 * r.val))) a + S16.size a ≤ S12864.size a := fun v199 v210 arg18 v345 v356 v397 v438 v479 v520 k0_hw110 k0_h36 k0_h38 r => k0_hw110 k0_h36 k0_h38 r

def k0_off226 (k0_t19 : Fin k0_t19_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off227 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk111 (v199 : BitVec 32) (v210 : BitVec 32) (arg18 : BitVec 32) (v345 : BitVec 32) (v356 : BitVec 32) (v397 : BitVec 32) (v438 : BitVec 32) (v479 : BitVec 32) (v520 : BitVec 32) (v561 : BitVec 32) : Prop :=
  (∀ (k0_h36 : k0_cond36 v199 v210 = 1#1), ∀ (k0_h38 : k0_cond38 v345 = 1#1), ∀ (r : Fin 4), ∀ a, (k0_off227 arg18 v356 v397 v438 v479 v520 v561 (BitVec.ofNat 32 (16 * r.val))) a + S16.size a ≤ S12864.size a)
theorem k0_off227_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (k0_hw111 : k0_chk111 v199 v210 arg18 v345 v356 v397 v438 v479 v520 v561), ∀ (k0_h36 : k0_cond36 v199 v210 = 1#1), ∀ (k0_h38 : k0_cond38 v345 = 1#1), ∀ (r : Fin 4), ∀ a, (k0_off227 arg18 v356 v397 v438 v479 v520 v561 (BitVec.ofNat 32 (16 * r.val))) a + S16.size a ≤ S12864.size a := fun v199 v210 arg18 v345 v356 v397 v438 v479 v520 v561 k0_hw111 k0_h36 k0_h38 r => k0_hw111 k0_h36 k0_h38 r

def k0_off228 (k0_t19 : Fin k0_t19_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off229 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk112 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h36 : k0_cond36 v199 v210 = 1#1), ∀ (k0_h38 : k0_cond38 v345 = 1#1), ∀ (r : Fin 4), ∀ a, (k0_off229 arg18 v356 v397 v438 v479 v520 v561 v602 (BitVec.ofNat 32 (16 * r.val))) a + S16.size a ≤ S12864.size a)
theorem k0_off229_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (k0_hw112 : k0_chk112 v199 v210 arg18 v345 v356 v397 v438 v479 v520 v561 v602), ∀ (k0_h36 : k0_cond36 v199 v210 = 1#1), ∀ (k0_h38 : k0_cond38 v345 = 1#1), ∀ (r : Fin 4), ∀ a, (k0_off229 arg18 v356 v397 v438 v479 v520 v561 v602 (BitVec.ofNat 32 (16 * r.val))) a + S16.size a ≤ S12864.size a := fun v199 v210 arg18 v345 v356 v397 v438 v479 v520 v561 v602 k0_hw112 k0_h36 k0_h38 r => k0_hw112 k0_h36 k0_h38 r

def k0_off230 (k0_t19 : Fin k0_t19_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off231 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk113 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h36 : k0_cond36 v199 v210 = 1#1), ∀ (k0_h38 : k0_cond38 v345 = 1#1), ∀ (r : Fin 4), ∀ a, (k0_off231 arg18 v356 v397 v438 v479 v520 v561 v602 v643 (BitVec.ofNat 32 (16 * r.val))) a + S16.size a ≤ S12864.size a)
theorem k0_off231_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw113 : k0_chk113 v199 v210 arg18 v345 v356 v397 v438 v479 v520 v561 v602 v643), ∀ (k0_h36 : k0_cond36 v199 v210 = 1#1), ∀ (k0_h38 : k0_cond38 v345 = 1#1), ∀ (r : Fin 4), ∀ a, (k0_off231 arg18 v356 v397 v438 v479 v520 v561 v602 v643 (BitVec.ofNat 32 (16 * r.val))) a + S16.size a ≤ S12864.size a := fun v199 v210 arg18 v345 v356 v397 v438 v479 v520 v561 v602 v643 k0_hw113 k0_h36 k0_h38 r => k0_hw113 k0_h36 k0_h38 r

def k0_off232 (k0_t19 : Fin k0_t19_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off233 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk114 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h36 : k0_cond36 v199 v210 = 1#1), ∀ (k0_h38 : k0_cond38 v345 = 1#1), ∀ (r : Fin 4), ∀ a, (k0_off233 arg18 v356 v397 v438 v479 v520 v561 v602 v643 v684 (BitVec.ofNat 32 (16 * r.val))) a + S16.size a ≤ S12864.size a)
theorem k0_off233_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw114 : k0_chk114 v199 v210 arg18 v345 v356 v397 v438 v479 v520 v561 v602 v643 v684), ∀ (k0_h36 : k0_cond36 v199 v210 = 1#1), ∀ (k0_h38 : k0_cond38 v345 = 1#1), ∀ (r : Fin 4), ∀ a, (k0_off233 arg18 v356 v397 v438 v479 v520 v561 v602 v643 v684 (BitVec.ofNat 32 (16 * r.val))) a + S16.size a ≤ S12864.size a := fun v199 v210 arg18 v345 v356 v397 v438 v479 v520 v561 v602 v643 v684 k0_hw114 k0_h36 k0_h38 r => k0_hw114 k0_h36 k0_h38 r

def k0_off234 (k0_t19 : Fin k0_t19_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off235 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk115 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h36 : k0_cond36 v199 v210 = 1#1), ∀ (k0_h38 : k0_cond38 v345 = 1#1), ∀ (r : Fin 4), ∀ a, (k0_off235 arg18 v356 v397 v438 v479 v520 v561 v602 v643 v684 v725 (BitVec.ofNat 32 (16 * r.val))) a + S16.size a ≤ S12864.size a)
theorem k0_off235_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw115 : k0_chk115 v199 v210 arg18 v345 v356 v397 v438 v479 v520 v561 v602 v643 v684 v725), ∀ (k0_h36 : k0_cond36 v199 v210 = 1#1), ∀ (k0_h38 : k0_cond38 v345 = 1#1), ∀ (r : Fin 4), ∀ a, (k0_off235 arg18 v356 v397 v438 v479 v520 v561 v602 v643 v684 v725 (BitVec.ofNat 32 (16 * r.val))) a + S16.size a ≤ S12864.size a := fun v199 v210 arg18 v345 v356 v397 v438 v479 v520 v561 v602 v643 v684 v725 k0_hw115 k0_h36 k0_h38 r => k0_hw115 k0_h36 k0_h38 r

def k0_off236 (k0_t19 : Fin k0_t19_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off237 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk116 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h36 : k0_cond36 v199 v210 = 1#1), ∀ (k0_h38 : k0_cond38 v345 = 1#1), ∀ (r : Fin 4), ∀ a, (k0_off237 arg18 v356 v397 v438 v479 v520 v561 v602 v643 v684 v725 v766 (BitVec.ofNat 32 (16 * r.val))) a + S16.size a ≤ S12864.size a)
theorem k0_off237_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw116 : k0_chk116 v199 v210 arg18 v345 v356 v397 v438 v479 v520 v561 v602 v643 v684 v725 v766), ∀ (k0_h36 : k0_cond36 v199 v210 = 1#1), ∀ (k0_h38 : k0_cond38 v345 = 1#1), ∀ (r : Fin 4), ∀ a, (k0_off237 arg18 v356 v397 v438 v479 v520 v561 v602 v643 v684 v725 v766 (BitVec.ofNat 32 (16 * r.val))) a + S16.size a ≤ S12864.size a := fun v199 v210 arg18 v345 v356 v397 v438 v479 v520 v561 v602 v643 v684 v725 v766 k0_hw116 k0_h36 k0_h38 r => k0_hw116 k0_h36 k0_h38 r

def k0_off238 (k0_t19 : Fin k0_t19_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off239 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk117 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h36 : k0_cond36 v199 v210 = 1#1), ∀ (k0_h38 : k0_cond38 v345 = 1#1), ∀ (r : Fin 4), ∀ a, (k0_off239 arg18 v356 v397 v438 v479 v520 v561 v602 v643 v684 v725 v766 v807 (BitVec.ofNat 32 (16 * r.val))) a + S16.size a ≤ S12864.size a)
theorem k0_off239_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw117 : k0_chk117 v199 v210 arg18 v345 v356 v397 v438 v479 v520 v561 v602 v643 v684 v725 v766 v807), ∀ (k0_h36 : k0_cond36 v199 v210 = 1#1), ∀ (k0_h38 : k0_cond38 v345 = 1#1), ∀ (r : Fin 4), ∀ a, (k0_off239 arg18 v356 v397 v438 v479 v520 v561 v602 v643 v684 v725 v766 v807 (BitVec.ofNat 32 (16 * r.val))) a + S16.size a ≤ S12864.size a := fun v199 v210 arg18 v345 v356 v397 v438 v479 v520 v561 v602 v643 v684 v725 v766 v807 k0_hw117 k0_h36 k0_h38 r => k0_hw117 k0_h36 k0_h38 r

def k0_off240 (k0_t19 : Fin k0_t19_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off241 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk118 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h36 : k0_cond36 v199 v210 = 1#1), ∀ (k0_h38 : k0_cond38 v345 = 1#1), ∀ (r : Fin 4), ∀ a, (k0_off241 arg18 v356 v397 v438 v479 v520 v561 v602 v643 v684 v725 v766 v807 v848 (BitVec.ofNat 32 (16 * r.val))) a + S16.size a ≤ S12864.size a)
theorem k0_off241_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw118 : k0_chk118 v199 v210 arg18 v345 v356 v397 v438 v479 v520 v561 v602 v643 v684 v725 v766 v807 v848), ∀ (k0_h36 : k0_cond36 v199 v210 = 1#1), ∀ (k0_h38 : k0_cond38 v345 = 1#1), ∀ (r : Fin 4), ∀ a, (k0_off241 arg18 v356 v397 v438 v479 v520 v561 v602 v643 v684 v725 v766 v807 v848 (BitVec.ofNat 32 (16 * r.val))) a + S16.size a ≤ S12864.size a := fun v199 v210 arg18 v345 v356 v397 v438 v479 v520 v561 v602 v643 v684 v725 v766 v807 v848 k0_hw118 k0_h36 k0_h38 r => k0_hw118 k0_h36 k0_h38 r

def k0_off242 (k0_t19 : Fin k0_t19_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off243 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk119 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h36 : k0_cond36 v199 v210 = 1#1), ∀ (k0_h38 : k0_cond38 v345 = 1#1), ∀ (r : Fin 4), ∀ a, (k0_off243 arg18 v356 v397 v438 v479 v520 v561 v602 v643 v684 v725 v766 v807 v848 v889 (BitVec.ofNat 32 (16 * r.val))) a + S16.size a ≤ S12864.size a)
theorem k0_off243_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw119 : k0_chk119 v199 v210 arg18 v345 v356 v397 v438 v479 v520 v561 v602 v643 v684 v725 v766 v807 v848 v889), ∀ (k0_h36 : k0_cond36 v199 v210 = 1#1), ∀ (k0_h38 : k0_cond38 v345 = 1#1), ∀ (r : Fin 4), ∀ a, (k0_off243 arg18 v356 v397 v438 v479 v520 v561 v602 v643 v684 v725 v766 v807 v848 v889 (BitVec.ofNat 32 (16 * r.val))) a + S16.size a ≤ S12864.size a := fun v199 v210 arg18 v345 v356 v397 v438 v479 v520 v561 v602 v643 v684 v725 v766 v807 v848 v889 k0_hw119 k0_h36 k0_h38 r => k0_hw119 k0_h36 k0_h38 r

def k0_off244 (k0_t19 : Fin k0_t19_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off245 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk120 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h36 : k0_cond36 v199 v210 = 1#1), ∀ (k0_h38 : k0_cond38 v345 = 1#1), ∀ (r : Fin 4), ∀ a, (k0_off245 arg18 v356 v397 v438 v479 v520 v561 v602 v643 v684 v725 v766 v807 v848 v889 v930 (BitVec.ofNat 32 (16 * r.val))) a + S16.size a ≤ S12864.size a)
theorem k0_off245_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw120 : k0_chk120 v199 v210 arg18 v345 v356 v397 v438 v479 v520 v561 v602 v643 v684 v725 v766 v807 v848 v889 v930), ∀ (k0_h36 : k0_cond36 v199 v210 = 1#1), ∀ (k0_h38 : k0_cond38 v345 = 1#1), ∀ (r : Fin 4), ∀ a, (k0_off245 arg18 v356 v397 v438 v479 v520 v561 v602 v643 v684 v725 v766 v807 v848 v889 v930 (BitVec.ofNat 32 (16 * r.val))) a + S16.size a ≤ S12864.size a := fun v199 v210 arg18 v345 v356 v397 v438 v479 v520 v561 v602 v643 v684 v725 v766 v807 v848 v889 v930 k0_hw120 k0_h36 k0_h38 r => k0_hw120 k0_h36 k0_h38 r

def k0_off246 (k0_t19 : Fin k0_t19_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off247 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk121 (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h36 : k0_cond36 v199 v210 = 1#1), ∀ (k0_h38 : k0_cond38 v345 = 1#1), ∀ (r : Fin 4), ∀ a, (k0_off247 arg18 v356 v397 v438 v479 v520 v561 v602 v643 v684 v725 v766 v807 v848 v889 v930 v971 (BitVec.ofNat 32 (16 * r.val))) a + S16.size a ≤ S12864.size a)
theorem k0_off247_inb : ∀ (v199 : BitVec 32) (v210 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw121 : k0_chk121 v199 v210 arg18 v345 v356 v397 v438 v479 v520 v561 v602 v643 v684 v725 v766 v807 v848 v889 v930 v971), ∀ (k0_h36 : k0_cond36 v199 v210 = 1#1), ∀ (k0_h38 : k0_cond38 v345 = 1#1), ∀ (r : Fin 4), ∀ a, (k0_off247 arg18 v356 v397 v438 v479 v520 v561 v602 v643 v684 v725 v766 v807 v848 v889 v930 v971 (BitVec.ofNat 32 (16 * r.val))) a + S16.size a ≤ S12864.size a := fun v199 v210 arg18 v345 v356 v397 v438 v479 v520 v561 v602 v643 v684 v725 v766 v807 v848 v889 v930 v971 k0_hw121 k0_h36 k0_h38 r => k0_hw121 k0_h36 k0_h38 r

def k0_off248 (k0_t19 : Fin k0_t19_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t19
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off249 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c63_i32_106 : BitVec 32 := 63#32
  let v190 : BitVec 32 := Scalar.andi v189 c63_i32_106
  let c200_i32_194 : BitVec 32 := 200#32
  let v310 : BitVec 32 := Scalar.muli v190 c200_i32_194
  let c192_i32_195 : BitVec 32 := 192#32
  let v311 : BitVec 32 := Scalar.addi v310 c192_i32_195
  let v312 : Index := Scalar.indexCast v311
  ![v312.toNat]
@[reducible] def k0_t21_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off250 (v309 : BitVec 32) (k0_t21 : Fin k0_t21_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t21
  let c16_i32_213 : BitVec 32 := 16#32
  let v338 : BitVec 32 := Scalar.muli arg17 c16_i32_213
  let v339 : BitVec 32 := Scalar.addi v336 v338
  let v340 : Index := Scalar.indexCast v339
  ![v340.toNat]
def k0_cond39 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk122 (v199 : BitVec 32) (v210 : BitVec 32) (v309 : BitVec 32) (v320 : BitVec 32) : Prop :=
  (∀ k0_t21 : Fin k0_t21_loop.trips, ∀ (k0_h36 : k0_cond36 v199 v210 = 1#1), ∀ (k0_h39 : k0_cond39 v320 = 1#1), ∀ a, (k0_off250 v309 k0_t21) a + S16.size a ≤ S12864.size a)
theorem k0_off250_inb : ∀ (v199 : BitVec 32) (v210 : BitVec 32) (v309 : BitVec 32) (v320 : BitVec 32) (k0_hw122 : k0_chk122 v199 v210 v309 v320) (k0_t21 : Fin k0_t21_loop.trips), ∀ (k0_h36 : k0_cond36 v199 v210 = 1#1), ∀ (k0_h39 : k0_cond39 v320 = 1#1), ∀ a, (k0_off250 v309 k0_t21) a + S16.size a ≤ S12864.size a := fun v199 v210 v309 v320 k0_hw122 k0_t21 k0_h36 k0_h39 => k0_hw122 k0_t21 k0_h36 k0_h39

def k0_off251 (k0_t21 : Fin k0_t21_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t21
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off252 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond40 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk123 (v199 : BitVec 32) (v210 : BitVec 32) (v309 : BitVec 32) (v320 : BitVec 32) (v336 : BitVec 32) : Prop :=
  (∀ (k0_h36 : k0_cond36 v199 v210 = 1#1), ∀ (k0_h40 : k0_cond40 v320 = 1#1), ∀ (r : Fin 4), ∀ a, (k0_off252 v309 v336 (BitVec.ofNat 32 (16 * r.val))) a + S16.size a ≤ S12864.size a)
theorem k0_off252_inb : ∀ (v199 : BitVec 32) (v210 : BitVec 32) (v309 : BitVec 32) (v320 : BitVec 32) (v336 : BitVec 32) (k0_hw123 : k0_chk123 v199 v210 v309 v320 v336), ∀ (k0_h36 : k0_cond36 v199 v210 = 1#1), ∀ (k0_h40 : k0_cond40 v320 = 1#1), ∀ (r : Fin 4), ∀ a, (k0_off252 v309 v336 (BitVec.ofNat 32 (16 * r.val))) a + S16.size a ≤ S12864.size a := fun v199 v210 v309 v320 v336 k0_hw123 k0_h36 k0_h40 r => k0_hw123 k0_h36 k0_h40 r

def k0_off253 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk124 (v199 : BitVec 32) (v210 : BitVec 32) (v309 : BitVec 32) (v320 : BitVec 32) (v336 : BitVec 32) (v367 : BitVec 32) : Prop :=
  (∀ (k0_h36 : k0_cond36 v199 v210 = 1#1), ∀ (k0_h40 : k0_cond40 v320 = 1#1), ∀ (r : Fin 4), ∀ a, (k0_off253 v309 v336 v367 (BitVec.ofNat 32 (16 * r.val))) a + S16.size a ≤ S12864.size a)
theorem k0_off253_inb : ∀ (v199 : BitVec 32) (v210 : BitVec 32) (v309 : BitVec 32) (v320 : BitVec 32) (v336 : BitVec 32) (v367 : BitVec 32) (k0_hw124 : k0_chk124 v199 v210 v309 v320 v336 v367), ∀ (k0_h36 : k0_cond36 v199 v210 = 1#1), ∀ (k0_h40 : k0_cond40 v320 = 1#1), ∀ (r : Fin 4), ∀ a, (k0_off253 v309 v336 v367 (BitVec.ofNat 32 (16 * r.val))) a + S16.size a ≤ S12864.size a := fun v199 v210 v309 v320 v336 v367 k0_hw124 k0_h36 k0_h40 r => k0_hw124 k0_h36 k0_h40 r

def k0_off254 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk125 (v199 : BitVec 32) (v210 : BitVec 32) (v309 : BitVec 32) (v320 : BitVec 32) (v336 : BitVec 32) (v367 : BitVec 32) (v398 : BitVec 32) : Prop :=
  (∀ (k0_h36 : k0_cond36 v199 v210 = 1#1), ∀ (k0_h40 : k0_cond40 v320 = 1#1), ∀ (r : Fin 4), ∀ a, (k0_off254 v309 v336 v367 v398 (BitVec.ofNat 32 (16 * r.val))) a + S16.size a ≤ S12864.size a)
theorem k0_off254_inb : ∀ (v199 : BitVec 32) (v210 : BitVec 32) (v309 : BitVec 32) (v320 : BitVec 32) (v336 : BitVec 32) (v367 : BitVec 32) (v398 : BitVec 32) (k0_hw125 : k0_chk125 v199 v210 v309 v320 v336 v367 v398), ∀ (k0_h36 : k0_cond36 v199 v210 = 1#1), ∀ (k0_h40 : k0_cond40 v320 = 1#1), ∀ (r : Fin 4), ∀ a, (k0_off254 v309 v336 v367 v398 (BitVec.ofNat 32 (16 * r.val))) a + S16.size a ≤ S12864.size a := fun v199 v210 v309 v320 v336 v367 v398 k0_hw125 k0_h36 k0_h40 r => k0_hw125 k0_h36 k0_h40 r

def k0_off255 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk126 (v199 : BitVec 32) (v210 : BitVec 32) (v309 : BitVec 32) (v320 : BitVec 32) (v336 : BitVec 32) (v367 : BitVec 32) (v398 : BitVec 32) (v429 : BitVec 32) : Prop :=
  (∀ (k0_h36 : k0_cond36 v199 v210 = 1#1), ∀ (k0_h40 : k0_cond40 v320 = 1#1), ∀ (r : Fin 4), ∀ a, (k0_off255 v309 v336 v367 v398 v429 (BitVec.ofNat 32 (16 * r.val))) a + S16.size a ≤ S12864.size a)
theorem k0_off255_inb : ∀ (v199 : BitVec 32) (v210 : BitVec 32) (v309 : BitVec 32) (v320 : BitVec 32) (v336 : BitVec 32) (v367 : BitVec 32) (v398 : BitVec 32) (v429 : BitVec 32) (k0_hw126 : k0_chk126 v199 v210 v309 v320 v336 v367 v398 v429), ∀ (k0_h36 : k0_cond36 v199 v210 = 1#1), ∀ (k0_h40 : k0_cond40 v320 = 1#1), ∀ (r : Fin 4), ∀ a, (k0_off255 v309 v336 v367 v398 v429 (BitVec.ofNat 32 (16 * r.val))) a + S16.size a ≤ S12864.size a := fun v199 v210 v309 v320 v336 v367 v398 v429 k0_hw126 k0_h36 k0_h40 r => k0_hw126 k0_h36 k0_h40 r

def k0_off256 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk127 (v199 : BitVec 32) (v210 : BitVec 32) (v309 : BitVec 32) (v320 : BitVec 32) (v336 : BitVec 32) (v367 : BitVec 32) (v398 : BitVec 32) (v429 : BitVec 32) (v460 : BitVec 32) : Prop :=
  (∀ (k0_h36 : k0_cond36 v199 v210 = 1#1), ∀ (k0_h40 : k0_cond40 v320 = 1#1), ∀ (r : Fin 4), ∀ a, (k0_off256 v309 v336 v367 v398 v429 v460 (BitVec.ofNat 32 (16 * r.val))) a + S16.size a ≤ S12864.size a)
theorem k0_off256_inb : ∀ (v199 : BitVec 32) (v210 : BitVec 32) (v309 : BitVec 32) (v320 : BitVec 32) (v336 : BitVec 32) (v367 : BitVec 32) (v398 : BitVec 32) (v429 : BitVec 32) (v460 : BitVec 32) (k0_hw127 : k0_chk127 v199 v210 v309 v320 v336 v367 v398 v429 v460), ∀ (k0_h36 : k0_cond36 v199 v210 = 1#1), ∀ (k0_h40 : k0_cond40 v320 = 1#1), ∀ (r : Fin 4), ∀ a, (k0_off256 v309 v336 v367 v398 v429 v460 (BitVec.ofNat 32 (16 * r.val))) a + S16.size a ≤ S12864.size a := fun v199 v210 v309 v320 v336 v367 v398 v429 v460 k0_hw127 k0_h36 k0_h40 r => k0_hw127 k0_h36 k0_h40 r

def k0_off257 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk128 (v199 : BitVec 32) (v210 : BitVec 32) (v309 : BitVec 32) (v320 : BitVec 32) (v336 : BitVec 32) (v367 : BitVec 32) (v398 : BitVec 32) (v429 : BitVec 32) (v460 : BitVec 32) (v491 : BitVec 32) : Prop :=
  (∀ (k0_h36 : k0_cond36 v199 v210 = 1#1), ∀ (k0_h40 : k0_cond40 v320 = 1#1), ∀ (r : Fin 4), ∀ a, (k0_off257 v309 v336 v367 v398 v429 v460 v491 (BitVec.ofNat 32 (16 * r.val))) a + S16.size a ≤ S12864.size a)
theorem k0_off257_inb : ∀ (v199 : BitVec 32) (v210 : BitVec 32) (v309 : BitVec 32) (v320 : BitVec 32) (v336 : BitVec 32) (v367 : BitVec 32) (v398 : BitVec 32) (v429 : BitVec 32) (v460 : BitVec 32) (v491 : BitVec 32) (k0_hw128 : k0_chk128 v199 v210 v309 v320 v336 v367 v398 v429 v460 v491), ∀ (k0_h36 : k0_cond36 v199 v210 = 1#1), ∀ (k0_h40 : k0_cond40 v320 = 1#1), ∀ (r : Fin 4), ∀ a, (k0_off257 v309 v336 v367 v398 v429 v460 v491 (BitVec.ofNat 32 (16 * r.val))) a + S16.size a ≤ S12864.size a := fun v199 v210 v309 v320 v336 v367 v398 v429 v460 v491 k0_hw128 k0_h36 k0_h40 r => k0_hw128 k0_h36 k0_h40 r

def k0_off258 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk129 (v199 : BitVec 32) (v210 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h36 : k0_cond36 v199 v210 = 1#1), ∀ (k0_h40 : k0_cond40 v320 = 1#1), ∀ (r : Fin 4), ∀ a, (k0_off258 v309 v336 v367 v398 v429 v460 v491 v522 (BitVec.ofNat 32 (16 * r.val))) a + S16.size a ≤ S12864.size a)
theorem k0_off258_inb : ∀ (v199 : BitVec 32) (v210 : BitVec 32) (v309 : BitVec 32) (v320 : BitVec 32) (v336 : BitVec 32) (v367 : BitVec 32) (v398 : BitVec 32) (v429 : BitVec 32) (v460 : BitVec 32) (v491 : BitVec 32) (v522 : BitVec 32) (k0_hw129 : k0_chk129 v199 v210 v309 v320 v336 v367 v398 v429 v460 v491 v522), ∀ (k0_h36 : k0_cond36 v199 v210 = 1#1), ∀ (k0_h40 : k0_cond40 v320 = 1#1), ∀ (r : Fin 4), ∀ a, (k0_off258 v309 v336 v367 v398 v429 v460 v491 v522 (BitVec.ofNat 32 (16 * r.val))) a + S16.size a ≤ S12864.size a := fun v199 v210 v309 v320 v336 v367 v398 v429 v460 v491 v522 k0_hw129 k0_h36 k0_h40 r => k0_hw129 k0_h36 k0_h40 r

def k0_off259 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk130 (v199 : BitVec 32) (v210 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h36 : k0_cond36 v199 v210 = 1#1), ∀ (k0_h40 : k0_cond40 v320 = 1#1), ∀ (r : Fin 4), ∀ a, (k0_off259 v309 v336 v367 v398 v429 v460 v491 v522 v553 (BitVec.ofNat 32 (16 * r.val))) a + S16.size a ≤ S12864.size a)
theorem k0_off259_inb : ∀ (v199 : BitVec 32) (v210 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw130 : k0_chk130 v199 v210 v309 v320 v336 v367 v398 v429 v460 v491 v522 v553), ∀ (k0_h36 : k0_cond36 v199 v210 = 1#1), ∀ (k0_h40 : k0_cond40 v320 = 1#1), ∀ (r : Fin 4), ∀ a, (k0_off259 v309 v336 v367 v398 v429 v460 v491 v522 v553 (BitVec.ofNat 32 (16 * r.val))) a + S16.size a ≤ S12864.size a := fun v199 v210 v309 v320 v336 v367 v398 v429 v460 v491 v522 v553 k0_hw130 k0_h36 k0_h40 r => k0_hw130 k0_h36 k0_h40 r

def k0_off260 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_104 : BitVec 32 := 8#32
  let v188 : BitVec 32 := Scalar.muli arg16 c8_i32_104
  let c4_i32_105 : BitVec 32 := 4#32
  let v189 : BitVec 32 := Scalar.addi v188 c4_i32_105
  let c12800_i32_204 : BitVec 32 := 12800#32
  let v327 : BitVec 32 := Scalar.muli v189 c12800_i32_204
  let v328 : BitVec 32 := Scalar.addi v5 v327
  ![v328.toNat]
def k0_cond41 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c63_i32_128 : BitVec 32 := 63#32
  let v221 : BitVec 32 := Scalar.andi v219 c63_i32_128
  let c0_i32_129 : BitVec 32 := 0#32
  let v222 : BitVec 1 := Scalar.cmpi .eq v221 c0_i32_129
  let v223 : BitVec 32 := Scalar.extui v222
  let c0_i32_130 : BitVec 32 := 0#32
  let v224 : BitVec 1 := Scalar.cmpi .ne v223 c0_i32_130
  v224

def k0_off261 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c6_i32_188 : BitVec 32 := 6#32
  let v308 : BitVec 32 := Scalar.shrsi v219 c6_i32_188
  let c12800_i32_189 : BitVec 32 := 12800#32
  let v309 : BitVec 32 := Scalar.muli v308 c12800_i32_189
  let v310 : BitVec 32 := Scalar.addi v3 v309
  ![v310.toNat]
def k0_cond42 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c8_i32_131 : BitVec 32 := 8#32
  let v225 : BitVec 1 := Scalar.cmpi .sge v219 c8_i32_131
  let v226 : BitVec 32 := Scalar.extui v225
  let c0_i32_132 : BitVec 32 := 0#32
  let v227 : BitVec 1 := Scalar.cmpi .ne v226 c0_i32_132
  v227

def k0_off262 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c8_i32_188 : BitVec 32 := 8#32
  let v308 : BitVec 32 := Scalar.subi v219 c8_i32_188
  let c12800_i32_189 : BitVec 32 := 12800#32
  let v309 : BitVec 32 := Scalar.muli v308 c12800_i32_189
  let v310 : BitVec 32 := Scalar.addi v5 v309
  ![v310.toNat]
@[reducible] def k0_t22_loop : Scf.Loop 32 :=
  let c0_i32_134 : BitVec 32 := 0#32
  let c12_i32_135 : BitVec 32 := 12#32
  let v228 : BitVec 32 := Scalar.addi c0_i32_134 c12_i32_135
  let c1_i32_136 : BitVec 32 := 1#32
  ⟨c0_i32_134, v228, c1_i32_136⟩
def k0_off263 (k0_t1 : Fin k0_t1_loop.trips) (k0_t22 : Fin k0_t22_loop.trips) : Fin 1 → Nat :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c63_i32_127 : BitVec 32 := 63#32
  let v220 : BitVec 32 := Scalar.andi v219 c63_i32_127
  let c200_i32_188 : BitVec 32 := 200#32
  let v308 : BitVec 32 := Scalar.muli v220 c200_i32_188
  let c16_i32_189 : BitVec 32 := 16#32
  let c0_i32_134 : BitVec 32 := 0#32
  let c1_i32_136 : BitVec 32 := 1#32
  let arg17 : BitVec 32 := Scf.iv c0_i32_134 c1_i32_136 k0_t22
  let v309 : BitVec 32 := Scalar.muli c16_i32_189 arg17
  let v310 : BitVec 32 := Scalar.addi v308 v309
  let v311 : Index := Scalar.indexCast v310
  ![v311.toNat]
def k0_off264 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c63_i32_127 : BitVec 32 := 63#32
  let v220 : BitVec 32 := Scalar.andi v219 c63_i32_127
  let c200_i32_138 : BitVec 32 := 200#32
  let v230 : BitVec 32 := Scalar.muli v220 c200_i32_138
  let c192_i32_139 : BitVec 32 := 192#32
  let v231 : BitVec 32 := Scalar.addi v230 c192_i32_139
  let v232 : Index := Scalar.indexCast v231
  ![v232.toNat]
def k0_off265 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c12800_i32_188 : BitVec 32 := 12800#32
  let v308 : BitVec 32 := Scalar.muli v219 c12800_i32_188
  let v309 : BitVec 32 := Scalar.addi v5 v308
  ![v309.toNat]
@[reducible] def k0_t23_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off266 (k0_t1 : Fin k0_t1_loop.trips) (k0_t23 : Fin k0_t23_loop.trips) : Fin 1 → Nat :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c63_i32_127 : BitVec 32 := 63#32
  let v220 : BitVec 32 := Scalar.andi v219 c63_i32_127
  let c200_i32_208 : BitVec 32 := 200#32
  let v335 : BitVec 32 := Scalar.muli v220 c200_i32_208
  let c16_i32_209 : BitVec 32 := 16#32
  let c0_i32_190 : BitVec 32 := 0#32
  let c1_i32_192 : BitVec 32 := 1#32
  let arg17 : BitVec 32 := Scf.iv c0_i32_190 c1_i32_192 k0_t23
  let v336 : BitVec 32 := Scalar.muli c16_i32_209 arg17
  let v337 : BitVec 32 := Scalar.addi v335 v336
  let v338 : Index := Scalar.indexCast v337
  ![v338.toNat]
@[reducible] def k0_t24_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off267 (arg18 : BitVec 32) (k0_t24 : Fin k0_t24_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t24
  let c16_i32_223 : BitVec 32 := 16#32
  let v358 : BitVec 32 := Scalar.muli arg19 c16_i32_223
  let v359 : BitVec 32 := Scalar.addi v355 v358
  let v360 : Index := Scalar.indexCast v359
  ![v360.toNat]
def k0_cond44 (v229 : BitVec 32) (v240 : BitVec 32) : BitVec 1 :=
  let v241 : BitVec 32 := Scalar.addi v229 v240
  let c0_i32_144 : BitVec 32 := 0#32
  let v245 : BitVec 1 := Scalar.cmpi .sgt v241 c0_i32_144
  let v246 : BitVec 32 := Scalar.extui v245
  let c0_i32_145 : BitVec 32 := 0#32
  let v247 : BitVec 1 := Scalar.cmpi .ne v246 c0_i32_145
  v247

def k0_cond45 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk131 (v229 : BitVec 32) (v240 : BitVec 32) (arg18 : BitVec 32) (v345 : BitVec 32) : Prop :=
  (∀ k0_t24 : Fin k0_t24_loop.trips, ∀ (k0_h44 : k0_cond44 v229 v240 = 1#1), ∀ (k0_h45 : k0_cond45 v345 = 1#1), ∀ a, (k0_off267 arg18 k0_t24) a + S16.size a ≤ S12864.size a)
theorem k0_off267_inb : ∀ (v229 : BitVec 32) (v240 : BitVec 32) (arg18 : BitVec 32) (v345 : BitVec 32) (k0_hw131 : k0_chk131 v229 v240 arg18 v345) (k0_t24 : Fin k0_t24_loop.trips), ∀ (k0_h44 : k0_cond44 v229 v240 = 1#1), ∀ (k0_h45 : k0_cond45 v345 = 1#1), ∀ a, (k0_off267 arg18 k0_t24) a + S16.size a ≤ S12864.size a := fun v229 v240 arg18 v345 k0_hw131 k0_t24 k0_h44 k0_h45 => k0_hw131 k0_t24 k0_h44 k0_h45

def k0_off268 (k0_t23 : Fin k0_t23_loop.trips) (k0_t24 : Fin k0_t24_loop.trips) : Fin 1 → Nat :=
  let c0_i32_190 : BitVec 32 := 0#32
  let c1_i32_192 : BitVec 32 := 1#32
  let arg17 : BitVec 32 := Scf.iv c0_i32_190 c1_i32_192 k0_t23
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t24
  let c16_i32_224 : BitVec 32 := 16#32
  let v362 : BitVec 32 := Scalar.muli arg19 c16_i32_224
  let v363 : BitVec 32 := Scalar.addi v356 v362
  let v366 : Index := Scalar.indexCast v363
  ![v366.toNat]
def k0_off269 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond46 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk132 (v229 : BitVec 32) (v240 : BitVec 32) (arg18 : BitVec 32) (v345 : BitVec 32) (v356 : BitVec 32) : Prop :=
  (∀ (k0_h44 : k0_cond44 v229 v240 = 1#1), ∀ (k0_h46 : k0_cond46 v345 = 1#1), ∀ (r : Fin 4), ∀ a, (k0_off269 arg18 v356 (BitVec.ofNat 32 (16 * r.val))) a + S16.size a ≤ S12864.size a)
theorem k0_off269_inb : ∀ (v229 : BitVec 32) (v240 : BitVec 32) (arg18 : BitVec 32) (v345 : BitVec 32) (v356 : BitVec 32) (k0_hw132 : k0_chk132 v229 v240 arg18 v345 v356), ∀ (k0_h44 : k0_cond44 v229 v240 = 1#1), ∀ (k0_h46 : k0_cond46 v345 = 1#1), ∀ (r : Fin 4), ∀ a, (k0_off269 arg18 v356 (BitVec.ofNat 32 (16 * r.val))) a + S16.size a ≤ S12864.size a := fun v229 v240 arg18 v345 v356 k0_hw132 k0_h44 k0_h46 r => k0_hw132 k0_h44 k0_h46 r

def k0_off270 (k0_t23 : Fin k0_t23_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off271 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk133 (v229 : BitVec 32) (v240 : BitVec 32) (arg18 : BitVec 32) (v345 : BitVec 32) (v356 : BitVec 32) (v397 : BitVec 32) : Prop :=
  (∀ (k0_h44 : k0_cond44 v229 v240 = 1#1), ∀ (k0_h46 : k0_cond46 v345 = 1#1), ∀ (r : Fin 4), ∀ a, (k0_off271 arg18 v356 v397 (BitVec.ofNat 32 (16 * r.val))) a + S16.size a ≤ S12864.size a)
theorem k0_off271_inb : ∀ (v229 : BitVec 32) (v240 : BitVec 32) (arg18 : BitVec 32) (v345 : BitVec 32) (v356 : BitVec 32) (v397 : BitVec 32) (k0_hw133 : k0_chk133 v229 v240 arg18 v345 v356 v397), ∀ (k0_h44 : k0_cond44 v229 v240 = 1#1), ∀ (k0_h46 : k0_cond46 v345 = 1#1), ∀ (r : Fin 4), ∀ a, (k0_off271 arg18 v356 v397 (BitVec.ofNat 32 (16 * r.val))) a + S16.size a ≤ S12864.size a := fun v229 v240 arg18 v345 v356 v397 k0_hw133 k0_h44 k0_h46 r => k0_hw133 k0_h44 k0_h46 r

def k0_off272 (k0_t23 : Fin k0_t23_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off273 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk134 (v229 : BitVec 32) (v240 : BitVec 32) (arg18 : BitVec 32) (v345 : BitVec 32) (v356 : BitVec 32) (v397 : BitVec 32) (v438 : BitVec 32) : Prop :=
  (∀ (k0_h44 : k0_cond44 v229 v240 = 1#1), ∀ (k0_h46 : k0_cond46 v345 = 1#1), ∀ (r : Fin 4), ∀ a, (k0_off273 arg18 v356 v397 v438 (BitVec.ofNat 32 (16 * r.val))) a + S16.size a ≤ S12864.size a)
theorem k0_off273_inb : ∀ (v229 : BitVec 32) (v240 : BitVec 32) (arg18 : BitVec 32) (v345 : BitVec 32) (v356 : BitVec 32) (v397 : BitVec 32) (v438 : BitVec 32) (k0_hw134 : k0_chk134 v229 v240 arg18 v345 v356 v397 v438), ∀ (k0_h44 : k0_cond44 v229 v240 = 1#1), ∀ (k0_h46 : k0_cond46 v345 = 1#1), ∀ (r : Fin 4), ∀ a, (k0_off273 arg18 v356 v397 v438 (BitVec.ofNat 32 (16 * r.val))) a + S16.size a ≤ S12864.size a := fun v229 v240 arg18 v345 v356 v397 v438 k0_hw134 k0_h44 k0_h46 r => k0_hw134 k0_h44 k0_h46 r

def k0_off274 (k0_t23 : Fin k0_t23_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off275 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk135 (v229 : BitVec 32) (v240 : BitVec 32) (arg18 : BitVec 32) (v345 : BitVec 32) (v356 : BitVec 32) (v397 : BitVec 32) (v438 : BitVec 32) (v479 : BitVec 32) : Prop :=
  (∀ (k0_h44 : k0_cond44 v229 v240 = 1#1), ∀ (k0_h46 : k0_cond46 v345 = 1#1), ∀ (r : Fin 4), ∀ a, (k0_off275 arg18 v356 v397 v438 v479 (BitVec.ofNat 32 (16 * r.val))) a + S16.size a ≤ S12864.size a)
theorem k0_off275_inb : ∀ (v229 : BitVec 32) (v240 : BitVec 32) (arg18 : BitVec 32) (v345 : BitVec 32) (v356 : BitVec 32) (v397 : BitVec 32) (v438 : BitVec 32) (v479 : BitVec 32) (k0_hw135 : k0_chk135 v229 v240 arg18 v345 v356 v397 v438 v479), ∀ (k0_h44 : k0_cond44 v229 v240 = 1#1), ∀ (k0_h46 : k0_cond46 v345 = 1#1), ∀ (r : Fin 4), ∀ a, (k0_off275 arg18 v356 v397 v438 v479 (BitVec.ofNat 32 (16 * r.val))) a + S16.size a ≤ S12864.size a := fun v229 v240 arg18 v345 v356 v397 v438 v479 k0_hw135 k0_h44 k0_h46 r => k0_hw135 k0_h44 k0_h46 r

def k0_off276 (k0_t23 : Fin k0_t23_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off277 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk136 (v229 : BitVec 32) (v240 : BitVec 32) (arg18 : BitVec 32) (v345 : BitVec 32) (v356 : BitVec 32) (v397 : BitVec 32) (v438 : BitVec 32) (v479 : BitVec 32) (v520 : BitVec 32) : Prop :=
  (∀ (k0_h44 : k0_cond44 v229 v240 = 1#1), ∀ (k0_h46 : k0_cond46 v345 = 1#1), ∀ (r : Fin 4), ∀ a, (k0_off277 arg18 v356 v397 v438 v479 v520 (BitVec.ofNat 32 (16 * r.val))) a + S16.size a ≤ S12864.size a)
theorem k0_off277_inb : ∀ (v229 : BitVec 32) (v240 : BitVec 32) (arg18 : BitVec 32) (v345 : BitVec 32) (v356 : BitVec 32) (v397 : BitVec 32) (v438 : BitVec 32) (v479 : BitVec 32) (v520 : BitVec 32) (k0_hw136 : k0_chk136 v229 v240 arg18 v345 v356 v397 v438 v479 v520), ∀ (k0_h44 : k0_cond44 v229 v240 = 1#1), ∀ (k0_h46 : k0_cond46 v345 = 1#1), ∀ (r : Fin 4), ∀ a, (k0_off277 arg18 v356 v397 v438 v479 v520 (BitVec.ofNat 32 (16 * r.val))) a + S16.size a ≤ S12864.size a := fun v229 v240 arg18 v345 v356 v397 v438 v479 v520 k0_hw136 k0_h44 k0_h46 r => k0_hw136 k0_h44 k0_h46 r

def k0_off278 (k0_t23 : Fin k0_t23_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off279 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk137 (v229 : BitVec 32) (v240 : BitVec 32) (arg18 : BitVec 32) (v345 : BitVec 32) (v356 : BitVec 32) (v397 : BitVec 32) (v438 : BitVec 32) (v479 : BitVec 32) (v520 : BitVec 32) (v561 : BitVec 32) : Prop :=
  (∀ (k0_h44 : k0_cond44 v229 v240 = 1#1), ∀ (k0_h46 : k0_cond46 v345 = 1#1), ∀ (r : Fin 4), ∀ a, (k0_off279 arg18 v356 v397 v438 v479 v520 v561 (BitVec.ofNat 32 (16 * r.val))) a + S16.size a ≤ S12864.size a)
theorem k0_off279_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (k0_hw137 : k0_chk137 v229 v240 arg18 v345 v356 v397 v438 v479 v520 v561), ∀ (k0_h44 : k0_cond44 v229 v240 = 1#1), ∀ (k0_h46 : k0_cond46 v345 = 1#1), ∀ (r : Fin 4), ∀ a, (k0_off279 arg18 v356 v397 v438 v479 v520 v561 (BitVec.ofNat 32 (16 * r.val))) a + S16.size a ≤ S12864.size a := fun v229 v240 arg18 v345 v356 v397 v438 v479 v520 v561 k0_hw137 k0_h44 k0_h46 r => k0_hw137 k0_h44 k0_h46 r

def k0_off280 (k0_t23 : Fin k0_t23_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off281 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk138 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h44 : k0_cond44 v229 v240 = 1#1), ∀ (k0_h46 : k0_cond46 v345 = 1#1), ∀ (r : Fin 4), ∀ a, (k0_off281 arg18 v356 v397 v438 v479 v520 v561 v602 (BitVec.ofNat 32 (16 * r.val))) a + S16.size a ≤ S12864.size a)
theorem k0_off281_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (k0_hw138 : k0_chk138 v229 v240 arg18 v345 v356 v397 v438 v479 v520 v561 v602), ∀ (k0_h44 : k0_cond44 v229 v240 = 1#1), ∀ (k0_h46 : k0_cond46 v345 = 1#1), ∀ (r : Fin 4), ∀ a, (k0_off281 arg18 v356 v397 v438 v479 v520 v561 v602 (BitVec.ofNat 32 (16 * r.val))) a + S16.size a ≤ S12864.size a := fun v229 v240 arg18 v345 v356 v397 v438 v479 v520 v561 v602 k0_hw138 k0_h44 k0_h46 r => k0_hw138 k0_h44 k0_h46 r

def k0_off282 (k0_t23 : Fin k0_t23_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off283 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk139 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h44 : k0_cond44 v229 v240 = 1#1), ∀ (k0_h46 : k0_cond46 v345 = 1#1), ∀ (r : Fin 4), ∀ a, (k0_off283 arg18 v356 v397 v438 v479 v520 v561 v602 v643 (BitVec.ofNat 32 (16 * r.val))) a + S16.size a ≤ S12864.size a)
theorem k0_off283_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw139 : k0_chk139 v229 v240 arg18 v345 v356 v397 v438 v479 v520 v561 v602 v643), ∀ (k0_h44 : k0_cond44 v229 v240 = 1#1), ∀ (k0_h46 : k0_cond46 v345 = 1#1), ∀ (r : Fin 4), ∀ a, (k0_off283 arg18 v356 v397 v438 v479 v520 v561 v602 v643 (BitVec.ofNat 32 (16 * r.val))) a + S16.size a ≤ S12864.size a := fun v229 v240 arg18 v345 v356 v397 v438 v479 v520 v561 v602 v643 k0_hw139 k0_h44 k0_h46 r => k0_hw139 k0_h44 k0_h46 r

def k0_off284 (k0_t23 : Fin k0_t23_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off285 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk140 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h44 : k0_cond44 v229 v240 = 1#1), ∀ (k0_h46 : k0_cond46 v345 = 1#1), ∀ (r : Fin 4), ∀ a, (k0_off285 arg18 v356 v397 v438 v479 v520 v561 v602 v643 v684 (BitVec.ofNat 32 (16 * r.val))) a + S16.size a ≤ S12864.size a)
theorem k0_off285_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw140 : k0_chk140 v229 v240 arg18 v345 v356 v397 v438 v479 v520 v561 v602 v643 v684), ∀ (k0_h44 : k0_cond44 v229 v240 = 1#1), ∀ (k0_h46 : k0_cond46 v345 = 1#1), ∀ (r : Fin 4), ∀ a, (k0_off285 arg18 v356 v397 v438 v479 v520 v561 v602 v643 v684 (BitVec.ofNat 32 (16 * r.val))) a + S16.size a ≤ S12864.size a := fun v229 v240 arg18 v345 v356 v397 v438 v479 v520 v561 v602 v643 v684 k0_hw140 k0_h44 k0_h46 r => k0_hw140 k0_h44 k0_h46 r

def k0_off286 (k0_t23 : Fin k0_t23_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off287 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk141 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h44 : k0_cond44 v229 v240 = 1#1), ∀ (k0_h46 : k0_cond46 v345 = 1#1), ∀ (r : Fin 4), ∀ a, (k0_off287 arg18 v356 v397 v438 v479 v520 v561 v602 v643 v684 v725 (BitVec.ofNat 32 (16 * r.val))) a + S16.size a ≤ S12864.size a)
theorem k0_off287_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw141 : k0_chk141 v229 v240 arg18 v345 v356 v397 v438 v479 v520 v561 v602 v643 v684 v725), ∀ (k0_h44 : k0_cond44 v229 v240 = 1#1), ∀ (k0_h46 : k0_cond46 v345 = 1#1), ∀ (r : Fin 4), ∀ a, (k0_off287 arg18 v356 v397 v438 v479 v520 v561 v602 v643 v684 v725 (BitVec.ofNat 32 (16 * r.val))) a + S16.size a ≤ S12864.size a := fun v229 v240 arg18 v345 v356 v397 v438 v479 v520 v561 v602 v643 v684 v725 k0_hw141 k0_h44 k0_h46 r => k0_hw141 k0_h44 k0_h46 r

def k0_off288 (k0_t23 : Fin k0_t23_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off289 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk142 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h44 : k0_cond44 v229 v240 = 1#1), ∀ (k0_h46 : k0_cond46 v345 = 1#1), ∀ (r : Fin 4), ∀ a, (k0_off289 arg18 v356 v397 v438 v479 v520 v561 v602 v643 v684 v725 v766 (BitVec.ofNat 32 (16 * r.val))) a + S16.size a ≤ S12864.size a)
theorem k0_off289_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw142 : k0_chk142 v229 v240 arg18 v345 v356 v397 v438 v479 v520 v561 v602 v643 v684 v725 v766), ∀ (k0_h44 : k0_cond44 v229 v240 = 1#1), ∀ (k0_h46 : k0_cond46 v345 = 1#1), ∀ (r : Fin 4), ∀ a, (k0_off289 arg18 v356 v397 v438 v479 v520 v561 v602 v643 v684 v725 v766 (BitVec.ofNat 32 (16 * r.val))) a + S16.size a ≤ S12864.size a := fun v229 v240 arg18 v345 v356 v397 v438 v479 v520 v561 v602 v643 v684 v725 v766 k0_hw142 k0_h44 k0_h46 r => k0_hw142 k0_h44 k0_h46 r

def k0_off290 (k0_t23 : Fin k0_t23_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off291 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk143 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h44 : k0_cond44 v229 v240 = 1#1), ∀ (k0_h46 : k0_cond46 v345 = 1#1), ∀ (r : Fin 4), ∀ a, (k0_off291 arg18 v356 v397 v438 v479 v520 v561 v602 v643 v684 v725 v766 v807 (BitVec.ofNat 32 (16 * r.val))) a + S16.size a ≤ S12864.size a)
theorem k0_off291_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw143 : k0_chk143 v229 v240 arg18 v345 v356 v397 v438 v479 v520 v561 v602 v643 v684 v725 v766 v807), ∀ (k0_h44 : k0_cond44 v229 v240 = 1#1), ∀ (k0_h46 : k0_cond46 v345 = 1#1), ∀ (r : Fin 4), ∀ a, (k0_off291 arg18 v356 v397 v438 v479 v520 v561 v602 v643 v684 v725 v766 v807 (BitVec.ofNat 32 (16 * r.val))) a + S16.size a ≤ S12864.size a := fun v229 v240 arg18 v345 v356 v397 v438 v479 v520 v561 v602 v643 v684 v725 v766 v807 k0_hw143 k0_h44 k0_h46 r => k0_hw143 k0_h44 k0_h46 r

def k0_off292 (k0_t23 : Fin k0_t23_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off293 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk144 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h44 : k0_cond44 v229 v240 = 1#1), ∀ (k0_h46 : k0_cond46 v345 = 1#1), ∀ (r : Fin 4), ∀ a, (k0_off293 arg18 v356 v397 v438 v479 v520 v561 v602 v643 v684 v725 v766 v807 v848 (BitVec.ofNat 32 (16 * r.val))) a + S16.size a ≤ S12864.size a)
theorem k0_off293_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw144 : k0_chk144 v229 v240 arg18 v345 v356 v397 v438 v479 v520 v561 v602 v643 v684 v725 v766 v807 v848), ∀ (k0_h44 : k0_cond44 v229 v240 = 1#1), ∀ (k0_h46 : k0_cond46 v345 = 1#1), ∀ (r : Fin 4), ∀ a, (k0_off293 arg18 v356 v397 v438 v479 v520 v561 v602 v643 v684 v725 v766 v807 v848 (BitVec.ofNat 32 (16 * r.val))) a + S16.size a ≤ S12864.size a := fun v229 v240 arg18 v345 v356 v397 v438 v479 v520 v561 v602 v643 v684 v725 v766 v807 v848 k0_hw144 k0_h44 k0_h46 r => k0_hw144 k0_h44 k0_h46 r

def k0_off294 (k0_t23 : Fin k0_t23_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off295 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk145 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h44 : k0_cond44 v229 v240 = 1#1), ∀ (k0_h46 : k0_cond46 v345 = 1#1), ∀ (r : Fin 4), ∀ a, (k0_off295 arg18 v356 v397 v438 v479 v520 v561 v602 v643 v684 v725 v766 v807 v848 v889 (BitVec.ofNat 32 (16 * r.val))) a + S16.size a ≤ S12864.size a)
theorem k0_off295_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw145 : k0_chk145 v229 v240 arg18 v345 v356 v397 v438 v479 v520 v561 v602 v643 v684 v725 v766 v807 v848 v889), ∀ (k0_h44 : k0_cond44 v229 v240 = 1#1), ∀ (k0_h46 : k0_cond46 v345 = 1#1), ∀ (r : Fin 4), ∀ a, (k0_off295 arg18 v356 v397 v438 v479 v520 v561 v602 v643 v684 v725 v766 v807 v848 v889 (BitVec.ofNat 32 (16 * r.val))) a + S16.size a ≤ S12864.size a := fun v229 v240 arg18 v345 v356 v397 v438 v479 v520 v561 v602 v643 v684 v725 v766 v807 v848 v889 k0_hw145 k0_h44 k0_h46 r => k0_hw145 k0_h44 k0_h46 r

def k0_off296 (k0_t23 : Fin k0_t23_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off297 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk146 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h44 : k0_cond44 v229 v240 = 1#1), ∀ (k0_h46 : k0_cond46 v345 = 1#1), ∀ (r : Fin 4), ∀ a, (k0_off297 arg18 v356 v397 v438 v479 v520 v561 v602 v643 v684 v725 v766 v807 v848 v889 v930 (BitVec.ofNat 32 (16 * r.val))) a + S16.size a ≤ S12864.size a)
theorem k0_off297_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw146 : k0_chk146 v229 v240 arg18 v345 v356 v397 v438 v479 v520 v561 v602 v643 v684 v725 v766 v807 v848 v889 v930), ∀ (k0_h44 : k0_cond44 v229 v240 = 1#1), ∀ (k0_h46 : k0_cond46 v345 = 1#1), ∀ (r : Fin 4), ∀ a, (k0_off297 arg18 v356 v397 v438 v479 v520 v561 v602 v643 v684 v725 v766 v807 v848 v889 v930 (BitVec.ofNat 32 (16 * r.val))) a + S16.size a ≤ S12864.size a := fun v229 v240 arg18 v345 v356 v397 v438 v479 v520 v561 v602 v643 v684 v725 v766 v807 v848 v889 v930 k0_hw146 k0_h44 k0_h46 r => k0_hw146 k0_h44 k0_h46 r

def k0_off298 (k0_t23 : Fin k0_t23_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off299 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk147 (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h44 : k0_cond44 v229 v240 = 1#1), ∀ (k0_h46 : k0_cond46 v345 = 1#1), ∀ (r : Fin 4), ∀ a, (k0_off299 arg18 v356 v397 v438 v479 v520 v561 v602 v643 v684 v725 v766 v807 v848 v889 v930 v971 (BitVec.ofNat 32 (16 * r.val))) a + S16.size a ≤ S12864.size a)
theorem k0_off299_inb : ∀ (v229 : BitVec 32) (v240 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw147 : k0_chk147 v229 v240 arg18 v345 v356 v397 v438 v479 v520 v561 v602 v643 v684 v725 v766 v807 v848 v889 v930 v971), ∀ (k0_h44 : k0_cond44 v229 v240 = 1#1), ∀ (k0_h46 : k0_cond46 v345 = 1#1), ∀ (r : Fin 4), ∀ a, (k0_off299 arg18 v356 v397 v438 v479 v520 v561 v602 v643 v684 v725 v766 v807 v848 v889 v930 v971 (BitVec.ofNat 32 (16 * r.val))) a + S16.size a ≤ S12864.size a := fun v229 v240 arg18 v345 v356 v397 v438 v479 v520 v561 v602 v643 v684 v725 v766 v807 v848 v889 v930 v971 k0_hw147 k0_h44 k0_h46 r => k0_hw147 k0_h44 k0_h46 r

def k0_off300 (k0_t23 : Fin k0_t23_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t23
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off301 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c63_i32_127 : BitVec 32 := 63#32
  let v220 : BitVec 32 := Scalar.andi v219 c63_i32_127
  let c200_i32_194 : BitVec 32 := 200#32
  let v310 : BitVec 32 := Scalar.muli v220 c200_i32_194
  let c192_i32_195 : BitVec 32 := 192#32
  let v311 : BitVec 32 := Scalar.addi v310 c192_i32_195
  let v312 : Index := Scalar.indexCast v311
  ![v312.toNat]
@[reducible] def k0_t25_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off302 (v309 : BitVec 32) (k0_t25 : Fin k0_t25_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t25
  let c16_i32_213 : BitVec 32 := 16#32
  let v338 : BitVec 32 := Scalar.muli arg17 c16_i32_213
  let v339 : BitVec 32 := Scalar.addi v336 v338
  let v340 : Index := Scalar.indexCast v339
  ![v340.toNat]
def k0_cond47 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk148 (v229 : BitVec 32) (v240 : BitVec 32) (v309 : BitVec 32) (v320 : BitVec 32) : Prop :=
  (∀ k0_t25 : Fin k0_t25_loop.trips, ∀ (k0_h44 : k0_cond44 v229 v240 = 1#1), ∀ (k0_h47 : k0_cond47 v320 = 1#1), ∀ a, (k0_off302 v309 k0_t25) a + S16.size a ≤ S12864.size a)
theorem k0_off302_inb : ∀ (v229 : BitVec 32) (v240 : BitVec 32) (v309 : BitVec 32) (v320 : BitVec 32) (k0_hw148 : k0_chk148 v229 v240 v309 v320) (k0_t25 : Fin k0_t25_loop.trips), ∀ (k0_h44 : k0_cond44 v229 v240 = 1#1), ∀ (k0_h47 : k0_cond47 v320 = 1#1), ∀ a, (k0_off302 v309 k0_t25) a + S16.size a ≤ S12864.size a := fun v229 v240 v309 v320 k0_hw148 k0_t25 k0_h44 k0_h47 => k0_hw148 k0_t25 k0_h44 k0_h47

def k0_off303 (k0_t25 : Fin k0_t25_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t25
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off304 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond48 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk149 (v229 : BitVec 32) (v240 : BitVec 32) (v309 : BitVec 32) (v320 : BitVec 32) (v336 : BitVec 32) : Prop :=
  (∀ (k0_h44 : k0_cond44 v229 v240 = 1#1), ∀ (k0_h48 : k0_cond48 v320 = 1#1), ∀ (r : Fin 4), ∀ a, (k0_off304 v309 v336 (BitVec.ofNat 32 (16 * r.val))) a + S16.size a ≤ S12864.size a)
theorem k0_off304_inb : ∀ (v229 : BitVec 32) (v240 : BitVec 32) (v309 : BitVec 32) (v320 : BitVec 32) (v336 : BitVec 32) (k0_hw149 : k0_chk149 v229 v240 v309 v320 v336), ∀ (k0_h44 : k0_cond44 v229 v240 = 1#1), ∀ (k0_h48 : k0_cond48 v320 = 1#1), ∀ (r : Fin 4), ∀ a, (k0_off304 v309 v336 (BitVec.ofNat 32 (16 * r.val))) a + S16.size a ≤ S12864.size a := fun v229 v240 v309 v320 v336 k0_hw149 k0_h44 k0_h48 r => k0_hw149 k0_h44 k0_h48 r

def k0_off305 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk150 (v229 : BitVec 32) (v240 : BitVec 32) (v309 : BitVec 32) (v320 : BitVec 32) (v336 : BitVec 32) (v367 : BitVec 32) : Prop :=
  (∀ (k0_h44 : k0_cond44 v229 v240 = 1#1), ∀ (k0_h48 : k0_cond48 v320 = 1#1), ∀ (r : Fin 4), ∀ a, (k0_off305 v309 v336 v367 (BitVec.ofNat 32 (16 * r.val))) a + S16.size a ≤ S12864.size a)
theorem k0_off305_inb : ∀ (v229 : BitVec 32) (v240 : BitVec 32) (v309 : BitVec 32) (v320 : BitVec 32) (v336 : BitVec 32) (v367 : BitVec 32) (k0_hw150 : k0_chk150 v229 v240 v309 v320 v336 v367), ∀ (k0_h44 : k0_cond44 v229 v240 = 1#1), ∀ (k0_h48 : k0_cond48 v320 = 1#1), ∀ (r : Fin 4), ∀ a, (k0_off305 v309 v336 v367 (BitVec.ofNat 32 (16 * r.val))) a + S16.size a ≤ S12864.size a := fun v229 v240 v309 v320 v336 v367 k0_hw150 k0_h44 k0_h48 r => k0_hw150 k0_h44 k0_h48 r

def k0_off306 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk151 (v229 : BitVec 32) (v240 : BitVec 32) (v309 : BitVec 32) (v320 : BitVec 32) (v336 : BitVec 32) (v367 : BitVec 32) (v398 : BitVec 32) : Prop :=
  (∀ (k0_h44 : k0_cond44 v229 v240 = 1#1), ∀ (k0_h48 : k0_cond48 v320 = 1#1), ∀ (r : Fin 4), ∀ a, (k0_off306 v309 v336 v367 v398 (BitVec.ofNat 32 (16 * r.val))) a + S16.size a ≤ S12864.size a)
theorem k0_off306_inb : ∀ (v229 : BitVec 32) (v240 : BitVec 32) (v309 : BitVec 32) (v320 : BitVec 32) (v336 : BitVec 32) (v367 : BitVec 32) (v398 : BitVec 32) (k0_hw151 : k0_chk151 v229 v240 v309 v320 v336 v367 v398), ∀ (k0_h44 : k0_cond44 v229 v240 = 1#1), ∀ (k0_h48 : k0_cond48 v320 = 1#1), ∀ (r : Fin 4), ∀ a, (k0_off306 v309 v336 v367 v398 (BitVec.ofNat 32 (16 * r.val))) a + S16.size a ≤ S12864.size a := fun v229 v240 v309 v320 v336 v367 v398 k0_hw151 k0_h44 k0_h48 r => k0_hw151 k0_h44 k0_h48 r

def k0_off307 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk152 (v229 : BitVec 32) (v240 : BitVec 32) (v309 : BitVec 32) (v320 : BitVec 32) (v336 : BitVec 32) (v367 : BitVec 32) (v398 : BitVec 32) (v429 : BitVec 32) : Prop :=
  (∀ (k0_h44 : k0_cond44 v229 v240 = 1#1), ∀ (k0_h48 : k0_cond48 v320 = 1#1), ∀ (r : Fin 4), ∀ a, (k0_off307 v309 v336 v367 v398 v429 (BitVec.ofNat 32 (16 * r.val))) a + S16.size a ≤ S12864.size a)
theorem k0_off307_inb : ∀ (v229 : BitVec 32) (v240 : BitVec 32) (v309 : BitVec 32) (v320 : BitVec 32) (v336 : BitVec 32) (v367 : BitVec 32) (v398 : BitVec 32) (v429 : BitVec 32) (k0_hw152 : k0_chk152 v229 v240 v309 v320 v336 v367 v398 v429), ∀ (k0_h44 : k0_cond44 v229 v240 = 1#1), ∀ (k0_h48 : k0_cond48 v320 = 1#1), ∀ (r : Fin 4), ∀ a, (k0_off307 v309 v336 v367 v398 v429 (BitVec.ofNat 32 (16 * r.val))) a + S16.size a ≤ S12864.size a := fun v229 v240 v309 v320 v336 v367 v398 v429 k0_hw152 k0_h44 k0_h48 r => k0_hw152 k0_h44 k0_h48 r

def k0_off308 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk153 (v229 : BitVec 32) (v240 : BitVec 32) (v309 : BitVec 32) (v320 : BitVec 32) (v336 : BitVec 32) (v367 : BitVec 32) (v398 : BitVec 32) (v429 : BitVec 32) (v460 : BitVec 32) : Prop :=
  (∀ (k0_h44 : k0_cond44 v229 v240 = 1#1), ∀ (k0_h48 : k0_cond48 v320 = 1#1), ∀ (r : Fin 4), ∀ a, (k0_off308 v309 v336 v367 v398 v429 v460 (BitVec.ofNat 32 (16 * r.val))) a + S16.size a ≤ S12864.size a)
theorem k0_off308_inb : ∀ (v229 : BitVec 32) (v240 : BitVec 32) (v309 : BitVec 32) (v320 : BitVec 32) (v336 : BitVec 32) (v367 : BitVec 32) (v398 : BitVec 32) (v429 : BitVec 32) (v460 : BitVec 32) (k0_hw153 : k0_chk153 v229 v240 v309 v320 v336 v367 v398 v429 v460), ∀ (k0_h44 : k0_cond44 v229 v240 = 1#1), ∀ (k0_h48 : k0_cond48 v320 = 1#1), ∀ (r : Fin 4), ∀ a, (k0_off308 v309 v336 v367 v398 v429 v460 (BitVec.ofNat 32 (16 * r.val))) a + S16.size a ≤ S12864.size a := fun v229 v240 v309 v320 v336 v367 v398 v429 v460 k0_hw153 k0_h44 k0_h48 r => k0_hw153 k0_h44 k0_h48 r

def k0_off309 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk154 (v229 : BitVec 32) (v240 : BitVec 32) (v309 : BitVec 32) (v320 : BitVec 32) (v336 : BitVec 32) (v367 : BitVec 32) (v398 : BitVec 32) (v429 : BitVec 32) (v460 : BitVec 32) (v491 : BitVec 32) : Prop :=
  (∀ (k0_h44 : k0_cond44 v229 v240 = 1#1), ∀ (k0_h48 : k0_cond48 v320 = 1#1), ∀ (r : Fin 4), ∀ a, (k0_off309 v309 v336 v367 v398 v429 v460 v491 (BitVec.ofNat 32 (16 * r.val))) a + S16.size a ≤ S12864.size a)
theorem k0_off309_inb : ∀ (v229 : BitVec 32) (v240 : BitVec 32) (v309 : BitVec 32) (v320 : BitVec 32) (v336 : BitVec 32) (v367 : BitVec 32) (v398 : BitVec 32) (v429 : BitVec 32) (v460 : BitVec 32) (v491 : BitVec 32) (k0_hw154 : k0_chk154 v229 v240 v309 v320 v336 v367 v398 v429 v460 v491), ∀ (k0_h44 : k0_cond44 v229 v240 = 1#1), ∀ (k0_h48 : k0_cond48 v320 = 1#1), ∀ (r : Fin 4), ∀ a, (k0_off309 v309 v336 v367 v398 v429 v460 v491 (BitVec.ofNat 32 (16 * r.val))) a + S16.size a ≤ S12864.size a := fun v229 v240 v309 v320 v336 v367 v398 v429 v460 v491 k0_hw154 k0_h44 k0_h48 r => k0_hw154 k0_h44 k0_h48 r

def k0_off310 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk155 (v229 : BitVec 32) (v240 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h44 : k0_cond44 v229 v240 = 1#1), ∀ (k0_h48 : k0_cond48 v320 = 1#1), ∀ (r : Fin 4), ∀ a, (k0_off310 v309 v336 v367 v398 v429 v460 v491 v522 (BitVec.ofNat 32 (16 * r.val))) a + S16.size a ≤ S12864.size a)
theorem k0_off310_inb : ∀ (v229 : BitVec 32) (v240 : BitVec 32) (v309 : BitVec 32) (v320 : BitVec 32) (v336 : BitVec 32) (v367 : BitVec 32) (v398 : BitVec 32) (v429 : BitVec 32) (v460 : BitVec 32) (v491 : BitVec 32) (v522 : BitVec 32) (k0_hw155 : k0_chk155 v229 v240 v309 v320 v336 v367 v398 v429 v460 v491 v522), ∀ (k0_h44 : k0_cond44 v229 v240 = 1#1), ∀ (k0_h48 : k0_cond48 v320 = 1#1), ∀ (r : Fin 4), ∀ a, (k0_off310 v309 v336 v367 v398 v429 v460 v491 v522 (BitVec.ofNat 32 (16 * r.val))) a + S16.size a ≤ S12864.size a := fun v229 v240 v309 v320 v336 v367 v398 v429 v460 v491 v522 k0_hw155 k0_h44 k0_h48 r => k0_hw155 k0_h44 k0_h48 r

def k0_off311 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk156 (v229 : BitVec 32) (v240 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h44 : k0_cond44 v229 v240 = 1#1), ∀ (k0_h48 : k0_cond48 v320 = 1#1), ∀ (r : Fin 4), ∀ a, (k0_off311 v309 v336 v367 v398 v429 v460 v491 v522 v553 (BitVec.ofNat 32 (16 * r.val))) a + S16.size a ≤ S12864.size a)
theorem k0_off311_inb : ∀ (v229 : BitVec 32) (v240 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw156 : k0_chk156 v229 v240 v309 v320 v336 v367 v398 v429 v460 v491 v522 v553), ∀ (k0_h44 : k0_cond44 v229 v240 = 1#1), ∀ (k0_h48 : k0_cond48 v320 = 1#1), ∀ (r : Fin 4), ∀ a, (k0_off311 v309 v336 v367 v398 v429 v460 v491 v522 v553 (BitVec.ofNat 32 (16 * r.val))) a + S16.size a ≤ S12864.size a := fun v229 v240 v309 v320 v336 v367 v398 v429 v460 v491 v522 v553 k0_hw156 k0_h44 k0_h48 r => k0_hw156 k0_h44 k0_h48 r

def k0_off312 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_125 : BitVec 32 := 8#32
  let v218 : BitVec 32 := Scalar.muli arg16 c8_i32_125
  let c5_i32_126 : BitVec 32 := 5#32
  let v219 : BitVec 32 := Scalar.addi v218 c5_i32_126
  let c12800_i32_204 : BitVec 32 := 12800#32
  let v327 : BitVec 32 := Scalar.muli v219 c12800_i32_204
  let v328 : BitVec 32 := Scalar.addi v5 v327
  ![v328.toNat]
def k0_cond49 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c63_i32_149 : BitVec 32 := 63#32
  let v251 : BitVec 32 := Scalar.andi v249 c63_i32_149
  let c0_i32_150 : BitVec 32 := 0#32
  let v252 : BitVec 1 := Scalar.cmpi .eq v251 c0_i32_150
  let v253 : BitVec 32 := Scalar.extui v252
  let c0_i32_151 : BitVec 32 := 0#32
  let v254 : BitVec 1 := Scalar.cmpi .ne v253 c0_i32_151
  v254

def k0_off313 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c6_i32_188 : BitVec 32 := 6#32
  let v308 : BitVec 32 := Scalar.shrsi v249 c6_i32_188
  let c12800_i32_189 : BitVec 32 := 12800#32
  let v309 : BitVec 32 := Scalar.muli v308 c12800_i32_189
  let v310 : BitVec 32 := Scalar.addi v3 v309
  ![v310.toNat]
def k0_cond50 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c8_i32_152 : BitVec 32 := 8#32
  let v255 : BitVec 1 := Scalar.cmpi .sge v249 c8_i32_152
  let v256 : BitVec 32 := Scalar.extui v255
  let c0_i32_153 : BitVec 32 := 0#32
  let v257 : BitVec 1 := Scalar.cmpi .ne v256 c0_i32_153
  v257

def k0_off314 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c8_i32_188 : BitVec 32 := 8#32
  let v308 : BitVec 32 := Scalar.subi v249 c8_i32_188
  let c12800_i32_189 : BitVec 32 := 12800#32
  let v309 : BitVec 32 := Scalar.muli v308 c12800_i32_189
  let v310 : BitVec 32 := Scalar.addi v5 v309
  ![v310.toNat]
@[reducible] def k0_t26_loop : Scf.Loop 32 :=
  let c0_i32_155 : BitVec 32 := 0#32
  let c12_i32_156 : BitVec 32 := 12#32
  let v258 : BitVec 32 := Scalar.addi c0_i32_155 c12_i32_156
  let c1_i32_157 : BitVec 32 := 1#32
  ⟨c0_i32_155, v258, c1_i32_157⟩
def k0_off315 (k0_t1 : Fin k0_t1_loop.trips) (k0_t26 : Fin k0_t26_loop.trips) : Fin 1 → Nat :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c63_i32_148 : BitVec 32 := 63#32
  let v250 : BitVec 32 := Scalar.andi v249 c63_i32_148
  let c200_i32_188 : BitVec 32 := 200#32
  let v308 : BitVec 32 := Scalar.muli v250 c200_i32_188
  let c16_i32_189 : BitVec 32 := 16#32
  let c0_i32_155 : BitVec 32 := 0#32
  let c1_i32_157 : BitVec 32 := 1#32
  let arg17 : BitVec 32 := Scf.iv c0_i32_155 c1_i32_157 k0_t26
  let v309 : BitVec 32 := Scalar.muli c16_i32_189 arg17
  let v310 : BitVec 32 := Scalar.addi v308 v309
  let v311 : Index := Scalar.indexCast v310
  ![v311.toNat]
def k0_off316 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c63_i32_148 : BitVec 32 := 63#32
  let v250 : BitVec 32 := Scalar.andi v249 c63_i32_148
  let c200_i32_159 : BitVec 32 := 200#32
  let v260 : BitVec 32 := Scalar.muli v250 c200_i32_159
  let c192_i32_160 : BitVec 32 := 192#32
  let v261 : BitVec 32 := Scalar.addi v260 c192_i32_160
  let v262 : Index := Scalar.indexCast v261
  ![v262.toNat]
def k0_off317 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c12800_i32_188 : BitVec 32 := 12800#32
  let v308 : BitVec 32 := Scalar.muli v249 c12800_i32_188
  let v309 : BitVec 32 := Scalar.addi v5 v308
  ![v309.toNat]
@[reducible] def k0_t27_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off318 (k0_t1 : Fin k0_t1_loop.trips) (k0_t27 : Fin k0_t27_loop.trips) : Fin 1 → Nat :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c63_i32_148 : BitVec 32 := 63#32
  let v250 : BitVec 32 := Scalar.andi v249 c63_i32_148
  let c200_i32_208 : BitVec 32 := 200#32
  let v335 : BitVec 32 := Scalar.muli v250 c200_i32_208
  let c16_i32_209 : BitVec 32 := 16#32
  let c0_i32_190 : BitVec 32 := 0#32
  let c1_i32_192 : BitVec 32 := 1#32
  let arg17 : BitVec 32 := Scf.iv c0_i32_190 c1_i32_192 k0_t27
  let v336 : BitVec 32 := Scalar.muli c16_i32_209 arg17
  let v337 : BitVec 32 := Scalar.addi v335 v336
  let v338 : Index := Scalar.indexCast v337
  ![v338.toNat]
@[reducible] def k0_t28_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off319 (arg18 : BitVec 32) (k0_t28 : Fin k0_t28_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t28
  let c16_i32_223 : BitVec 32 := 16#32
  let v358 : BitVec 32 := Scalar.muli arg19 c16_i32_223
  let v359 : BitVec 32 := Scalar.addi v355 v358
  let v360 : Index := Scalar.indexCast v359
  ![v360.toNat]
def k0_cond52 (v259 : BitVec 32) (v270 : BitVec 32) : BitVec 1 :=
  let v271 : BitVec 32 := Scalar.addi v259 v270
  let c0_i32_165 : BitVec 32 := 0#32
  let v275 : BitVec 1 := Scalar.cmpi .sgt v271 c0_i32_165
  let v276 : BitVec 32 := Scalar.extui v275
  let c0_i32_166 : BitVec 32 := 0#32
  let v277 : BitVec 1 := Scalar.cmpi .ne v276 c0_i32_166
  v277

def k0_cond53 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk157 (v259 : BitVec 32) (v270 : BitVec 32) (arg18 : BitVec 32) (v345 : BitVec 32) : Prop :=
  (∀ k0_t28 : Fin k0_t28_loop.trips, ∀ (k0_h52 : k0_cond52 v259 v270 = 1#1), ∀ (k0_h53 : k0_cond53 v345 = 1#1), ∀ a, (k0_off319 arg18 k0_t28) a + S16.size a ≤ S12864.size a)
theorem k0_off319_inb : ∀ (v259 : BitVec 32) (v270 : BitVec 32) (arg18 : BitVec 32) (v345 : BitVec 32) (k0_hw157 : k0_chk157 v259 v270 arg18 v345) (k0_t28 : Fin k0_t28_loop.trips), ∀ (k0_h52 : k0_cond52 v259 v270 = 1#1), ∀ (k0_h53 : k0_cond53 v345 = 1#1), ∀ a, (k0_off319 arg18 k0_t28) a + S16.size a ≤ S12864.size a := fun v259 v270 arg18 v345 k0_hw157 k0_t28 k0_h52 k0_h53 => k0_hw157 k0_t28 k0_h52 k0_h53

def k0_off320 (k0_t27 : Fin k0_t27_loop.trips) (k0_t28 : Fin k0_t28_loop.trips) : Fin 1 → Nat :=
  let c0_i32_190 : BitVec 32 := 0#32
  let c1_i32_192 : BitVec 32 := 1#32
  let arg17 : BitVec 32 := Scf.iv c0_i32_190 c1_i32_192 k0_t27
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t28
  let c16_i32_224 : BitVec 32 := 16#32
  let v362 : BitVec 32 := Scalar.muli arg19 c16_i32_224
  let v363 : BitVec 32 := Scalar.addi v356 v362
  let v366 : Index := Scalar.indexCast v363
  ![v366.toNat]
def k0_off321 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond54 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk158 (v259 : BitVec 32) (v270 : BitVec 32) (arg18 : BitVec 32) (v345 : BitVec 32) (v356 : BitVec 32) : Prop :=
  (∀ (k0_h52 : k0_cond52 v259 v270 = 1#1), ∀ (k0_h54 : k0_cond54 v345 = 1#1), ∀ (r : Fin 4), ∀ a, (k0_off321 arg18 v356 (BitVec.ofNat 32 (16 * r.val))) a + S16.size a ≤ S12864.size a)
theorem k0_off321_inb : ∀ (v259 : BitVec 32) (v270 : BitVec 32) (arg18 : BitVec 32) (v345 : BitVec 32) (v356 : BitVec 32) (k0_hw158 : k0_chk158 v259 v270 arg18 v345 v356), ∀ (k0_h52 : k0_cond52 v259 v270 = 1#1), ∀ (k0_h54 : k0_cond54 v345 = 1#1), ∀ (r : Fin 4), ∀ a, (k0_off321 arg18 v356 (BitVec.ofNat 32 (16 * r.val))) a + S16.size a ≤ S12864.size a := fun v259 v270 arg18 v345 v356 k0_hw158 k0_h52 k0_h54 r => k0_hw158 k0_h52 k0_h54 r

def k0_off322 (k0_t27 : Fin k0_t27_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off323 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk159 (v259 : BitVec 32) (v270 : BitVec 32) (arg18 : BitVec 32) (v345 : BitVec 32) (v356 : BitVec 32) (v397 : BitVec 32) : Prop :=
  (∀ (k0_h52 : k0_cond52 v259 v270 = 1#1), ∀ (k0_h54 : k0_cond54 v345 = 1#1), ∀ (r : Fin 4), ∀ a, (k0_off323 arg18 v356 v397 (BitVec.ofNat 32 (16 * r.val))) a + S16.size a ≤ S12864.size a)
theorem k0_off323_inb : ∀ (v259 : BitVec 32) (v270 : BitVec 32) (arg18 : BitVec 32) (v345 : BitVec 32) (v356 : BitVec 32) (v397 : BitVec 32) (k0_hw159 : k0_chk159 v259 v270 arg18 v345 v356 v397), ∀ (k0_h52 : k0_cond52 v259 v270 = 1#1), ∀ (k0_h54 : k0_cond54 v345 = 1#1), ∀ (r : Fin 4), ∀ a, (k0_off323 arg18 v356 v397 (BitVec.ofNat 32 (16 * r.val))) a + S16.size a ≤ S12864.size a := fun v259 v270 arg18 v345 v356 v397 k0_hw159 k0_h52 k0_h54 r => k0_hw159 k0_h52 k0_h54 r

def k0_off324 (k0_t27 : Fin k0_t27_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off325 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk160 (v259 : BitVec 32) (v270 : BitVec 32) (arg18 : BitVec 32) (v345 : BitVec 32) (v356 : BitVec 32) (v397 : BitVec 32) (v438 : BitVec 32) : Prop :=
  (∀ (k0_h52 : k0_cond52 v259 v270 = 1#1), ∀ (k0_h54 : k0_cond54 v345 = 1#1), ∀ (r : Fin 4), ∀ a, (k0_off325 arg18 v356 v397 v438 (BitVec.ofNat 32 (16 * r.val))) a + S16.size a ≤ S12864.size a)
theorem k0_off325_inb : ∀ (v259 : BitVec 32) (v270 : BitVec 32) (arg18 : BitVec 32) (v345 : BitVec 32) (v356 : BitVec 32) (v397 : BitVec 32) (v438 : BitVec 32) (k0_hw160 : k0_chk160 v259 v270 arg18 v345 v356 v397 v438), ∀ (k0_h52 : k0_cond52 v259 v270 = 1#1), ∀ (k0_h54 : k0_cond54 v345 = 1#1), ∀ (r : Fin 4), ∀ a, (k0_off325 arg18 v356 v397 v438 (BitVec.ofNat 32 (16 * r.val))) a + S16.size a ≤ S12864.size a := fun v259 v270 arg18 v345 v356 v397 v438 k0_hw160 k0_h52 k0_h54 r => k0_hw160 k0_h52 k0_h54 r

def k0_off326 (k0_t27 : Fin k0_t27_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off327 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk161 (v259 : BitVec 32) (v270 : BitVec 32) (arg18 : BitVec 32) (v345 : BitVec 32) (v356 : BitVec 32) (v397 : BitVec 32) (v438 : BitVec 32) (v479 : BitVec 32) : Prop :=
  (∀ (k0_h52 : k0_cond52 v259 v270 = 1#1), ∀ (k0_h54 : k0_cond54 v345 = 1#1), ∀ (r : Fin 4), ∀ a, (k0_off327 arg18 v356 v397 v438 v479 (BitVec.ofNat 32 (16 * r.val))) a + S16.size a ≤ S12864.size a)
theorem k0_off327_inb : ∀ (v259 : BitVec 32) (v270 : BitVec 32) (arg18 : BitVec 32) (v345 : BitVec 32) (v356 : BitVec 32) (v397 : BitVec 32) (v438 : BitVec 32) (v479 : BitVec 32) (k0_hw161 : k0_chk161 v259 v270 arg18 v345 v356 v397 v438 v479), ∀ (k0_h52 : k0_cond52 v259 v270 = 1#1), ∀ (k0_h54 : k0_cond54 v345 = 1#1), ∀ (r : Fin 4), ∀ a, (k0_off327 arg18 v356 v397 v438 v479 (BitVec.ofNat 32 (16 * r.val))) a + S16.size a ≤ S12864.size a := fun v259 v270 arg18 v345 v356 v397 v438 v479 k0_hw161 k0_h52 k0_h54 r => k0_hw161 k0_h52 k0_h54 r

def k0_off328 (k0_t27 : Fin k0_t27_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off329 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk162 (v259 : BitVec 32) (v270 : BitVec 32) (arg18 : BitVec 32) (v345 : BitVec 32) (v356 : BitVec 32) (v397 : BitVec 32) (v438 : BitVec 32) (v479 : BitVec 32) (v520 : BitVec 32) : Prop :=
  (∀ (k0_h52 : k0_cond52 v259 v270 = 1#1), ∀ (k0_h54 : k0_cond54 v345 = 1#1), ∀ (r : Fin 4), ∀ a, (k0_off329 arg18 v356 v397 v438 v479 v520 (BitVec.ofNat 32 (16 * r.val))) a + S16.size a ≤ S12864.size a)
theorem k0_off329_inb : ∀ (v259 : BitVec 32) (v270 : BitVec 32) (arg18 : BitVec 32) (v345 : BitVec 32) (v356 : BitVec 32) (v397 : BitVec 32) (v438 : BitVec 32) (v479 : BitVec 32) (v520 : BitVec 32) (k0_hw162 : k0_chk162 v259 v270 arg18 v345 v356 v397 v438 v479 v520), ∀ (k0_h52 : k0_cond52 v259 v270 = 1#1), ∀ (k0_h54 : k0_cond54 v345 = 1#1), ∀ (r : Fin 4), ∀ a, (k0_off329 arg18 v356 v397 v438 v479 v520 (BitVec.ofNat 32 (16 * r.val))) a + S16.size a ≤ S12864.size a := fun v259 v270 arg18 v345 v356 v397 v438 v479 v520 k0_hw162 k0_h52 k0_h54 r => k0_hw162 k0_h52 k0_h54 r

def k0_off330 (k0_t27 : Fin k0_t27_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off331 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk163 (v259 : BitVec 32) (v270 : BitVec 32) (arg18 : BitVec 32) (v345 : BitVec 32) (v356 : BitVec 32) (v397 : BitVec 32) (v438 : BitVec 32) (v479 : BitVec 32) (v520 : BitVec 32) (v561 : BitVec 32) : Prop :=
  (∀ (k0_h52 : k0_cond52 v259 v270 = 1#1), ∀ (k0_h54 : k0_cond54 v345 = 1#1), ∀ (r : Fin 4), ∀ a, (k0_off331 arg18 v356 v397 v438 v479 v520 v561 (BitVec.ofNat 32 (16 * r.val))) a + S16.size a ≤ S12864.size a)
theorem k0_off331_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (k0_hw163 : k0_chk163 v259 v270 arg18 v345 v356 v397 v438 v479 v520 v561), ∀ (k0_h52 : k0_cond52 v259 v270 = 1#1), ∀ (k0_h54 : k0_cond54 v345 = 1#1), ∀ (r : Fin 4), ∀ a, (k0_off331 arg18 v356 v397 v438 v479 v520 v561 (BitVec.ofNat 32 (16 * r.val))) a + S16.size a ≤ S12864.size a := fun v259 v270 arg18 v345 v356 v397 v438 v479 v520 v561 k0_hw163 k0_h52 k0_h54 r => k0_hw163 k0_h52 k0_h54 r

def k0_off332 (k0_t27 : Fin k0_t27_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off333 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk164 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h52 : k0_cond52 v259 v270 = 1#1), ∀ (k0_h54 : k0_cond54 v345 = 1#1), ∀ (r : Fin 4), ∀ a, (k0_off333 arg18 v356 v397 v438 v479 v520 v561 v602 (BitVec.ofNat 32 (16 * r.val))) a + S16.size a ≤ S12864.size a)
theorem k0_off333_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (k0_hw164 : k0_chk164 v259 v270 arg18 v345 v356 v397 v438 v479 v520 v561 v602), ∀ (k0_h52 : k0_cond52 v259 v270 = 1#1), ∀ (k0_h54 : k0_cond54 v345 = 1#1), ∀ (r : Fin 4), ∀ a, (k0_off333 arg18 v356 v397 v438 v479 v520 v561 v602 (BitVec.ofNat 32 (16 * r.val))) a + S16.size a ≤ S12864.size a := fun v259 v270 arg18 v345 v356 v397 v438 v479 v520 v561 v602 k0_hw164 k0_h52 k0_h54 r => k0_hw164 k0_h52 k0_h54 r

def k0_off334 (k0_t27 : Fin k0_t27_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off335 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk165 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h52 : k0_cond52 v259 v270 = 1#1), ∀ (k0_h54 : k0_cond54 v345 = 1#1), ∀ (r : Fin 4), ∀ a, (k0_off335 arg18 v356 v397 v438 v479 v520 v561 v602 v643 (BitVec.ofNat 32 (16 * r.val))) a + S16.size a ≤ S12864.size a)
theorem k0_off335_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw165 : k0_chk165 v259 v270 arg18 v345 v356 v397 v438 v479 v520 v561 v602 v643), ∀ (k0_h52 : k0_cond52 v259 v270 = 1#1), ∀ (k0_h54 : k0_cond54 v345 = 1#1), ∀ (r : Fin 4), ∀ a, (k0_off335 arg18 v356 v397 v438 v479 v520 v561 v602 v643 (BitVec.ofNat 32 (16 * r.val))) a + S16.size a ≤ S12864.size a := fun v259 v270 arg18 v345 v356 v397 v438 v479 v520 v561 v602 v643 k0_hw165 k0_h52 k0_h54 r => k0_hw165 k0_h52 k0_h54 r

def k0_off336 (k0_t27 : Fin k0_t27_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off337 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk166 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h52 : k0_cond52 v259 v270 = 1#1), ∀ (k0_h54 : k0_cond54 v345 = 1#1), ∀ (r : Fin 4), ∀ a, (k0_off337 arg18 v356 v397 v438 v479 v520 v561 v602 v643 v684 (BitVec.ofNat 32 (16 * r.val))) a + S16.size a ≤ S12864.size a)
theorem k0_off337_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw166 : k0_chk166 v259 v270 arg18 v345 v356 v397 v438 v479 v520 v561 v602 v643 v684), ∀ (k0_h52 : k0_cond52 v259 v270 = 1#1), ∀ (k0_h54 : k0_cond54 v345 = 1#1), ∀ (r : Fin 4), ∀ a, (k0_off337 arg18 v356 v397 v438 v479 v520 v561 v602 v643 v684 (BitVec.ofNat 32 (16 * r.val))) a + S16.size a ≤ S12864.size a := fun v259 v270 arg18 v345 v356 v397 v438 v479 v520 v561 v602 v643 v684 k0_hw166 k0_h52 k0_h54 r => k0_hw166 k0_h52 k0_h54 r

def k0_off338 (k0_t27 : Fin k0_t27_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off339 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk167 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h52 : k0_cond52 v259 v270 = 1#1), ∀ (k0_h54 : k0_cond54 v345 = 1#1), ∀ (r : Fin 4), ∀ a, (k0_off339 arg18 v356 v397 v438 v479 v520 v561 v602 v643 v684 v725 (BitVec.ofNat 32 (16 * r.val))) a + S16.size a ≤ S12864.size a)
theorem k0_off339_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw167 : k0_chk167 v259 v270 arg18 v345 v356 v397 v438 v479 v520 v561 v602 v643 v684 v725), ∀ (k0_h52 : k0_cond52 v259 v270 = 1#1), ∀ (k0_h54 : k0_cond54 v345 = 1#1), ∀ (r : Fin 4), ∀ a, (k0_off339 arg18 v356 v397 v438 v479 v520 v561 v602 v643 v684 v725 (BitVec.ofNat 32 (16 * r.val))) a + S16.size a ≤ S12864.size a := fun v259 v270 arg18 v345 v356 v397 v438 v479 v520 v561 v602 v643 v684 v725 k0_hw167 k0_h52 k0_h54 r => k0_hw167 k0_h52 k0_h54 r

def k0_off340 (k0_t27 : Fin k0_t27_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off341 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk168 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h52 : k0_cond52 v259 v270 = 1#1), ∀ (k0_h54 : k0_cond54 v345 = 1#1), ∀ (r : Fin 4), ∀ a, (k0_off341 arg18 v356 v397 v438 v479 v520 v561 v602 v643 v684 v725 v766 (BitVec.ofNat 32 (16 * r.val))) a + S16.size a ≤ S12864.size a)
theorem k0_off341_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw168 : k0_chk168 v259 v270 arg18 v345 v356 v397 v438 v479 v520 v561 v602 v643 v684 v725 v766), ∀ (k0_h52 : k0_cond52 v259 v270 = 1#1), ∀ (k0_h54 : k0_cond54 v345 = 1#1), ∀ (r : Fin 4), ∀ a, (k0_off341 arg18 v356 v397 v438 v479 v520 v561 v602 v643 v684 v725 v766 (BitVec.ofNat 32 (16 * r.val))) a + S16.size a ≤ S12864.size a := fun v259 v270 arg18 v345 v356 v397 v438 v479 v520 v561 v602 v643 v684 v725 v766 k0_hw168 k0_h52 k0_h54 r => k0_hw168 k0_h52 k0_h54 r

def k0_off342 (k0_t27 : Fin k0_t27_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off343 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk169 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h52 : k0_cond52 v259 v270 = 1#1), ∀ (k0_h54 : k0_cond54 v345 = 1#1), ∀ (r : Fin 4), ∀ a, (k0_off343 arg18 v356 v397 v438 v479 v520 v561 v602 v643 v684 v725 v766 v807 (BitVec.ofNat 32 (16 * r.val))) a + S16.size a ≤ S12864.size a)
theorem k0_off343_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw169 : k0_chk169 v259 v270 arg18 v345 v356 v397 v438 v479 v520 v561 v602 v643 v684 v725 v766 v807), ∀ (k0_h52 : k0_cond52 v259 v270 = 1#1), ∀ (k0_h54 : k0_cond54 v345 = 1#1), ∀ (r : Fin 4), ∀ a, (k0_off343 arg18 v356 v397 v438 v479 v520 v561 v602 v643 v684 v725 v766 v807 (BitVec.ofNat 32 (16 * r.val))) a + S16.size a ≤ S12864.size a := fun v259 v270 arg18 v345 v356 v397 v438 v479 v520 v561 v602 v643 v684 v725 v766 v807 k0_hw169 k0_h52 k0_h54 r => k0_hw169 k0_h52 k0_h54 r

def k0_off344 (k0_t27 : Fin k0_t27_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off345 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk170 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h52 : k0_cond52 v259 v270 = 1#1), ∀ (k0_h54 : k0_cond54 v345 = 1#1), ∀ (r : Fin 4), ∀ a, (k0_off345 arg18 v356 v397 v438 v479 v520 v561 v602 v643 v684 v725 v766 v807 v848 (BitVec.ofNat 32 (16 * r.val))) a + S16.size a ≤ S12864.size a)
theorem k0_off345_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw170 : k0_chk170 v259 v270 arg18 v345 v356 v397 v438 v479 v520 v561 v602 v643 v684 v725 v766 v807 v848), ∀ (k0_h52 : k0_cond52 v259 v270 = 1#1), ∀ (k0_h54 : k0_cond54 v345 = 1#1), ∀ (r : Fin 4), ∀ a, (k0_off345 arg18 v356 v397 v438 v479 v520 v561 v602 v643 v684 v725 v766 v807 v848 (BitVec.ofNat 32 (16 * r.val))) a + S16.size a ≤ S12864.size a := fun v259 v270 arg18 v345 v356 v397 v438 v479 v520 v561 v602 v643 v684 v725 v766 v807 v848 k0_hw170 k0_h52 k0_h54 r => k0_hw170 k0_h52 k0_h54 r

def k0_off346 (k0_t27 : Fin k0_t27_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off347 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk171 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h52 : k0_cond52 v259 v270 = 1#1), ∀ (k0_h54 : k0_cond54 v345 = 1#1), ∀ (r : Fin 4), ∀ a, (k0_off347 arg18 v356 v397 v438 v479 v520 v561 v602 v643 v684 v725 v766 v807 v848 v889 (BitVec.ofNat 32 (16 * r.val))) a + S16.size a ≤ S12864.size a)
theorem k0_off347_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw171 : k0_chk171 v259 v270 arg18 v345 v356 v397 v438 v479 v520 v561 v602 v643 v684 v725 v766 v807 v848 v889), ∀ (k0_h52 : k0_cond52 v259 v270 = 1#1), ∀ (k0_h54 : k0_cond54 v345 = 1#1), ∀ (r : Fin 4), ∀ a, (k0_off347 arg18 v356 v397 v438 v479 v520 v561 v602 v643 v684 v725 v766 v807 v848 v889 (BitVec.ofNat 32 (16 * r.val))) a + S16.size a ≤ S12864.size a := fun v259 v270 arg18 v345 v356 v397 v438 v479 v520 v561 v602 v643 v684 v725 v766 v807 v848 v889 k0_hw171 k0_h52 k0_h54 r => k0_hw171 k0_h52 k0_h54 r

def k0_off348 (k0_t27 : Fin k0_t27_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off349 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk172 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h52 : k0_cond52 v259 v270 = 1#1), ∀ (k0_h54 : k0_cond54 v345 = 1#1), ∀ (r : Fin 4), ∀ a, (k0_off349 arg18 v356 v397 v438 v479 v520 v561 v602 v643 v684 v725 v766 v807 v848 v889 v930 (BitVec.ofNat 32 (16 * r.val))) a + S16.size a ≤ S12864.size a)
theorem k0_off349_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw172 : k0_chk172 v259 v270 arg18 v345 v356 v397 v438 v479 v520 v561 v602 v643 v684 v725 v766 v807 v848 v889 v930), ∀ (k0_h52 : k0_cond52 v259 v270 = 1#1), ∀ (k0_h54 : k0_cond54 v345 = 1#1), ∀ (r : Fin 4), ∀ a, (k0_off349 arg18 v356 v397 v438 v479 v520 v561 v602 v643 v684 v725 v766 v807 v848 v889 v930 (BitVec.ofNat 32 (16 * r.val))) a + S16.size a ≤ S12864.size a := fun v259 v270 arg18 v345 v356 v397 v438 v479 v520 v561 v602 v643 v684 v725 v766 v807 v848 v889 v930 k0_hw172 k0_h52 k0_h54 r => k0_hw172 k0_h52 k0_h54 r

def k0_off350 (k0_t27 : Fin k0_t27_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off351 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk173 (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h52 : k0_cond52 v259 v270 = 1#1), ∀ (k0_h54 : k0_cond54 v345 = 1#1), ∀ (r : Fin 4), ∀ a, (k0_off351 arg18 v356 v397 v438 v479 v520 v561 v602 v643 v684 v725 v766 v807 v848 v889 v930 v971 (BitVec.ofNat 32 (16 * r.val))) a + S16.size a ≤ S12864.size a)
theorem k0_off351_inb : ∀ (v259 : BitVec 32) (v270 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw173 : k0_chk173 v259 v270 arg18 v345 v356 v397 v438 v479 v520 v561 v602 v643 v684 v725 v766 v807 v848 v889 v930 v971), ∀ (k0_h52 : k0_cond52 v259 v270 = 1#1), ∀ (k0_h54 : k0_cond54 v345 = 1#1), ∀ (r : Fin 4), ∀ a, (k0_off351 arg18 v356 v397 v438 v479 v520 v561 v602 v643 v684 v725 v766 v807 v848 v889 v930 v971 (BitVec.ofNat 32 (16 * r.val))) a + S16.size a ≤ S12864.size a := fun v259 v270 arg18 v345 v356 v397 v438 v479 v520 v561 v602 v643 v684 v725 v766 v807 v848 v889 v930 v971 k0_hw173 k0_h52 k0_h54 r => k0_hw173 k0_h52 k0_h54 r

def k0_off352 (k0_t27 : Fin k0_t27_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t27
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off353 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c63_i32_148 : BitVec 32 := 63#32
  let v250 : BitVec 32 := Scalar.andi v249 c63_i32_148
  let c200_i32_194 : BitVec 32 := 200#32
  let v310 : BitVec 32 := Scalar.muli v250 c200_i32_194
  let c192_i32_195 : BitVec 32 := 192#32
  let v311 : BitVec 32 := Scalar.addi v310 c192_i32_195
  let v312 : Index := Scalar.indexCast v311
  ![v312.toNat]
@[reducible] def k0_t29_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off354 (v309 : BitVec 32) (k0_t29 : Fin k0_t29_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t29
  let c16_i32_213 : BitVec 32 := 16#32
  let v338 : BitVec 32 := Scalar.muli arg17 c16_i32_213
  let v339 : BitVec 32 := Scalar.addi v336 v338
  let v340 : Index := Scalar.indexCast v339
  ![v340.toNat]
def k0_cond55 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk174 (v259 : BitVec 32) (v270 : BitVec 32) (v309 : BitVec 32) (v320 : BitVec 32) : Prop :=
  (∀ k0_t29 : Fin k0_t29_loop.trips, ∀ (k0_h52 : k0_cond52 v259 v270 = 1#1), ∀ (k0_h55 : k0_cond55 v320 = 1#1), ∀ a, (k0_off354 v309 k0_t29) a + S16.size a ≤ S12864.size a)
theorem k0_off354_inb : ∀ (v259 : BitVec 32) (v270 : BitVec 32) (v309 : BitVec 32) (v320 : BitVec 32) (k0_hw174 : k0_chk174 v259 v270 v309 v320) (k0_t29 : Fin k0_t29_loop.trips), ∀ (k0_h52 : k0_cond52 v259 v270 = 1#1), ∀ (k0_h55 : k0_cond55 v320 = 1#1), ∀ a, (k0_off354 v309 k0_t29) a + S16.size a ≤ S12864.size a := fun v259 v270 v309 v320 k0_hw174 k0_t29 k0_h52 k0_h55 => k0_hw174 k0_t29 k0_h52 k0_h55

def k0_off355 (k0_t29 : Fin k0_t29_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t29
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off356 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond56 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk175 (v259 : BitVec 32) (v270 : BitVec 32) (v309 : BitVec 32) (v320 : BitVec 32) (v336 : BitVec 32) : Prop :=
  (∀ (k0_h52 : k0_cond52 v259 v270 = 1#1), ∀ (k0_h56 : k0_cond56 v320 = 1#1), ∀ (r : Fin 4), ∀ a, (k0_off356 v309 v336 (BitVec.ofNat 32 (16 * r.val))) a + S16.size a ≤ S12864.size a)
theorem k0_off356_inb : ∀ (v259 : BitVec 32) (v270 : BitVec 32) (v309 : BitVec 32) (v320 : BitVec 32) (v336 : BitVec 32) (k0_hw175 : k0_chk175 v259 v270 v309 v320 v336), ∀ (k0_h52 : k0_cond52 v259 v270 = 1#1), ∀ (k0_h56 : k0_cond56 v320 = 1#1), ∀ (r : Fin 4), ∀ a, (k0_off356 v309 v336 (BitVec.ofNat 32 (16 * r.val))) a + S16.size a ≤ S12864.size a := fun v259 v270 v309 v320 v336 k0_hw175 k0_h52 k0_h56 r => k0_hw175 k0_h52 k0_h56 r

def k0_off357 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk176 (v259 : BitVec 32) (v270 : BitVec 32) (v309 : BitVec 32) (v320 : BitVec 32) (v336 : BitVec 32) (v367 : BitVec 32) : Prop :=
  (∀ (k0_h52 : k0_cond52 v259 v270 = 1#1), ∀ (k0_h56 : k0_cond56 v320 = 1#1), ∀ (r : Fin 4), ∀ a, (k0_off357 v309 v336 v367 (BitVec.ofNat 32 (16 * r.val))) a + S16.size a ≤ S12864.size a)
theorem k0_off357_inb : ∀ (v259 : BitVec 32) (v270 : BitVec 32) (v309 : BitVec 32) (v320 : BitVec 32) (v336 : BitVec 32) (v367 : BitVec 32) (k0_hw176 : k0_chk176 v259 v270 v309 v320 v336 v367), ∀ (k0_h52 : k0_cond52 v259 v270 = 1#1), ∀ (k0_h56 : k0_cond56 v320 = 1#1), ∀ (r : Fin 4), ∀ a, (k0_off357 v309 v336 v367 (BitVec.ofNat 32 (16 * r.val))) a + S16.size a ≤ S12864.size a := fun v259 v270 v309 v320 v336 v367 k0_hw176 k0_h52 k0_h56 r => k0_hw176 k0_h52 k0_h56 r

def k0_off358 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk177 (v259 : BitVec 32) (v270 : BitVec 32) (v309 : BitVec 32) (v320 : BitVec 32) (v336 : BitVec 32) (v367 : BitVec 32) (v398 : BitVec 32) : Prop :=
  (∀ (k0_h52 : k0_cond52 v259 v270 = 1#1), ∀ (k0_h56 : k0_cond56 v320 = 1#1), ∀ (r : Fin 4), ∀ a, (k0_off358 v309 v336 v367 v398 (BitVec.ofNat 32 (16 * r.val))) a + S16.size a ≤ S12864.size a)
theorem k0_off358_inb : ∀ (v259 : BitVec 32) (v270 : BitVec 32) (v309 : BitVec 32) (v320 : BitVec 32) (v336 : BitVec 32) (v367 : BitVec 32) (v398 : BitVec 32) (k0_hw177 : k0_chk177 v259 v270 v309 v320 v336 v367 v398), ∀ (k0_h52 : k0_cond52 v259 v270 = 1#1), ∀ (k0_h56 : k0_cond56 v320 = 1#1), ∀ (r : Fin 4), ∀ a, (k0_off358 v309 v336 v367 v398 (BitVec.ofNat 32 (16 * r.val))) a + S16.size a ≤ S12864.size a := fun v259 v270 v309 v320 v336 v367 v398 k0_hw177 k0_h52 k0_h56 r => k0_hw177 k0_h52 k0_h56 r

def k0_off359 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk178 (v259 : BitVec 32) (v270 : BitVec 32) (v309 : BitVec 32) (v320 : BitVec 32) (v336 : BitVec 32) (v367 : BitVec 32) (v398 : BitVec 32) (v429 : BitVec 32) : Prop :=
  (∀ (k0_h52 : k0_cond52 v259 v270 = 1#1), ∀ (k0_h56 : k0_cond56 v320 = 1#1), ∀ (r : Fin 4), ∀ a, (k0_off359 v309 v336 v367 v398 v429 (BitVec.ofNat 32 (16 * r.val))) a + S16.size a ≤ S12864.size a)
theorem k0_off359_inb : ∀ (v259 : BitVec 32) (v270 : BitVec 32) (v309 : BitVec 32) (v320 : BitVec 32) (v336 : BitVec 32) (v367 : BitVec 32) (v398 : BitVec 32) (v429 : BitVec 32) (k0_hw178 : k0_chk178 v259 v270 v309 v320 v336 v367 v398 v429), ∀ (k0_h52 : k0_cond52 v259 v270 = 1#1), ∀ (k0_h56 : k0_cond56 v320 = 1#1), ∀ (r : Fin 4), ∀ a, (k0_off359 v309 v336 v367 v398 v429 (BitVec.ofNat 32 (16 * r.val))) a + S16.size a ≤ S12864.size a := fun v259 v270 v309 v320 v336 v367 v398 v429 k0_hw178 k0_h52 k0_h56 r => k0_hw178 k0_h52 k0_h56 r

def k0_off360 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk179 (v259 : BitVec 32) (v270 : BitVec 32) (v309 : BitVec 32) (v320 : BitVec 32) (v336 : BitVec 32) (v367 : BitVec 32) (v398 : BitVec 32) (v429 : BitVec 32) (v460 : BitVec 32) : Prop :=
  (∀ (k0_h52 : k0_cond52 v259 v270 = 1#1), ∀ (k0_h56 : k0_cond56 v320 = 1#1), ∀ (r : Fin 4), ∀ a, (k0_off360 v309 v336 v367 v398 v429 v460 (BitVec.ofNat 32 (16 * r.val))) a + S16.size a ≤ S12864.size a)
theorem k0_off360_inb : ∀ (v259 : BitVec 32) (v270 : BitVec 32) (v309 : BitVec 32) (v320 : BitVec 32) (v336 : BitVec 32) (v367 : BitVec 32) (v398 : BitVec 32) (v429 : BitVec 32) (v460 : BitVec 32) (k0_hw179 : k0_chk179 v259 v270 v309 v320 v336 v367 v398 v429 v460), ∀ (k0_h52 : k0_cond52 v259 v270 = 1#1), ∀ (k0_h56 : k0_cond56 v320 = 1#1), ∀ (r : Fin 4), ∀ a, (k0_off360 v309 v336 v367 v398 v429 v460 (BitVec.ofNat 32 (16 * r.val))) a + S16.size a ≤ S12864.size a := fun v259 v270 v309 v320 v336 v367 v398 v429 v460 k0_hw179 k0_h52 k0_h56 r => k0_hw179 k0_h52 k0_h56 r

def k0_off361 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk180 (v259 : BitVec 32) (v270 : BitVec 32) (v309 : BitVec 32) (v320 : BitVec 32) (v336 : BitVec 32) (v367 : BitVec 32) (v398 : BitVec 32) (v429 : BitVec 32) (v460 : BitVec 32) (v491 : BitVec 32) : Prop :=
  (∀ (k0_h52 : k0_cond52 v259 v270 = 1#1), ∀ (k0_h56 : k0_cond56 v320 = 1#1), ∀ (r : Fin 4), ∀ a, (k0_off361 v309 v336 v367 v398 v429 v460 v491 (BitVec.ofNat 32 (16 * r.val))) a + S16.size a ≤ S12864.size a)
theorem k0_off361_inb : ∀ (v259 : BitVec 32) (v270 : BitVec 32) (v309 : BitVec 32) (v320 : BitVec 32) (v336 : BitVec 32) (v367 : BitVec 32) (v398 : BitVec 32) (v429 : BitVec 32) (v460 : BitVec 32) (v491 : BitVec 32) (k0_hw180 : k0_chk180 v259 v270 v309 v320 v336 v367 v398 v429 v460 v491), ∀ (k0_h52 : k0_cond52 v259 v270 = 1#1), ∀ (k0_h56 : k0_cond56 v320 = 1#1), ∀ (r : Fin 4), ∀ a, (k0_off361 v309 v336 v367 v398 v429 v460 v491 (BitVec.ofNat 32 (16 * r.val))) a + S16.size a ≤ S12864.size a := fun v259 v270 v309 v320 v336 v367 v398 v429 v460 v491 k0_hw180 k0_h52 k0_h56 r => k0_hw180 k0_h52 k0_h56 r

def k0_off362 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk181 (v259 : BitVec 32) (v270 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h52 : k0_cond52 v259 v270 = 1#1), ∀ (k0_h56 : k0_cond56 v320 = 1#1), ∀ (r : Fin 4), ∀ a, (k0_off362 v309 v336 v367 v398 v429 v460 v491 v522 (BitVec.ofNat 32 (16 * r.val))) a + S16.size a ≤ S12864.size a)
theorem k0_off362_inb : ∀ (v259 : BitVec 32) (v270 : BitVec 32) (v309 : BitVec 32) (v320 : BitVec 32) (v336 : BitVec 32) (v367 : BitVec 32) (v398 : BitVec 32) (v429 : BitVec 32) (v460 : BitVec 32) (v491 : BitVec 32) (v522 : BitVec 32) (k0_hw181 : k0_chk181 v259 v270 v309 v320 v336 v367 v398 v429 v460 v491 v522), ∀ (k0_h52 : k0_cond52 v259 v270 = 1#1), ∀ (k0_h56 : k0_cond56 v320 = 1#1), ∀ (r : Fin 4), ∀ a, (k0_off362 v309 v336 v367 v398 v429 v460 v491 v522 (BitVec.ofNat 32 (16 * r.val))) a + S16.size a ≤ S12864.size a := fun v259 v270 v309 v320 v336 v367 v398 v429 v460 v491 v522 k0_hw181 k0_h52 k0_h56 r => k0_hw181 k0_h52 k0_h56 r

def k0_off363 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk182 (v259 : BitVec 32) (v270 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h52 : k0_cond52 v259 v270 = 1#1), ∀ (k0_h56 : k0_cond56 v320 = 1#1), ∀ (r : Fin 4), ∀ a, (k0_off363 v309 v336 v367 v398 v429 v460 v491 v522 v553 (BitVec.ofNat 32 (16 * r.val))) a + S16.size a ≤ S12864.size a)
theorem k0_off363_inb : ∀ (v259 : BitVec 32) (v270 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw182 : k0_chk182 v259 v270 v309 v320 v336 v367 v398 v429 v460 v491 v522 v553), ∀ (k0_h52 : k0_cond52 v259 v270 = 1#1), ∀ (k0_h56 : k0_cond56 v320 = 1#1), ∀ (r : Fin 4), ∀ a, (k0_off363 v309 v336 v367 v398 v429 v460 v491 v522 v553 (BitVec.ofNat 32 (16 * r.val))) a + S16.size a ≤ S12864.size a := fun v259 v270 v309 v320 v336 v367 v398 v429 v460 v491 v522 v553 k0_hw182 k0_h52 k0_h56 r => k0_hw182 k0_h52 k0_h56 r

def k0_off364 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_146 : BitVec 32 := 8#32
  let v248 : BitVec 32 := Scalar.muli arg16 c8_i32_146
  let c6_i32_147 : BitVec 32 := 6#32
  let v249 : BitVec 32 := Scalar.addi v248 c6_i32_147
  let c12800_i32_204 : BitVec 32 := 12800#32
  let v327 : BitVec 32 := Scalar.muli v249 c12800_i32_204
  let v328 : BitVec 32 := Scalar.addi v5 v327
  ![v328.toNat]
def k0_cond57 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c63_i32_170 : BitVec 32 := 63#32
  let v281 : BitVec 32 := Scalar.andi v279 c63_i32_170
  let c0_i32_171 : BitVec 32 := 0#32
  let v282 : BitVec 1 := Scalar.cmpi .eq v281 c0_i32_171
  let v283 : BitVec 32 := Scalar.extui v282
  let c0_i32_172 : BitVec 32 := 0#32
  let v284 : BitVec 1 := Scalar.cmpi .ne v283 c0_i32_172
  v284

def k0_off365 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c6_i32_188 : BitVec 32 := 6#32
  let v308 : BitVec 32 := Scalar.shrsi v279 c6_i32_188
  let c12800_i32_189 : BitVec 32 := 12800#32
  let v309 : BitVec 32 := Scalar.muli v308 c12800_i32_189
  let v310 : BitVec 32 := Scalar.addi v3 v309
  ![v310.toNat]
def k0_cond58 (k0_t1 : Fin k0_t1_loop.trips) : BitVec 1 :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c8_i32_173 : BitVec 32 := 8#32
  let v285 : BitVec 1 := Scalar.cmpi .sge v279 c8_i32_173
  let v286 : BitVec 32 := Scalar.extui v285
  let c0_i32_174 : BitVec 32 := 0#32
  let v287 : BitVec 1 := Scalar.cmpi .ne v286 c0_i32_174
  v287

def k0_off366 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c8_i32_188 : BitVec 32 := 8#32
  let v308 : BitVec 32 := Scalar.subi v279 c8_i32_188
  let c12800_i32_189 : BitVec 32 := 12800#32
  let v309 : BitVec 32 := Scalar.muli v308 c12800_i32_189
  let v310 : BitVec 32 := Scalar.addi v5 v309
  ![v310.toNat]
@[reducible] def k0_t30_loop : Scf.Loop 32 :=
  let c0_i32_176 : BitVec 32 := 0#32
  let c12_i32_177 : BitVec 32 := 12#32
  let v288 : BitVec 32 := Scalar.addi c0_i32_176 c12_i32_177
  let c1_i32_178 : BitVec 32 := 1#32
  ⟨c0_i32_176, v288, c1_i32_178⟩
def k0_off367 (k0_t1 : Fin k0_t1_loop.trips) (k0_t30 : Fin k0_t30_loop.trips) : Fin 1 → Nat :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c63_i32_169 : BitVec 32 := 63#32
  let v280 : BitVec 32 := Scalar.andi v279 c63_i32_169
  let c200_i32_188 : BitVec 32 := 200#32
  let v308 : BitVec 32 := Scalar.muli v280 c200_i32_188
  let c16_i32_189 : BitVec 32 := 16#32
  let c0_i32_176 : BitVec 32 := 0#32
  let c1_i32_178 : BitVec 32 := 1#32
  let arg17 : BitVec 32 := Scf.iv c0_i32_176 c1_i32_178 k0_t30
  let v309 : BitVec 32 := Scalar.muli c16_i32_189 arg17
  let v310 : BitVec 32 := Scalar.addi v308 v309
  let v311 : Index := Scalar.indexCast v310
  ![v311.toNat]
def k0_off368 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c63_i32_169 : BitVec 32 := 63#32
  let v280 : BitVec 32 := Scalar.andi v279 c63_i32_169
  let c200_i32_180 : BitVec 32 := 200#32
  let v290 : BitVec 32 := Scalar.muli v280 c200_i32_180
  let c192_i32_181 : BitVec 32 := 192#32
  let v291 : BitVec 32 := Scalar.addi v290 c192_i32_181
  let v292 : Index := Scalar.indexCast v291
  ![v292.toNat]
def k0_off369 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c12800_i32_188 : BitVec 32 := 12800#32
  let v308 : BitVec 32 := Scalar.muli v279 c12800_i32_188
  let v309 : BitVec 32 := Scalar.addi v5 v308
  ![v309.toNat]
@[reducible] def k0_t31_loop : Scf.Loop 32 :=
  let c0_i32_190 : BitVec 32 := 0#32
  let c12_i32_191 : BitVec 32 := 12#32
  let v308 : BitVec 32 := Scalar.addi c0_i32_190 c12_i32_191
  let c1_i32_192 : BitVec 32 := 1#32
  ⟨c0_i32_190, v308, c1_i32_192⟩
def k0_off370 (k0_t1 : Fin k0_t1_loop.trips) (k0_t31 : Fin k0_t31_loop.trips) : Fin 1 → Nat :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c63_i32_169 : BitVec 32 := 63#32
  let v280 : BitVec 32 := Scalar.andi v279 c63_i32_169
  let c200_i32_208 : BitVec 32 := 200#32
  let v335 : BitVec 32 := Scalar.muli v280 c200_i32_208
  let c16_i32_209 : BitVec 32 := 16#32
  let c0_i32_190 : BitVec 32 := 0#32
  let c1_i32_192 : BitVec 32 := 1#32
  let arg17 : BitVec 32 := Scf.iv c0_i32_190 c1_i32_192 k0_t31
  let v336 : BitVec 32 := Scalar.muli c16_i32_209 arg17
  let v337 : BitVec 32 := Scalar.addi v335 v336
  let v338 : Index := Scalar.indexCast v337
  ![v338.toNat]
@[reducible] def k0_t32_loop : Scf.Loop 32 :=
  let c0_i32_219 : BitVec 32 := 0#32
  let c64_i32_220 : BitVec 32 := 64#32
  let v357 : BitVec 32 := Scalar.addi c0_i32_219 c64_i32_220
  let c1_i32_221 : BitVec 32 := 1#32
  ⟨c0_i32_219, v357, c1_i32_221⟩
def k0_off371 (arg18 : BitVec 32) (k0_t32 : Fin k0_t32_loop.trips) : Fin 1 → Nat :=
  let c1_i32_217 : BitVec 32 := 1#32
  let v354 : BitVec 32 := Scalar.addi arg18 c1_i32_217
  let c64_i32 : BitVec 32 := 64#32
  let v355 : BitVec 32 := Scalar.muli v354 c64_i32
  let c0_i32_219 : BitVec 32 := 0#32
  let c1_i32_221 : BitVec 32 := 1#32
  let arg19 : BitVec 32 := Scf.iv c0_i32_219 c1_i32_221 k0_t32
  let c16_i32_223 : BitVec 32 := 16#32
  let v358 : BitVec 32 := Scalar.muli arg19 c16_i32_223
  let v359 : BitVec 32 := Scalar.addi v355 v358
  let v360 : Index := Scalar.indexCast v359
  ![v360.toNat]
def k0_cond60 (v289 : BitVec 32) (v300 : BitVec 32) : BitVec 1 :=
  let v301 : BitVec 32 := Scalar.addi v289 v300
  let c0_i32_186 : BitVec 32 := 0#32
  let v305 : BitVec 1 := Scalar.cmpi .sgt v301 c0_i32_186
  let v306 : BitVec 32 := Scalar.extui v305
  let c0_i32_187 : BitVec 32 := 0#32
  let v307 : BitVec 1 := Scalar.cmpi .ne v306 c0_i32_187
  v307

def k0_cond61 (v345 : BitVec 32) : BitVec 1 :=
  let c0_i32_212 : BitVec 32 := 0#32
  let v346 : BitVec 1 := Scalar.cmpi .eq v345 c0_i32_212
  let v347 : BitVec 32 := Scalar.extui v346
  let c0_i32_213 : BitVec 32 := 0#32
  let v348 : BitVec 1 := Scalar.cmpi .ne v347 c0_i32_213
  v348

def k0_chk183 (v289 : BitVec 32) (v300 : BitVec 32) (arg18 : BitVec 32) (v345 : BitVec 32) : Prop :=
  (∀ k0_t32 : Fin k0_t32_loop.trips, ∀ (k0_h60 : k0_cond60 v289 v300 = 1#1), ∀ (k0_h61 : k0_cond61 v345 = 1#1), ∀ a, (k0_off371 arg18 k0_t32) a + S16.size a ≤ S12864.size a)
theorem k0_off371_inb : ∀ (v289 : BitVec 32) (v300 : BitVec 32) (arg18 : BitVec 32) (v345 : BitVec 32) (k0_hw183 : k0_chk183 v289 v300 arg18 v345) (k0_t32 : Fin k0_t32_loop.trips), ∀ (k0_h60 : k0_cond60 v289 v300 = 1#1), ∀ (k0_h61 : k0_cond61 v345 = 1#1), ∀ a, (k0_off371 arg18 k0_t32) a + S16.size a ≤ S12864.size a := fun v289 v300 arg18 v345 k0_hw183 k0_t32 k0_h60 k0_h61 => k0_hw183 k0_t32 k0_h60 k0_h61

def k0_off372 (k0_t31 : Fin k0_t31_loop.trips) (k0_t32 : Fin k0_t32_loop.trips) : Fin 1 → Nat :=
  let c0_i32_190 : BitVec 32 := 0#32
  let c1_i32_192 : BitVec 32 := 1#32
  let arg17 : BitVec 32 := Scf.iv c0_i32_190 c1_i32_192 k0_t31
  let c1024_i32 : BitVec 32 := 1024#32
  let v356 : BitVec 32 := Scalar.muli arg17 c1024_i32
  let c0_i32_219 : BitVec 32 := 0#32
  let c1_i32_221 : BitVec 32 := 1#32
  let arg19 : BitVec 32 := Scf.iv c0_i32_219 c1_i32_221 k0_t32
  let c16_i32_224 : BitVec 32 := 16#32
  let v362 : BitVec 32 := Scalar.muli arg19 c16_i32_224
  let v363 : BitVec 32 := Scalar.addi v356 v362
  let v366 : Index := Scalar.indexCast v363
  ![v366.toNat]
def k0_off373 (arg18 : BitVec 32) (v356 : BitVec 32) (c0_i32_223 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let v360 : BitVec 32 := Scalar.muli v359 v358
  let c64_i32 : BitVec 32 := 64#32
  let v361 : BitVec 32 := Scalar.muli v360 c64_i32
  let v364 : BitVec 32 := Scalar.addi v361 c0_i32_223
  let v365 : Index := Scalar.indexCast v364
  ![v365.toNat]
def k0_cond62 (v345 : BitVec 32) : BitVec 1 :=
  let c0_i32_214 : BitVec 32 := 0#32
  let v349 : BitVec 1 := Scalar.cmpi .sgt v345 c0_i32_214
  let v350 : BitVec 32 := Scalar.extui v349
  let c0_i32_215 : BitVec 32 := 0#32
  let v351 : BitVec 1 := Scalar.cmpi .ne v350 c0_i32_215
  v351

def k0_chk184 (v289 : BitVec 32) (v300 : BitVec 32) (arg18 : BitVec 32) (v345 : BitVec 32) (v356 : BitVec 32) : Prop :=
  (∀ (k0_h60 : k0_cond60 v289 v300 = 1#1), ∀ (k0_h62 : k0_cond62 v345 = 1#1), ∀ (r : Fin 4), ∀ a, (k0_off373 arg18 v356 (BitVec.ofNat 32 (16 * r.val))) a + S16.size a ≤ S12864.size a)
theorem k0_off373_inb : ∀ (v289 : BitVec 32) (v300 : BitVec 32) (arg18 : BitVec 32) (v345 : BitVec 32) (v356 : BitVec 32) (k0_hw184 : k0_chk184 v289 v300 arg18 v345 v356), ∀ (k0_h60 : k0_cond60 v289 v300 = 1#1), ∀ (k0_h62 : k0_cond62 v345 = 1#1), ∀ (r : Fin 4), ∀ a, (k0_off373 arg18 v356 (BitVec.ofNat 32 (16 * r.val))) a + S16.size a ≤ S12864.size a := fun v289 v300 arg18 v345 v356 k0_hw184 k0_h60 k0_h62 r => k0_hw184 k0_h60 k0_h62 r

def k0_off374 (k0_t31 : Fin k0_t31_loop.trips) (c0_i32_224 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c0_i32_221 : BitVec 32 := 0#32
  let v362 : BitVec 32 := Scalar.addi v354 c0_i32_221
  let c64_i32_222 : BitVec 32 := 64#32
  let v363 : BitVec 32 := Scalar.muli v362 c64_i32_222
  let v367 : BitVec 32 := Scalar.addi v363 c0_i32_224
  let v370 : Index := Scalar.indexCast v367
  ![v370.toNat]
def k0_off375 (arg18 : BitVec 32) (v356 : BitVec 32) (v397 : BitVec 32) (c0_i32_239 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let v401 : BitVec 32 := Scalar.muli v400 v399
  let c64_i32_236 : BitVec 32 := 64#32
  let v402 : BitVec 32 := Scalar.muli v401 c64_i32_236
  let v405 : BitVec 32 := Scalar.addi v402 c0_i32_239
  let v406 : Index := Scalar.indexCast v405
  ![v406.toNat]

def k0_chk185 (v289 : BitVec 32) (v300 : BitVec 32) (arg18 : BitVec 32) (v345 : BitVec 32) (v356 : BitVec 32) (v397 : BitVec 32) : Prop :=
  (∀ (k0_h60 : k0_cond60 v289 v300 = 1#1), ∀ (k0_h62 : k0_cond62 v345 = 1#1), ∀ (r : Fin 4), ∀ a, (k0_off375 arg18 v356 v397 (BitVec.ofNat 32 (16 * r.val))) a + S16.size a ≤ S12864.size a)
theorem k0_off375_inb : ∀ (v289 : BitVec 32) (v300 : BitVec 32) (arg18 : BitVec 32) (v345 : BitVec 32) (v356 : BitVec 32) (v397 : BitVec 32) (k0_hw185 : k0_chk185 v289 v300 arg18 v345 v356 v397), ∀ (k0_h60 : k0_cond60 v289 v300 = 1#1), ∀ (k0_h62 : k0_cond62 v345 = 1#1), ∀ (r : Fin 4), ∀ a, (k0_off375 arg18 v356 v397 (BitVec.ofNat 32 (16 * r.val))) a + S16.size a ≤ S12864.size a := fun v289 v300 arg18 v345 v356 v397 k0_hw185 k0_h60 k0_h62 r => k0_hw185 k0_h60 k0_h62 r

def k0_off376 (k0_t31 : Fin k0_t31_loop.trips) (c0_i32_240 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c1_i32_237 : BitVec 32 := 1#32
  let v403 : BitVec 32 := Scalar.addi v354 c1_i32_237
  let c64_i32_238 : BitVec 32 := 64#32
  let v404 : BitVec 32 := Scalar.muli v403 c64_i32_238
  let v408 : BitVec 32 := Scalar.addi v404 c0_i32_240
  let v411 : Index := Scalar.indexCast v408
  ![v411.toNat]
def k0_off377 (arg18 : BitVec 32) (v356 : BitVec 32) (v397 : BitVec 32) (v438 : BitVec 32) (c0_i32_257 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let v442 : BitVec 32 := Scalar.muli v441 v440
  let c64_i32_254 : BitVec 32 := 64#32
  let v443 : BitVec 32 := Scalar.muli v442 c64_i32_254
  let v446 : BitVec 32 := Scalar.addi v443 c0_i32_257
  let v447 : Index := Scalar.indexCast v446
  ![v447.toNat]

def k0_chk186 (v289 : BitVec 32) (v300 : BitVec 32) (arg18 : BitVec 32) (v345 : BitVec 32) (v356 : BitVec 32) (v397 : BitVec 32) (v438 : BitVec 32) : Prop :=
  (∀ (k0_h60 : k0_cond60 v289 v300 = 1#1), ∀ (k0_h62 : k0_cond62 v345 = 1#1), ∀ (r : Fin 4), ∀ a, (k0_off377 arg18 v356 v397 v438 (BitVec.ofNat 32 (16 * r.val))) a + S16.size a ≤ S12864.size a)
theorem k0_off377_inb : ∀ (v289 : BitVec 32) (v300 : BitVec 32) (arg18 : BitVec 32) (v345 : BitVec 32) (v356 : BitVec 32) (v397 : BitVec 32) (v438 : BitVec 32) (k0_hw186 : k0_chk186 v289 v300 arg18 v345 v356 v397 v438), ∀ (k0_h60 : k0_cond60 v289 v300 = 1#1), ∀ (k0_h62 : k0_cond62 v345 = 1#1), ∀ (r : Fin 4), ∀ a, (k0_off377 arg18 v356 v397 v438 (BitVec.ofNat 32 (16 * r.val))) a + S16.size a ≤ S12864.size a := fun v289 v300 arg18 v345 v356 v397 v438 k0_hw186 k0_h60 k0_h62 r => k0_hw186 k0_h60 k0_h62 r

def k0_off378 (k0_t31 : Fin k0_t31_loop.trips) (c0_i32_258 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c2_i32_255 : BitVec 32 := 2#32
  let v444 : BitVec 32 := Scalar.addi v354 c2_i32_255
  let c64_i32_256 : BitVec 32 := 64#32
  let v445 : BitVec 32 := Scalar.muli v444 c64_i32_256
  let v449 : BitVec 32 := Scalar.addi v445 c0_i32_258
  let v452 : Index := Scalar.indexCast v449
  ![v452.toNat]
def k0_off379 (arg18 : BitVec 32) (v356 : BitVec 32) (v397 : BitVec 32) (v438 : BitVec 32) (v479 : BitVec 32) (c0_i32_275 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let v483 : BitVec 32 := Scalar.muli v482 v481
  let c64_i32_272 : BitVec 32 := 64#32
  let v484 : BitVec 32 := Scalar.muli v483 c64_i32_272
  let v487 : BitVec 32 := Scalar.addi v484 c0_i32_275
  let v488 : Index := Scalar.indexCast v487
  ![v488.toNat]

def k0_chk187 (v289 : BitVec 32) (v300 : BitVec 32) (arg18 : BitVec 32) (v345 : BitVec 32) (v356 : BitVec 32) (v397 : BitVec 32) (v438 : BitVec 32) (v479 : BitVec 32) : Prop :=
  (∀ (k0_h60 : k0_cond60 v289 v300 = 1#1), ∀ (k0_h62 : k0_cond62 v345 = 1#1), ∀ (r : Fin 4), ∀ a, (k0_off379 arg18 v356 v397 v438 v479 (BitVec.ofNat 32 (16 * r.val))) a + S16.size a ≤ S12864.size a)
theorem k0_off379_inb : ∀ (v289 : BitVec 32) (v300 : BitVec 32) (arg18 : BitVec 32) (v345 : BitVec 32) (v356 : BitVec 32) (v397 : BitVec 32) (v438 : BitVec 32) (v479 : BitVec 32) (k0_hw187 : k0_chk187 v289 v300 arg18 v345 v356 v397 v438 v479), ∀ (k0_h60 : k0_cond60 v289 v300 = 1#1), ∀ (k0_h62 : k0_cond62 v345 = 1#1), ∀ (r : Fin 4), ∀ a, (k0_off379 arg18 v356 v397 v438 v479 (BitVec.ofNat 32 (16 * r.val))) a + S16.size a ≤ S12864.size a := fun v289 v300 arg18 v345 v356 v397 v438 v479 k0_hw187 k0_h60 k0_h62 r => k0_hw187 k0_h60 k0_h62 r

def k0_off380 (k0_t31 : Fin k0_t31_loop.trips) (c0_i32_276 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c3_i32_273 : BitVec 32 := 3#32
  let v485 : BitVec 32 := Scalar.addi v354 c3_i32_273
  let c64_i32_274 : BitVec 32 := 64#32
  let v486 : BitVec 32 := Scalar.muli v485 c64_i32_274
  let v490 : BitVec 32 := Scalar.addi v486 c0_i32_276
  let v493 : Index := Scalar.indexCast v490
  ![v493.toNat]
def k0_off381 (arg18 : BitVec 32) (v356 : BitVec 32) (v397 : BitVec 32) (v438 : BitVec 32) (v479 : BitVec 32) (v520 : BitVec 32) (c0_i32_293 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let v524 : BitVec 32 := Scalar.muli v523 v522
  let c64_i32_290 : BitVec 32 := 64#32
  let v525 : BitVec 32 := Scalar.muli v524 c64_i32_290
  let v528 : BitVec 32 := Scalar.addi v525 c0_i32_293
  let v529 : Index := Scalar.indexCast v528
  ![v529.toNat]

def k0_chk188 (v289 : BitVec 32) (v300 : BitVec 32) (arg18 : BitVec 32) (v345 : BitVec 32) (v356 : BitVec 32) (v397 : BitVec 32) (v438 : BitVec 32) (v479 : BitVec 32) (v520 : BitVec 32) : Prop :=
  (∀ (k0_h60 : k0_cond60 v289 v300 = 1#1), ∀ (k0_h62 : k0_cond62 v345 = 1#1), ∀ (r : Fin 4), ∀ a, (k0_off381 arg18 v356 v397 v438 v479 v520 (BitVec.ofNat 32 (16 * r.val))) a + S16.size a ≤ S12864.size a)
theorem k0_off381_inb : ∀ (v289 : BitVec 32) (v300 : BitVec 32) (arg18 : BitVec 32) (v345 : BitVec 32) (v356 : BitVec 32) (v397 : BitVec 32) (v438 : BitVec 32) (v479 : BitVec 32) (v520 : BitVec 32) (k0_hw188 : k0_chk188 v289 v300 arg18 v345 v356 v397 v438 v479 v520), ∀ (k0_h60 : k0_cond60 v289 v300 = 1#1), ∀ (k0_h62 : k0_cond62 v345 = 1#1), ∀ (r : Fin 4), ∀ a, (k0_off381 arg18 v356 v397 v438 v479 v520 (BitVec.ofNat 32 (16 * r.val))) a + S16.size a ≤ S12864.size a := fun v289 v300 arg18 v345 v356 v397 v438 v479 v520 k0_hw188 k0_h60 k0_h62 r => k0_hw188 k0_h60 k0_h62 r

def k0_off382 (k0_t31 : Fin k0_t31_loop.trips) (c0_i32_294 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c4_i32_291 : BitVec 32 := 4#32
  let v526 : BitVec 32 := Scalar.addi v354 c4_i32_291
  let c64_i32_292 : BitVec 32 := 64#32
  let v527 : BitVec 32 := Scalar.muli v526 c64_i32_292
  let v531 : BitVec 32 := Scalar.addi v527 c0_i32_294
  let v534 : Index := Scalar.indexCast v531
  ![v534.toNat]
def k0_off383 (arg18 : BitVec 32) (v356 : BitVec 32) (v397 : BitVec 32) (v438 : BitVec 32) (v479 : BitVec 32) (v520 : BitVec 32) (v561 : BitVec 32) (c0_i32_311 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let v565 : BitVec 32 := Scalar.muli v564 v563
  let c64_i32_308 : BitVec 32 := 64#32
  let v566 : BitVec 32 := Scalar.muli v565 c64_i32_308
  let v569 : BitVec 32 := Scalar.addi v566 c0_i32_311
  let v570 : Index := Scalar.indexCast v569
  ![v570.toNat]

def k0_chk189 (v289 : BitVec 32) (v300 : BitVec 32) (arg18 : BitVec 32) (v345 : BitVec 32) (v356 : BitVec 32) (v397 : BitVec 32) (v438 : BitVec 32) (v479 : BitVec 32) (v520 : BitVec 32) (v561 : BitVec 32) : Prop :=
  (∀ (k0_h60 : k0_cond60 v289 v300 = 1#1), ∀ (k0_h62 : k0_cond62 v345 = 1#1), ∀ (r : Fin 4), ∀ a, (k0_off383 arg18 v356 v397 v438 v479 v520 v561 (BitVec.ofNat 32 (16 * r.val))) a + S16.size a ≤ S12864.size a)
theorem k0_off383_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (k0_hw189 : k0_chk189 v289 v300 arg18 v345 v356 v397 v438 v479 v520 v561), ∀ (k0_h60 : k0_cond60 v289 v300 = 1#1), ∀ (k0_h62 : k0_cond62 v345 = 1#1), ∀ (r : Fin 4), ∀ a, (k0_off383 arg18 v356 v397 v438 v479 v520 v561 (BitVec.ofNat 32 (16 * r.val))) a + S16.size a ≤ S12864.size a := fun v289 v300 arg18 v345 v356 v397 v438 v479 v520 v561 k0_hw189 k0_h60 k0_h62 r => k0_hw189 k0_h60 k0_h62 r

def k0_off384 (k0_t31 : Fin k0_t31_loop.trips) (c0_i32_312 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c5_i32_309 : BitVec 32 := 5#32
  let v567 : BitVec 32 := Scalar.addi v354 c5_i32_309
  let c64_i32_310 : BitVec 32 := 64#32
  let v568 : BitVec 32 := Scalar.muli v567 c64_i32_310
  let v572 : BitVec 32 := Scalar.addi v568 c0_i32_312
  let v575 : Index := Scalar.indexCast v572
  ![v575.toNat]
def k0_off385 (arg18 : BitVec 32) (v356 : BitVec 32) (v397 : BitVec 32) (v438 : BitVec 32) (v479 : BitVec 32) (v520 : BitVec 32) (v561 : BitVec 32) (v602 : BitVec 32) (c0_i32_329 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let v606 : BitVec 32 := Scalar.muli v605 v604
  let c64_i32_326 : BitVec 32 := 64#32
  let v607 : BitVec 32 := Scalar.muli v606 c64_i32_326
  let v610 : BitVec 32 := Scalar.addi v607 c0_i32_329
  let v611 : Index := Scalar.indexCast v610
  ![v611.toNat]

def k0_chk190 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) : Prop :=
  (∀ (k0_h60 : k0_cond60 v289 v300 = 1#1), ∀ (k0_h62 : k0_cond62 v345 = 1#1), ∀ (r : Fin 4), ∀ a, (k0_off385 arg18 v356 v397 v438 v479 v520 v561 v602 (BitVec.ofNat 32 (16 * r.val))) a + S16.size a ≤ S12864.size a)
theorem k0_off385_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (k0_hw190 : k0_chk190 v289 v300 arg18 v345 v356 v397 v438 v479 v520 v561 v602), ∀ (k0_h60 : k0_cond60 v289 v300 = 1#1), ∀ (k0_h62 : k0_cond62 v345 = 1#1), ∀ (r : Fin 4), ∀ a, (k0_off385 arg18 v356 v397 v438 v479 v520 v561 v602 (BitVec.ofNat 32 (16 * r.val))) a + S16.size a ≤ S12864.size a := fun v289 v300 arg18 v345 v356 v397 v438 v479 v520 v561 v602 k0_hw190 k0_h60 k0_h62 r => k0_hw190 k0_h60 k0_h62 r

def k0_off386 (k0_t31 : Fin k0_t31_loop.trips) (c0_i32_330 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c6_i32_327 : BitVec 32 := 6#32
  let v608 : BitVec 32 := Scalar.addi v354 c6_i32_327
  let c64_i32_328 : BitVec 32 := 64#32
  let v609 : BitVec 32 := Scalar.muli v608 c64_i32_328
  let v613 : BitVec 32 := Scalar.addi v609 c0_i32_330
  let v616 : Index := Scalar.indexCast v613
  ![v616.toNat]
def k0_off387 (arg18 : BitVec 32) (v356 : BitVec 32) (v397 : BitVec 32) (v438 : BitVec 32) (v479 : BitVec 32) (v520 : BitVec 32) (v561 : BitVec 32) (v602 : BitVec 32) (v643 : BitVec 32) (c0_i32_347 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let v647 : BitVec 32 := Scalar.muli v646 v645
  let c64_i32_344 : BitVec 32 := 64#32
  let v648 : BitVec 32 := Scalar.muli v647 c64_i32_344
  let v651 : BitVec 32 := Scalar.addi v648 c0_i32_347
  let v652 : Index := Scalar.indexCast v651
  ![v652.toNat]

def k0_chk191 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) : Prop :=
  (∀ (k0_h60 : k0_cond60 v289 v300 = 1#1), ∀ (k0_h62 : k0_cond62 v345 = 1#1), ∀ (r : Fin 4), ∀ a, (k0_off387 arg18 v356 v397 v438 v479 v520 v561 v602 v643 (BitVec.ofNat 32 (16 * r.val))) a + S16.size a ≤ S12864.size a)
theorem k0_off387_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (k0_hw191 : k0_chk191 v289 v300 arg18 v345 v356 v397 v438 v479 v520 v561 v602 v643), ∀ (k0_h60 : k0_cond60 v289 v300 = 1#1), ∀ (k0_h62 : k0_cond62 v345 = 1#1), ∀ (r : Fin 4), ∀ a, (k0_off387 arg18 v356 v397 v438 v479 v520 v561 v602 v643 (BitVec.ofNat 32 (16 * r.val))) a + S16.size a ≤ S12864.size a := fun v289 v300 arg18 v345 v356 v397 v438 v479 v520 v561 v602 v643 k0_hw191 k0_h60 k0_h62 r => k0_hw191 k0_h60 k0_h62 r

def k0_off388 (k0_t31 : Fin k0_t31_loop.trips) (c0_i32_348 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c7_i32_345 : BitVec 32 := 7#32
  let v649 : BitVec 32 := Scalar.addi v354 c7_i32_345
  let c64_i32_346 : BitVec 32 := 64#32
  let v650 : BitVec 32 := Scalar.muli v649 c64_i32_346
  let v654 : BitVec 32 := Scalar.addi v650 c0_i32_348
  let v657 : Index := Scalar.indexCast v654
  ![v657.toNat]
def k0_off389 (arg18 : BitVec 32) (v356 : BitVec 32) (v397 : BitVec 32) (v438 : BitVec 32) (v479 : BitVec 32) (v520 : BitVec 32) (v561 : BitVec 32) (v602 : BitVec 32) (v643 : BitVec 32) (v684 : BitVec 32) (c0_i32_365 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let v688 : BitVec 32 := Scalar.muli v687 v686
  let c64_i32_362 : BitVec 32 := 64#32
  let v689 : BitVec 32 := Scalar.muli v688 c64_i32_362
  let v692 : BitVec 32 := Scalar.addi v689 c0_i32_365
  let v693 : Index := Scalar.indexCast v692
  ![v693.toNat]

def k0_chk192 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) : Prop :=
  (∀ (k0_h60 : k0_cond60 v289 v300 = 1#1), ∀ (k0_h62 : k0_cond62 v345 = 1#1), ∀ (r : Fin 4), ∀ a, (k0_off389 arg18 v356 v397 v438 v479 v520 v561 v602 v643 v684 (BitVec.ofNat 32 (16 * r.val))) a + S16.size a ≤ S12864.size a)
theorem k0_off389_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (k0_hw192 : k0_chk192 v289 v300 arg18 v345 v356 v397 v438 v479 v520 v561 v602 v643 v684), ∀ (k0_h60 : k0_cond60 v289 v300 = 1#1), ∀ (k0_h62 : k0_cond62 v345 = 1#1), ∀ (r : Fin 4), ∀ a, (k0_off389 arg18 v356 v397 v438 v479 v520 v561 v602 v643 v684 (BitVec.ofNat 32 (16 * r.val))) a + S16.size a ≤ S12864.size a := fun v289 v300 arg18 v345 v356 v397 v438 v479 v520 v561 v602 v643 v684 k0_hw192 k0_h60 k0_h62 r => k0_hw192 k0_h60 k0_h62 r

def k0_off390 (k0_t31 : Fin k0_t31_loop.trips) (c0_i32_366 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c8_i32_363 : BitVec 32 := 8#32
  let v690 : BitVec 32 := Scalar.addi v354 c8_i32_363
  let c64_i32_364 : BitVec 32 := 64#32
  let v691 : BitVec 32 := Scalar.muli v690 c64_i32_364
  let v695 : BitVec 32 := Scalar.addi v691 c0_i32_366
  let v698 : Index := Scalar.indexCast v695
  ![v698.toNat]
def k0_off391 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (c0_i32_382 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let v729 : BitVec 32 := Scalar.muli v728 v727
  let c64_i32_380 : BitVec 32 := 64#32
  let v730 : BitVec 32 := Scalar.muli v729 c64_i32_380
  let v733 : BitVec 32 := Scalar.addi v730 c0_i32_382
  let v734 : Index := Scalar.indexCast v733
  ![v734.toNat]

def k0_chk193 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) : Prop :=
  (∀ (k0_h60 : k0_cond60 v289 v300 = 1#1), ∀ (k0_h62 : k0_cond62 v345 = 1#1), ∀ (r : Fin 4), ∀ a, (k0_off391 arg18 v356 v397 v438 v479 v520 v561 v602 v643 v684 v725 (BitVec.ofNat 32 (16 * r.val))) a + S16.size a ≤ S12864.size a)
theorem k0_off391_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (k0_hw193 : k0_chk193 v289 v300 arg18 v345 v356 v397 v438 v479 v520 v561 v602 v643 v684 v725), ∀ (k0_h60 : k0_cond60 v289 v300 = 1#1), ∀ (k0_h62 : k0_cond62 v345 = 1#1), ∀ (r : Fin 4), ∀ a, (k0_off391 arg18 v356 v397 v438 v479 v520 v561 v602 v643 v684 v725 (BitVec.ofNat 32 (16 * r.val))) a + S16.size a ≤ S12864.size a := fun v289 v300 arg18 v345 v356 v397 v438 v479 v520 v561 v602 v643 v684 v725 k0_hw193 k0_h60 k0_h62 r => k0_hw193 k0_h60 k0_h62 r

def k0_off392 (k0_t31 : Fin k0_t31_loop.trips) (c0_i32_383 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c9_i32 : BitVec 32 := 9#32
  let v731 : BitVec 32 := Scalar.addi v354 c9_i32
  let c64_i32_381 : BitVec 32 := 64#32
  let v732 : BitVec 32 := Scalar.muli v731 c64_i32_381
  let v736 : BitVec 32 := Scalar.addi v732 c0_i32_383
  let v739 : Index := Scalar.indexCast v736
  ![v739.toNat]
def k0_off393 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (c0_i32_399 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let v770 : BitVec 32 := Scalar.muli v769 v768
  let c64_i32_397 : BitVec 32 := 64#32
  let v771 : BitVec 32 := Scalar.muli v770 c64_i32_397
  let v774 : BitVec 32 := Scalar.addi v771 c0_i32_399
  let v775 : Index := Scalar.indexCast v774
  ![v775.toNat]

def k0_chk194 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) : Prop :=
  (∀ (k0_h60 : k0_cond60 v289 v300 = 1#1), ∀ (k0_h62 : k0_cond62 v345 = 1#1), ∀ (r : Fin 4), ∀ a, (k0_off393 arg18 v356 v397 v438 v479 v520 v561 v602 v643 v684 v725 v766 (BitVec.ofNat 32 (16 * r.val))) a + S16.size a ≤ S12864.size a)
theorem k0_off393_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (k0_hw194 : k0_chk194 v289 v300 arg18 v345 v356 v397 v438 v479 v520 v561 v602 v643 v684 v725 v766), ∀ (k0_h60 : k0_cond60 v289 v300 = 1#1), ∀ (k0_h62 : k0_cond62 v345 = 1#1), ∀ (r : Fin 4), ∀ a, (k0_off393 arg18 v356 v397 v438 v479 v520 v561 v602 v643 v684 v725 v766 (BitVec.ofNat 32 (16 * r.val))) a + S16.size a ≤ S12864.size a := fun v289 v300 arg18 v345 v356 v397 v438 v479 v520 v561 v602 v643 v684 v725 v766 k0_hw194 k0_h60 k0_h62 r => k0_hw194 k0_h60 k0_h62 r

def k0_off394 (k0_t31 : Fin k0_t31_loop.trips) (c0_i32_400 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c10_i32 : BitVec 32 := 10#32
  let v772 : BitVec 32 := Scalar.addi v354 c10_i32
  let c64_i32_398 : BitVec 32 := 64#32
  let v773 : BitVec 32 := Scalar.muli v772 c64_i32_398
  let v777 : BitVec 32 := Scalar.addi v773 c0_i32_400
  let v780 : Index := Scalar.indexCast v777
  ![v780.toNat]
def k0_off395 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (c0_i32_416 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let v811 : BitVec 32 := Scalar.muli v810 v809
  let c64_i32_414 : BitVec 32 := 64#32
  let v812 : BitVec 32 := Scalar.muli v811 c64_i32_414
  let v815 : BitVec 32 := Scalar.addi v812 c0_i32_416
  let v816 : Index := Scalar.indexCast v815
  ![v816.toNat]

def k0_chk195 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) : Prop :=
  (∀ (k0_h60 : k0_cond60 v289 v300 = 1#1), ∀ (k0_h62 : k0_cond62 v345 = 1#1), ∀ (r : Fin 4), ∀ a, (k0_off395 arg18 v356 v397 v438 v479 v520 v561 v602 v643 v684 v725 v766 v807 (BitVec.ofNat 32 (16 * r.val))) a + S16.size a ≤ S12864.size a)
theorem k0_off395_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (k0_hw195 : k0_chk195 v289 v300 arg18 v345 v356 v397 v438 v479 v520 v561 v602 v643 v684 v725 v766 v807), ∀ (k0_h60 : k0_cond60 v289 v300 = 1#1), ∀ (k0_h62 : k0_cond62 v345 = 1#1), ∀ (r : Fin 4), ∀ a, (k0_off395 arg18 v356 v397 v438 v479 v520 v561 v602 v643 v684 v725 v766 v807 (BitVec.ofNat 32 (16 * r.val))) a + S16.size a ≤ S12864.size a := fun v289 v300 arg18 v345 v356 v397 v438 v479 v520 v561 v602 v643 v684 v725 v766 v807 k0_hw195 k0_h60 k0_h62 r => k0_hw195 k0_h60 k0_h62 r

def k0_off396 (k0_t31 : Fin k0_t31_loop.trips) (c0_i32_417 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c11_i32 : BitVec 32 := 11#32
  let v813 : BitVec 32 := Scalar.addi v354 c11_i32
  let c64_i32_415 : BitVec 32 := 64#32
  let v814 : BitVec 32 := Scalar.muli v813 c64_i32_415
  let v818 : BitVec 32 := Scalar.addi v814 c0_i32_417
  let v821 : Index := Scalar.indexCast v818
  ![v821.toNat]
def k0_off397 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (c0_i32_434 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let v852 : BitVec 32 := Scalar.muli v851 v850
  let c64_i32_431 : BitVec 32 := 64#32
  let v853 : BitVec 32 := Scalar.muli v852 c64_i32_431
  let v856 : BitVec 32 := Scalar.addi v853 c0_i32_434
  let v857 : Index := Scalar.indexCast v856
  ![v857.toNat]

def k0_chk196 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) : Prop :=
  (∀ (k0_h60 : k0_cond60 v289 v300 = 1#1), ∀ (k0_h62 : k0_cond62 v345 = 1#1), ∀ (r : Fin 4), ∀ a, (k0_off397 arg18 v356 v397 v438 v479 v520 v561 v602 v643 v684 v725 v766 v807 v848 (BitVec.ofNat 32 (16 * r.val))) a + S16.size a ≤ S12864.size a)
theorem k0_off397_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (k0_hw196 : k0_chk196 v289 v300 arg18 v345 v356 v397 v438 v479 v520 v561 v602 v643 v684 v725 v766 v807 v848), ∀ (k0_h60 : k0_cond60 v289 v300 = 1#1), ∀ (k0_h62 : k0_cond62 v345 = 1#1), ∀ (r : Fin 4), ∀ a, (k0_off397 arg18 v356 v397 v438 v479 v520 v561 v602 v643 v684 v725 v766 v807 v848 (BitVec.ofNat 32 (16 * r.val))) a + S16.size a ≤ S12864.size a := fun v289 v300 arg18 v345 v356 v397 v438 v479 v520 v561 v602 v643 v684 v725 v766 v807 v848 k0_hw196 k0_h60 k0_h62 r => k0_hw196 k0_h60 k0_h62 r

def k0_off398 (k0_t31 : Fin k0_t31_loop.trips) (c0_i32_435 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c12_i32_432 : BitVec 32 := 12#32
  let v854 : BitVec 32 := Scalar.addi v354 c12_i32_432
  let c64_i32_433 : BitVec 32 := 64#32
  let v855 : BitVec 32 := Scalar.muli v854 c64_i32_433
  let v859 : BitVec 32 := Scalar.addi v855 c0_i32_435
  let v862 : Index := Scalar.indexCast v859
  ![v862.toNat]
def k0_off399 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (c0_i32_451 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let v893 : BitVec 32 := Scalar.muli v892 v891
  let c64_i32_449 : BitVec 32 := 64#32
  let v894 : BitVec 32 := Scalar.muli v893 c64_i32_449
  let v897 : BitVec 32 := Scalar.addi v894 c0_i32_451
  let v898 : Index := Scalar.indexCast v897
  ![v898.toNat]

def k0_chk197 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) : Prop :=
  (∀ (k0_h60 : k0_cond60 v289 v300 = 1#1), ∀ (k0_h62 : k0_cond62 v345 = 1#1), ∀ (r : Fin 4), ∀ a, (k0_off399 arg18 v356 v397 v438 v479 v520 v561 v602 v643 v684 v725 v766 v807 v848 v889 (BitVec.ofNat 32 (16 * r.val))) a + S16.size a ≤ S12864.size a)
theorem k0_off399_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (k0_hw197 : k0_chk197 v289 v300 arg18 v345 v356 v397 v438 v479 v520 v561 v602 v643 v684 v725 v766 v807 v848 v889), ∀ (k0_h60 : k0_cond60 v289 v300 = 1#1), ∀ (k0_h62 : k0_cond62 v345 = 1#1), ∀ (r : Fin 4), ∀ a, (k0_off399 arg18 v356 v397 v438 v479 v520 v561 v602 v643 v684 v725 v766 v807 v848 v889 (BitVec.ofNat 32 (16 * r.val))) a + S16.size a ≤ S12864.size a := fun v289 v300 arg18 v345 v356 v397 v438 v479 v520 v561 v602 v643 v684 v725 v766 v807 v848 v889 k0_hw197 k0_h60 k0_h62 r => k0_hw197 k0_h60 k0_h62 r

def k0_off400 (k0_t31 : Fin k0_t31_loop.trips) (c0_i32_452 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c13_i32 : BitVec 32 := 13#32
  let v895 : BitVec 32 := Scalar.addi v354 c13_i32
  let c64_i32_450 : BitVec 32 := 64#32
  let v896 : BitVec 32 := Scalar.muli v895 c64_i32_450
  let v900 : BitVec 32 := Scalar.addi v896 c0_i32_452
  let v903 : Index := Scalar.indexCast v900
  ![v903.toNat]
def k0_off401 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (c0_i32_468 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let v934 : BitVec 32 := Scalar.muli v933 v932
  let c64_i32_466 : BitVec 32 := 64#32
  let v935 : BitVec 32 := Scalar.muli v934 c64_i32_466
  let v938 : BitVec 32 := Scalar.addi v935 c0_i32_468
  let v939 : Index := Scalar.indexCast v938
  ![v939.toNat]

def k0_chk198 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) : Prop :=
  (∀ (k0_h60 : k0_cond60 v289 v300 = 1#1), ∀ (k0_h62 : k0_cond62 v345 = 1#1), ∀ (r : Fin 4), ∀ a, (k0_off401 arg18 v356 v397 v438 v479 v520 v561 v602 v643 v684 v725 v766 v807 v848 v889 v930 (BitVec.ofNat 32 (16 * r.val))) a + S16.size a ≤ S12864.size a)
theorem k0_off401_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (k0_hw198 : k0_chk198 v289 v300 arg18 v345 v356 v397 v438 v479 v520 v561 v602 v643 v684 v725 v766 v807 v848 v889 v930), ∀ (k0_h60 : k0_cond60 v289 v300 = 1#1), ∀ (k0_h62 : k0_cond62 v345 = 1#1), ∀ (r : Fin 4), ∀ a, (k0_off401 arg18 v356 v397 v438 v479 v520 v561 v602 v643 v684 v725 v766 v807 v848 v889 v930 (BitVec.ofNat 32 (16 * r.val))) a + S16.size a ≤ S12864.size a := fun v289 v300 arg18 v345 v356 v397 v438 v479 v520 v561 v602 v643 v684 v725 v766 v807 v848 v889 v930 k0_hw198 k0_h60 k0_h62 r => k0_hw198 k0_h60 k0_h62 r

def k0_off402 (k0_t31 : Fin k0_t31_loop.trips) (c0_i32_469 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c14_i32 : BitVec 32 := 14#32
  let v936 : BitVec 32 := Scalar.addi v354 c14_i32
  let c64_i32_467 : BitVec 32 := 64#32
  let v937 : BitVec 32 := Scalar.muli v936 c64_i32_467
  let v941 : BitVec 32 := Scalar.addi v937 c0_i32_469
  let v944 : Index := Scalar.indexCast v941
  ![v944.toNat]
def k0_off403 (arg18 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (c0_i32_485 : BitVec 32) : Fin 1 → Nat :=
  let c0_i32_218 : BitVec 32 := 0#32
  let v357 : BitVec 1 := Scalar.cmpi .ne v356 c0_i32_218
  let c1_i32_219 : BitVec 32 := 1#32
  let c0_i32_220 : BitVec 32 := 0#32
  let v358 : BitVec 32 := Scalar.select v357 c1_i32_219 c0_i32_220
  let v359 : BitVec 32 := Scalar.addi arg18 v358
  let c0_i32_233 : BitVec 32 := 0#32
  let v398 : BitVec 1 := Scalar.cmpi .ne v397 c0_i32_233
  let c1_i32_234 : BitVec 32 := 1#32
  let c0_i32_235 : BitVec 32 := 0#32
  let v399 : BitVec 32 := Scalar.select v398 c1_i32_234 c0_i32_235
  let v400 : BitVec 32 := Scalar.addi v359 v399
  let c0_i32_251 : BitVec 32 := 0#32
  let v439 : BitVec 1 := Scalar.cmpi .ne v438 c0_i32_251
  let c1_i32_252 : BitVec 32 := 1#32
  let c0_i32_253 : BitVec 32 := 0#32
  let v440 : BitVec 32 := Scalar.select v439 c1_i32_252 c0_i32_253
  let v441 : BitVec 32 := Scalar.addi v400 v440
  let c0_i32_269 : BitVec 32 := 0#32
  let v480 : BitVec 1 := Scalar.cmpi .ne v479 c0_i32_269
  let c1_i32_270 : BitVec 32 := 1#32
  let c0_i32_271 : BitVec 32 := 0#32
  let v481 : BitVec 32 := Scalar.select v480 c1_i32_270 c0_i32_271
  let v482 : BitVec 32 := Scalar.addi v441 v481
  let c0_i32_287 : BitVec 32 := 0#32
  let v521 : BitVec 1 := Scalar.cmpi .ne v520 c0_i32_287
  let c1_i32_288 : BitVec 32 := 1#32
  let c0_i32_289 : BitVec 32 := 0#32
  let v522 : BitVec 32 := Scalar.select v521 c1_i32_288 c0_i32_289
  let v523 : BitVec 32 := Scalar.addi v482 v522
  let c0_i32_305 : BitVec 32 := 0#32
  let v562 : BitVec 1 := Scalar.cmpi .ne v561 c0_i32_305
  let c1_i32_306 : BitVec 32 := 1#32
  let c0_i32_307 : BitVec 32 := 0#32
  let v563 : BitVec 32 := Scalar.select v562 c1_i32_306 c0_i32_307
  let v564 : BitVec 32 := Scalar.addi v523 v563
  let c0_i32_323 : BitVec 32 := 0#32
  let v603 : BitVec 1 := Scalar.cmpi .ne v602 c0_i32_323
  let c1_i32_324 : BitVec 32 := 1#32
  let c0_i32_325 : BitVec 32 := 0#32
  let v604 : BitVec 32 := Scalar.select v603 c1_i32_324 c0_i32_325
  let v605 : BitVec 32 := Scalar.addi v564 v604
  let c0_i32_341 : BitVec 32 := 0#32
  let v644 : BitVec 1 := Scalar.cmpi .ne v643 c0_i32_341
  let c1_i32_342 : BitVec 32 := 1#32
  let c0_i32_343 : BitVec 32 := 0#32
  let v645 : BitVec 32 := Scalar.select v644 c1_i32_342 c0_i32_343
  let v646 : BitVec 32 := Scalar.addi v605 v645
  let c0_i32_359 : BitVec 32 := 0#32
  let v685 : BitVec 1 := Scalar.cmpi .ne v684 c0_i32_359
  let c1_i32_360 : BitVec 32 := 1#32
  let c0_i32_361 : BitVec 32 := 0#32
  let v686 : BitVec 32 := Scalar.select v685 c1_i32_360 c0_i32_361
  let v687 : BitVec 32 := Scalar.addi v646 v686
  let c0_i32_377 : BitVec 32 := 0#32
  let v726 : BitVec 1 := Scalar.cmpi .ne v725 c0_i32_377
  let c1_i32_378 : BitVec 32 := 1#32
  let c0_i32_379 : BitVec 32 := 0#32
  let v727 : BitVec 32 := Scalar.select v726 c1_i32_378 c0_i32_379
  let v728 : BitVec 32 := Scalar.addi v687 v727
  let c0_i32_394 : BitVec 32 := 0#32
  let v767 : BitVec 1 := Scalar.cmpi .ne v766 c0_i32_394
  let c1_i32_395 : BitVec 32 := 1#32
  let c0_i32_396 : BitVec 32 := 0#32
  let v768 : BitVec 32 := Scalar.select v767 c1_i32_395 c0_i32_396
  let v769 : BitVec 32 := Scalar.addi v728 v768
  let c0_i32_411 : BitVec 32 := 0#32
  let v808 : BitVec 1 := Scalar.cmpi .ne v807 c0_i32_411
  let c1_i32_412 : BitVec 32 := 1#32
  let c0_i32_413 : BitVec 32 := 0#32
  let v809 : BitVec 32 := Scalar.select v808 c1_i32_412 c0_i32_413
  let v810 : BitVec 32 := Scalar.addi v769 v809
  let c0_i32_428 : BitVec 32 := 0#32
  let v849 : BitVec 1 := Scalar.cmpi .ne v848 c0_i32_428
  let c1_i32_429 : BitVec 32 := 1#32
  let c0_i32_430 : BitVec 32 := 0#32
  let v850 : BitVec 32 := Scalar.select v849 c1_i32_429 c0_i32_430
  let v851 : BitVec 32 := Scalar.addi v810 v850
  let c0_i32_446 : BitVec 32 := 0#32
  let v890 : BitVec 1 := Scalar.cmpi .ne v889 c0_i32_446
  let c1_i32_447 : BitVec 32 := 1#32
  let c0_i32_448 : BitVec 32 := 0#32
  let v891 : BitVec 32 := Scalar.select v890 c1_i32_447 c0_i32_448
  let v892 : BitVec 32 := Scalar.addi v851 v891
  let c0_i32_463 : BitVec 32 := 0#32
  let v931 : BitVec 1 := Scalar.cmpi .ne v930 c0_i32_463
  let c1_i32_464 : BitVec 32 := 1#32
  let c0_i32_465 : BitVec 32 := 0#32
  let v932 : BitVec 32 := Scalar.select v931 c1_i32_464 c0_i32_465
  let v933 : BitVec 32 := Scalar.addi v892 v932
  let c0_i32_480 : BitVec 32 := 0#32
  let v972 : BitVec 1 := Scalar.cmpi .ne v971 c0_i32_480
  let c1_i32_481 : BitVec 32 := 1#32
  let c0_i32_482 : BitVec 32 := 0#32
  let v973 : BitVec 32 := Scalar.select v972 c1_i32_481 c0_i32_482
  let v974 : BitVec 32 := Scalar.addi v933 v973
  let v975 : BitVec 32 := Scalar.muli v974 v973
  let c64_i32_483 : BitVec 32 := 64#32
  let v976 : BitVec 32 := Scalar.muli v975 c64_i32_483
  let v979 : BitVec 32 := Scalar.addi v976 c0_i32_485
  let v980 : Index := Scalar.indexCast v979
  ![v980.toNat]

def k0_chk199 (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) : Prop :=
  (∀ (k0_h60 : k0_cond60 v289 v300 = 1#1), ∀ (k0_h62 : k0_cond62 v345 = 1#1), ∀ (r : Fin 4), ∀ a, (k0_off403 arg18 v356 v397 v438 v479 v520 v561 v602 v643 v684 v725 v766 v807 v848 v889 v930 v971 (BitVec.ofNat 32 (16 * r.val))) a + S16.size a ≤ S12864.size a)
theorem k0_off403_inb : ∀ (v289 : BitVec 32) (v300 : BitVec 32) (arg18 : BitVec 32) (v345 : BitVec 32) (v356 : BitVec 32) (v397 : BitVec 32) (v438 : BitVec 32) (v479 : BitVec 32) (v520 : BitVec 32) (v561 : BitVec 32) (v602 : BitVec 32) (v643 : BitVec 32) (v684 : BitVec 32) (v725 : BitVec 32) (v766 : BitVec 32) (v807 : BitVec 32) (v848 : BitVec 32) (v889 : BitVec 32) (v930 : BitVec 32) (v971 : BitVec 32) (k0_hw199 : k0_chk199 v289 v300 arg18 v345 v356 v397 v438 v479 v520 v561 v602 v643 v684 v725 v766 v807 v848 v889 v930 v971), ∀ (k0_h60 : k0_cond60 v289 v300 = 1#1), ∀ (k0_h62 : k0_cond62 v345 = 1#1), ∀ (r : Fin 4), ∀ a, (k0_off403 arg18 v356 v397 v438 v479 v520 v561 v602 v643 v684 v725 v766 v807 v848 v889 v930 v971 (BitVec.ofNat 32 (16 * r.val))) a + S16.size a ≤ S12864.size a := fun v289 v300 arg18 v345 v356 v397 v438 v479 v520 v561 v602 v643 v684 v725 v766 v807 v848 v889 v930 v971 k0_hw199 k0_h60 k0_h62 r => k0_hw199 k0_h60 k0_h62 r

def k0_off404 (k0_t31 : Fin k0_t31_loop.trips) (c0_i32_486 : BitVec 32) : Fin 1 → Nat :=
  let c0_i32_190 : BitVec 32 := 0#32
  let c1_i32_192 : BitVec 32 := 1#32
  let arg17 : BitVec 32 := Scf.iv c0_i32_190 c1_i32_192 k0_t31
  let c16_i32_217 : BitVec 32 := 16#32
  let v354 : BitVec 32 := Scalar.muli arg17 c16_i32_217
  let c15_i32 : BitVec 32 := 15#32
  let v977 : BitVec 32 := Scalar.addi v354 c15_i32
  let c64_i32_484 : BitVec 32 := 64#32
  let v978 : BitVec 32 := Scalar.muli v977 c64_i32_484
  let v982 : BitVec 32 := Scalar.addi v978 c0_i32_486
  let v985 : Index := Scalar.indexCast v982
  ![v985.toNat]
def k0_off405 (k0_t1 : Fin k0_t1_loop.trips) : Fin 1 → Nat :=
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c63_i32_169 : BitVec 32 := 63#32
  let v280 : BitVec 32 := Scalar.andi v279 c63_i32_169
  let c200_i32_194 : BitVec 32 := 200#32
  let v310 : BitVec 32 := Scalar.muli v280 c200_i32_194
  let c192_i32_195 : BitVec 32 := 192#32
  let v311 : BitVec 32 := Scalar.addi v310 c192_i32_195
  let v312 : Index := Scalar.indexCast v311
  ![v312.toNat]
@[reducible] def k0_t33_loop : Scf.Loop 32 :=
  let c0_i32_210 : BitVec 32 := 0#32
  let c32_i32 : BitVec 32 := 32#32
  let v337 : BitVec 32 := Scalar.addi c0_i32_210 c32_i32
  let c1_i32_211 : BitVec 32 := 1#32
  ⟨c0_i32_210, v337, c1_i32_211⟩
def k0_off406 (v309 : BitVec 32) (k0_t33 : Fin k0_t33_loop.trips) : Fin 1 → Nat :=
  let c1_i32_208 : BitVec 32 := 1#32
  let v335 : BitVec 32 := Scalar.addi v309 c1_i32_208
  let c64_i32 : BitVec 32 := 64#32
  let v336 : BitVec 32 := Scalar.muli v335 c64_i32
  let c0_i32_210 : BitVec 32 := 0#32
  let c1_i32_211 : BitVec 32 := 1#32
  let arg17 : BitVec 32 := Scf.iv c0_i32_210 c1_i32_211 k0_t33
  let c16_i32_213 : BitVec 32 := 16#32
  let v338 : BitVec 32 := Scalar.muli arg17 c16_i32_213
  let v339 : BitVec 32 := Scalar.addi v336 v338
  let v340 : Index := Scalar.indexCast v339
  ![v340.toNat]
def k0_cond63 (v320 : BitVec 32) : BitVec 1 :=
  let c0_i32_198 : BitVec 32 := 0#32
  let v321 : BitVec 1 := Scalar.cmpi .eq v320 c0_i32_198
  let v322 : BitVec 32 := Scalar.extui v321
  let c0_i32_200 : BitVec 32 := 0#32
  let v323 : BitVec 1 := Scalar.cmpi .ne v322 c0_i32_200
  v323

def k0_chk200 (v289 : BitVec 32) (v300 : BitVec 32) (v309 : BitVec 32) (v320 : BitVec 32) : Prop :=
  (∀ k0_t33 : Fin k0_t33_loop.trips, ∀ (k0_h60 : k0_cond60 v289 v300 = 1#1), ∀ (k0_h63 : k0_cond63 v320 = 1#1), ∀ a, (k0_off406 v309 k0_t33) a + S16.size a ≤ S12864.size a)
theorem k0_off406_inb : ∀ (v289 : BitVec 32) (v300 : BitVec 32) (v309 : BitVec 32) (v320 : BitVec 32) (k0_hw200 : k0_chk200 v289 v300 v309 v320) (k0_t33 : Fin k0_t33_loop.trips), ∀ (k0_h60 : k0_cond60 v289 v300 = 1#1), ∀ (k0_h63 : k0_cond63 v320 = 1#1), ∀ a, (k0_off406 v309 k0_t33) a + S16.size a ≤ S12864.size a := fun v289 v300 v309 v320 k0_hw200 k0_t33 k0_h60 k0_h63 => k0_hw200 k0_t33 k0_h60 k0_h63

def k0_off407 (k0_t33 : Fin k0_t33_loop.trips) : Fin 1 → Nat :=
  let c12288_i32 : BitVec 32 := 12288#32
  let c0_i32_210 : BitVec 32 := 0#32
  let c1_i32_211 : BitVec 32 := 1#32
  let arg17 : BitVec 32 := Scf.iv c0_i32_210 c1_i32_211 k0_t33
  let c16_i32_214 : BitVec 32 := 16#32
  let v342 : BitVec 32 := Scalar.muli arg17 c16_i32_214
  let v343 : BitVec 32 := Scalar.addi c12288_i32 v342
  let v346 : Index := Scalar.indexCast v343
  ![v346.toNat]
def k0_off408 (v309 : BitVec 32) (v336 : BitVec 32) (c0_i32_211 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let v340 : BitVec 32 := Scalar.muli v339 v338
  let c64_i32 : BitVec 32 := 64#32
  let v341 : BitVec 32 := Scalar.muli v340 c64_i32
  let v342 : BitVec 32 := Scalar.addi v341 c0_i32_211
  let v343 : Index := Scalar.indexCast v342
  ![v343.toNat]
def k0_cond64 (v320 : BitVec 32) : BitVec 1 :=
  let c0_i32_201 : BitVec 32 := 0#32
  let v324 : BitVec 1 := Scalar.cmpi .sgt v320 c0_i32_201
  let v325 : BitVec 32 := Scalar.extui v324
  let c0_i32_203 : BitVec 32 := 0#32
  let v326 : BitVec 1 := Scalar.cmpi .ne v325 c0_i32_203
  v326

def k0_chk201 (v289 : BitVec 32) (v300 : BitVec 32) (v309 : BitVec 32) (v320 : BitVec 32) (v336 : BitVec 32) : Prop :=
  (∀ (k0_h60 : k0_cond60 v289 v300 = 1#1), ∀ (k0_h64 : k0_cond64 v320 = 1#1), ∀ (r : Fin 4), ∀ a, (k0_off408 v309 v336 (BitVec.ofNat 32 (16 * r.val))) a + S16.size a ≤ S12864.size a)
theorem k0_off408_inb : ∀ (v289 : BitVec 32) (v300 : BitVec 32) (v309 : BitVec 32) (v320 : BitVec 32) (v336 : BitVec 32) (k0_hw201 : k0_chk201 v289 v300 v309 v320 v336), ∀ (k0_h60 : k0_cond60 v289 v300 = 1#1), ∀ (k0_h64 : k0_cond64 v320 = 1#1), ∀ (r : Fin 4), ∀ a, (k0_off408 v309 v336 (BitVec.ofNat 32 (16 * r.val))) a + S16.size a ≤ S12864.size a := fun v289 v300 v309 v320 v336 k0_hw201 k0_h60 k0_h64 r => k0_hw201 k0_h60 k0_h64 r

def k0_off409 (v309 : BitVec 32) (v336 : BitVec 32) (v367 : BitVec 32) (c0_i32_221 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let v371 : BitVec 32 := Scalar.muli v370 v369
  let c64_i32_220 : BitVec 32 := 64#32
  let v372 : BitVec 32 := Scalar.muli v371 c64_i32_220
  let v373 : BitVec 32 := Scalar.addi v372 c0_i32_221
  let v374 : Index := Scalar.indexCast v373
  ![v374.toNat]

def k0_chk202 (v289 : BitVec 32) (v300 : BitVec 32) (v309 : BitVec 32) (v320 : BitVec 32) (v336 : BitVec 32) (v367 : BitVec 32) : Prop :=
  (∀ (k0_h60 : k0_cond60 v289 v300 = 1#1), ∀ (k0_h64 : k0_cond64 v320 = 1#1), ∀ (r : Fin 4), ∀ a, (k0_off409 v309 v336 v367 (BitVec.ofNat 32 (16 * r.val))) a + S16.size a ≤ S12864.size a)
theorem k0_off409_inb : ∀ (v289 : BitVec 32) (v300 : BitVec 32) (v309 : BitVec 32) (v320 : BitVec 32) (v336 : BitVec 32) (v367 : BitVec 32) (k0_hw202 : k0_chk202 v289 v300 v309 v320 v336 v367), ∀ (k0_h60 : k0_cond60 v289 v300 = 1#1), ∀ (k0_h64 : k0_cond64 v320 = 1#1), ∀ (r : Fin 4), ∀ a, (k0_off409 v309 v336 v367 (BitVec.ofNat 32 (16 * r.val))) a + S16.size a ≤ S12864.size a := fun v289 v300 v309 v320 v336 v367 k0_hw202 k0_h60 k0_h64 r => k0_hw202 k0_h60 k0_h64 r

def k0_off410 (v309 : BitVec 32) (v336 : BitVec 32) (v367 : BitVec 32) (v398 : BitVec 32) (c0_i32_233 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let v402 : BitVec 32 := Scalar.muli v401 v400
  let c64_i32_232 : BitVec 32 := 64#32
  let v403 : BitVec 32 := Scalar.muli v402 c64_i32_232
  let v404 : BitVec 32 := Scalar.addi v403 c0_i32_233
  let v405 : Index := Scalar.indexCast v404
  ![v405.toNat]

def k0_chk203 (v289 : BitVec 32) (v300 : BitVec 32) (v309 : BitVec 32) (v320 : BitVec 32) (v336 : BitVec 32) (v367 : BitVec 32) (v398 : BitVec 32) : Prop :=
  (∀ (k0_h60 : k0_cond60 v289 v300 = 1#1), ∀ (k0_h64 : k0_cond64 v320 = 1#1), ∀ (r : Fin 4), ∀ a, (k0_off410 v309 v336 v367 v398 (BitVec.ofNat 32 (16 * r.val))) a + S16.size a ≤ S12864.size a)
theorem k0_off410_inb : ∀ (v289 : BitVec 32) (v300 : BitVec 32) (v309 : BitVec 32) (v320 : BitVec 32) (v336 : BitVec 32) (v367 : BitVec 32) (v398 : BitVec 32) (k0_hw203 : k0_chk203 v289 v300 v309 v320 v336 v367 v398), ∀ (k0_h60 : k0_cond60 v289 v300 = 1#1), ∀ (k0_h64 : k0_cond64 v320 = 1#1), ∀ (r : Fin 4), ∀ a, (k0_off410 v309 v336 v367 v398 (BitVec.ofNat 32 (16 * r.val))) a + S16.size a ≤ S12864.size a := fun v289 v300 v309 v320 v336 v367 v398 k0_hw203 k0_h60 k0_h64 r => k0_hw203 k0_h60 k0_h64 r

def k0_off411 (v309 : BitVec 32) (v336 : BitVec 32) (v367 : BitVec 32) (v398 : BitVec 32) (v429 : BitVec 32) (c0_i32_245 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let v433 : BitVec 32 := Scalar.muli v432 v431
  let c64_i32_244 : BitVec 32 := 64#32
  let v434 : BitVec 32 := Scalar.muli v433 c64_i32_244
  let v435 : BitVec 32 := Scalar.addi v434 c0_i32_245
  let v436 : Index := Scalar.indexCast v435
  ![v436.toNat]

def k0_chk204 (v289 : BitVec 32) (v300 : BitVec 32) (v309 : BitVec 32) (v320 : BitVec 32) (v336 : BitVec 32) (v367 : BitVec 32) (v398 : BitVec 32) (v429 : BitVec 32) : Prop :=
  (∀ (k0_h60 : k0_cond60 v289 v300 = 1#1), ∀ (k0_h64 : k0_cond64 v320 = 1#1), ∀ (r : Fin 4), ∀ a, (k0_off411 v309 v336 v367 v398 v429 (BitVec.ofNat 32 (16 * r.val))) a + S16.size a ≤ S12864.size a)
theorem k0_off411_inb : ∀ (v289 : BitVec 32) (v300 : BitVec 32) (v309 : BitVec 32) (v320 : BitVec 32) (v336 : BitVec 32) (v367 : BitVec 32) (v398 : BitVec 32) (v429 : BitVec 32) (k0_hw204 : k0_chk204 v289 v300 v309 v320 v336 v367 v398 v429), ∀ (k0_h60 : k0_cond60 v289 v300 = 1#1), ∀ (k0_h64 : k0_cond64 v320 = 1#1), ∀ (r : Fin 4), ∀ a, (k0_off411 v309 v336 v367 v398 v429 (BitVec.ofNat 32 (16 * r.val))) a + S16.size a ≤ S12864.size a := fun v289 v300 v309 v320 v336 v367 v398 v429 k0_hw204 k0_h60 k0_h64 r => k0_hw204 k0_h60 k0_h64 r

def k0_off412 (v309 : BitVec 32) (v336 : BitVec 32) (v367 : BitVec 32) (v398 : BitVec 32) (v429 : BitVec 32) (v460 : BitVec 32) (c0_i32_257 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let v464 : BitVec 32 := Scalar.muli v463 v462
  let c64_i32_256 : BitVec 32 := 64#32
  let v465 : BitVec 32 := Scalar.muli v464 c64_i32_256
  let v466 : BitVec 32 := Scalar.addi v465 c0_i32_257
  let v467 : Index := Scalar.indexCast v466
  ![v467.toNat]

def k0_chk205 (v289 : BitVec 32) (v300 : BitVec 32) (v309 : BitVec 32) (v320 : BitVec 32) (v336 : BitVec 32) (v367 : BitVec 32) (v398 : BitVec 32) (v429 : BitVec 32) (v460 : BitVec 32) : Prop :=
  (∀ (k0_h60 : k0_cond60 v289 v300 = 1#1), ∀ (k0_h64 : k0_cond64 v320 = 1#1), ∀ (r : Fin 4), ∀ a, (k0_off412 v309 v336 v367 v398 v429 v460 (BitVec.ofNat 32 (16 * r.val))) a + S16.size a ≤ S12864.size a)
theorem k0_off412_inb : ∀ (v289 : BitVec 32) (v300 : BitVec 32) (v309 : BitVec 32) (v320 : BitVec 32) (v336 : BitVec 32) (v367 : BitVec 32) (v398 : BitVec 32) (v429 : BitVec 32) (v460 : BitVec 32) (k0_hw205 : k0_chk205 v289 v300 v309 v320 v336 v367 v398 v429 v460), ∀ (k0_h60 : k0_cond60 v289 v300 = 1#1), ∀ (k0_h64 : k0_cond64 v320 = 1#1), ∀ (r : Fin 4), ∀ a, (k0_off412 v309 v336 v367 v398 v429 v460 (BitVec.ofNat 32 (16 * r.val))) a + S16.size a ≤ S12864.size a := fun v289 v300 v309 v320 v336 v367 v398 v429 v460 k0_hw205 k0_h60 k0_h64 r => k0_hw205 k0_h60 k0_h64 r

def k0_off413 (v309 : BitVec 32) (v336 : BitVec 32) (v367 : BitVec 32) (v398 : BitVec 32) (v429 : BitVec 32) (v460 : BitVec 32) (v491 : BitVec 32) (c0_i32_269 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let v495 : BitVec 32 := Scalar.muli v494 v493
  let c64_i32_268 : BitVec 32 := 64#32
  let v496 : BitVec 32 := Scalar.muli v495 c64_i32_268
  let v497 : BitVec 32 := Scalar.addi v496 c0_i32_269
  let v498 : Index := Scalar.indexCast v497
  ![v498.toNat]

def k0_chk206 (v289 : BitVec 32) (v300 : BitVec 32) (v309 : BitVec 32) (v320 : BitVec 32) (v336 : BitVec 32) (v367 : BitVec 32) (v398 : BitVec 32) (v429 : BitVec 32) (v460 : BitVec 32) (v491 : BitVec 32) : Prop :=
  (∀ (k0_h60 : k0_cond60 v289 v300 = 1#1), ∀ (k0_h64 : k0_cond64 v320 = 1#1), ∀ (r : Fin 4), ∀ a, (k0_off413 v309 v336 v367 v398 v429 v460 v491 (BitVec.ofNat 32 (16 * r.val))) a + S16.size a ≤ S12864.size a)
theorem k0_off413_inb : ∀ (v289 : BitVec 32) (v300 : BitVec 32) (v309 : BitVec 32) (v320 : BitVec 32) (v336 : BitVec 32) (v367 : BitVec 32) (v398 : BitVec 32) (v429 : BitVec 32) (v460 : BitVec 32) (v491 : BitVec 32) (k0_hw206 : k0_chk206 v289 v300 v309 v320 v336 v367 v398 v429 v460 v491), ∀ (k0_h60 : k0_cond60 v289 v300 = 1#1), ∀ (k0_h64 : k0_cond64 v320 = 1#1), ∀ (r : Fin 4), ∀ a, (k0_off413 v309 v336 v367 v398 v429 v460 v491 (BitVec.ofNat 32 (16 * r.val))) a + S16.size a ≤ S12864.size a := fun v289 v300 v309 v320 v336 v367 v398 v429 v460 v491 k0_hw206 k0_h60 k0_h64 r => k0_hw206 k0_h60 k0_h64 r

def k0_off414 (v309 : BitVec 32) (v336 : BitVec 32) (v367 : BitVec 32) (v398 : BitVec 32) (v429 : BitVec 32) (v460 : BitVec 32) (v491 : BitVec 32) (v522 : BitVec 32) (c0_i32_281 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let v526 : BitVec 32 := Scalar.muli v525 v524
  let c64_i32_280 : BitVec 32 := 64#32
  let v527 : BitVec 32 := Scalar.muli v526 c64_i32_280
  let v528 : BitVec 32 := Scalar.addi v527 c0_i32_281
  let v529 : Index := Scalar.indexCast v528
  ![v529.toNat]

def k0_chk207 (v289 : BitVec 32) (v300 : BitVec 32) (v309 : BitVec 32) (v320 : BitVec 32) (v336 : BitVec 32) (v367 : BitVec 32) (v398 : BitVec 32) (v429 : BitVec 32) (v460 : BitVec 32) (v491 : BitVec 32) (v522 : BitVec 32) : Prop :=
  (∀ (k0_h60 : k0_cond60 v289 v300 = 1#1), ∀ (k0_h64 : k0_cond64 v320 = 1#1), ∀ (r : Fin 4), ∀ a, (k0_off414 v309 v336 v367 v398 v429 v460 v491 v522 (BitVec.ofNat 32 (16 * r.val))) a + S16.size a ≤ S12864.size a)
theorem k0_off414_inb : ∀ (v289 : BitVec 32) (v300 : BitVec 32) (v309 : BitVec 32) (v320 : BitVec 32) (v336 : BitVec 32) (v367 : BitVec 32) (v398 : BitVec 32) (v429 : BitVec 32) (v460 : BitVec 32) (v491 : BitVec 32) (v522 : BitVec 32) (k0_hw207 : k0_chk207 v289 v300 v309 v320 v336 v367 v398 v429 v460 v491 v522), ∀ (k0_h60 : k0_cond60 v289 v300 = 1#1), ∀ (k0_h64 : k0_cond64 v320 = 1#1), ∀ (r : Fin 4), ∀ a, (k0_off414 v309 v336 v367 v398 v429 v460 v491 v522 (BitVec.ofNat 32 (16 * r.val))) a + S16.size a ≤ S12864.size a := fun v289 v300 v309 v320 v336 v367 v398 v429 v460 v491 v522 k0_hw207 k0_h60 k0_h64 r => k0_hw207 k0_h60 k0_h64 r

def k0_off415 (v309 : BitVec 32) (v336 : BitVec 32) (v367 : BitVec 32) (v398 : BitVec 32) (v429 : BitVec 32) (v460 : BitVec 32) (v491 : BitVec 32) (v522 : BitVec 32) (v553 : BitVec 32) (c0_i32_293 : BitVec 32) : Fin 1 → Nat :=
  let c0_i32_208 : BitVec 32 := 0#32
  let v337 : BitVec 1 := Scalar.cmpi .ne v336 c0_i32_208
  let c1_i32_209 : BitVec 32 := 1#32
  let c0_i32_210 : BitVec 32 := 0#32
  let v338 : BitVec 32 := Scalar.select v337 c1_i32_209 c0_i32_210
  let v339 : BitVec 32 := Scalar.addi v309 v338
  let c0_i32_217 : BitVec 32 := 0#32
  let v368 : BitVec 1 := Scalar.cmpi .ne v367 c0_i32_217
  let c1_i32_218 : BitVec 32 := 1#32
  let c0_i32_219 : BitVec 32 := 0#32
  let v369 : BitVec 32 := Scalar.select v368 c1_i32_218 c0_i32_219
  let v370 : BitVec 32 := Scalar.addi v339 v369
  let c0_i32_229 : BitVec 32 := 0#32
  let v399 : BitVec 1 := Scalar.cmpi .ne v398 c0_i32_229
  let c1_i32_230 : BitVec 32 := 1#32
  let c0_i32_231 : BitVec 32 := 0#32
  let v400 : BitVec 32 := Scalar.select v399 c1_i32_230 c0_i32_231
  let v401 : BitVec 32 := Scalar.addi v370 v400
  let c0_i32_241 : BitVec 32 := 0#32
  let v430 : BitVec 1 := Scalar.cmpi .ne v429 c0_i32_241
  let c1_i32_242 : BitVec 32 := 1#32
  let c0_i32_243 : BitVec 32 := 0#32
  let v431 : BitVec 32 := Scalar.select v430 c1_i32_242 c0_i32_243
  let v432 : BitVec 32 := Scalar.addi v401 v431
  let c0_i32_253 : BitVec 32 := 0#32
  let v461 : BitVec 1 := Scalar.cmpi .ne v460 c0_i32_253
  let c1_i32_254 : BitVec 32 := 1#32
  let c0_i32_255 : BitVec 32 := 0#32
  let v462 : BitVec 32 := Scalar.select v461 c1_i32_254 c0_i32_255
  let v463 : BitVec 32 := Scalar.addi v432 v462
  let c0_i32_265 : BitVec 32 := 0#32
  let v492 : BitVec 1 := Scalar.cmpi .ne v491 c0_i32_265
  let c1_i32_266 : BitVec 32 := 1#32
  let c0_i32_267 : BitVec 32 := 0#32
  let v493 : BitVec 32 := Scalar.select v492 c1_i32_266 c0_i32_267
  let v494 : BitVec 32 := Scalar.addi v463 v493
  let c0_i32_277 : BitVec 32 := 0#32
  let v523 : BitVec 1 := Scalar.cmpi .ne v522 c0_i32_277
  let c1_i32_278 : BitVec 32 := 1#32
  let c0_i32_279 : BitVec 32 := 0#32
  let v524 : BitVec 32 := Scalar.select v523 c1_i32_278 c0_i32_279
  let v525 : BitVec 32 := Scalar.addi v494 v524
  let c0_i32_289 : BitVec 32 := 0#32
  let v554 : BitVec 1 := Scalar.cmpi .ne v553 c0_i32_289
  let c1_i32_290 : BitVec 32 := 1#32
  let c0_i32_291 : BitVec 32 := 0#32
  let v555 : BitVec 32 := Scalar.select v554 c1_i32_290 c0_i32_291
  let v556 : BitVec 32 := Scalar.addi v525 v555
  let v557 : BitVec 32 := Scalar.muli v556 v555
  let c64_i32_292 : BitVec 32 := 64#32
  let v558 : BitVec 32 := Scalar.muli v557 c64_i32_292
  let v559 : BitVec 32 := Scalar.addi v558 c0_i32_293
  let v560 : Index := Scalar.indexCast v559
  ![v560.toNat]

def k0_chk208 (v289 : BitVec 32) (v300 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) : Prop :=
  (∀ (k0_h60 : k0_cond60 v289 v300 = 1#1), ∀ (k0_h64 : k0_cond64 v320 = 1#1), ∀ (r : Fin 4), ∀ a, (k0_off415 v309 v336 v367 v398 v429 v460 v491 v522 v553 (BitVec.ofNat 32 (16 * r.val))) a + S16.size a ≤ S12864.size a)
theorem k0_off415_inb : ∀ (v289 : BitVec 32) (v300 : BitVec 32) (v309 : BitVec 32) (v320 : BitVec 32) (v336 : BitVec 32) (v367 : BitVec 32) (v398 : BitVec 32) (v429 : BitVec 32) (v460 : BitVec 32) (v491 : BitVec 32) (v522 : BitVec 32) (v553 : BitVec 32) (k0_hw208 : k0_chk208 v289 v300 v309 v320 v336 v367 v398 v429 v460 v491 v522 v553), ∀ (k0_h60 : k0_cond60 v289 v300 = 1#1), ∀ (k0_h64 : k0_cond64 v320 = 1#1), ∀ (r : Fin 4), ∀ a, (k0_off415 v309 v336 v367 v398 v429 v460 v491 v522 v553 (BitVec.ofNat 32 (16 * r.val))) a + S16.size a ≤ S12864.size a := fun v289 v300 v309 v320 v336 v367 v398 v429 v460 v491 v522 v553 k0_hw208 k0_h60 k0_h64 r => k0_hw208 k0_h60 k0_h64 r

def k0_off416 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let c0_i32_2 : BitVec 32 := 0#32
  let c1_i32_3 : BitVec 32 := 1#32
  let arg16 : BitVec 32 := Scf.iv c0_i32_2 c1_i32_3 k0_t1
  let c8_i32_167 : BitVec 32 := 8#32
  let v278 : BitVec 32 := Scalar.muli arg16 c8_i32_167
  let c7_i32_168 : BitVec 32 := 7#32
  let v279 : BitVec 32 := Scalar.addi v278 c7_i32_168
  let c12800_i32_204 : BitVec 32 := 12800#32
  let v327 : BitVec 32 := Scalar.muli v279 c12800_i32_204
  let v328 : BitVec 32 := Scalar.addi v5 v327
  ![v328.toNat]
def k0_off417 (i : grid0.Coords) (c1536000_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_0 : BitVec 32 := 128#32
  let v4 : BitVec 32 := Scalar.muli v1 c128_i32_0
  let c12800_i32 : BitVec 32 := 12800#32
  let v5 : BitVec 32 := Scalar.muli v4 c12800_i32
  let v12 : BitVec 32 := Scalar.addi v5 c1536000_i32
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S201x64 : Shape := ⟨2, ![201, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 33
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S201x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S4096x200, .i32⟩
  | .hbm, ⟨6, _⟩ => ⟨S_, .i32⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S_, .i32⟩
  | .hbm, ⟨11, _⟩ => ⟨S4096x200, .i32⟩
  | .hbm, ⟨12, _⟩ => ⟨S4096x200, .i1⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S4096x200, .i32⟩
  | .hbm, ⟨17, _⟩ => ⟨S4096x200x1, .i32⟩
  | .hbm, ⟨18, _⟩ => ⟨S1, .i32⟩
  | .hbm, ⟨19, _⟩ => ⟨S_, .i32⟩
  | .hbm, ⟨20, _⟩ => ⟨S4096x200x1, .i32⟩
  | .hbm, ⟨21, _⟩ => ⟨S4096x200x1, .i1⟩
  | .hbm, ⟨22, _⟩ => ⟨S1x1x1, .i32⟩
  | .hbm, ⟨23, _⟩ => ⟨S4096x200x1, .i32⟩
  | .hbm, ⟨24, _⟩ => ⟨S4096x200x1, .i1⟩
  | .hbm, ⟨25, _⟩ => ⟨S4096x200x1, .i1⟩
  | .hbm, ⟨26, _⟩ => ⟨S_, .i1⟩
  | .hbm, ⟨27, _⟩ => ⟨S4096x200, .i1⟩
  | .hbm, ⟨28, _⟩ => ⟨S4096x200x64, .f32⟩
  | .hbm, ⟨29, _⟩ => ⟨S4096x200x64, .i1⟩
  | .hbm, ⟨30, _⟩ => ⟨S_, .f32⟩
  | .hbm, ⟨31, _⟩ => ⟨S4096x200x64, .f32⟩
  | .hbm, ⟨32, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v5 : Ref sig .tc := ⟨.hbm, 32, rfl⟩

abbrev nD : Nat := 1
abbrev τ : Topo := Topo.v7x

variable {F : FTy → Type} [FloatOps F]
-- ==== Proof.Words.lean ====
module

public import Idealize.ShloMosaic.Lib.Tactic
public import Idealize.ShloMosaic.Lib.Scf
public import Idealize.ShloMosaic.Lib.SparseCore.Quiescent

/-!
# Positions of a row's words, and the word arithmetic that computes them

A row is a function `xs : ℕ → BitVec 32`. The position of word `k` is zero when the word is zero, and otherwise
the number of nonzero words among the first `k + 1`. The kernel keeps this number in a 32-bit word that it updates
token by token; the lemmas here say that word never wraps on a row of 200 words.
-/

@[expose] public section

noncomputable section

namespace Cert.Proof

open Idealize.ShloMosaic

/-! ## Vectors of one axis by number -/

/-- The index of a one-axis shape at a number, taken modulo the extent. -/
def ix1 (N : ℕ) [h : NeZero N] (n : ℕ) : (⟨1, ![N]⟩ : Shape).Idx :=
  fun a => ⟨n % N, by
    have ha : (⟨1, ![N]⟩ : Shape).size a = N := by
      rw [show a = 0 from Subsingleton.elim (α := Fin 1) a 0]; rfl
    rw [ha]; exact Nat.mod_lt _ (Nat.pos_of_ne_zero h.out)⟩

theorem ix1_val (N : ℕ) [NeZero N] (n : ℕ) (a) : (ix1 N n a).val = n % N := rfl

theorem ix1_eq (N : ℕ) [NeZero N] (y : (⟨1, ![N]⟩ : Shape).Idx) : ix1 N (y 0).val = y := by
  funext a
  obtain rfl : a = 0 := Subsingleton.elim (α := Fin 1) a 0
  exact Fin.ext (Nat.mod_eq_of_lt (y 0).isLt)

/-- Lane `t` of a 16-lane vector. -/
abbrev lane {α : Type} (v : (⟨1, ![16]⟩ : Shape).Idx → α) (t : ℕ) : α := v (ix1 16 t)

/-! ## Counting -/

/-- The number of nonzero words among the first `n`. -/
def cnt (xs : ℕ → BitVec 32) : ℕ → ℕ
  | 0 => 0
  | n + 1 => cnt xs n + if xs n = 0#32 then 0 else 1

/-- The number of zero words among the `n` words from `a` on. -/
def zeros (xs : ℕ → BitVec 32) (a : ℕ) : ℕ → ℕ
  | 0 => 0
  | n + 1 => zeros xs a n + if xs (a + n) = 0#32 then 1 else 0

/-- The position of word `k`. -/
def pos (xs : ℕ → BitVec 32) (k : ℕ) : ℕ := if xs k = 0#32 then 0 else cnt xs (k + 1)

theorem cnt_succ (xs : ℕ → BitVec 32) (n : ℕ) : cnt xs (n + 1) = cnt xs n + if xs n = 0#32 then 0 else 1 := rfl

theorem zeros_succ (xs : ℕ → BitVec 32) (a n : ℕ) : zeros xs a (n + 1) = zeros xs a n + if xs (a + n) = 0#32 then 1 else 0 := rfl

theorem cnt_le (xs : ℕ → BitVec 32) (n : ℕ) : cnt xs n ≤ n := by
  induction n with
  | zero => exact Nat.le_refl _
  | succ n ih => unfold cnt; split <;> omega

theorem zeros_le (xs : ℕ → BitVec 32) (a n : ℕ) : zeros xs a n ≤ n := by
  induction n with
  | zero => exact Nat.le_refl _
  | succ n ih => unfold zeros; split <;> omega

theorem pos_le (xs : ℕ → BitVec 32) (k : ℕ) : pos xs k ≤ k + 1 := by
  unfold pos; split
  · omega
  · exact cnt_le xs (k + 1)

/-- Zero words and nonzero words of a stretch make it up. -/
theorem cnt_add_zeros (xs : ℕ → BitVec 32) (a n : ℕ) : cnt xs (a + n) + zeros xs a n = cnt xs a + n := by
  induction n with
  | zero => rfl
  | succ n ih =>
    rw [← Nat.add_assoc, cnt_succ, zeros_succ]
    split <;> omega

/-- Two adjacent stretches' zero words add up. -/
theorem zeros_add (xs : ℕ → BitVec 32) (a n l : ℕ) : zeros xs a (n + l) = zeros xs a n + zeros xs (a + n) l := by
  have h1 := cnt_add_zeros xs a (n + l)
  have h2 := cnt_add_zeros xs a n
  have h3 := cnt_add_zeros xs (a + n) l
  rw [Nat.add_assoc] at h3
  omega

/-- In a stretch without zero words every word is nonzero. -/
theorem ne_zero_of_zeros (xs : ℕ → BitVec 32) (a : ℕ) :
    ∀ n, zeros xs a n = 0 → ∀ t, t < n → xs (a + t) ≠ 0#32 := by
  intro n
  induction n with
  | zero => intro _ t ht; exact absurd ht (Nat.not_lt_zero _)
  | succ n ih =>
    intro h t ht
    unfold zeros at h
    rcases Nat.lt_succ_iff_lt_or_eq.mp ht with h' | rfl
    · exact ih (by omega) t h'
    · intro h0; rw [if_pos h0] at h; omega

/-- In a stretch without zero words the positions count up by one. -/
theorem pos_of_zeros {xs : ℕ → BitVec 32} {a n : ℕ} (h : zeros xs a n = 0) {t : ℕ} (ht : t < n) :
    pos xs (a + t) = cnt xs a + t + 1 := by
  unfold pos
  rw [if_neg (ne_zero_of_zeros xs a n h t ht)]
  have h1 := cnt_add_zeros xs a (t + 1)
  have h2 : zeros xs a (t + 1) = 0 := by
    have := zeros_add xs a (t + 1) (n - (t + 1))
    rw [show t + 1 + (n - (t + 1)) = n by omega] at this
    omega
  rw [← Nat.add_assoc] at h1
  omega

/-! ## The word that carries the count -/

/-- One for a nonzero word, zero for a zero word. -/
abbrev mw (w : BitVec 32) : BitVec 32 := Scalar.select (Scalar.cmpi .ne w 0#32) 1#32 0#32

/-- The count after `t` words, from the count `a` before them. -/
def carry (a : BitVec 32) (w : ℕ → BitVec 32) : ℕ → BitVec 32
  | 0 => a
  | t + 1 => Scalar.addi (carry a w t) (mw (w t))

/-- The table offset a token's copy `q` starts at, from the count `c` before the token and its word `w`. -/
abbrev srcOff (c w q : BitVec 32) : Fin 1 → ℕ :=
  ![(Scalar.indexCast (Scalar.addi (Scalar.muli (Scalar.muli (Scalar.addi c (mw w)) (mw w)) 64#32) q)).toNat]

theorem mw_eq (w : BitVec 32) : mw w = if w = 0#32 then 0#32 else 1#32 := by
  unfold mw
  by_cases h : w = 0#32
  · subst h; rfl
  · rw [if_neg h]
    have : Scalar.cmpi .ne w 0#32 = 1#1 := by
      show BitVec.ofBool (w != 0#32) = 1#1
      rw [bne_iff_ne.mpr h]; rfl
    rw [this]; rfl

theorem addi_ofNat (a b : ℕ) : Scalar.addi (BitVec.ofNat 32 a) (BitVec.ofNat 32 b) = BitVec.ofNat 32 (a + b) :=
  (BitVec.ofNat_add a b).symm

theorem muli_ofNat (a b : ℕ) : Scalar.muli (BitVec.ofNat 32 a) (BitVec.ofNat 32 b) = BitVec.ofNat 32 (a * b) :=
  (BitVec.ofNat_mul a b).symm

theorem subi_ofNat {a b : ℕ} (h : b ≤ a) : Scalar.subi (BitVec.ofNat 32 a) (BitVec.ofNat 32 b) = BitVec.ofNat 32 (a - b) := by
  show BitVec.ofNat 32 a - BitVec.ofNat 32 b = _
  have : BitVec.ofNat 32 a = BitVec.ofNat 32 (a - b) + BitVec.ofNat 32 b := by
    rw [← BitVec.ofNat_add, Nat.sub_add_cancel h]
  rw [this, BitVec.add_sub_cancel]

theorem indexCast_ofNat {n : ℕ} (h : n < 2 ^ 32) : (Scalar.indexCast (BitVec.ofNat 32 n)).toNat = n := by
  show (BitVec.ofNat 32 n).toNat = n
  rw [BitVec.toNat_ofNat, Nat.mod_eq_of_lt h]

/-- The count word steps by the next word's contribution. -/
theorem addi_cnt (xs : ℕ → BitVec 32) (k : ℕ) :
    Scalar.addi (BitVec.ofNat 32 (cnt xs k)) (mw (xs k)) = BitVec.ofNat 32 (cnt xs (k + 1)) := by
  rw [mw_eq, cnt_succ]
  split
  · exact addi_ofNat _ 0
  · exact addi_ofNat _ 1

/-- The carried word is the count. -/
theorem carry_eq (xs : ℕ → BitVec 32) (k : ℕ) (w : ℕ → BitVec 32) (n : ℕ) (hw : ∀ t, t < n → w t = xs (k + t)) :
    ∀ t, t ≤ n → carry (BitVec.ofNat 32 (cnt xs k)) w t = BitVec.ofNat 32 (cnt xs (k + t)) := by
  intro t
  induction t with
  | zero => intro _; rfl
  | succ t ih =>
    intro ht
    show Scalar.addi (carry _ w t) (mw (w t)) = _
    rw [ih (by omega), hw t (by omega), addi_cnt]; rfl

/-- The table offset of copy `q` of token `k`: `q` words into the table row at the token's position. -/
theorem srcOff_eq (xs : ℕ → BitVec 32) {k q : ℕ} (hk : k < 200) (hq : q < 64) :
    srcOff (BitVec.ofNat 32 (cnt xs k)) (xs k) (BitVec.ofNat 32 q) = ![64 * pos xs k + q] := by
  unfold srcOff
  have hc := cnt_le xs (k + 1)
  rw [addi_cnt, mw_eq]
  unfold pos
  split
  · rw [show (0#32) = BitVec.ofNat 32 0 from rfl, muli_ofNat, show (64#32) = BitVec.ofNat 32 64 from rfl, muli_ofNat, addi_ofNat,
      indexCast_ofNat (by omega)]
    simp
  · rw [show (1#32) = BitVec.ofNat 32 1 from rfl, muli_ofNat, show (64#32) = BitVec.ofNat 32 64 from rfl, muli_ofNat, addi_ofNat,
      indexCast_ofNat (by omega)]
    congr 1; omega

/-! ## The zero count of a 16-lane vector -/

theorem cmpi_eq_zero (w : BitVec 32) : IntOp.cmpi .eq w 0#32 = if w = 0#32 then 1#1 else 0#1 := by
  show BitVec.ofBool (w == 0#32) = _
  split
  · rename_i h; rw [beq_iff_eq.mpr h]; rfl
  · rename_i h; rw [beq_eq_false_iff_ne.mpr h]; rfl

/-- A running sum's last lane is the sum of all sixteen. -/
theorem scan_last (x : IVec ⟨1, ![16]⟩ 32) (h) (f : ℕ → ℕ) (hf : ∀ t, t < 16 → lane x t = BitVec.ofNat 32 (f t)) :
    extractAt ![15] (scan .sum x) h = BitVec.ofNat 32 (f 0 + f 1 + f 2 + f 3 + f 4 + f 5 + f 6 + f 7 + f 8 + f 9 + f 10 + f 11
      + f 12 + f 13 + f 14 + f 15) := by
  have hs : extractAt ![15] (scan .sum x) h
      = IntOp.addi (IntOp.addi (IntOp.addi (IntOp.addi (IntOp.addi (IntOp.addi
          (IntOp.addi (IntOp.addi (IntOp.addi (IntOp.addi (IntOp.addi (IntOp.addi
          (IntOp.addi (IntOp.addi (IntOp.addi (lane x 0) (lane x 1)) (lane x 2)) (lane x 3)) (lane x 4)) (lane x 5)) (lane x 6)) (lane x 7)) (lane x 8)) (lane x 9)) (lane x 10)) (lane x 11)) (lane x 12)) (lane x 13)) (lane x 14)) (lane x 15) := rfl
  rw [hs, hf 0 (by decide), hf 1 (by decide), hf 2 (by decide), hf 3 (by decide), hf 4 (by decide), hf 5 (by decide), hf 6 (by decide),
    hf 7 (by decide), hf 8 (by decide), hf 9 (by decide), hf 10 (by decide), hf 11 (by decide), hf 12 (by decide), hf 13 (by decide),
    hf 14 (by decide), hf 15 (by decide)]
  simp only [show ∀ a b : ℕ, IntOp.addi (BitVec.ofNat 32 a) (BitVec.ofNat 32 b) = BitVec.ofNat 32 (a + b) from addi_ofNat]

/-- The number of zero lanes of a chunk of sixteen words of the row. -/
theorem count16 (xs : ℕ → BitVec 32) (k : ℕ) (v : IVec ⟨1, ![16]⟩ 32) (hv : ∀ t, t < 16 → lane v t = xs (k + t)) (h) :
    extractAt ![15] (scan .sum (select (cmpi .eq v (broadcast _ 0#32)) (broadcast _ 1#32) (broadcast _ 0#32))) h
      = BitVec.ofNat 32 (zeros xs k 16) := by
  rw [scan_last _ h (fun t => if xs (k + t) = 0#32 then 1 else 0) (fun t ht => by
    show Scalar.select (IntOp.cmpi .eq (lane v t) 0#32) 1#32 0#32 = _
    rw [hv t ht, cmpi_eq_zero]
    split <;> rfl)]
  simp only [zeros_succ, show zeros xs k 0 = 0 from rfl, Nat.zero_add]

/-- The number of zero lanes among a vector's first eight, the others masked out by the lane number. -/
theorem count8 (xs : ℕ → BitVec 32) (k : ℕ) (v : IVec ⟨1, ![16]⟩ 32) (hv : ∀ t, t < 8 → lane v t = xs (k + t)) (h hi) :
    extractAt ![15] (scan .sum (select (andi (cmpi .slt (iota .scVector ⟨1, ![16]⟩ 32 [0] hi) (broadcast _ 8#32))
        (cmpi .eq v (broadcast _ 0#32))) (broadcast _ 1#32) (broadcast _ 0#32))) h
      = BitVec.ofNat 32 (zeros xs k 8) := by
  have hm : ∀ t, t < 16 → IntOp.cmpi .slt (BitVec.ofNat 32 (0 * 16 + t % 16)) 8#32 = if t < 8 then 1#1 else 0#1 := by decide
  rw [scan_last _ h (fun t => if t < 8 then (if xs (k + t) = 0#32 then 1 else 0) else 0) (fun t ht => by
    show Scalar.select (IntOp.andi (IntOp.cmpi .slt (BitVec.ofNat 32 (0 * 16 + t % 16)) 8#32) (IntOp.cmpi .eq (lane v t) 0#32)) 1#32 0#32 = _
    rw [hm t ht]
    by_cases h8 : t < 8
    · rw [if_pos h8, if_pos h8, hv t h8, cmpi_eq_zero]
      split <;> rfl
    · rw [if_neg h8, if_neg h8, cmpi_eq_zero]
      split <;> rfl)]
  simp only [zeros_succ, show zeros xs k 0 = 0 from rfl, Nat.zero_add]
  rfl

end Cert.Proof
-- ==== Proof.Rows.lean ====
module

public import Idealize.ShloMosaic.Lib.SparseCore.Quiescent
public import Idealize.ShloMosaic.Lib.Tactic
public import proofs.«01_k».proof.Proof.Words

/-!
# Writing a row of embeddings word by word

A row buffer of 12800 words is filled from a table buffer of 12864 words in steps of sixteen words. The state of a
row being filled is `rowDone n`: the first `n` words hold what they should. Each lemma takes the state one step on,
whatever assertion `R` is carried along.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-- Word `j` of a row's embedding: word `j % 64` of the table row at the position of token `j / 64`. -/
abbrev tgt {α : Type} (tb : ℕ → α) (xs : ℕ → BitVec 32) (j : ℕ) : α := tb (64 * pos xs (j / 64) + j % 64)

section Pure

variable {sig : RefSig} {κ : Kind} {sp : Space} {Val : EltTy → Type} {e : EltTy} {N : ℕ} [NeZero N]

/-- A sixteen-word store at offset `n`, read back: the stored word inside, what was there outside. -/
theorem read_write16 (v : View sig κ sp ⟨1, ![N]⟩ e) (f : v.ty.Contents Val) {n : ℕ} {off : Fin 1 → ℕ} (hoff : off = ![n]) (hn : n + 16 ≤ N)
    (inb : ∀ a, off a + (⟨1, ![16]⟩ : Shape).size a ≤ (⟨1, ![N]⟩ : Shape).size a) (w : (⟨1, ![16]⟩ : Shape).Idx → Val e) (j : ℕ) (hj : j < N) :
    v.read Val ((v.slice (Rect.unit (s := ⟨1, ![N]⟩) off (⟨1, ![16]⟩ : Shape).size inb)).write Val f w Finset.univ) (ix1 N j)
      = if n ≤ j ∧ j < n + 16 then w (ix1 16 (j - n)) else v.read Val f (ix1 N j) := by
  subst hoff
  split
  · rename_i h
    have he : ix1 N j = (Rect.unit (s := ⟨1, ![N]⟩) ![n] (⟨1, ![16]⟩ : Shape).size inb).emb (ix1 16 (j - n)) := by
      funext a
      obtain rfl : a = 0 := Subsingleton.elim (α := Fin 1) a 0
      refine Fin.ext ?_
      show j % N = n + 1 * ((j - n) % 16)
      rw [Nat.mod_eq_of_lt hj, Nat.mod_eq_of_lt (by omega)]; omega
    rw [he]
    exact View.read_write_of_mem (v := v.slice (Rect.unit (s := ⟨1, ![N]⟩) ![n] (⟨1, ![16]⟩ : Shape).size inb)) f w
      (Finset.mem_univ (ix1 16 (j - n)))
  · rename_i h
    rw [View.read_apply, View.read_apply]
    congr 1
    refine View.write_of_not_mem _ _ _ ?_
    intro hm
    rw [View.setOn_univ, View.set_slice, Finset.mem_map] at hm
    obtain ⟨y, hy, he⟩ := hm
    obtain rfl : y = ix1 N j := v.emb.injective he
    rw [← Rect.map_emb_univ, Finset.mem_map] at hy
    obtain ⟨x, -, hx⟩ := hy
    have h0 := congrArg (fun i : (⟨1, ![N]⟩ : Shape).Idx => (i 0).val) hx
    have h1 : n + 1 * (x 0).val = j % N := h0
    rw [Nat.mod_eq_of_lt hj] at h1
    have h2 : (x 0).val < 16 := (x 0).isLt
    omega

/-- A sixteen-word load at offset `n`, lane by lane. -/
theorem readAt16 (v : View sig κ sp ⟨1, ![N]⟩ e) (f : v.ty.Contents Val) {n : ℕ} {off : Fin 1 → ℕ} (hoff : off = ![n]) (hn : n + 16 ≤ N)
    (inb : ∀ a, off a + (⟨1, ![16]⟩ : Shape).size a ≤ (⟨1, ![N]⟩ : Shape).size a) (t : ℕ) (ht : t < 16) :
    v.readAt Val (Rect.unit (s := ⟨1, ![N]⟩) off (⟨1, ![16]⟩ : Shape).size inb).toLoadRect f (ix1 16 t) = v.read Val f (ix1 N (n + t)) := by
  subst hoff
  show v.read Val f _ = _
  congr 1
  funext a
  obtain rfl : a = 0 := Subsingleton.elim (α := Fin 1) a 0
  refine Fin.ext ?_
  show n + 1 * (t % 16) = (n + t) % N
  rw [Nat.mod_eq_of_lt ht, Nat.mod_eq_of_lt (by omega)]; omega

end Pure

section Step

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} {𝒱 : Variants}
variable {d : Dev nD} {c : Fin τ.nSC} {s : Fin τ.nSub} {bd : Option 𝒱.V} {α : Type}
local notation "𝕄" => MT nD τ sig Ix Val Name U Lvl

/-- The table buffer held at share `q` with contents `ft`. -/
abbrev tabAt (d : Dev nD) (c : Fin τ.nSC) (s : Fin τ.nSub) (tabM : Memref sig .scVector .vmem ⟨1, ![12864]⟩ .f32)
    (q : PosShare TreeShare) (ft : Buf Val (tabM.view.loc (V d c s))) : sProp 𝕄 :=
  tabM.view.loc (V d c s) ↦[tabM.view.set]{q} ft

/-- The row buffer, its first `n` words holding the target `tg`. -/
def rowDone (d : Dev nD) (c : Fin τ.nSC) (s : Fin τ.nSub) (rowM : Memref sig .scVector .vmem ⟨1, ![12800]⟩ .f32)
    (tg : ℕ → Val .f32) (n : ℕ) : sProp 𝕄 :=
  iprop(∃ f, ⌜∀ j, j < n → j < 12800 → rowM.view.read Val f (ix1 12800 j) = tg j⌝ ∗ (rowM.view.loc (V d c s) ↦[rowM.view.set]{fullShare} f))

variable {tabM : Memref sig .scVector .vmem ⟨1, ![12864]⟩ .f32} {rowM : Memref sig .scVector .vmem ⟨1, ![12800]⟩ .f32}
variable {q : PosShare TreeShare} {ft : Buf Val (tabM.view.loc (V d c s))} {tg : ℕ → Val .f32}

/-- The table's words by number. -/
abbrev tabFn (tabM : Memref sig .scVector .vmem ⟨1, ![12864]⟩ .f32) (ft : tabM.view.ty.Contents Val) (j : ℕ) : Val .f32 :=
  tabM.view.read Val ft (ix1 12864 j)

/-- Sixteen words copied from table offset `a` to row offset `n`: load, load, store. -/
theorem copy16 {n a : ℕ} {so dO : Fin 1 → ℕ} (hs : so = ![a]) (hd : dO = ![n]) (hn : n + 16 ≤ 12800)
    (hval : ∀ i, i < 16 → tabFn tabM ft (a + i) = tg (n + i)) {hsi hdi hl hl' hx hm}
    {k : Prog (TpuEff nD τ sig Val Λ (.scVector c s)) α} {R : sProp 𝕄} {Q : α → sProp 𝕄}
    (h : (iprop(tabAt d c s tabM q ft ∗ rowDone d c s rowM tg (n + 16) ∗ R) : sProp 𝕄) ⊢ wp frame (wpE defs 𝒱 (V d c s) bd) Set.univ k Q) :
    (iprop(tabAt d c s tabM q ft ∗ rowDone d c s rowM tg n ∗ R) : sProp 𝕄) ⊢ wp frame (wpE defs 𝒱 (V d c s) bd) Set.univ
      (.op (.load tabM (Rect.unit (s := ⟨1, ![12864]⟩) so (⟨1, ![16]⟩ : Shape).size hsi).toLoadRect hl) fun v =>
        .op (.load rowM (Rect.unit (s := ⟨1, ![12800]⟩) dO (⟨1, ![16]⟩ : Shape).size hdi).toLoadRect hl') fun _ =>
          .op (.store rowM (Rect.unit (s := ⟨1, ![12800]⟩) dO (⟨1, ![16]⟩ : Shape).size hdi) v Finset.univ hx hm) fun _ => k) Q := by
  have ha : a + 16 ≤ 12864 := by
    have := hsi 0; rw [hs] at this; exact this
  unfold rowDone
  iintro ⟨Ht, ⟨%f, %hf, Hr⟩, HR⟩
  iapply (wp_load (defs := defs) 𝒱 (V d c s) bd Set.univ (View.setOn_subset_set _ _)) $$ Ht
  iintro Ht
  iapply (wp_load (defs := defs) 𝒱 (V d c s) bd Set.univ (View.setOn_subset_set _ _)) $$ Hr
  iintro Hr
  iapply (wp_store (defs := defs) 𝒱 (V d c s) bd Set.univ (m := rowM) (r := Rect.unit (s := ⟨1, ![12800]⟩) dO (⟨1, ![16]⟩ : Shape).size hdi)
    (S := rowM.view.set) (f := f) ((View.setOn_subset_set _ _).trans (View.set_slice_subset _ _))) $$ Hr
  iintro Hr
  iapply h
  isplitl [Ht]; · iexact Ht
  isplitl [Hr]
  · unfold rowDone
    iexists _
    isplitr
    swap; · iexact Hr
    ipureintro
    intro j hj hj'
    rw [read_write16 rowM.view f hd hn hdi _ j hj']
    split
    · rename_i hc
      rw [readAt16 tabM.view ft hs ha hsi (j - n) (by omega)]
      have := hval (j - n) (by omega)
      rw [Nat.add_sub_cancel' hc.1] at this
      exact this
    · exact hf j (by omega) hj'
  iexact HR

/-- A word of a vector, taken out as the kernel takes it out: a slice of one lane, then its lane. -/
theorem word_eq {v : (⟨1, ![16]⟩ : Shape).Idx → BitVec 32} {t : ℕ} (ht : t < 16) {h h'} :
    extractAt ![0] (extractStridedSlice ⟨1, ![1]⟩ ![t] v h) h' = lane v t := by
  show v _ = v _
  congr 1
  funext a
  obtain rfl : a = 0 := Subsingleton.elim (α := Fin 1) a 0
  refine Fin.ext ?_
  show t + 0 = t % 16
  rw [Nat.mod_eq_of_lt ht, Nat.add_zero]

/-- One token copied: the side condition of its four loads is assumed, and its 64 words follow. The running count
before the token is `c0`, the token `w`. -/
theorem tok {xs : ℕ → BitVec 32} {n : ℕ} {c0 w : BitVec 32} {s0 s1 s2 s3 d0 d1 d2 d3 : Fin 1 → ℕ} (hn : n < 200)
    (hc : c0 = BitVec.ofNat 32 (cnt xs n)) (hw : w = xs n) {P : Prop} {dP : Decidable P}
    (hP : (∀ r : Fin 4, ∀ a : Fin 1, srcOff c0 w (BitVec.ofNat 32 (16 * r.val)) a + (⟨1, ![16]⟩ : Shape).size a ≤ (⟨1, ![12864]⟩ : Shape).size a) → P)
    (hs0 : s0 = srcOff c0 w 0#32) (hs1 : s1 = srcOff c0 w 16#32) (hs2 : s2 = srcOff c0 w 32#32) (hs3 : s3 = srcOff c0 w 48#32)
    (hd0 : d0 = ![64 * n]) (hd1 : d1 = ![64 * n + 16]) (hd2 : d2 = ![64 * n + 32]) (hd3 : d3 = ![64 * n + 48])
    {a0 : PLift P → ∀ a, s0 a + (⟨1, ![16]⟩ : Shape).size a ≤ (⟨1, ![12864]⟩ : Shape).size a}
    {a1 : PLift P → ∀ a, s1 a + (⟨1, ![16]⟩ : Shape).size a ≤ (⟨1, ![12864]⟩ : Shape).size a}
    {a2 : PLift P → ∀ a, s2 a + (⟨1, ![16]⟩ : Shape).size a ≤ (⟨1, ![12864]⟩ : Shape).size a}
    {a3 : PLift P → ∀ a, s3 a + (⟨1, ![16]⟩ : Shape).size a ≤ (⟨1, ![12864]⟩ : Shape).size a}
    {l0 : ∀ x : PLift P, tabM.view.LoadsAt (Rect.unit (s := ⟨1, ![12864]⟩) s0 (⟨1, ![16]⟩ : Shape).size (a0 x)).toLoadRect}
    {l1 : ∀ x : PLift P, tabM.view.LoadsAt (Rect.unit (s := ⟨1, ![12864]⟩) s1 (⟨1, ![16]⟩ : Shape).size (a1 x)).toLoadRect}
    {l2 : ∀ x : PLift P, tabM.view.LoadsAt (Rect.unit (s := ⟨1, ![12864]⟩) s2 (⟨1, ![16]⟩ : Shape).size (a2 x)).toLoadRect}
    {l3 : ∀ x : PLift P, tabM.view.LoadsAt (Rect.unit (s := ⟨1, ![12864]⟩) s3 (⟨1, ![16]⟩ : Shape).size (a3 x)).toLoadRect}
    {e0 e1 e2 e3 m0 m1 m2 m3 x0 x1 x2 x3 y0 y1 y2 y3}
    {k : PLift P → Prog (TpuEff nD τ sig Val Λ (.scVector c s)) α} {R : sProp 𝕄} {Q : α → sProp 𝕄}
    (h : ∀ x, (iprop(tabAt d c s tabM q ft ∗ rowDone d c s rowM (tgt (tabFn tabM ft) xs) (64 * (n + 1)) ∗ R) : sProp 𝕄)
      ⊢ wp frame (wpE defs 𝒱 (V d c s) bd) Set.univ (k x) Q) :
    (iprop(tabAt d c s tabM q ft ∗ rowDone d c s rowM (tgt (tabFn tabM ft) xs) (64 * n) ∗ R) : sProp 𝕄)
      ⊢ wp frame (wpE defs 𝒱 (V d c s) bd) Set.univ
      (.op (.assume P dP) fun x =>
      .op (.load tabM (Rect.unit (s := ⟨1, ![12864]⟩) s0 (⟨1, ![16]⟩ : Shape).size (a0 x)).toLoadRect (l0 x)) fun v0 =>
      .op (.load rowM (Rect.unit (s := ⟨1, ![12800]⟩) d0 (⟨1, ![16]⟩ : Shape).size e0).toLoadRect m0) fun _ =>
      .op (.store rowM (Rect.unit (s := ⟨1, ![12800]⟩) d0 (⟨1, ![16]⟩ : Shape).size e0) v0 Finset.univ x0 y0) fun _ =>
      .op (.load tabM (Rect.unit (s := ⟨1, ![12864]⟩) s1 (⟨1, ![16]⟩ : Shape).size (a1 x)).toLoadRect (l1 x)) fun v1 =>
      .op (.load rowM (Rect.unit (s := ⟨1, ![12800]⟩) d1 (⟨1, ![16]⟩ : Shape).size e1).toLoadRect m1) fun _ =>
      .op (.store rowM (Rect.unit (s := ⟨1, ![12800]⟩) d1 (⟨1, ![16]⟩ : Shape).size e1) v1 Finset.univ x1 y1) fun _ =>
      .op (.load tabM (Rect.unit (s := ⟨1, ![12864]⟩) s2 (⟨1, ![16]⟩ : Shape).size (a2 x)).toLoadRect (l2 x)) fun v2 =>
      .op (.load rowM (Rect.unit (s := ⟨1, ![12800]⟩) d2 (⟨1, ![16]⟩ : Shape).size e2).toLoadRect m2) fun _ =>
      .op (.store rowM (Rect.unit (s := ⟨1, ![12800]⟩) d2 (⟨1, ![16]⟩ : Shape).size e2) v2 Finset.univ x2 y2) fun _ =>
      .op (.load tabM (Rect.unit (s := ⟨1, ![12864]⟩) s3 (⟨1, ![16]⟩ : Shape).size (a3 x)).toLoadRect (l3 x)) fun v3 =>
      .op (.load rowM (Rect.unit (s := ⟨1, ![12800]⟩) d3 (⟨1, ![16]⟩ : Shape).size e3).toLoadRect m3) fun _ =>
      .op (.store rowM (Rect.unit (s := ⟨1, ![12800]⟩) d3 (⟨1, ![16]⟩ : Shape).size e3) v3 Finset.univ x3 y3) fun _ => k x) Q := by
  subst hc hw
  have hp := pos_le xs n
  have hoff : ∀ q, q < 64 → srcOff (BitVec.ofNat 32 (cnt xs n)) (xs n) (BitVec.ofNat 32 q) = ![64 * pos xs n + q] := fun q hq => srcOff_eq xs hn hq
  have hval : ∀ q, q + 16 ≤ 64 → ∀ i, i < 16 → tabFn tabM ft (64 * pos xs n + q + i) = tgt (tabFn tabM ft) xs (64 * n + q + i) := by
    intro q hq i hi
    unfold tgt
    rw [show (64 * n + q + i) / 64 = n by omega, show (64 * n + q + i) % 64 = q + i by omega, Nat.add_assoc]
  have hP' : P := hP fun r a => by
    rw [hoff _ (by omega)]
    obtain rfl : a = 0 := Subsingleton.elim (α := Fin 1) a 0
    show 64 * pos xs n + 16 * r.val + 16 ≤ 12864
    omega
  rw [wp_assume_of 𝒱 (V d c s) bd Set.univ hP']
  refine copy16 (a := 64 * pos xs n + 0) (hs0.trans (hoff 0 (by omega))) hd0 (by omega) (fun i hi => hval 0 (by omega) i hi) ?_
  refine copy16 (a := 64 * pos xs n + 16) (hs1.trans (hoff 16 (by omega))) hd1 (by omega) (fun i hi => hval 16 (by omega) i hi) ?_
  refine copy16 (a := 64 * pos xs n + 32) (hs2.trans (hoff 32 (by omega))) hd2 (by omega) (fun i hi => hval 32 (by omega) i hi) ?_
  refine copy16 (a := 64 * pos xs n + 48) (hs3.trans (hoff 48 (by omega))) hd3 (by omega) (fun i hi => hval 48 (by omega) i hi) ?_
  exact h _

end Step

end Cert.Proof
-- ==== Proof.Loops.lean ====
module

public import Idealize.ShloMosaic.Lib.Exec.Geometry
public import proofs.«01_k».proof.Proof.Rows

/-!
# The loops that fill a row

A row's 200 tokens are done in twelve chunks of sixteen and a last one of eight. A chunk without a zero token is a
stretch of consecutive table rows, copied by a loop of sixteen-word copies; any other chunk is done token by token.
The statements are about any program of that form: the caller gives the token-by-token part as a hypothesis.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Words and conditions as the kernel writes them -/

theorem slices16 (t : ℕ) : (⟨1, ![16]⟩ : Shape).Slices ![t % 16] ⟨1, ![1]⟩ := by
  have h : ∀ n : Fin 16, (⟨1, ![16]⟩ : Shape).Slices ![n.val] ⟨1, ![1]⟩ := by decide
  exact h ⟨t % 16, Nat.mod_lt _ (by decide)⟩

/-- Token `t` of a vector of sixteen, taken out as the kernel takes it out. -/
def wd (v : IVec ⟨1, ![16]⟩ 32) (t : ℕ) : BitVec 32 :=
  extractAt ![0] (extractStridedSlice ⟨1, ![1]⟩ ![t % 16] v (slices16 t)) (by decide)

theorem wd_eq (v : IVec ⟨1, ![16]⟩ 32) {t : ℕ} (ht : t < 16) : wd v t = lane v t := by
  unfold wd
  rw [word_eq (Nat.mod_lt _ (by decide))]
  show v (ix1 16 (t % 16)) = v (ix1 16 t)
  rw [Nat.mod_eq_of_lt ht]

/-- The condition "no zero in the chunk". -/
abbrev isZ (w : BitVec 32) : BitVec 1 := Scalar.cmpi .ne (Scalar.extui (Scalar.cmpi .eq w 0#32) : BitVec 32) 0#32
/-- The condition "a zero in the chunk". -/
abbrev isPos (w : BitVec 32) : BitVec 1 := Scalar.cmpi .ne (Scalar.extui (Scalar.cmpi .sgt w 0#32) : BitVec 32) 0#32

theorem isZ_iff : ∀ n, n ≤ 16 → (isZ (BitVec.ofNat 32 n) = 1#1 ↔ n = 0) := by decide
theorem isPos_iff : ∀ n, n ≤ 16 → (isPos (BitVec.ofNat 32 n) = 1#1 ↔ n ≠ 0) := by decide

/-- The number of zeros of a vector of sixteen, as the kernel computes it. -/
abbrev zc16 (v : IVec ⟨1, ![16]⟩ 32) : BitVec 32 :=
  extractAt ![15] (scan .sum (select (cmpi .eq v (broadcast _ 0#32)) (broadcast _ 1#32) (broadcast _ 0#32))) (by decide)

/-- The table offset of copy `k` of a zero-free stretch, from the count `c` before it. -/
abbrev fastOff (c : BitVec 32) (k : ℕ) : Fin 1 → ℕ :=
  ![(Scalar.indexCast (Scalar.addi (Scalar.muli (Scalar.addi c 1#32) 64#32) (Scalar.muli (Scf.iv 0#32 1#32 k) 16#32))).toNat]

theorem fastOff_eq {c : BitVec 32} {n k : ℕ} (hc : c = BitVec.ofNat 32 n) (hn : n < 200) (hk : k < 64) :
    fastOff c k = ![64 * (n + 1) + 16 * k] := by
  subst hc
  have hiv : Scf.iv 0#32 1#32 k = BitVec.ofNat 32 k := by
    show 0#32 + BitVec.ofNat 32 k * 1#32 = _
    rw [BitVec.mul_one, BitVec.zero_add]
  unfold fastOff
  rw [hiv, show (1#32 : BitVec 32) = BitVec.ofNat 32 1 from rfl, show (64#32 : BitVec 32) = BitVec.ofNat 32 64 from rfl,
    show (16#32 : BitVec 32) = BitVec.ofNat 32 16 from rfl, addi_ofNat, muli_ofNat, muli_ofNat, addi_ofNat, indexCast_ofNat (by omega)]
  congr 1
  omega

section Rules

variable {nD : Nat} {τ : Topo} {sig : RefSig} {Ix : Type} [DecidableEq Ix] {F : FTy → Type} [FloatOps F] {Name : Type} [DecidableEq Name]
variable {U : Type} [URA U] {Lvl : Type} [Preorder Lvl] {Λ : Labels} {defs : Defs nD τ sig (Elt F) Λ} {𝒱 : Variants}
variable {d : Dev nD} {c : Fin τ.nSC} {s : Fin τ.nSub} {bd : Option 𝒱.V} {α : Type}
local notation "𝕄" => MT nD τ sig Ix (Elt F) Name U Lvl

variable {tabM : Memref sig .scVector .vmem ⟨1, ![12864]⟩ .f32} {rowM : Memref sig .scVector .vmem ⟨1, ![12800]⟩ .f32}
variable {xM : Memref sig .scVector .vmem ⟨1, ![12816]⟩ .i32}
variable {q : PosShare TreeShare} {ft : Buf (Elt F) (tabM.view.loc (V d c s))} {tg : ℕ → Elt F .f32}

/-- A value returned. -/
theorem wp_retI {a : α} {R : sProp 𝕄} {Q : α → sProp 𝕄} (h : R ⊢ Q a) :
    R ⊢ wp frame (wpE defs 𝒱 (V d c s) bd) Set.univ (.ret a) Q := by
  rw [wp_ret]
  iintro H
  imodintro
  iapply h $$ H

/-- A program's head under its own part of the state, then the rest. -/
theorem wp_part {β : Type} {p : Prog (TpuEff nD τ sig (Elt F) Λ (.scVector c s)) β} {k : β → Prog (TpuEff nD τ sig (Elt F) Λ (.scVector c s)) α}
    {P R : sProp 𝕄} {P' : β → sProp 𝕄} {Q : α → sProp 𝕄}
    (hp : P ⊢ wp frame (wpE defs 𝒱 (V d c s) bd) Set.univ p P')
    (hk : ∀ b, (iprop(P' b ∗ R) : sProp 𝕄) ⊢ wp frame (wpE defs 𝒱 (V d c s) bd) Set.univ (k b) Q) :
    (iprop(P ∗ R) : sProp 𝕄) ⊢ wp frame (wpE defs 𝒱 (V d c s) bd) Set.univ (p >>= k) Q := by
  rw [wp_bind]
  iintro ⟨HP, HR⟩
  ihave H := hp $$ HP
  iapply (wp_wand_r (M := 𝕄) frame (wpE defs 𝒱 (V d c s) bd) Set.univ)
  isplitl [H]; · iexact H
  iintro %b HP
  iapply (hk b)
  isplitl [HP]; · iexact HP
  iexact HR

/-- A stretch of `16 * N` words copied by a loop of `N` trips of sixteen words. -/
theorem fast_loop {L : Scf.Loop 32} {hok : L.OK} {n N m : ℕ} (hN : L.trips = N) (hm : n + 16 * N = m)
    {body : Fin L.trips → PUnit → Prog (TpuEff nD τ sig (Elt F) Λ (.scVector c s)) PUnit}
    (step : ∀ (j : Fin L.trips) (u : PUnit), j.val < N → (iprop(tabAt d c s tabM q ft ∗ rowDone d c s rowM tg (n + 16 * j.val) ∗ emp) : sProp 𝕄)
      ⊢ wp frame (wpE defs 𝒱 (V d c s) bd) Set.univ (body j u)
        (fun _ => iprop(tabAt d c s tabM q ft ∗ rowDone d c s rowM tg (n + 16 * j.val + 16) ∗ emp))) :
    (iprop(tabAt d c s tabM q ft ∗ rowDone d c s rowM tg n ∗ emp) : sProp 𝕄) ⊢ wp frame (wpE defs 𝒱 (V d c s) bd) Set.univ
      (Scf.Loop.for L hok PUnit.unit body)
      (fun _ => iprop(tabAt d c s tabM q ft ∗ rowDone d c s rowM tg m ∗ emp)) := by
  subst hN hm
  iintro H
  iapply (Scf.wp_for (M := 𝕄) frame (wpE defs 𝒱 (V d c s) bd) Set.univ L.lb L.ub L.st hok PUnit.unit body
    (fun j _ => iprop(tabAt d c s tabM q ft ∗ rowDone d c s rowM tg (n + 16 * j) ∗ emp)) (fun j u => step j u j.isLt))
  isplitl [H]; · iexact H
  iintro %u H
  iexact H

/-- One trip of that loop where the `T` tokens from `k0` on hold no zero: their table rows are consecutive. -/
theorem fast_step {xs : ℕ → BitVec 32} {c0 : BitVec 32} {k0 T j : ℕ} (hc : c0 = BitVec.ofNat 32 (cnt xs k0)) (hz : zeros xs k0 T = 0)
    (hT : T ≤ 16) (hk : k0 + T ≤ 200) (hT0 : 0 < T) (hj : 16 * j + 16 ≤ 64 * T) {so dO : Fin 1 → ℕ} (hs : so = fastOff c0 j)
    (hd : dO = ![64 * k0 + 16 * j])
    {hsi hdi hl hl' hx hm} {R : sProp 𝕄} :
    (iprop(tabAt d c s tabM q ft ∗ rowDone d c s rowM (tgt (tabFn tabM ft) xs) (64 * k0 + 16 * j) ∗ R) : sProp 𝕄)
      ⊢ wp frame (wpE defs 𝒱 (V d c s) bd) Set.univ
      (.op (.load tabM (Rect.unit (s := ⟨1, ![12864]⟩) so (⟨1, ![16]⟩ : Shape).size hsi).toLoadRect hl) fun v =>
        .op (.load rowM (Rect.unit (s := ⟨1, ![12800]⟩) dO (⟨1, ![16]⟩ : Shape).size hdi).toLoadRect hl') fun _ =>
          .op (.store rowM (Rect.unit (s := ⟨1, ![12800]⟩) dO (⟨1, ![16]⟩ : Shape).size hdi) v Finset.univ hx hm) fun _ => .ret ())
      (fun _ => iprop(tabAt d c s tabM q ft ∗ rowDone d c s rowM (tgt (tabFn tabM ft) xs) (64 * k0 + 16 * j + 16) ∗ R)) := by
  have hcl := cnt_le xs k0
  refine copy16 (a := 64 * (cnt xs k0 + 1) + 16 * j) (hs.trans (fastOff_eq hc (by omega) (by omega))) hd (by omega) ?_ (wp_retI .rfl)
  intro i hi
  have ht : (64 * k0 + 16 * j + i) / 64 = k0 + (16 * j + i) / 64 := by omega
  have hp := pos_of_zeros hz (t := (16 * j + i) / 64) (by omega)
  show tabFn tabM ft _ = tabFn tabM ft _
  rw [ht, hp]
  congr 1
  omega

/-- One trip of the chunk loop: the sixteen words are loaded and their zeros counted; without a zero the copies loop
(`A`), with one they go token by token (`B`). The count word steps by the nonzero words. -/
theorem chunk_trip {xs : ℕ → BitVec 32} {fx : Buf (Elt F) (xM.view.loc (V d c s))} {xo k3 : ℕ} (hk3 : k3 < 12) (hxo : xo + 200 ≤ 12800)
    (hX : ∀ j, j < 200 → xM.view.read (Elt F) fx (ix1 12816 (xo + j)) = xs j) {off : Fin 1 → ℕ} (hoff : off = ![xo + 16 * k3])
    {c0 : BitVec 32} (hc : c0 = BitVec.ofNat 32 (cnt xs (16 * k3))) {P : IVec ⟨1, ![16]⟩ 32 → Prop} {dP : ∀ v, Decidable (P v)}
    (hP : (∀ k, k < 64 → ∀ a : Fin 1, fastOff c0 k a + (⟨1, ![16]⟩ : Shape).size a ≤ (⟨1, ![12864]⟩ : Shape).size a) → ∀ v, P v) {hi hl}
    {iA : ∀ v, Decidable (isZ (zc16 v) = 1#1)} {iB : ∀ v, Decidable (isPos (zc16 v) = 1#1)}
    {A : ∀ v, PLift (P v) → isZ (zc16 v) = 1#1 → Prog (TpuEff nD τ sig (Elt F) Λ (.scVector c s)) Unit}
    {B : ∀ v, PLift (P v) → isPos (zc16 v) = 1#1 → Prog (TpuEff nD τ sig (Elt F) Λ (.scVector c s)) (BitVec 32)}
    {R : sProp 𝕄} {Q : BitVec 32 → sProp 𝕄}
    (hA : ∀ v hv hz, (∀ t, t < 16 → lane v t = xs (16 * k3 + t)) → zeros xs (16 * k3) 16 = 0 →
      (iprop(tabAt d c s tabM q ft ∗ rowDone d c s rowM tg (64 * (16 * k3 + 0)) ∗ emp) : sProp 𝕄) ⊢ wp frame (wpE defs 𝒱 (V d c s) bd) Set.univ (A v hv hz)
        (fun _ => iprop(tabAt d c s tabM q ft ∗ rowDone d c s rowM tg (64 * (16 * k3 + 16)) ∗ emp)))
    (hB : ∀ v hv hz, (∀ t, t < 16 → lane v t = xs (16 * k3 + t)) → ∀ R' : sProp 𝕄,
      ((iprop(tabAt d c s tabM q ft ∗ rowDone d c s rowM tg (64 * (16 * k3 + 16)) ∗ R') : sProp 𝕄)
        ⊢ wp frame (wpE defs 𝒱 (V d c s) bd) Set.univ (.ret (Scalar.subi (Scalar.addi c0 16#32) (zc16 v))) Q) →
      (iprop(tabAt d c s tabM q ft ∗ rowDone d c s rowM tg (64 * (16 * k3 + 0)) ∗ R') : sProp 𝕄) ⊢ wp frame (wpE defs 𝒱 (V d c s) bd) Set.univ (B v hv hz) Q)
    (h : (iprop(tabAt d c s tabM q ft ∗ rowDone d c s rowM tg (64 * (16 * k3 + 16)) ∗ (xM.view.loc (V d c s) ↦[xM.view.set]{fullShare} fx) ∗ R) : sProp 𝕄)
      ⊢ Q (BitVec.ofNat 32 (cnt xs (16 * (k3 + 1))))) :
    (iprop(tabAt d c s tabM q ft ∗ rowDone d c s rowM tg (64 * (16 * k3 + 0)) ∗ (xM.view.loc (V d c s) ↦[xM.view.set]{fullShare} fx) ∗ R) : sProp 𝕄)
      ⊢ wp frame (wpE defs 𝒱 (V d c s) bd) Set.univ
        (.op (TpuEff.load (e := .i32) xM (Rect.unit (s := ⟨1, ![12816]⟩) off (⟨1, ![16]⟩ : Shape).size hi).toLoadRect hl) fun v : IVec ⟨1, ![16]⟩ 32 =>
          .op (.assume (P v) (dP v)) fun x =>
            @dite _ (isZ (zc16 v) = 1#1) (iA v)
              (fun hz => A v x hz >>= fun _ =>
                @dite _ (isPos (zc16 v) = 1#1) (iB v) (fun hz => B v x hz) (fun _ => .ret (Scalar.subi (Scalar.addi c0 16#32) (zc16 v))))
              (fun _ => @dite _ (isPos (zc16 v) = 1#1) (iB v) (fun hz => B v x hz) (fun _ => .ret (Scalar.subi (Scalar.addi c0 16#32) (zc16 v))))) Q := by
  have hcl := cnt_le xs (16 * k3)
  replace hP := hP fun k hk a => by
    rw [fastOff_eq hc (by omega) hk]
    obtain rfl : a = 0 := Subsingleton.elim (α := Fin 1) a 0
    show 64 * (cnt xs (16 * k3) + 1) + 16 * k + 16 ≤ 12864
    omega
  iintro ⟨Ht, Hr, Hx, HR⟩
  iapply (wp_load (defs := defs) 𝒱 (V d c s) bd Set.univ (View.setOn_subset_set _ _)) $$ Hx
  iintro Hx
  have hv : ∀ t, t < 16 → lane (xM.view.readAt (Elt F) (Rect.unit (s := ⟨1, ![12816]⟩) off (⟨1, ![16]⟩ : Shape).size hi).toLoadRect fx) t
      = xs (16 * k3 + t) := by
    intro t ht
    refine (readAt16 xM.view fx hoff (by omega) hi t ht).trans ?_
    rw [Nat.add_assoc]
    exact hX _ (by omega)
  generalize (xM.view.readAt (Elt F) (Rect.unit (s := ⟨1, ![12816]⟩) off (⟨1, ![16]⟩ : Shape).size hi).toLoadRect fx) = v at hv ⊢
  rw [wp_assume_of 𝒱 (V d c s) bd Set.univ (hP v)]
  have hz16 : zc16 v = BitVec.ofNat 32 (zeros xs (16 * k3) 16) := count16 xs (16 * k3) v hv _
  have hzle := zeros_le xs (16 * k3) 16
  have hcz := cnt_add_zeros xs (16 * k3) 16
  have hZ : isZ (zc16 v) = 1#1 ↔ zeros xs (16 * k3) 16 = 0 := by rw [hz16]; exact isZ_iff _ hzle
  have hP' : isPos (zc16 v) = 1#1 ↔ zeros xs (16 * k3) 16 ≠ 0 := by rw [hz16]; exact isPos_iff _ hzle
  have hfin : Scalar.subi (Scalar.addi c0 16#32) (zc16 v) = BitVec.ofNat 32 (cnt xs (16 * (k3 + 1))) := by
    rw [hz16, hc, show (16#32 : BitVec 32) = BitVec.ofNat 32 16 from rfl, addi_ofNat, subi_ofNat (by omega)]
    congr 1
    rw [show 16 * (k3 + 1) = 16 * k3 + 16 by omega]; omega
  by_cases hz : zeros xs (16 * k3) 16 = 0
  · rw [dif_pos (hZ.mpr hz), dif_neg (fun e => hP'.mp e hz), hfin]
    have hin := wp_part (k := fun _ => .ret (BitVec.ofNat 32 (cnt xs (16 * (k3 + 1))))) (Q := Q)
      (R := iprop((xM.view.loc (V d c s) ↦[xM.view.set]{fullShare} fx) ∗ R)) (hA v ⟨hP v⟩ (hZ.mpr hz) hv hz) fun _ => by
        refine wp_retI ?_
        iintro ⟨⟨Ht, Hr, -⟩, Hx, HR⟩
        iapply h
        isplitl [Ht]; · iexact Ht
        isplitl [Hr]; · iexact Hr
        isplitl [Hx]; · iexact Hx
        iexact HR
    iapply hin
    isplitl [Ht Hr]
    · isplitl [Ht]; · iexact Ht
      isplitl [Hr]; · iexact Hr
      iempintro
    isplitl [Hx]; · iexact Hx
    iexact HR
  · rw [dif_neg (fun e => hz (hZ.mp e)), dif_pos (hP'.mpr hz)]
    iapply (hB v ⟨hP v⟩ (hP'.mpr hz) hv iprop((xM.view.loc (V d c s) ↦[xM.view.set]{fullShare} fx) ∗ R) (by rw [hfin]; exact wp_retI h))
    isplitl [Ht]; · iexact Ht
    isplitl [Hr]; · iexact Hr
    isplitl [Hx]; · iexact Hx
    iexact HR

/-- Token `t` of a vector whose words are the row's from `k0` on. -/
theorem tokAt {xs : ℕ → BitVec 32} {v : IVec ⟨1, ![16]⟩ 32} {c0 : BitVec 32} {k0 t N : ℕ} (hc : c0 = BitVec.ofNat 32 (cnt xs k0)) (hN : N ≤ 16)
    (hv : ∀ t, t < N → lane v t = xs (k0 + t)) (ht : t < N) (hk : k0 + t < 200) {s0 s1 s2 s3 d0 d1 d2 d3 : Fin 1 → ℕ} {P : Prop} {dP : Decidable P}
    (hP : (∀ r : Fin 4, ∀ a : Fin 1, srcOff (carry c0 (wd v) t) (wd v t) (BitVec.ofNat 32 (16 * r.val)) a + (⟨1, ![16]⟩ : Shape).size a
      ≤ (⟨1, ![12864]⟩ : Shape).size a) → P)
    (hs0 : s0 = srcOff (carry c0 (wd v) t) (wd v t) 0#32) (hs1 : s1 = srcOff (carry c0 (wd v) t) (wd v t) 16#32)
    (hs2 : s2 = srcOff (carry c0 (wd v) t) (wd v t) 32#32) (hs3 : s3 = srcOff (carry c0 (wd v) t) (wd v t) 48#32)
    (hd0 : d0 = ![64 * (k0 + t)]) (hd1 : d1 = ![64 * (k0 + t) + 16]) (hd2 : d2 = ![64 * (k0 + t) + 32]) (hd3 : d3 = ![64 * (k0 + t) + 48])
    {a0 : PLift P → ∀ a, s0 a + (⟨1, ![16]⟩ : Shape).size a ≤ (⟨1, ![12864]⟩ : Shape).size a}
    {a1 : PLift P → ∀ a, s1 a + (⟨1, ![16]⟩ : Shape).size a ≤ (⟨1, ![12864]⟩ : Shape).size a}
    {a2 : PLift P → ∀ a, s2 a + (⟨1, ![16]⟩ : Shape).size a ≤ (⟨1, ![12864]⟩ : Shape).size a}
    {a3 : PLift P → ∀ a, s3 a + (⟨1, ![16]⟩ : Shape).size a ≤ (⟨1, ![12864]⟩ : Shape).size a}
    {l0 : ∀ x : PLift P, tabM.view.LoadsAt (Rect.unit (s := ⟨1, ![12864]⟩) s0 (⟨1, ![16]⟩ : Shape).size (a0 x)).toLoadRect}
    {l1 : ∀ x : PLift P, tabM.view.LoadsAt (Rect.unit (s := ⟨1, ![12864]⟩) s1 (⟨1, ![16]⟩ : Shape).size (a1 x)).toLoadRect}
    {l2 : ∀ x : PLift P, tabM.view.LoadsAt (Rect.unit (s := ⟨1, ![12864]⟩) s2 (⟨1, ![16]⟩ : Shape).size (a2 x)).toLoadRect}
    {l3 : ∀ x : PLift P, tabM.view.LoadsAt (Rect.unit (s := ⟨1, ![12864]⟩) s3 (⟨1, ![16]⟩ : Shape).size (a3 x)).toLoadRect}
    {e0 e1 e2 e3 m0 m1 m2 m3 x0 x1 x2 x3 y0 y1 y2 y3}
    {k : PLift P → Prog (TpuEff nD τ sig (Elt F) Λ (.scVector c s)) α} {R : sProp 𝕄} {Q : α → sProp 𝕄}
    (h : ∀ x, (iprop(tabAt d c s tabM q ft ∗ rowDone d c s rowM (tgt (tabFn tabM ft) xs) (64 * (k0 + (t + 1))) ∗ R) : sProp 𝕄)
      ⊢ wp frame (wpE defs 𝒱 (V d c s) bd) Set.univ (k x) Q) :
    (iprop(tabAt d c s tabM q ft ∗ rowDone d c s rowM (tgt (tabFn tabM ft) xs) (64 * (k0 + t)) ∗ R) : sProp 𝕄)
      ⊢ wp frame (wpE defs 𝒱 (V d c s) bd) Set.univ
      (.op (.assume P dP) fun x =>
      .op (.load tabM (Rect.unit (s := ⟨1, ![12864]⟩) s0 (⟨1, ![16]⟩ : Shape).size (a0 x)).toLoadRect (l0 x)) fun v0 =>
      .op (.load rowM (Rect.unit (s := ⟨1, ![12800]⟩) d0 (⟨1, ![16]⟩ : Shape).size e0).toLoadRect m0) fun _ =>
      .op (.store rowM (Rect.unit (s := ⟨1, ![12800]⟩) d0 (⟨1, ![16]⟩ : Shape).size e0) v0 Finset.univ x0 y0) fun _ =>
      .op (.load tabM (Rect.unit (s := ⟨1, ![12864]⟩) s1 (⟨1, ![16]⟩ : Shape).size (a1 x)).toLoadRect (l1 x)) fun v1 =>
      .op (.load rowM (Rect.unit (s := ⟨1, ![12800]⟩) d1 (⟨1, ![16]⟩ : Shape).size e1).toLoadRect m1) fun _ =>
      .op (.store rowM (Rect.unit (s := ⟨1, ![12800]⟩) d1 (⟨1, ![16]⟩ : Shape).size e1) v1 Finset.univ x1 y1) fun _ =>
      .op (.load tabM (Rect.unit (s := ⟨1, ![12864]⟩) s2 (⟨1, ![16]⟩ : Shape).size (a2 x)).toLoadRect (l2 x)) fun v2 =>
      .op (.load rowM (Rect.unit (s := ⟨1, ![12800]⟩) d2 (⟨1, ![16]⟩ : Shape).size e2).toLoadRect m2) fun _ =>
      .op (.store rowM (Rect.unit (s := ⟨1, ![12800]⟩) d2 (⟨1, ![16]⟩ : Shape).size e2) v2 Finset.univ x2 y2) fun _ =>
      .op (.load tabM (Rect.unit (s := ⟨1, ![12864]⟩) s3 (⟨1, ![16]⟩ : Shape).size (a3 x)).toLoadRect (l3 x)) fun v3 =>
      .op (.load rowM (Rect.unit (s := ⟨1, ![12800]⟩) d3 (⟨1, ![16]⟩ : Shape).size e3).toLoadRect m3) fun _ =>
      .op (.store rowM (Rect.unit (s := ⟨1, ![12800]⟩) d3 (⟨1, ![16]⟩ : Shape).size e3) v3 Finset.univ x3 y3) fun _ => k x) Q := by
  refine tok (n := k0 + t) hk ?_ ((wd_eq v (by omega)).trans (hv t ht)) hP hs0 hs1 hs2 hs3 hd0 hd1 hd2 hd3 h
  rw [hc]
  exact carry_eq xs k0 (wd v) N (fun t ht => (wd_eq v (by omega)).trans (hv t ht)) t (by omega)

end Rules

/-- A destination offset in closed form. -/
theorem closed1 {off : Fin 1 → ℕ} [i : ClosedOff off] {m : ℕ} (h : i.form 0 = m) : off = ![m] := by
  rw [i.eq]
  funext a
  obtain rfl : a = 0 := Subsingleton.elim a 0
  exact h

end Cert.Proof
-- ==== Proof.Lanes.lean ====
module

public import Idealize.ShloMosaic.Lib.Transfers
public import proofs.«01_k».proof.Proof.Loops

/-!
# The eight lanes of a subcore

A subcore fills 128 rows of the output. It uses eight row buffers in turn, each with its own semaphore: lane `b` does
the rows `base + 8 * p` for `p` from 0 to 15. `ready p` is lane `b` with its first `p` rows written and nothing in
flight. `issued p` is the lane with its `p`-th row still in flight. The lemmas take a lane from one state to the next.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

abbrev ROW : Shape := ⟨1, ![12800]⟩
abbrev OUTS : Shape := ⟨1, ![52428800]⟩

section Pure

variable {sig : RefSig} {κ : Kind} {sp : Space} {Val : EltTy → Type} {e : EltTy}

/-- A slice's index, by number. -/
theorem emb1 {N M n : ℕ} [NeZero N] [NeZero M] (hn : n + M ≤ N) (inb : ∀ a, (![n] : Fin 1 → ℕ) a + (⟨1, ![M]⟩ : Shape).size a ≤ (⟨1, ![N]⟩ : Shape).size a)
    {j : ℕ} (hj : j < M) : (Rect.unit (s := ⟨1, ![N]⟩) ![n] (⟨1, ![M]⟩ : Shape).size inb).emb (ix1 M j) = ix1 N (n + j) := by
  funext a
  obtain rfl : a = 0 := Subsingleton.elim (α := Fin 1) a 0
  refine Fin.ext ?_
  show n + 1 * (j % M) = (n + j) % N
  rw [Nat.mod_eq_of_lt hj, Nat.mod_eq_of_lt (by omega)]; omega

theorem cast_cancel {α β : Type} {h : α = β} (a b : α) (e : cast h a = cast h b) : a = b := by subst h; exact e

/-- What a whole write leaves agrees, on the view's elements, with any contents that read as what was written. -/
theorem landed {N : ℕ} [NeZero N] (v : View sig κ sp ⟨1, ![N]⟩ e) {f res : v.ty.Contents Val} {w : (⟨1, ![N]⟩ : Shape).Idx → Val e}
    (h : ∀ j, j < N → v.read Val res (ix1 N j) = w (ix1 N j)) : ∀ i ∈ v.set, v.write Val f w Finset.univ i = res i := by
  intro i hi
  obtain ⟨y, -, rfl⟩ := Finset.mem_map.mp hi
  have hy := h (y 0).val (y 0).isLt
  rw [ix1_eq N y] at hy
  have h1 : v.read Val (v.write Val f w Finset.univ) y = w y := View.read_write_of_mem (v := v) f w (Finset.mem_univ y)
  rw [View.read_apply] at h1 hy
  exact cast_cancel _ _ (h1.trans hy.symm)

theorem row_inb (r : ℕ) : ∀ a, (![12800 * (r % 4096)] : Fin 1 → ℕ) a + ROW.size a ≤ OUTS.size a := by
  intro a
  obtain rfl : a = 0 := Subsingleton.elim (α := Fin 1) a 0
  show 12800 * (r % 4096) + 12800 ≤ 52428800
  have := Nat.mod_lt r (show 0 < 4096 by decide)
  omega

/-- Row `r` of the output. -/
abbrev outRow (oM : Memref sig κ .hbm OUTS .f32) (r : ℕ) : Memref sig κ .hbm ROW .f32 :=
  oM.slice (Rect.unit (s := OUTS) ![12800 * (r % 4096)] ROW.size (row_inb r)) (fun _ => rfl)

theorem outRow_eq (oM : Memref sig κ .hbm OUTS .f32) {r : ℕ} (hr : r < 4096) {off : Fin 1 → ℕ} (ho : off = ![12800 * r])
    (inb : ∀ a, off a + ROW.size a ≤ OUTS.size a) : oM.slice (Rect.unit (s := OUTS) off ROW.size inb) (fun _ => rfl) = outRow oM r := by
  have h : off = ![12800 * (r % 4096)] := by rw [ho, Nat.mod_eq_of_lt hr]
  subst h; rfl

end Pure

theorem isZ_iff' : ∀ n, n ≤ 200 → (isZ (BitVec.ofNat 32 n) = 1#1 ↔ n = 0) := by decide +kernel
theorem isPos_iff' : ∀ n, n ≤ 200 → (isPos (BitVec.ofNat 32 n) = 1#1 ↔ n ≠ 0) := by decide +kernel

/-- The number of zeros among the first eight of a vector of sixteen, as the kernel computes it; `v10` is the mask. -/
abbrev zc8 (v10 : IVec ⟨1, ![16]⟩ 1) (v : IVec ⟨1, ![16]⟩ 32) : BitVec 32 :=
  extractAt ![15] (scan .sum (select (andi v10 (cmpi .eq v (broadcast _ 0#32))) (broadcast _ 1#32) (broadcast _ 0#32))) (by decide)

/-- The mask of the first eight lanes. -/
def mask8 : IVec ⟨1, ![16]⟩ 1 := cmpi .slt (iota .scVector ⟨1, ![16]⟩ 32 [0] (by decide)) (broadcast _ 8#32)

section Rules

variable {nD : Nat} {τ : Topo} {sig : RefSig} {Ix : Type} [DecidableEq Ix] {F : FTy → Type} [FloatOps F] {Name : Type} [DecidableEq Name] [Infinite Name]
variable {U : Type} [URA U] [CountersIn U] {Lvl : Type} [Preorder Lvl] {Λ : Labels} {defs : Defs nD τ sig (Elt F) Λ} {𝒱 : Variants}
variable {d : Dev nD} {c : Fin τ.nSC} {s : Fin τ.nSub} {bd : Option 𝒱.V} {α : Type}
local notation "𝕄" => MT nD τ sig Ix (Elt F) Name U Lvl

variable {tabM : Memref sig .scVector .vmem ⟨1, ![12864]⟩ .f32} {rowM : Memref sig .scVector .vmem ⟨1, ![12800]⟩ .f32}
variable {xM : Memref sig .scVector .vmem ⟨1, ![12816]⟩ .i32} {oM : Memref sig .scVector .hbm OUTS .f32}
variable {q : PosShare TreeShare} {ft : Buf (Elt F) (tabM.view.loc (V d c s))} {tg : ℕ → Elt F .f32}

/-! ## The states -/

/-- The subcore's own debt and its licence to wait. -/
def owe (d : Dev nD) (c : Fin τ.nSC) (s : Fin τ.nSub) (ι : Ix) (O : CellTallies nD τ sig Ix) : sProp 𝕄 :=
  iprop((∃ W, owes (V d c s) O W) ∗ MayWaits (V d c s) ι O)

/-- Row `r` of the output at contents `g`. -/
abbrev rowAt (d : Dev nD) (c : Fin τ.nSC) (s : Fin τ.nSub) (oM : Memref sig .scVector .hbm OUTS .f32) (r : ℕ)
    (g : Buf (Elt F) (oM.view.loc (V d c s))) : sProp 𝕄 :=
  oM.view.loc (V d c s) ↦[(outRow oM r).view.set]{fullShare} g

/-- The lane's rows, the first `p` of them at the result, the others as they were. -/
def rows (d : Dev nD) (c : Fin τ.nSC) (s : Fin τ.nSub) (oM : Memref sig .scVector .hbm OUTS .f32)
    (fo res : Buf (Elt F) (oM.view.loc (V d c s))) (base p : ℕ) : sProp 𝕄 :=
  bigSep (Finset.range 16) fun p' => rowAt d c s oM (base + 8 * p') (if p' < p then res else fo)

/-- The same without the lane's row `p`. -/
def rest (d : Dev nD) (c : Fin τ.nSC) (s : Fin τ.nSub) (oM : Memref sig .scVector .hbm OUTS .f32)
    (fo res : Buf (Elt F) (oM.view.loc (V d c s))) (base p : ℕ) : sProp 𝕄 :=
  bigSep ((Finset.range 16).erase p) fun p' => rowAt d c s oM (base + 8 * p') (if p' < p then res else fo)

variable {fo res : Buf (Elt F) (oM.view.loc (V d c s))}

theorem rows_take {base p : ℕ} (hp : p < 16) :
    (rows d c s oM fo res base p : sProp 𝕄) = iprop(rowAt d c s oM (base + 8 * p) fo ∗ rest d c s oM fo res base p) := by
  unfold rows rest
  rw [SparseCore.bigSep_erase' (Finset.mem_range.mpr hp), if_neg (Nat.lt_irrefl p)]

theorem rows_put {base p : ℕ} (hp : p < 16) :
    (rows d c s oM fo res base (p + 1) : sProp 𝕄) = iprop(rowAt d c s oM (base + 8 * p) res ∗ rest d c s oM fo res base p) := by
  unfold rows rest
  rw [SparseCore.bigSep_erase' (Finset.mem_range.mpr hp), if_pos (Nat.lt_succ_self p)]
  refine congrArg (fun X => iprop(_ ∗ X)) (bigSep_congr fun p' hp' => ?_)
  have hne := (Finset.mem_erase.mp hp').1
  by_cases h : p' < p
  · rw [if_pos h, if_pos (by omega)]
  · rw [if_neg h, if_neg (by omega)]

/-- A row buffer at any contents. -/
def rowAny (d : Dev nD) (c : Fin τ.nSC) (s : Fin τ.nSub) (rowM : Memref sig .scVector .vmem ⟨1, ![12800]⟩ .f32) : sProp 𝕄 :=
  iprop(∃ f, rowM.view.loc (V d c s) ↦[rowM.view.set]{fullShare} f)

theorem rowAny_done : (rowAny d c s rowM : sProp 𝕄) ⊢ rowDone d c s rowM tg 0 := by
  unfold rowAny rowDone
  iintro ⟨%f, H⟩
  iexists f
  isplitr
  · ipureintro; intro j hj; exact absurd hj (Nat.not_lt_zero j)
  iexact H

theorem rowDone_any {n : ℕ} : (rowDone d c s rowM tg n : sProp 𝕄) ⊢ rowAny d c s rowM := by
  unfold rowAny rowDone
  iintro ⟨%f, -, H⟩
  iexists f
  iexact H

/-- A lane with `p` rows written and none in flight. -/
def ready (d : Dev nD) (c : Fin τ.nSC) (s : Fin τ.nSub) (tabM : Memref sig .scVector .vmem ⟨1, ![12864]⟩ .f32)
    (q : PosShare TreeShare) (ft : Buf (Elt F) (tabM.view.loc (V d c s))) (rowM : Memref sig .scVector .vmem ⟨1, ![12800]⟩ .f32)
    (oM : Memref sig .scVector .hbm OUTS .f32) (fo res : Buf (Elt F) (oM.view.loc (V d c s))) (sm : DmaSem sig) (base p : ℕ) : sProp 𝕄 :=
  iprop(semVal (V d c s, SemLoc.dma sm) 0 ∗ tabAt d c s tabM q ft ∗ rowAny d c s rowM ∗ rows d c s oM fo res base p)

/-- A lane with `p` rows issued, the last of them in flight. -/
def issued (d : Dev nD) (c : Fin τ.nSC) (s : Fin τ.nSub) (ι : Ix) (tabM : Memref sig .scVector .vmem ⟨1, ![12864]⟩ .f32)
    (q : PosShare TreeShare) (ft : Buf (Elt F) (tabM.view.loc (V d c s))) (rowM : Memref sig .scVector .vmem ⟨1, ![12800]⟩ .f32)
    (oM : Memref sig .scVector .hbm OUTS .f32) (fo res : Buf (Elt F) (oM.view.loc (V d c s))) (sm : DmaSem sig) (base : ℕ) : ℕ → sProp 𝕄
  | 0 => ready d c s tabM q ft rowM oM fo res sm base 0
  | p + 1 => iprop(∃ D, Flight countersEmb (V d c s) (SemLoc.dma sm) ι (outRow oM 0).view.dmaCredit D
      ∗ (D -∗ rowAt d c s oM (base + 8 * p) res ∗ tabAt d c s tabM q ft ∗ rowAny d c s rowM) ∗ rest d c s oM fo res base p)

/-- What a lane holds besides while its row `p` is being filled. -/
def pend (d : Dev nD) (c : Fin τ.nSC) (s : Fin τ.nSub) (oM : Memref sig .scVector .hbm OUTS .f32)
    (fo res : Buf (Elt F) (oM.view.loc (V d c s))) (sm : DmaSem sig) (base p : ℕ) : sProp 𝕄 :=
  iprop(semVal (V d c s, SemLoc.dma sm) 0 ∗ rowAt d c s oM (base + 8 * p) fo ∗ rest d c s oM fo res base p)

variable {sm : DmaSem sig} {ι : Ix} {O : CellTallies nD τ sig Ix} {base p : ℕ}

/-! ## Issuing and awaiting a row -/

/-- The filled row buffer is sent to its output row. -/
theorem enq_row (hp : p < 16) (hb : base + 8 * p < 4096) {off : Fin 1 → ℕ} (ho : off = ![12800 * (base + 8 * p)])
    {inb : ∀ a, off a + ROW.size a ≤ OUTS.size a} {n : ℕ} (hn : 12800 ≤ n)
    (hres : ∀ j, j < 12800 → (outRow oM (base + 8 * p)).view.read (Elt F) res (ix1 12800 j) = tg j)
    {hsrc : rowM.view.WordExact} {hdst} {hty}
    {k : Prog (TpuEff nD τ sig (Elt F) Λ (.scVector c s)) α} {R R' : sProp 𝕄} {Q : α → sProp 𝕄}
    (h : (iprop(issued d c s ι tabM q ft rowM oM fo res sm base (p + 1) ∗ R' ∗ R) : sProp 𝕄) ⊢ wp frame (wpE defs 𝒱 (V d c s) bd) Set.univ k Q) :
    (iprop(tabAt d c s tabM q ft ∗ rowDone d c s rowM tg n ∗ R' ∗ pend d c s oM fo res sm base p ∗ R) : sProp 𝕄)
      ⊢ wp frame (wpE defs 𝒱 (V d c s) bd) Set.univ
        (.op (.enqueueDma rowM (.here (oM.slice (Rect.unit (s := OUTS) off ROW.size inb) (fun _ => rfl))) (.dma sm) hsrc hdst hty) fun _ => k) Q := by
  revert hdst hty
  rw [outRow_eq oM hb ho inb]
  intro hdst hty
  unfold rowDone pend
  iintro ⟨Ht, ⟨%f, %hf, Hr⟩, HR', ⟨Hs, Ho, Hrest⟩, HR⟩
  iapply (Transfers.wp_dmaLocal countersEmb 𝒱 (V d c s) bd (src := rowM) (dst := outRow oM (base + 8 * p)) (sm := .dma sm) ι
    (outRow oM 0).view.dmaCredit rfl ((outRow oM 0).view.dmaCredit_pos (by decide)) (Finset.Subset.refl _)) $$ [Hr Ho Hs]
  · isplitl [Hr]; · iexact Hr
    isplitl [Ho]; · iexact Ho
    iexact Hs
  iintro Hfl
  iapply h
  isplitr [HR HR']
  · unfold issued
    iexists _
    isplitl [Hfl]; · iexact Hfl
    isplitr [Hrest]
    swap; · iexact Hrest
    iintro ⟨Ho, Hr⟩
    isplitl [Ho]
    · iapply (Entails.of_eq (pointsTo_congr (landed (outRow oM (base + 8 * p)).view (f := fo) (res := res) (w := rowM.view.read (Elt F) f)
        fun j hj => (hres j hj).trans (hf j (by omega) hj).symm)))
      iexact Ho
    isplitl [Ht]; · iexact Ht
    unfold rowAny
    iexists _
    iexact Hr
  isplitl [HR']; · iexact HR'
  iexact HR

/-- A stretch of the table is sent to the output row. -/
theorem enq_tab (hp : p < 16) (hb : base + 8 * p < 4096) {off : Fin 1 → ℕ} (ho : off = ![12800 * (base + 8 * p)])
    {inb : ∀ a, off a + ROW.size a ≤ OUTS.size a}
    {inb' : ∀ a, (![64] : Fin 1 → ℕ) a + ROW.size a ≤ (⟨1, ![12864]⟩ : Shape).size a}
    (hres : ∀ j, j < 12800 → (outRow oM (base + 8 * p)).view.read (Elt F) res (ix1 12800 j) = tabFn tabM ft (64 + j))
    {hsrc : (tabM.slice (Rect.unit (s := ⟨1, ![12864]⟩) ![64] ROW.size inb') (fun _ => rfl)).view.WordExact} {hdst} {hty}
    {k : Prog (TpuEff nD τ sig (Elt F) Λ (.scVector c s)) α} {R : sProp 𝕄} {Q : α → sProp 𝕄}
    (h : (iprop(issued d c s ι tabM q ft rowM oM fo res sm base (p + 1) ∗ R) : sProp 𝕄) ⊢ wp frame (wpE defs 𝒱 (V d c s) bd) Set.univ k Q) :
    (iprop(ready d c s tabM q ft rowM oM fo res sm base p ∗ R) : sProp 𝕄)
      ⊢ wp frame (wpE defs 𝒱 (V d c s) bd) Set.univ
        (.op (.enqueueDma (tabM.slice (Rect.unit (s := ⟨1, ![12864]⟩) ![64] ROW.size inb') (fun _ => rfl))
          (.here (oM.slice (Rect.unit (s := OUTS) off ROW.size inb) (fun _ => rfl))) (.dma sm) hsrc hdst hty) fun _ => k) Q := by
  revert hdst hty
  rw [outRow_eq oM hb ho inb]
  intro hdst hty
  have hw : ∀ j, j < 12800 → tabFn tabM ft (64 + j)
      = (tabM.slice (Rect.unit (s := ⟨1, ![12864]⟩) ![64] ROW.size inb') (fun _ => rfl)).view.read (Elt F) ft (ix1 12800 j) := by
    intro j hj
    show _ = tabM.view.read (Elt F) ft _
    rw [emb1 (by omega) inb' hj]
  unfold ready
  rw [rows_take hp]
  iintro ⟨⟨Hs, Ht, Hr, Ho, Hrest⟩, HR⟩
  ihave Ht := (pointsTo_split_subset (View.set_slice_subset tabM.view (Rect.unit (s := ⟨1, ![12864]⟩) ![64] ROW.size inb'))).1 $$ Ht
  icases Ht with ⟨Ht, Ht'⟩
  iapply (Transfers.wp_dmaLocal countersEmb 𝒱 (V d c s) bd (src := tabM.slice (Rect.unit (s := ⟨1, ![12864]⟩) ![64] ROW.size inb') (fun _ => rfl))
    (dst := outRow oM (base + 8 * p)) (sm := .dma sm) ι
    (outRow oM 0).view.dmaCredit rfl ((outRow oM 0).view.dmaCredit_pos (by decide)) (Finset.Subset.refl _)) $$ [Ht Ho Hs]
  · isplitl [Ht]; · iexact Ht
    isplitl [Ho]; · iexact Ho
    iexact Hs
  iintro Hfl
  iapply h
  isplitr [HR]
  · unfold issued
    iexists _
    isplitl [Hfl]; · iexact Hfl
    isplitr [Hrest]
    swap; · iexact Hrest
    iintro ⟨Ho, Ht⟩
    isplitl [Ho]
    · iapply (Entails.of_eq (pointsTo_congr (landed (outRow oM (base + 8 * p)).view (f := fo) (res := res)
        (w := (tabM.slice (Rect.unit (s := ⟨1, ![12864]⟩) ![64] ROW.size inb') (fun _ => rfl)).view.read (Elt F) ft)
        fun j hj => (hres j hj).trans (hw j hj))))
      iexact Ho
    isplitl [Ht Ht']
    · iapply (pointsTo_split_subset (View.set_slice_subset tabM.view (Rect.unit (s := ⟨1, ![12864]⟩) ![64] ROW.size inb'))).2
      isplitl [Ht]; · iexact Ht
      iexact Ht'
    iexact Hr
  iexact HR

/-- The wait for a lane's row in flight. -/
theorem wait_lane (hp : p < 16) {sp : Space} {src : Memref sig .scVector sp ROW .f32} {dst : Memref sig .scVector .hbm ROW .f32}
    (hN : dst.view.dmaCredit = (outRow oM 0).view.dmaCredit) {hsrc : src.view.WordExact} {hdst : dst.view.WordExact}
    {k : Prog (TpuEff nD τ sig (Elt F) Λ (.scVector c s)) α} {R : sProp 𝕄} {Q : α → sProp 𝕄}
    (h : (iprop(ready d c s tabM q ft rowM oM fo res sm base (p + 1) ∗ owe d c s ι O ∗ R) : sProp 𝕄)
      ⊢ wp frame (wpE defs 𝒱 (V d c s) bd) Set.univ k Q) :
    (iprop(issued d c s ι tabM q ft rowM oM fo res sm base (p + 1) ∗ owe d c s ι O ∗ R) : sProp 𝕄)
      ⊢ wp frame (wpE defs 𝒱 (V d c s) bd) Set.univ (.op (.waitDma2 sm src dst hsrc hdst) fun _ => k) Q := by
  unfold issued owe
  iintro ⟨⟨%D, Hfl, HD, Hrest⟩, ⟨⟨%W, HO⟩, #Hmw⟩, HR⟩
  ihave Hm := (MayWaits.elim (SemLoc.dma sm)) $$ Hmw
  iapply (Transfers.wp_waitLocalO countersEmb 𝒱 (V d c s) bd ι hN) $$ [Hfl HO Hm]
  · isplitl [Hfl]; · iexact Hfl
    isplitl [HO]; · iexact HO
    iexact Hm
  iintro ⟨Hd, Hs, HO⟩
  ihave H := HD $$ Hd
  icases H with ⟨Ho, Ht, Hr⟩
  iapply h
  isplitr [HO HR]
  · unfold ready
    rw [rows_put hp]
    isplitl [Hs]; · iexact Hs
    isplitl [Ht]; · iexact Ht
    isplitl [Hr]; · iexact Hr
    isplitl [Ho]; · iexact Ho
    iexact Hrest
  isplitl [HO]
  · unfold owe
    isplitl [HO]; · iexists _; iexact HO
    iexact Hmw
  iexact HR

end Rules

end Cert.Proof
-- ==== Proof.Steps.lean ====
module

public import proofs.«01_k».proof.Proof.Lanes

/-!
# The steps of one row

One row of the output is done in these steps: on the first row of each half of a subcore's rows the token words are
fetched; the lane's previous row is awaited; the row's zeros are counted; a row without zeros is sent straight from
the table; any other row is filled in its buffer, chunk by chunk, and sent from there.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {nD : Nat} {τ : Topo} {sig : RefSig} {Ix : Type} [DecidableEq Ix] {F : FTy → Type} [FloatOps F] {Name : Type} [DecidableEq Name] [Infinite Name]
variable {U : Type} [URA U] [CountersIn U] {Lvl : Type} [Preorder Lvl] {Λ : Labels} {defs : Defs nD τ sig (Elt F) Λ} {𝒱 : Variants}
variable {d : Dev nD} {c : Fin τ.nSC} {s : Fin τ.nSub} {bd : Option 𝒱.V} {α : Type}
local notation "𝕄" => MT nD τ sig Ix (Elt F) Name U Lvl

variable {tabM : Memref sig .scVector .vmem ⟨1, ![12864]⟩ .f32} {rowM : Memref sig .scVector .vmem ⟨1, ![12800]⟩ .f32}
variable {xM : Memref sig .scVector .vmem ⟨1, ![12816]⟩ .i32} {oM : Memref sig .scVector .hbm OUTS .f32}
variable {q : PosShare TreeShare} {ft : Buf (Elt F) (tabM.view.loc (V d c s))} {tg : ℕ → Elt F .f32}
variable {fo res : Buf (Elt F) (oM.view.loc (V d c s))} {sm : DmaSem sig} {ι : Ix} {O : CellTallies nD τ sig Ix} {base p : ℕ}
variable {xs : ℕ → BitVec 32} {fx : Buf (Elt F) (xM.view.loc (V d c s))} {xo : ℕ}

/-- The token buffer. -/
abbrev xAt (d : Dev nD) (c : Fin τ.nSC) (s : Fin τ.nSub) (xM : Memref sig .scVector .vmem ⟨1, ![12816]⟩ .i32)
    (fx : Buf (Elt F) (xM.view.loc (V d c s))) : sProp 𝕄 :=
  xM.view.loc (V d c s) ↦[xM.view.set]{fullShare} fx

/-! ## Conditionals -/

/-- A conditional whose condition fails. -/
theorem skip_if {C : Prop} {dC : Decidable C} (hC : ¬ C) {A : C → Prog (TpuEff nD τ sig (Elt F) Λ (.scVector c s)) α}
    {k : Prog (TpuEff nD τ sig (Elt F) Λ (.scVector c s)) α} {R : sProp 𝕄} {Q : α → sProp 𝕄}
    (h : R ⊢ wp frame (wpE defs 𝒱 (V d c s) bd) Set.univ k Q) :
    R ⊢ wp frame (wpE defs 𝒱 (V d c s) bd) Set.univ (@dite _ C dC A fun _ => k) Q := by
  rw [dif_neg hC]; exact h

/-- The wait for a lane's previous row, which there is from the second row on. -/
theorem wait_if (hp : p < 16) {C : Prop} {dC : Decidable C} (hC : C ↔ 0 < p) {sp : Space} {src : C → Memref sig .scVector sp ROW .f32}
    {dst : C → Memref sig .scVector .hbm ROW .f32} (hN : ∀ h, (dst h).view.dmaCredit = (outRow oM 0).view.dmaCredit)
    {hsrc : ∀ h, (src h).view.WordExact} {hdst : ∀ h, (dst h).view.WordExact}
    {k : Prog (TpuEff nD τ sig (Elt F) Λ (.scVector c s)) α} {R : sProp 𝕄} {Q : α → sProp 𝕄}
    (h : (iprop(ready d c s tabM q ft rowM oM fo res sm base p ∗ owe d c s ι O ∗ R) : sProp 𝕄)
      ⊢ wp frame (wpE defs 𝒱 (V d c s) bd) Set.univ k Q) :
    (iprop(issued d c s ι tabM q ft rowM oM fo res sm base p ∗ owe d c s ι O ∗ R) : sProp 𝕄)
      ⊢ wp frame (wpE defs 𝒱 (V d c s) bd) Set.univ
        (@dite _ C dC (fun h => .op (.waitDma2 sm (src h) (dst h) (hsrc h) (hdst h)) fun _ => k) fun _ => k) Q := by
  cases p with
  | zero => rw [dif_neg (fun e => absurd (hC.mp e) (Nat.lt_irrefl 0))]; exact h
  | succ p =>
    have hc : C := hC.mpr (Nat.succ_pos p)
    rw [dif_pos hc]
    exact wait_lane (by omega) (hN hc) h

/-! ## The fetch of the token words -/

/-- The token words in HBM. -/
abbrev srcAt (d : Dev nD) (c : Fin τ.nSC) (s : Fin τ.nSub) (aM : Memref sig .scVector .hbm ⟨1, ![819200]⟩ .i32) (qa : PosShare TreeShare)
    (fa : Buf (Elt F) (aM.view.loc (V d c s))) : sProp 𝕄 :=
  aM.view.loc (V d c s) ↦[aM.view.set]{qa} fa

/-- The token buffer holding the words of the 64 rows of half `ch`. -/
def half (d : Dev nD) (c : Fin τ.nSC) (s : Fin τ.nSub) (xM : Memref sig .scVector .vmem ⟨1, ![12816]⟩ .i32) (X : ℕ → BitVec 32) (ch : ℕ) : sProp 𝕄 :=
  iprop(∃ fx, ⌜∀ j, j < 12800 → xM.view.read (Elt F) fx (ix1 12816 j) = X (12800 * ch + j)⌝ ∗ xAt d c s xM fx)

/-- The token buffer before row `p` of a lane: to be fetched at the start of a half, else fetched. -/
def xInv (d : Dev nD) (c : Fin τ.nSC) (s : Fin τ.nSub) (xM : Memref sig .scVector .vmem ⟨1, ![12816]⟩ .i32) (X : ℕ → BitVec 32) (w p : ℕ) : sProp 𝕄 :=
  if p % 8 = 0 then iprop(∃ fx, xAt d c s xM fx) else half d c s xM X (2 * w + p / 8)

/-- The fetch of a half's token words, where there is one. -/
theorem stage_if {w : ℕ} {aM : Memref sig .scVector .hbm ⟨1, ![819200]⟩ .i32} {qa : PosShare TreeShare} {fa : Buf (Elt F) (aM.view.loc (V d c s))}
    {X : ℕ → BitVec 32} (hX : ∀ j, j < 819200 → aM.view.read (Elt F) fa (ix1 819200 j) = X j) (hw : 12800 * (2 * w + p / 8) + 12800 ≤ 819200)
    {C : Prop} {dC : Decidable C} (hC : C ↔ p % 8 = 0) {off : Fin 1 → ℕ} (ho : C → off = ![12800 * (2 * w + p / 8)])
    {inb : C → ∀ a, off a + ROW.size a ≤ (⟨1, ![819200]⟩ : Shape).size a}
    {inb' : ∀ a, (![0] : Fin 1 → ℕ) a + ROW.size a ≤ (⟨1, ![12816]⟩ : Shape).size a}
    {hsrc : ∀ h : C, (aM.slice (Rect.unit (s := ⟨1, ![819200]⟩) off ROW.size (inb h)) (fun _ => rfl)).view.WordExact}
    {hdst : C → (xM.slice (Rect.unit (s := ⟨1, ![12816]⟩) ![0] ROW.size inb') (fun _ => rfl)).view.WordExact}
    {hty : C → DmaTarget.Typed (nD := nD) (τ := τ) (p := .scVector c s) .hbm (.dma sm) (.here (xM.slice (Rect.unit (s := ⟨1, ![12816]⟩) ![0] ROW.size inb') (fun _ => rfl)))}
    {hsrc' : ∀ h : C, (aM.slice (Rect.unit (s := ⟨1, ![819200]⟩) off ROW.size (inb h)) (fun _ => rfl)).view.WordExact}
    {hdst' : C → (xM.slice (Rect.unit (s := ⟨1, ![12816]⟩) ![0] ROW.size inb') (fun _ => rfl)).view.WordExact}
    {k : Prog (TpuEff nD τ sig (Elt F) Λ (.scVector c s)) α} {R : sProp 𝕄} {Q : α → sProp 𝕄}
    (h : (iprop(half d c s xM X (2 * w + p / 8) ∗ srcAt d c s aM qa fa ∗ semVal (V d c s, SemLoc.dma sm) 0 ∗ owe d c s ι O ∗ R) : sProp 𝕄)
      ⊢ wp frame (wpE defs 𝒱 (V d c s) bd) Set.univ k Q) :
    (iprop(xInv d c s xM X w p ∗ srcAt d c s aM qa fa ∗ semVal (V d c s, SemLoc.dma sm) 0 ∗ owe d c s ι O ∗ R) : sProp 𝕄)
      ⊢ wp frame (wpE defs 𝒱 (V d c s) bd) Set.univ
        (@dite _ C dC (fun h =>
          .op (.enqueueDma (aM.slice (Rect.unit (s := ⟨1, ![819200]⟩) off ROW.size (inb h)) (fun _ => rfl))
            (.here (xM.slice (Rect.unit (s := ⟨1, ![12816]⟩) ![0] ROW.size inb') (fun _ => rfl))) (.dma sm) (hsrc h) (hdst h) (hty h)) fun _ =>
          .op (.waitDma2 sm (aM.slice (Rect.unit (s := ⟨1, ![819200]⟩) off ROW.size (inb h)) (fun _ => rfl))
            (xM.slice (Rect.unit (s := ⟨1, ![12816]⟩) ![0] ROW.size inb') (fun _ => rfl)) (hsrc' h) (hdst' h)) fun _ => k) fun _ => k) Q := by
  unfold xInv
  by_cases hp : p % 8 = 0
  swap
  · rw [if_neg hp, dif_neg (fun e => hp (hC.mp e))]; exact h
  have hc : C := hC.mpr hp
  rw [if_pos hp, dif_pos hc]
  obtain rfl := ho hc
  unfold owe
  iintro ⟨⟨%fx, Hx⟩, Ha, Hs, ⟨⟨%W, HO⟩, #Hmw⟩, HR⟩
  ihave Ha := (pointsTo_split_subset (View.set_slice_subset aM.view (Rect.unit (s := ⟨1, ![819200]⟩) ![12800 * (2 * w + p / 8)] ROW.size (inb hc)))).1 $$ Ha
  icases Ha with ⟨Ha, Ha'⟩
  iapply (Transfers.wp_dmaLocal countersEmb 𝒱 (V d c s) bd
    (src := aM.slice (Rect.unit (s := ⟨1, ![819200]⟩) ![12800 * (2 * w + p / 8)] ROW.size (inb hc)) (fun _ => rfl))
    (dst := xM.slice (Rect.unit (s := ⟨1, ![12816]⟩) ![0] ROW.size inb') (fun _ => rfl)) (sm := .dma sm) ι
    (xM.slice (Rect.unit (s := ⟨1, ![12816]⟩) ![0] ROW.size inb') (fun _ => rfl)).view.dmaCredit rfl (View.dmaCredit_pos _ (show 0 < ROW.numel by decide))
    (View.set_slice_subset xM.view _)) $$ [Ha Hx Hs]
  · isplitl [Ha]; · iexact Ha
    isplitl [Hx]; · iexact Hx
    iexact Hs
  iintro Hfl
  ihave Hm := (MayWaits.elim (SemLoc.dma sm)) $$ Hmw
  iapply (Transfers.wp_waitLocalO countersEmb 𝒱 (V d c s) bd ι rfl) $$ [Hfl HO Hm]
  · isplitl [Hfl]; · iexact Hfl
    isplitl [HO]; · iexact HO
    iexact Hm
  iintro ⟨⟨Hx, Ha⟩, Hs, HO⟩
  iapply h
  isplitl [Hx]
  · unfold half
    iexists _
    isplitr
    swap; · iexact Hx
    ipureintro
    intro j hj
    have hx := View.read_write_of_mem (v := xM.view.slice (Rect.unit (s := ⟨1, ![12816]⟩) ![0] ROW.size inb')) fx
      ((aM.slice (Rect.unit (s := ⟨1, ![819200]⟩) ![12800 * (2 * w + p / 8)] ROW.size (inb hc)) (fun _ => rfl)).view.read (Elt F) fa)
      (Finset.mem_univ (ix1 12800 j))
    have he : (Rect.unit (s := ⟨1, ![12816]⟩) ![0] ROW.size inb').emb (ix1 12800 j) = ix1 12816 j := by
      rw [emb1 (by omega) inb' hj, Nat.zero_add]
    rw [← he]
    refine Eq.trans hx ?_
    show aM.view.read (Elt F) fa _ = _
    rw [emb1 hw (inb hc) hj]
    exact hX _ (by omega)
  isplitl [Ha Ha']
  · iapply (pointsTo_split_subset (View.set_slice_subset aM.view (Rect.unit (s := ⟨1, ![819200]⟩) ![12800 * (2 * w + p / 8)] ROW.size (inb hc)))).2
    isplitl [Ha]; · iexact Ha
    iexact Ha'
  isplitl [Hs]; · iexact Hs
  isplitl [HO]
  · unfold owe
    isplitl [HO]; · iexists _; iexact HO
    iexact Hmw
  iexact HR

/-! ## The fetched words in use -/

/-- Row `r`'s tokens, from the words of all rows. -/
abbrev rowX (X : ℕ → BitVec 32) (r : ℕ) (j : ℕ) : BitVec 32 := X (200 * r + j)

theorem open_half {X : ℕ → BitVec 32} {w b : ℕ} (hb : b < 8) {A B R G : sProp 𝕄}
    (h : ∀ fx, (∀ j, j < 200 → xM.view.read (Elt F) fx (ix1 12816 (200 * (8 * (p % 8) + b) + j)) = rowX X (128 * w + b + 8 * p) j) →
      (∀ j, j < 12800 → xM.view.read (Elt F) fx (ix1 12816 j) = X (12800 * (2 * w + p / 8) + j)) →
      (iprop(xAt d c s xM fx ∗ A ∗ B ∗ R) : sProp 𝕄) ⊢ G) :
    (iprop(A ∗ B ∗ half d c s xM X (2 * w + p / 8) ∗ R) : sProp 𝕄) ⊢ G := by
  unfold half
  iintro ⟨HA, HB, ⟨%fx, %hfx, Hx⟩, HR⟩
  iapply (h fx (fun j hj => (hfx _ (by omega)).trans (congrArg X (by omega))) hfx)
  isplitl [Hx]; · iexact Hx
  isplitl [HA]; · iexact HA
  isplitl [HB]; · iexact HB
  iexact HR

theorem close_half {X : ℕ → BitVec 32} {w : ℕ}
    (hfx : ∀ j, j < 12800 → xM.view.read (Elt F) fx (ix1 12816 j) = X (12800 * (2 * w + p / 8) + j)) {A B R G : sProp 𝕄}
    (h : (iprop(A ∗ B ∗ half d c s xM X (2 * w + p / 8) ∗ R) : sProp 𝕄) ⊢ G) :
    (iprop(A ∗ xAt d c s xM fx ∗ B ∗ R) : sProp 𝕄) ⊢ G := by
  iintro ⟨HA, Hx, HB, HR⟩
  iapply h
  isplitl [HA]; · iexact HA
  isplitl [HB]; · iexact HB
  isplitl [Hx]
  · unfold half
    iexists fx
    isplitr; · ipureintro; exact hfx
    iexact Hx
  iexact HR

theorem swap2 {A B R G : sProp 𝕄} (h : (iprop(B ∗ A ∗ R) : sProp 𝕄) ⊢ G) : (iprop(A ∗ B ∗ R) : sProp 𝕄) ⊢ G := by
  iintro ⟨HA, HB, HR⟩
  iapply h
  isplitl [HB]; · iexact HB
  isplitl [HA]; · iexact HA
  iexact HR

/-- After the fetch, the lane to the front. -/
theorem after_stage {A B C D E R G : sProp 𝕄} (h : (iprop(E ∗ D ∗ A ∗ B ∗ C ∗ R) : sProp 𝕄) ⊢ G) : (iprop(A ∗ B ∗ C ∗ D ∗ E ∗ R) : sProp 𝕄) ⊢ G := by
  iintro ⟨HA, HB, HC, HD, HE, HR⟩
  iapply h
  isplitl [HE]; · iexact HE
  isplitl [HD]; · iexact HD
  isplitl [HA]; · iexact HA
  isplitl [HB]; · iexact HB
  isplitl [HC]; · iexact HC
  iexact HR

/-! ## Counting the zeros -/

/-- One trip of the counting loop. -/
theorem count_step {j : ℕ} (hj : j < 12) (hxo : xo + 200 ≤ 12800) (hX : ∀ j, j < 200 → xM.view.read (Elt F) fx (ix1 12816 (xo + j)) = xs j)
    {off : Fin 1 → ℕ} (hoff : off = ![xo + 16 * j]) {c0 : BitVec 32} (hc : c0 = BitVec.ofNat 32 (zeros xs 0 (16 * j))) {hi hl} {R : sProp 𝕄} :
    (iprop(xAt d c s xM fx ∗ R) : sProp 𝕄) ⊢ wp frame (wpE defs 𝒱 (V d c s) bd) Set.univ
      (.op (TpuEff.load (e := .i32) xM (Rect.unit (s := ⟨1, ![12816]⟩) off (⟨1, ![16]⟩ : Shape).size hi).toLoadRect hl) fun v : IVec ⟨1, ![16]⟩ 32 =>
        .ret (Scalar.addi c0 (zc16 v)))
      (fun r => iprop(⌜r = BitVec.ofNat 32 (zeros xs 0 (16 * (j + 1)))⌝ ∗ xAt d c s xM fx ∗ R)) := by
  iintro ⟨Hx, HR⟩
  iapply (wp_load (defs := defs) 𝒱 (V d c s) bd Set.univ (View.setOn_subset_set _ _)) $$ Hx
  iintro Hx
  have hv : ∀ t, t < 16 → lane (xM.view.readAt (Elt F) (Rect.unit (s := ⟨1, ![12816]⟩) off (⟨1, ![16]⟩ : Shape).size hi).toLoadRect fx) t
      = xs (16 * j + t) := by
    intro t ht
    refine (readAt16 xM.view fx hoff (by omega) hi t ht).trans ?_
    rw [Nat.add_assoc]
    exact hX _ (by omega)
  generalize (xM.view.readAt (Elt F) (Rect.unit (s := ⟨1, ![12816]⟩) off (⟨1, ![16]⟩ : Shape).size hi).toLoadRect fx) = v at hv ⊢
  have hz16 : zc16 v = BitVec.ofNat 32 (zeros xs (16 * j) 16) := count16 xs (16 * j) v hv _
  rw [hz16, hc, addi_ofNat, wp_ret]
  imodintro
  isplitr
  · ipureintro
    rw [show 16 * (j + 1) = 16 * j + 16 by omega, zeros_add, Nat.zero_add]
  isplitl [Hx]; · iexact Hx
  iexact HR

/-- The counting loop. -/
theorem count_loop {L : Scf.Loop 32} {hok : L.OK} (hN : L.trips = 12)
    {body : Fin L.trips → BitVec 32 → Prog (TpuEff nD τ sig (Elt F) Λ (.scVector c s)) (BitVec 32)}
    (step : ∀ (j : Fin L.trips) (a : BitVec 32), j.val < 12 → a = BitVec.ofNat 32 (zeros xs 0 (16 * j.val)) →
      (iprop(xAt d c s xM fx ∗ emp) : sProp 𝕄) ⊢ wp frame (wpE defs 𝒱 (V d c s) bd) Set.univ (body j a)
        (fun r => iprop(⌜r = BitVec.ofNat 32 (zeros xs 0 (16 * (j.val + 1)))⌝ ∗ xAt d c s xM fx ∗ emp)))
    {k : BitVec 32 → Prog (TpuEff nD τ sig (Elt F) Λ (.scVector c s)) α} {R : sProp 𝕄} {Q : α → sProp 𝕄}
    (h : (iprop(xAt d c s xM fx ∗ R) : sProp 𝕄) ⊢ wp frame (wpE defs 𝒱 (V d c s) bd) Set.univ (k (BitVec.ofNat 32 (zeros xs 0 192))) Q) :
    (iprop(xAt d c s xM fx ∗ R) : sProp 𝕄) ⊢ wp frame (wpE defs 𝒱 (V d c s) bd) Set.univ (Scf.Loop.for L hok 0#32 body >>= k) Q := by
  iintro ⟨Hx, HR⟩
  iapply (Scf.wp_for_bind (M := 𝕄) frame (wpE defs 𝒱 (V d c s) bd) Set.univ L.lb L.ub L.st hok 0#32 body
    (fun j r => iprop(⌜r = BitVec.ofNat 32 (zeros xs 0 (16 * j))⌝ ∗ xAt d c s xM fx ∗ emp)) (fun j a => by
      iintro ⟨%ha, H⟩
      iapply (step j a (Nat.lt_of_lt_of_eq j.isLt hN) ha)
      iexact H)) $$ [Hx]
  · isplitr
    · ipureintro; rfl
    isplitl [Hx]; · iexact Hx
    iempintro
  iintro %r ⟨%hr, Hx, -⟩
  have hr' : r = BitVec.ofNat 32 (zeros xs 0 192) := by rw [hr]; exact congrArg (fun n => BitVec.ofNat 32 (zeros xs 0 (16 * n))) hN
  rw [hr']
  iapply h
  isplitl [Hx]; · iexact Hx
  iexact HR

/-! ## The two ways of a row -/

/-- The load of a row's last words. -/
theorem load_last (hxo : xo + 200 ≤ 12800) (hX : ∀ j, j < 200 → xM.view.read (Elt F) fx (ix1 12816 (xo + j)) = xs j)
    {off4 : Fin 1 → ℕ} (ho4 : off4 = ![xo + 192]) {hi hl} {k : IVec ⟨1, ![16]⟩ 32 → Prog (TpuEff nD τ sig (Elt F) Λ (.scVector c s)) α}
    {R : sProp 𝕄} {Q : α → sProp 𝕄}
    (h : ∀ v, (∀ t, t < 8 → lane v t = xs (192 + t)) → (iprop(xAt d c s xM fx ∗ R) : sProp 𝕄) ⊢ wp frame (wpE defs 𝒱 (V d c s) bd) Set.univ (k v) Q) :
    (iprop(xAt d c s xM fx ∗ R) : sProp 𝕄)
      ⊢ wp frame (wpE defs 𝒱 (V d c s) bd) Set.univ
        (.op (TpuEff.load (e := .i32) xM (Rect.unit (s := ⟨1, ![12816]⟩) off4 (⟨1, ![16]⟩ : Shape).size hi).toLoadRect hl) fun v : IVec ⟨1, ![16]⟩ 32 => k v) Q := by
  iintro ⟨Hx, HR⟩
  iapply (wp_load (defs := defs) 𝒱 (V d c s) bd Set.univ (View.setOn_subset_set _ _)) $$ Hx
  iintro Hx
  have hv : ∀ t, t < 8 → lane (xM.view.readAt (Elt F) (Rect.unit (s := ⟨1, ![12816]⟩) off4 (⟨1, ![16]⟩ : Shape).size hi).toLoadRect fx) t
      = xs (192 + t) := by
    intro t ht
    refine (readAt16 xM.view fx ho4 (by omega) hi t (by omega)).trans ?_
    rw [Nat.add_assoc]
    exact hX _ (by omega)
  iapply (h _ hv)
  isplitl [Hx]; · iexact Hx
  iexact HR

/-- A row, by whether it has zeros: with none, the copy of the table's rows; else the row made by `C`, then its copy. -/
theorem row_case (hp : p < 16) (hb : base + 8 * p < 4096) {v : IVec ⟨1, ![16]⟩ 32} (hv : ∀ t, t < 8 → lane v t = xs (192 + t))
    (hres : ∀ j, j < 12800 → (outRow oM (base + 8 * p)).view.read (Elt F) res (ix1 12800 j) = tgt (tabFn tabM ft) xs j)
    {c0 : BitVec 32} (hc : c0 = BitVec.ofNat 32 (zeros xs 0 192))
    {v10 : IVec ⟨1, ![16]⟩ 1} (hv10 : v10 = mask8)
    {off : Fin 1 → ℕ} (ho : off = ![12800 * (base + 8 * p)])
    {inb : ∀ a, off a + ROW.size a ≤ OUTS.size a}
    {inb' : ∀ a, (![64] : Fin 1 → ℕ) a + ROW.size a ≤ (⟨1, ![12864]⟩ : Shape).size a}
    {hsrc : (tabM.slice (Rect.unit (s := ⟨1, ![12864]⟩) ![64] ROW.size inb') (fun _ => rfl)).view.WordExact} {hdst} {hty}
    {iA : Decidable (isZ (Scalar.addi c0 (zc8 v10 v)) = 1#1)} {iB : Decidable (isPos (Scalar.addi c0 (zc8 v10 v)) = 1#1)}
    {C : isPos (Scalar.addi c0 (zc8 v10 v)) = 1#1 → Prog (TpuEff nD τ sig (Elt F) Λ (.scVector c s)) α}
    {k : Prog (TpuEff nD τ sig (Elt F) Λ (.scVector c s)) α} {R : sProp 𝕄} {Q : α → sProp 𝕄}
    (hC : ∀ hz, ((iprop(issued d c s ι tabM q ft rowM oM fo res sm base (p + 1) ∗ xAt d c s xM fx ∗ R) : sProp 𝕄)
        ⊢ wp frame (wpE defs 𝒱 (V d c s) bd) Set.univ k Q) →
      (iprop(tabAt d c s tabM q ft ∗ rowDone d c s rowM (tgt (tabFn tabM ft) xs) (64 * 0) ∗ xAt d c s xM fx ∗ pend d c s oM fo res sm base p ∗ R) : sProp 𝕄)
        ⊢ wp frame (wpE defs 𝒱 (V d c s) bd) Set.univ (C hz) Q)
    (h : (iprop(issued d c s ι tabM q ft rowM oM fo res sm base (p + 1) ∗ xAt d c s xM fx ∗ R) : sProp 𝕄)
      ⊢ wp frame (wpE defs 𝒱 (V d c s) bd) Set.univ k Q) :
    (iprop(ready d c s tabM q ft rowM oM fo res sm base p ∗ xAt d c s xM fx ∗ R) : sProp 𝕄)
      ⊢ wp frame (wpE defs 𝒱 (V d c s) bd) Set.univ
        (@dite _ (isZ (Scalar.addi c0 (zc8 v10 v)) = 1#1) iA
            (fun _ => .op (.enqueueDma (tabM.slice (Rect.unit (s := ⟨1, ![12864]⟩) ![64] ROW.size inb') (fun _ => rfl))
              (.here (oM.slice (Rect.unit (s := OUTS) off ROW.size inb) (fun _ => rfl))) (.dma sm) hsrc hdst hty) fun _ =>
                @dite _ (isPos (Scalar.addi c0 (zc8 v10 v)) = 1#1) iB (fun hz => C hz) (fun _ => k))
            (fun _ => @dite _ (isPos (Scalar.addi c0 (zc8 v10 v)) = 1#1) iB (fun hz => C hz) (fun _ => k))) Q := by
  iintro ⟨Hr, Hx, HR⟩
  have hz8 : zc8 v10 v = BitVec.ofNat 32 (zeros xs 192 8) := by
    rw [hv10]; exact count8 xs 192 v hv _ _
  have hz : Scalar.addi c0 (zc8 v10 v) = BitVec.ofNat 32 (zeros xs 0 200) := by
    rw [hz8, hc, addi_ofNat, show (200 : ℕ) = 192 + 8 from rfl, zeros_add, Nat.zero_add]
  have hle := zeros_le xs 0 200
  have hZ : isZ (Scalar.addi c0 (zc8 v10 v)) = 1#1 ↔ zeros xs 0 200 = 0 := by rw [hz]; exact isZ_iff' _ hle
  have hP : isPos (Scalar.addi c0 (zc8 v10 v)) = 1#1 ↔ zeros xs 0 200 ≠ 0 := by rw [hz]; exact isPos_iff' _ hle
  by_cases h0 : zeros xs 0 200 = 0
  · rw [dif_pos (hZ.mpr h0), dif_neg (fun e => hP.mp e h0)]
    iapply (enq_tab (defs := defs) (ι := ι) (rowM := rowM) (q := q) (fo := fo) hp hb ho (fun j hj => (hres j hj).trans (by
      have ht : j / 64 < 200 := by omega
      have hpos := pos_of_zeros h0 ht
      rw [Nat.zero_add] at hpos
      show tabFn tabM ft (64 * pos xs (j / 64) + j % 64) = _
      rw [hpos, show cnt xs 0 = 0 from rfl]
      congr 1
      omega)) h)
    isplitl [Hr]; · iexact Hr
    isplitl [Hx]; · iexact Hx
    iexact HR
  · rw [dif_neg (fun e => h0 (hZ.mp e)), dif_pos (hP.mpr h0)]
    unfold ready
    rw [rows_take hp]
    icases Hr with ⟨Hs, Ht, Hr, Ho, Hrest⟩
    iapply (hC (hP.mpr h0) h)
    isplitl [Ht]; · iexact Ht
    isplitl [Hr]; · iapply rowAny_done $$ Hr
    isplitl [Hx]; · iexact Hx
    unfold pend
    isplitl [Hs Ho Hrest]
    · isplitl [Hs]; · iexact Hs
      isplitl [Ho]; · iexact Ho
      iexact Hrest
    iexact HR

/-- The row's last eight words are loaded and their zeros counted in. A row without a zero is sent from the table;
any other is filled and sent (`C`). -/
theorem row_enq (hp : p < 16) (hb : base + 8 * p < 4096) (hxo : xo + 200 ≤ 12800)
    (hX : ∀ j, j < 200 → xM.view.read (Elt F) fx (ix1 12816 (xo + j)) = xs j)
    (hres : ∀ j, j < 12800 → (outRow oM (base + 8 * p)).view.read (Elt F) res (ix1 12800 j) = tgt (tabFn tabM ft) xs j)
    {off4 : Fin 1 → ℕ} (ho4 : off4 = ![xo + 192]) {c0 : BitVec 32} (hc : c0 = BitVec.ofNat 32 (zeros xs 0 192))
    {v10 : IVec ⟨1, ![16]⟩ 1} (hv10 : v10 = mask8)
    {off : Fin 1 → ℕ} (ho : off = ![12800 * (base + 8 * p)])
    {inb : ∀ a, off a + ROW.size a ≤ OUTS.size a}
    {inb' : ∀ a, (![64] : Fin 1 → ℕ) a + ROW.size a ≤ (⟨1, ![12864]⟩ : Shape).size a}
    {hsrc : (tabM.slice (Rect.unit (s := ⟨1, ![12864]⟩) ![64] ROW.size inb') (fun _ => rfl)).view.WordExact} {hdst} {hty} {hi hl}
    {iA : ∀ v, Decidable (isZ (Scalar.addi c0 (zc8 v10 v)) = 1#1)} {iB : ∀ v, Decidable (isPos (Scalar.addi c0 (zc8 v10 v)) = 1#1)}
    {C : ∀ v, isPos (Scalar.addi c0 (zc8 v10 v)) = 1#1 → Prog (TpuEff nD τ sig (Elt F) Λ (.scVector c s)) α}
    {k : Prog (TpuEff nD τ sig (Elt F) Λ (.scVector c s)) α} {R : sProp 𝕄} {Q : α → sProp 𝕄}
    (hC : ∀ v hz, ((iprop(issued d c s ι tabM q ft rowM oM fo res sm base (p + 1) ∗ xAt d c s xM fx ∗ R) : sProp 𝕄)
        ⊢ wp frame (wpE defs 𝒱 (V d c s) bd) Set.univ k Q) →
      (iprop(tabAt d c s tabM q ft ∗ rowDone d c s rowM (tgt (tabFn tabM ft) xs) (64 * 0) ∗ xAt d c s xM fx ∗ pend d c s oM fo res sm base p ∗ R) : sProp 𝕄)
        ⊢ wp frame (wpE defs 𝒱 (V d c s) bd) Set.univ (C v hz) Q)
    (h : (iprop(issued d c s ι tabM q ft rowM oM fo res sm base (p + 1) ∗ xAt d c s xM fx ∗ R) : sProp 𝕄)
      ⊢ wp frame (wpE defs 𝒱 (V d c s) bd) Set.univ k Q) :
    (iprop(ready d c s tabM q ft rowM oM fo res sm base p ∗ xAt d c s xM fx ∗ R) : sProp 𝕄)
      ⊢ wp frame (wpE defs 𝒱 (V d c s) bd) Set.univ
        (.op (TpuEff.load (e := .i32) xM (Rect.unit (s := ⟨1, ![12816]⟩) off4 (⟨1, ![16]⟩ : Shape).size hi).toLoadRect hl) fun v : IVec ⟨1, ![16]⟩ 32 =>
          @dite _ (isZ (Scalar.addi c0 (zc8 v10 v)) = 1#1) (iA v)
            (fun _ => .op (.enqueueDma (tabM.slice (Rect.unit (s := ⟨1, ![12864]⟩) ![64] ROW.size inb') (fun _ => rfl))
              (.here (oM.slice (Rect.unit (s := OUTS) off ROW.size inb) (fun _ => rfl))) (.dma sm) hsrc hdst hty) fun _ =>
                @dite _ (isPos (Scalar.addi c0 (zc8 v10 v)) = 1#1) (iB v) (fun hz => C v hz) (fun _ => k))
            (fun _ => @dite _ (isPos (Scalar.addi c0 (zc8 v10 v)) = 1#1) (iB v) (fun hz => C v hz) (fun _ => k))) Q := by
  refine swap2 (load_last hxo hX ho4 fun v hv => swap2 ?_)
  exact row_case hp hb hv hres hc hv10 ho (hC v) h

/-- The chunk loop. -/
theorem chunk_loop {L : Scf.Loop 32} {hok : L.OK} (hN : L.trips = 12)
    {body : Fin L.trips → BitVec 32 → Prog (TpuEff nD τ sig (Elt F) Λ (.scVector c s)) (BitVec 32)}
    (step : ∀ (j : Fin L.trips) (a : BitVec 32), a = BitVec.ofNat 32 (cnt xs (16 * j.val)) →
      (iprop(tabAt d c s tabM q ft ∗ rowDone d c s rowM tg (64 * (16 * j.val + 0)) ∗ xAt d c s xM fx ∗ emp) : sProp 𝕄)
      ⊢ wp frame (wpE defs 𝒱 (V d c s) bd) Set.univ (body j a)
        (fun r => iprop(⌜r = BitVec.ofNat 32 (cnt xs (16 * (j.val + 1)))⌝ ∗ tabAt d c s tabM q ft ∗ rowDone d c s rowM tg (64 * (16 * j.val + 16))
          ∗ xAt d c s xM fx ∗ emp)))
    {k : BitVec 32 → Prog (TpuEff nD τ sig (Elt F) Λ (.scVector c s)) α} {R : sProp 𝕄} {Q : α → sProp 𝕄}
    (h : (iprop(tabAt d c s tabM q ft ∗ rowDone d c s rowM tg (64 * (192 + 0)) ∗ xAt d c s xM fx ∗ R) : sProp 𝕄)
      ⊢ wp frame (wpE defs 𝒱 (V d c s) bd) Set.univ (k (BitVec.ofNat 32 (cnt xs 192))) Q) :
    (iprop(tabAt d c s tabM q ft ∗ rowDone d c s rowM tg (64 * 0) ∗ xAt d c s xM fx ∗ R) : sProp 𝕄)
      ⊢ wp frame (wpE defs 𝒱 (V d c s) bd) Set.univ (Scf.Loop.for L hok 0#32 body >>= k) Q := by
  iintro ⟨Ht, Hr, Hx, HR⟩
  iapply (Scf.wp_for_bind (M := 𝕄) frame (wpE defs 𝒱 (V d c s) bd) Set.univ L.lb L.ub L.st hok 0#32 body
    (fun j r => iprop(⌜r = BitVec.ofNat 32 (cnt xs (16 * j))⌝ ∗ tabAt d c s tabM q ft ∗ rowDone d c s rowM tg (64 * (16 * j)) ∗ xAt d c s xM fx ∗ emp))
    (fun j a => by
      have hs := fun ha => step j a ha
      rw [show 64 * (16 * j.val + 16) = 64 * (16 * (j.val + 1)) by omega, Nat.add_zero] at hs
      iintro ⟨%ha, H⟩
      iapply (hs ha)
      iexact H)) $$ [Ht Hr Hx]
  · isplitr
    · ipureintro; rfl
    isplitl [Ht]; · iexact Ht
    isplitl [Hr]; · iexact Hr
    isplitl [Hx]; · iexact Hx
    iempintro
  rw [show Scf.trips L.lb L.ub L.st = 12 from hN]
  iintro %r ⟨%hr, Ht, Hr, Hx, -⟩
  rw [hr]
  iapply h
  isplitl [Ht]; · iexact Ht
  isplitl [Hr]; · iexact Hr
  isplitl [Hx]; · iexact Hx
  iexact HR

/-- The last eight tokens of a row: as a trip of the chunk loop. -/
theorem tail_trip (hxo : xo + 200 ≤ 12800) (hX : ∀ j, j < 200 → xM.view.read (Elt F) fx (ix1 12816 (xo + j)) = xs j)
    {off : Fin 1 → ℕ} (hoff : off = ![xo + 192]) {v10 : IVec ⟨1, ![16]⟩ 1} (hv10 : v10 = mask8)
    {c0 : BitVec 32} (hc : c0 = BitVec.ofNat 32 (cnt xs 192)) {P : IVec ⟨1, ![16]⟩ 32 → Prop} {dP : ∀ v, Decidable (P v)}
    (hP : (∀ k, k < 32 → ∀ a : Fin 1, fastOff c0 k a + (⟨1, ![16]⟩ : Shape).size a ≤ (⟨1, ![12864]⟩ : Shape).size a) → ∀ v, P v) {hi hl}
    {iA : ∀ v, Decidable (isZ (zc8 v10 v) = 1#1)} {iB : ∀ v, Decidable (isPos (zc8 v10 v) = 1#1)}
    {A : ∀ v, PLift (P v) → isZ (zc8 v10 v) = 1#1 → Prog (TpuEff nD τ sig (Elt F) Λ (.scVector c s)) Unit}
    {B : ∀ v, PLift (P v) → isPos (zc8 v10 v) = 1#1 → Prog (TpuEff nD τ sig (Elt F) Λ (.scVector c s)) α}
    {k : Prog (TpuEff nD τ sig (Elt F) Λ (.scVector c s)) α}
    {R : sProp 𝕄} {Q : α → sProp 𝕄}
    (hA : ∀ v hv hz, zeros xs 192 8 = 0 →
      (iprop(tabAt d c s tabM q ft ∗ rowDone d c s rowM tg (64 * 192) ∗ emp) : sProp 𝕄) ⊢ wp frame (wpE defs 𝒱 (V d c s) bd) Set.univ (A v hv hz)
        (fun _ => iprop(tabAt d c s tabM q ft ∗ rowDone d c s rowM tg (64 * (192 + 8)) ∗ emp)))
    (hB : ∀ v hv hz, (∀ t, t < 8 → lane v t = xs (192 + t)) → ∀ R' : sProp 𝕄,
      ((iprop(tabAt d c s tabM q ft ∗ rowDone d c s rowM tg (64 * (192 + 8)) ∗ R') : sProp 𝕄)
        ⊢ wp frame (wpE defs 𝒱 (V d c s) bd) Set.univ k Q) →
      (iprop(tabAt d c s tabM q ft ∗ rowDone d c s rowM tg (64 * (192 + 0)) ∗ R') : sProp 𝕄) ⊢ wp frame (wpE defs 𝒱 (V d c s) bd) Set.univ (B v hv hz) Q)
    (h : (iprop(tabAt d c s tabM q ft ∗ rowDone d c s rowM tg (64 * (192 + 8)) ∗ xAt d c s xM fx ∗ R) : sProp 𝕄)
      ⊢ wp frame (wpE defs 𝒱 (V d c s) bd) Set.univ k Q) :
    (iprop(tabAt d c s tabM q ft ∗ rowDone d c s rowM tg (64 * (192 + 0)) ∗ xAt d c s xM fx ∗ R) : sProp 𝕄)
      ⊢ wp frame (wpE defs 𝒱 (V d c s) bd) Set.univ
        (.op (TpuEff.load (e := .i32) xM (Rect.unit (s := ⟨1, ![12816]⟩) off (⟨1, ![16]⟩ : Shape).size hi).toLoadRect hl) fun v : IVec ⟨1, ![16]⟩ 32 =>
          .op (.assume (P v) (dP v)) fun x =>
            @dite _ (isZ (zc8 v10 v) = 1#1) (iA v)
              (fun hz => A v x hz >>= fun _ => @dite _ (isPos (zc8 v10 v) = 1#1) (iB v) (fun hz => B v x hz) (fun _ => k))
              (fun _ => @dite _ (isPos (zc8 v10 v) = 1#1) (iB v) (fun hz => B v x hz) (fun _ => k))) Q := by
  have hcl := cnt_le xs 192
  replace hP := hP fun k hk a => by
    rw [fastOff_eq hc (by omega) (by omega)]
    obtain rfl : a = 0 := Subsingleton.elim (α := Fin 1) a 0
    show 64 * (cnt xs 192 + 1) + 16 * k + 16 ≤ 12864
    omega
  iintro ⟨Ht, Hr, Hx, HR⟩
  iapply (wp_load (defs := defs) 𝒱 (V d c s) bd Set.univ (View.setOn_subset_set _ _)) $$ Hx
  iintro Hx
  have hv : ∀ t, t < 8 → lane (xM.view.readAt (Elt F) (Rect.unit (s := ⟨1, ![12816]⟩) off (⟨1, ![16]⟩ : Shape).size hi).toLoadRect fx) t
      = xs (192 + t) := by
    intro t ht
    refine (readAt16 xM.view fx hoff (by omega) hi t (by omega)).trans ?_
    rw [Nat.add_assoc]
    exact hX _ (by omega)
  generalize (xM.view.readAt (Elt F) (Rect.unit (s := ⟨1, ![12816]⟩) off (⟨1, ![16]⟩ : Shape).size hi).toLoadRect fx) = v at hv ⊢
  rw [wp_assume_of 𝒱 (V d c s) bd Set.univ (hP v)]
  have hz8 : zc8 v10 v = BitVec.ofNat 32 (zeros xs 192 8) := by
    rw [hv10]; exact count8 xs 192 v hv _ _
  have hzle := zeros_le xs 192 8
  have hZ : isZ (zc8 v10 v) = 1#1 ↔ zeros xs 192 8 = 0 := by rw [hz8]; exact isZ_iff _ (by omega)
  have hP' : isPos (zc8 v10 v) = 1#1 ↔ zeros xs 192 8 ≠ 0 := by rw [hz8]; exact isPos_iff _ (by omega)
  by_cases hz : zeros xs 192 8 = 0
  · rw [dif_pos (hZ.mpr hz), dif_neg (fun e => hP'.mp e hz)]
    have hin := wp_part (k := fun _ => k) (Q := Q)
      (R := iprop(xAt d c s xM fx ∗ R)) (hA v ⟨hP v⟩ (hZ.mpr hz) hz) fun _ => by
        iintro ⟨⟨Ht, Hr, -⟩, Hx, HR⟩
        iapply h
        isplitl [Ht]; · iexact Ht
        isplitl [Hr]; · iexact Hr
        isplitl [Hx]; · iexact Hx
        iexact HR
    iapply hin
    isplitl [Ht Hr]
    · isplitl [Ht]; · iexact Ht
      isplitl [Hr]; · iexact Hr
      iempintro
    isplitl [Hx]; · iexact Hx
    iexact HR
  · rw [dif_neg (fun e => hz (hZ.mp e)), dif_pos (hP'.mpr hz)]
    iapply (hB v ⟨hP v⟩ (hP'.mpr hz) hv iprop(xAt d c s xM fx ∗ R) h)
    isplitl [Ht]; · iexact Ht
    isplitl [Hr]; · iexact Hr
    isplitl [Hx]; · iexact Hx
    iexact HR

/-- A part of a program, then the rest. -/
theorem wp_seq {β : Type} {pr : Prog (TpuEff nD τ sig (Elt F) Λ (.scVector c s)) β} {k : β → Prog (TpuEff nD τ sig (Elt F) Λ (.scVector c s)) α}
    {P : sProp 𝕄} {Q : α → sProp 𝕄}
    (h : P ⊢ wp frame (wpE defs 𝒱 (V d c s) bd) Set.univ pr fun b => wp frame (wpE defs 𝒱 (V d c s) bd) Set.univ (k b) Q) :
    P ⊢ wp frame (wpE defs 𝒱 (V d c s) bd) Set.univ (pr >>= k) Q := by
  rw [wp_bind]; exact h

/-- The other lanes before the words' array and its semaphore. -/
theorem to_queue {A B C S E R G : sProp 𝕄} (h : (iprop(A ∗ B ∗ C ∗ R ∗ S ∗ E) : sProp 𝕄) ⊢ G) : (iprop(A ∗ B ∗ C ∗ S ∗ E ∗ R) : sProp 𝕄) ⊢ G := by
  iintro ⟨HA, HB, HC, HS, HE, HR⟩
  iapply h
  isplitl [HA]; · iexact HA
  isplitl [HB]; · iexact HB
  isplitl [HC]; · iexact HC
  isplitl [HR]; · iexact HR
  isplitl [HS]; · iexact HS
  iexact HE

/-- The token buffer after a row is as the next row takes it. -/
theorem xInv_next {X : ℕ → BitVec 32} {w : ℕ} : half d c s xM X (2 * w + p / 8) ⊢ (xInv d c s xM X w (p + 1) : sProp 𝕄) := by
  unfold xInv
  by_cases h : (p + 1) % 8 = 0
  · rw [if_pos h]
    unfold half
    iintro ⟨%fx, -, H⟩
    iexists fx
    iexact H
  · rw [if_neg h, show (p + 1) / 8 = p / 8 by omega]

/-- The next lane to the front, the one before it to those done. -/
theorem rot {A B C N T D G : sProp 𝕄} (h : (iprop(N ∗ B ∗ C ∗ T ∗ A ∗ D) : sProp 𝕄) ⊢ G) : (iprop(A ∗ B ∗ C ∗ (N ∗ T) ∗ D) : sProp 𝕄) ⊢ G := by
  iintro ⟨HA, HB, HC, ⟨HN, HT⟩, HD⟩
  iapply h
  isplitl [HN]; · iexact HN
  isplitl [HB]; · iexact HB
  isplitl [HC]; · iexact HC
  isplitl [HT]; · iexact HT
  isplitl [HA]; · iexact HA
  iexact HD

/-- The buffer `res` holds, in each of the 4096 rows, that row of the result for the words `X`. -/
def IsRes (d : Dev nD) (c : Fin τ.nSC) (s : Fin τ.nSub) (oM : Memref sig .scVector .hbm OUTS .f32) (res : Buf (Elt F) (oM.view.loc (V d c s)))
    (tabM : Memref sig .scVector .vmem ⟨1, ![12864]⟩ .f32) (ft : Buf (Elt F) (tabM.view.loc (V d c s))) (X : ℕ → BitVec 32) : Prop :=
  ∀ r, r < 4096 → ∀ j, j < 12800 → (outRow oM r).view.read (Elt F) res (ix1 12800 j) = tgt (tabFn tabM ft) (rowX X r) j

/-- A one-entry offset, from its entry. -/
theorem off1_eq {off : Fin 1 → ℕ} {m : ℕ} (h : off 0 = m) : off = ![m] := by
  funext a
  obtain rfl : a = 0 := Subsingleton.elim a 0
  exact h

end Cert.Proof
-- ==== Proof.Ends.lean ====
module

public import proofs.«01_k».proof.Proof.Steps

/-!
# The start and the end of a tile's work

The table is fetched before the first row; after the last row each lane's copy is awaited once more. The staging
buffer is dealt to the lanes as its eight rows and comes back whole.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {nD : Nat} {τ : Topo} {sig : RefSig} {Ix : Type} [DecidableEq Ix] {F : FTy → Type} [FloatOps F] {Name : Type} [DecidableEq Name] [Infinite Name]
variable {U : Type} [URA U] [CountersIn U] {Lvl : Type} [Preorder Lvl] {Λ : Labels} {defs : Defs nD τ sig (Elt F) Λ} {𝒱 : Variants}
variable {d : Dev nD} {c : Fin τ.nSC} {s : Fin τ.nSub} {bd : Option 𝒱.V} {α : Type}
local notation "𝕄" => MT nD τ sig Ix (Elt F) Name U Lvl

variable {tabM : Memref sig .scVector .vmem ⟨1, ![12864]⟩ .f32} {oM : Memref sig .scVector .hbm OUTS .f32}
variable {ι : Ix} {O : CellTallies nD τ sig Ix}

/-! ## The fetch of the table -/

/-- The table in HBM. -/
abbrev tblAt (d : Dev nD) (c : Fin τ.nSC) (s : Fin τ.nSub) (mM : Memref sig .scVector .hbm ⟨1, ![12864]⟩ .f32) (qm : PosShare TreeShare)
    (fm : Buf (Elt F) (mM.view.loc (V d c s))) : sProp 𝕄 :=
  mM.view.loc (V d c s) ↦[mM.view.set]{qm} fm

/-- The table fetched into a tile's memory. -/
theorem table_fetch {mM : Memref sig .scVector .hbm ⟨1, ![12864]⟩ .f32} {qm : PosShare TreeShare} {fm : Buf (Elt F) (mM.view.loc (V d c s))}
    {tb : ℕ → Elt F .f32} (hT : ∀ n, mM.view.read (Elt F) fm (ix1 12864 n) = tb n) {sm : DmaSem sig}
    {hsrc : mM.view.WordExact} {hdst : tabM.view.WordExact}
    {hty : DmaTarget.Typed (nD := nD) (τ := τ) (p := .scVector c s) .hbm (.dma sm) (.here tabM)}
    {hsrc' : mM.view.WordExact} {hdst' : tabM.view.WordExact}
    {k : Prog (TpuEff nD τ sig (Elt F) Λ (.scVector c s)) α} {R : sProp 𝕄} {Q : α → sProp 𝕄}
    (h : ∀ ft, tabFn tabM ft = tb → (iprop(owe d c s ι O ∗ tabAt d c s tabM fullShare ft ∗ (tblAt d c s mM qm fm ∗ semVal (V d c s, SemLoc.dma sm) 0) ∗ R) : sProp 𝕄)
      ⊢ wp frame (wpE defs 𝒱 (V d c s) bd) Set.univ k Q) :
    (iprop((tblAt d c s mM qm fm ∗ semVal (V d c s, SemLoc.dma sm) 0) ∗ (∃ ft, tabAt d c s tabM fullShare ft) ∗ owe d c s ι O ∗ R) : sProp 𝕄)
      ⊢ wp frame (wpE defs 𝒱 (V d c s) bd) Set.univ
        (.op (.enqueueDma mM (.here tabM) (.dma sm) hsrc hdst hty) fun _ => .op (.waitDma2 sm mM tabM hsrc' hdst') fun _ => k) Q := by
  unfold owe
  iintro ⟨⟨Hm, Hs⟩, ⟨%f, Ht⟩, ⟨⟨%W, HO⟩, #Hmw⟩, HR⟩
  iapply (Transfers.wp_dmaLocal countersEmb 𝒱 (V d c s) bd (src := mM) (dst := tabM) (sm := .dma sm) ι
    tabM.view.dmaCredit rfl (View.dmaCredit_pos _ (show 0 < (⟨1, ![12864]⟩ : Shape).numel by decide)) (Finset.Subset.refl _)) $$ [Hm Ht Hs]
  · isplitl [Hm]; · iexact Hm
    isplitl [Ht]; · iexact Ht
    iexact Hs
  iintro Hfl
  ihave Hme := (MayWaits.elim (SemLoc.dma sm)) $$ Hmw
  iapply (Transfers.wp_waitLocalO countersEmb 𝒱 (V d c s) bd ι rfl) $$ [Hfl HO Hme]
  · isplitl [Hfl]; · iexact Hfl
    isplitl [HO]; · iexact HO
    iexact Hme
  iintro ⟨⟨Ht, Hm⟩, Hs, HO⟩
  iapply (h (tabM.view.write (Elt F) f (mM.view.read (Elt F) fm) Finset.univ) (funext fun n =>
    (View.read_write_of_mem (v := tabM.view) f (mM.view.read (Elt F) fm) (Finset.mem_univ (ix1 12864 n))).trans (hT n)))
  isplitl [HO]
  · unfold owe
    isplitl [HO]; · iexists _; iexact HO
    iexact Hmw
  isplitl [Ht]; · iexact Ht
  isplitl [Hm Hs]
  · isplitl [Hm]; · iexact Hm
    iexact Hs
  iexact HR

/-! ## The lanes' last waits -/

variable {q : PosShare TreeShare} {ft : Buf (Elt F) (tabM.view.loc (V d c s))} {rowM : Memref sig .scVector .vmem ⟨1, ![12800]⟩ .f32}
variable {fo res : Buf (Elt F) (oM.view.loc (V d c s))} {sm : DmaSem sig} {base : ℕ}

/-- The wait for a lane's last row; then the next lane to the front. -/
theorem last_wait {sp : Space} {src : Memref sig .scVector sp ROW .f32} {dst : Memref sig .scVector .hbm ROW .f32}
    (hN : dst.view.dmaCredit = (outRow oM 0).view.dmaCredit) {hsrc : src.view.WordExact} {hdst : dst.view.WordExact}
    {k : Prog (TpuEff nD τ sig (Elt F) Λ (.scVector c s)) α} {D N R : sProp 𝕄} {Q : α → sProp 𝕄}
    (h : (iprop(N ∗ owe d c s ι O ∗ (ready d c s tabM q ft rowM oM fo res sm base 16 ∗ D) ∗ R) : sProp 𝕄)
      ⊢ wp frame (wpE defs 𝒱 (V d c s) bd) Set.univ k Q) :
    (iprop(issued d c s ι tabM q ft rowM oM fo res sm base 16 ∗ owe d c s ι O ∗ D ∗ N ∗ R) : sProp 𝕄)
      ⊢ wp frame (wpE defs 𝒱 (V d c s) bd) Set.univ (.op (.waitDma2 sm src dst hsrc hdst) fun _ => k) Q := by
  refine wait_lane (by omega) hN (BIBase.Entails.trans ?_ h)
  iintro ⟨HA, HO, HD, HN, HR⟩
  isplitl [HN]; · iexact HN
  isplitl [HO]; · iexact HO
  isplitl [HA HD]
  · isplitl [HA]; · iexact HA
    iexact HD
  iexact HR

/-- Before the last of the waits. -/
theorem last_one {A B C G : sProp 𝕄} (h : (iprop(A ∗ B ∗ C ∗ emp ∗ emp) : sProp 𝕄) ⊢ G) : (iprop(A ∗ B ∗ C ∗ emp) : sProp 𝕄) ⊢ G := by
  refine BIBase.Entails.trans ?_ h
  iintro ⟨HA, HB, HC, -⟩
  isplitl [HA]; · iexact HA
  isplitl [HB]; · iexact HB
  isplitl [HC]; · iexact HC
  isplitr <;> iempintro

/-! ## Families -/

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Some members of a family, and the others. -/
theorem bigSep_pick {M : Type} [URA M] {I : Type} [DecidableEq I] {n : ℕ} {S : Finset I} (f : Fin n → I) (hf : Function.Injective f) (hm : ∀ i, f i ∈ S)
    (Φ : I → sProp M) :
    bigSep S Φ = iprop((bigSep Finset.univ fun i => Φ (f i)) ∗ bigSep (S \ Finset.univ.image f) Φ) := by
  have hsub : Finset.univ.image f ⊆ S := by
    intro x hx
    obtain ⟨i, -, rfl⟩ := Finset.mem_image.mp hx
    exact hm i
  rw [← SparseCore.bigSep_image_of_injOn hf.injOn Φ]
  conv_lhs => rw [← Finset.union_sdiff_of_subset hsub]
  exact bigSep_union Finset.disjoint_sdiff

/-! ## The staging rows -/

theorem stage8_inb (b : Fin 8) : ∀ a, (![b.val, 0] : Fin 2 → ℕ) a + (⟨2, ![1, 12800]⟩ : Shape).size a ≤ (⟨2, ![8, 12800]⟩ : Shape).size a := by
  revert b; decide

theorem stage_numel : (⟨1, ![12800]⟩ : Shape).numel = (⟨2, ![1, 12800]⟩ : Shape).numel := by decide

theorem hdiv8 : 8 ∣ (⟨2, ![8, 12800]⟩ : Shape).size 0 := ⟨1, rfl⟩

/-- The place of staging row `b`. -/
abbrev stageRect (b : Fin 8) : Rect ⟨2, ![8, 12800]⟩ := Rect.unit (s := ⟨2, ![8, 12800]⟩) ![b.val, 0] (⟨2, ![1, 12800]⟩ : Shape).size (stage8_inb b)

theorem stageRect_eq (b : Fin 8) : stageRect b = Rect.part (s := ⟨2, ![8, 12800]⟩) (a₀ := 0) hdiv8 b := by
  unfold stageRect Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- The staging buffer's element sets by row. -/
abbrev stageSet (wM : Memref sig .scVector .vmem ⟨2, ![8, 12800]⟩ .f32) (b : Fin 8) := (wM.view.slice (stageRect b)).set

theorem stage_disjoint (wM : Memref sig .scVector .vmem ⟨2, ![8, 12800]⟩ .f32) :
    ∀ b ∈ (Finset.univ : Finset (Fin 8)), ∀ b' ∈ (Finset.univ : Finset (Fin 8)), b ≠ b' → Disjoint (stageSet wM b) (stageSet wM b') := by
  intro b _ b' _ h
  unfold stageSet
  rw [View.set_slice, View.set_slice, stageRect_eq, stageRect_eq]
  exact (Finset.disjoint_map _).mpr (Rect.part_disjoint hdiv8 h)

theorem stage_cover (wM : Memref sig .scVector .vmem ⟨2, ![8, 12800]⟩ .f32) : Finset.univ.biUnion (stageSet wM) = wM.view.set := by
  have h : ∀ b, stageSet wM b = (Rect.part (s := ⟨2, ![8, 12800]⟩) (a₀ := 0) hdiv8 b).set.map wM.view.emb := by
    intro b; unfold stageSet; rw [View.set_slice, stageRect_eq]
  rw [Finset.biUnion_congr rfl fun b _ => h b]
  ext x
  simp only [Finset.mem_biUnion, Finset.mem_map, Finset.mem_univ, true_and]
  constructor
  · rintro ⟨b, y, -, rfl⟩
    exact Finset.mem_map.mpr ⟨y, Finset.mem_univ _, rfl⟩
  · intro hx
    obtain ⟨y, -, rfl⟩ := Finset.mem_map.mp hx
    obtain ⟨b, hb⟩ := Rect.exists_mem_part hdiv8 y
    exact ⟨b, y, hb, rfl⟩

theorem stage_any (wM : Memref sig .scVector .vmem ⟨2, ![8, 12800]⟩ .f32) (f : Buf (Elt F) (wM.view.loc (V d c s))) :
    (wM.view.loc (V d c s) ↦[wM.view.set]{fullShare} f : sProp 𝕄)
      ⊢ bigSep Finset.univ fun b => iprop(∃ f, wM.view.loc (V d c s) ↦[stageSet wM b]{fullShare} f) := by
  rw [← stage_cover wM, show (wM.view.loc (V d c s) ↦[Finset.univ.biUnion (stageSet wM)]{fullShare} f : sProp 𝕄)
    = bigSep Finset.univ fun b => wM.view.loc (V d c s) ↦[stageSet wM b]{fullShare} f from
      pointsTo_biUnion (ℓ := wM.view.loc (V d c s)) Finset.univ (stageSet wM) (stage_disjoint wM)]
  refine bigSep_mono fun b _ => ?_
  show (wM.view.loc (V d c s) ↦[stageSet wM b]{fullShare} f : sProp 𝕄) ⊢ iprop(∃ f, wM.view.loc (V d c s) ↦[stageSet wM b]{fullShare} f)
  iintro H; iexists f; iexact H

/-- The staging buffer as its eight rows. -/
theorem stage_split (wM : Memref sig .scVector .vmem ⟨2, ![8, 12800]⟩ .f32) :
    (iprop(∃ f, wM.view.loc (V d c s) ↦[wM.view.set]{fullShare} f) : sProp 𝕄)
      ⊢ bigSep Finset.univ fun b => iprop(∃ f, wM.view.loc (V d c s) ↦[stageSet wM b]{fullShare} f) := by
  iintro ⟨%f, H⟩
  iapply (stage_any wM f)
  iexact H

/-- The eight rows as the staging buffer. -/
theorem stage_join (wM : Memref sig .scVector .vmem ⟨2, ![8, 12800]⟩ .f32) :
    (bigSep Finset.univ fun b => iprop(∃ f, wM.view.loc (V d c s) ↦[stageSet wM b]{fullShare} f))
      ⊢ (iprop(∃ f, wM.view.loc (V d c s) ↦[wM.view.set]{fullShare} f) : sProp 𝕄) := by
  refine (bigSep_exists_pi Finset.univ (fun b (f : Buf (Elt F) (wM.view.loc (V d c s))) => (wM.view.loc (V d c s) ↦[stageSet wM b]{fullShare} f : sProp 𝕄))).trans ?_
  iintro ⟨%fs, H⟩
  ihave H' := (pointsTo_biUnion_join (ℓ := wM.view.loc (V d c s)) (q := fullShare) (Val := Elt F) Finset.univ (stageSet wM) fs (fs 0) (stage_disjoint wM)) $$ H
  icases H' with ⟨%g, -, Hg⟩
  rw [stage_cover]
  iexists g; iexact Hg

end Cert.Proof
-- ==== Proof.Deal.lean ====
module

public import proofs.«01_k».proof.Proof.Ends

/-!
# The arrays dealt to the tiles

Tile `s` of core `c` has number `2 s + c`; it takes a share of the tokens and of the table, and its 128 rows of the
output, which its eight lanes take by turns.
-/

@[expose] public section

noncomputable section

namespace Cert.Proof

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

/-! ## Families over tiles and rows -/

section Families

variable {M : Type} [URA M]

/-- A family over the first numbers: its head and its tail. -/
theorem bigSep_univ_head {n : ℕ} (Φ : Fin (n + 1) → sProp M) : bigSep Finset.univ Φ = iprop(Φ 0 ∗ bigSep Finset.univ fun k : Fin n => Φ k.succ) := by
  rw [Fin.univ_succ, Finset.cons_eq_insert, bigSep_insert (by simp), bigSep_map]; rfl

/-- A family over a two-level numbering is one over the numbers. -/
theorem bigSep_grid {α β : Type} [DecidableEq α] [DecidableEq β] (s : Finset α) (t : Finset β) (f : α → β → ℕ) {S : Finset ℕ}
    (hf : ∀ a a' b, b ∈ t → ∀ b', b' ∈ t → f a b = f a' b' → a = a' ∧ b = b')
    (hS : ∀ n, n ∈ S ↔ ∃ a ∈ s, ∃ b ∈ t, f a b = n) (Φ : ℕ → sProp M) :
    (bigSep s fun a => bigSep t fun b => Φ (f a b)) = bigSep S Φ := by
  rw [← SparseCore.bigSep_product s t fun x => Φ (f x.1 x.2), ← SparseCore.bigSep_image_of_injOn (f := fun x : α × β => f x.1 x.2) ?_ Φ]
  · congr 1
    ext n
    rw [hS, Finset.mem_image]
    constructor
    · rintro ⟨⟨a, b⟩, h, rfl⟩
      exact ⟨a, (Finset.mem_product.mp h).1, b, (Finset.mem_product.mp h).2, rfl⟩
    · rintro ⟨a, ha, b, hb, rfl⟩
      exact ⟨(a, b), Finset.mem_product.mpr ⟨ha, hb⟩, rfl⟩
  · rintro ⟨a, b⟩ h ⟨a', b'⟩ h' e
    obtain ⟨rfl, rfl⟩ := hf a a' b (Finset.mem_product.mp h).2 b' (Finset.mem_product.mp h').2 e
    rfl

/-- The tiles by number. -/
theorem tiles_range (Φ : ℕ → sProp M) :
    (bigSep Finset.univ fun c : Fin 2 => bigSep Finset.univ fun s : Fin 16 => Φ (2 * s.val + c.val)) = bigSep (Finset.range 32) Φ := by
  refine bigSep_grid _ _ (fun (c : Fin 2) (s : Fin 16) => 2 * s.val + c.val) ?_ ?_ Φ
  · intro c c' s _ s' _ e
    have h1 := c.isLt
    have h2 := c'.isLt
    exact ⟨Fin.ext (by omega), Fin.ext (by omega)⟩
  · intro n
    rw [Finset.mem_range]
    constructor
    · intro h
      exact ⟨⟨n % 2, by omega⟩, Finset.mem_univ _, ⟨n / 2, by omega⟩, Finset.mem_univ _, by show 2 * (n / 2) + n % 2 = n; omega⟩
    · rintro ⟨c, -, s, -, rfl⟩
      have h1 := c.isLt
      have h2 := s.isLt
      omega

/-- A tile's rows by lane. -/
theorem lanes_range (Φ : ℕ → sProp M) :
    (bigSep Finset.univ fun b : Fin 8 => bigSep (Finset.range 16) fun p => Φ (b.val + 8 * p)) = bigSep (Finset.range 128) Φ := by
  refine bigSep_grid _ _ (fun (b : Fin 8) (p : ℕ) => b.val + 8 * p) ?_ ?_ Φ
  · intro b b' p _ p' _ e
    have h1 := b.isLt
    have h2 := b'.isLt
    exact ⟨Fin.ext (by omega), by omega⟩
  · intro n
    rw [Finset.mem_range]
    constructor
    · intro h
      exact ⟨⟨n % 8, by omega⟩, Finset.mem_univ _, n / 8, Finset.mem_range.mpr (by omega), by show n % 8 + 8 * (n / 8) = n; omega⟩
    · rintro ⟨b, -, p, hp, rfl⟩
      have h1 := b.isLt
      have h2 := Finset.mem_range.mp hp
      omega

/-- The rows of the output by tile. -/
theorem tileRows_range (Φ : ℕ → sProp M) :
    (bigSep (Finset.range 32) fun w => bigSep (Finset.range 128) fun n => Φ (128 * w + n)) = bigSep (Finset.range 4096) Φ := by
  refine bigSep_grid _ _ (fun w n => 128 * w + n) ?_ ?_ Φ
  · intro w w' n hn n' hn' e
    have h1 := Finset.mem_range.mp hn
    have h2 := Finset.mem_range.mp hn'
    exact ⟨by omega, by omega⟩
  · intro n
    rw [Finset.mem_range]
    constructor
    · intro h
      exact ⟨n / 128, Finset.mem_range.mpr (by omega), n % 128, Finset.mem_range.mpr (by omega), by show 128 * (n / 128) + n % 128 = n; omega⟩
    · rintro ⟨w, hw, m, hm, rfl⟩
      have h1 := Finset.mem_range.mp hw
      have h2 := Finset.mem_range.mp hm
      omega

/-- The rows of the output by tile and lane. -/
theorem rows_range (Φ : ℕ → sProp M) :
    (bigSep Finset.univ fun c : Fin 2 => bigSep Finset.univ fun s : Fin 16 => bigSep Finset.univ fun b : Fin 8 =>
      bigSep (Finset.range 16) fun p => Φ (128 * (2 * s.val + c.val) + b.val + 8 * p)) = bigSep (Finset.range 4096) Φ := by
  rw [← tileRows_range, ← tiles_range]
  refine bigSep_congr fun c _ => bigSep_congr fun s _ => ?_
  rw [← lanes_range]
  exact bigSep_congr fun b _ => bigSep_congr fun p _ => by rw [Nat.add_assoc]

end Families

/-! ## The output as its rows -/

section Out

variable {nD : Nat} {τ : Topo} {sig : RefSig} {Ix : Type} [DecidableEq Ix] {F : FTy → Type} [FloatOps F] {Name : Type} [DecidableEq Name] [Infinite Name]
variable {U : Type} [URA U] {Lvl : Type} [Preorder Lvl]
local notation "𝕄" => MT nD τ sig Ix (Elt F) Name U Lvl

theorem hdivOut : 4096 ∣ OUTS.size 0 := ⟨12800, rfl⟩

theorem outRect_eq {r : ℕ} (hr : r < 4096) :
    Rect.unit (s := OUTS) ![12800 * (r % 4096)] ROW.size (row_inb r) = Rect.part (s := OUTS) (a₀ := 0) hdivOut ⟨r, hr⟩ := by
  unfold Rect.part Rect.block
  congr 1 <;> funext a
  · obtain rfl : a = 0 := Subsingleton.elim (α := Fin 1) a 0
    simp [Shape.partIx, Shape.partSize, Nat.mod_eq_of_lt hr, Nat.mul_comm]
  · obtain rfl : a = 0 := Subsingleton.elim (α := Fin 1) a 0
    simp [Shape.partSize]

theorem outRow_set (oM : Memref sig .scVector .hbm OUTS .f32) {r : ℕ} (hr : r < 4096) :
    (outRow oM r).view.set = (Rect.part (s := OUTS) (a₀ := 0) hdivOut ⟨r, hr⟩).set.map oM.view.emb := by
  rw [← outRect_eq hr]
  exact View.set_slice (v := oM.view) _

theorem out_disjoint (oM : Memref sig .scVector .hbm OUTS .f32) :
    ∀ r ∈ Finset.range 4096, ∀ r' ∈ Finset.range 4096, r ≠ r' → Disjoint (outRow oM r).view.set (outRow oM r').view.set := by
  intro r hr r' hr' h
  rw [outRow_set oM (Finset.mem_range.mp hr), outRow_set oM (Finset.mem_range.mp hr')]
  exact (Finset.disjoint_map _).mpr (Rect.part_disjoint hdivOut fun e => h (Fin.mk.inj e))

theorem out_cover (oM : Memref sig .scVector .hbm OUTS .f32) : (Finset.range 4096).biUnion (fun r => (outRow oM r).view.set) = oM.view.set := by
  ext x
  rw [Finset.mem_biUnion]
  constructor
  · rintro ⟨r, hr, hx⟩
    rw [outRow_set oM (Finset.mem_range.mp hr)] at hx
    obtain ⟨y, -, rfl⟩ := Finset.mem_map.mp hx
    exact Finset.mem_map.mpr ⟨y, Finset.mem_univ _, rfl⟩
  · intro hx
    obtain ⟨y, -, rfl⟩ := Finset.mem_map.mp hx
    obtain ⟨b, hb⟩ := Rect.exists_mem_part hdivOut y
    refine ⟨b.val, Finset.mem_range.mpr b.isLt, ?_⟩
    rw [outRow_set oM b.isLt]
    exact Finset.mem_map.mpr ⟨y, hb, rfl⟩

/-- The whole output is its rows. -/
theorem out_rows (oM : Memref sig .scVector .hbm OUTS .f32) (d : Dev nD) (c : Fin τ.nSC) (s : Fin τ.nSub) (g : Buf (Elt F) (oM.view.loc (V d c s))) :
    (oM.view.loc (V d c s) ↦[oM.view.set]{fullShare} g : sProp 𝕄) = bigSep (Finset.range 4096) fun r => rowAt d c s oM r g := by
  rw [← out_cover oM]
  exact pointsTo_biUnion (ℓ := oM.view.loc (V d c s)) (Finset.range 4096) (fun r => (outRow oM r).view.set) (out_disjoint oM)

end Out

end Cert.Proof
-- ==== Proof.TileIdeal.lean ====
module

public import proofs.«01_k».proof.Proof.Gen.KernelIdeal.Skeleton
public import proofs.«01_k».proof.Proof.Steps

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-! # The tiles, the lanes' rows and the offsets of the launch -/

abbrev cV (i : grid0.Coords) : Fin τ.nSC := (i 0).castLE hcore0
abbrev jV (i : grid0.Coords) : Fin τ.nSub := (i 1).castLE hsub0

/-- The number of a tile: it makes the rows from `128 * wid i` on. -/
abbrev wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The staging row of lane `b`. -/
abbrev lrow (M : Memref sig .scVector .vmem S8x12800 .f32) (b : ℕ) (h : ∀ a, (![b, 0] : Fin 2 → ℕ) a + S1x12800.size a ≤ S8x12800.size a) :
    Memref sig .scVector .vmem S12800 .f32 :=
  (M.slice (Rect.unit (s := S8x12800) ![b, 0] S1x12800.size h) (fun _ => rfl)).squeeze S12800 squeezes_S1x12800_S12800

/-! Where the token words of a trip's rows lie in the token buffer, and which conditions of the trip hold. -/

theorem stage_off (i : grid0.Coords) (t1 : Fin k0_t1_loop.trips) : k0_off1 i t1 0 = 12800 * (2 * wid i + t1.val / 8) := by
  have H : ∀ (a : Fin 2) (b : Fin 16) (t : Fin k0_t1_loop.trips), k0_off1 (fun k => match k with | 0 => a | 1 => b) t 0
      = 12800 * (2 * (2 * b.val + a.val) + t.val / 8) := by decide +kernel
  exact H (i 0) (i 1) t1
theorem stage_cond : ∀ t1 : Fin k0_t1_loop.trips, k0_cond1 t1 = 1#1 ↔ t1.val % 8 = 0 := by decide +kernel

theorem count_off0 : ∀ (t1 : Fin k0_t1_loop.trips) (t2 : Fin k0_t2_loop.trips), k0_off3 t1 t2 0 = 200 * (8 * (t1.val % 8) + 0) + 16 * t2.val := by decide +kernel
theorem last_off0 : ∀ t1 : Fin k0_t1_loop.trips, k0_off4 t1 0 = 200 * (8 * (t1.val % 8) + 0) + 192 := by decide +kernel
theorem chunk_off0 : ∀ (t1 : Fin k0_t1_loop.trips) (t3 : Fin k0_t3_loop.trips), k0_off6 t1 t3 0 = 200 * (8 * (t1.val % 8) + 0) + 16 * t3.val := by decide +kernel
theorem tail_off0 : ∀ t1 : Fin k0_t1_loop.trips, k0_off41 t1 0 = 200 * (8 * (t1.val % 8) + 0) + 192 := by decide +kernel
theorem wait_cond0 : ∀ t1 : Fin k0_t1_loop.trips, k0_cond2 t1 = 1#1 ↔ 0 < t1.val := by decide +kernel

theorem count_off1 : ∀ (t1 : Fin k0_t1_loop.trips) (t2 : Fin k0_t6_loop.trips), k0_off55 t1 t2 0 = 200 * (8 * (t1.val % 8) + 1) + 16 * t2.val := by decide +kernel
theorem last_off1 : ∀ t1 : Fin k0_t1_loop.trips, k0_off56 t1 0 = 200 * (8 * (t1.val % 8) + 1) + 192 := by decide +kernel
theorem chunk_off1 : ∀ (t1 : Fin k0_t1_loop.trips) (t3 : Fin k0_t7_loop.trips), k0_off58 t1 t3 0 = 200 * (8 * (t1.val % 8) + 1) + 16 * t3.val := by decide +kernel
theorem tail_off1 : ∀ t1 : Fin k0_t1_loop.trips, k0_off93 t1 0 = 200 * (8 * (t1.val % 8) + 1) + 192 := by decide +kernel
theorem wait_cond1 : ∀ t1 : Fin k0_t1_loop.trips, k0_cond10 t1 = 1#1 ↔ 0 < t1.val := by decide +kernel
theorem no_stage1 : ∀ t1 : Fin k0_t1_loop.trips, ¬ k0_cond9 t1 = 1#1 := by decide +kernel

theorem count_off2 : ∀ (t1 : Fin k0_t1_loop.trips) (t2 : Fin k0_t10_loop.trips), k0_off107 t1 t2 0 = 200 * (8 * (t1.val % 8) + 2) + 16 * t2.val := by decide +kernel
theorem last_off2 : ∀ t1 : Fin k0_t1_loop.trips, k0_off108 t1 0 = 200 * (8 * (t1.val % 8) + 2) + 192 := by decide +kernel
theorem chunk_off2 : ∀ (t1 : Fin k0_t1_loop.trips) (t3 : Fin k0_t11_loop.trips), k0_off110 t1 t3 0 = 200 * (8 * (t1.val % 8) + 2) + 16 * t3.val := by decide +kernel
theorem tail_off2 : ∀ t1 : Fin k0_t1_loop.trips, k0_off145 t1 0 = 200 * (8 * (t1.val % 8) + 2) + 192 := by decide +kernel
theorem wait_cond2 : ∀ t1 : Fin k0_t1_loop.trips, k0_cond18 t1 = 1#1 ↔ 0 < t1.val := by decide +kernel
theorem no_stage2 : ∀ t1 : Fin k0_t1_loop.trips, ¬ k0_cond17 t1 = 1#1 := by decide +kernel

theorem count_off3 : ∀ (t1 : Fin k0_t1_loop.trips) (t2 : Fin k0_t14_loop.trips), k0_off159 t1 t2 0 = 200 * (8 * (t1.val % 8) + 3) + 16 * t2.val := by decide +kernel
theorem last_off3 : ∀ t1 : Fin k0_t1_loop.trips, k0_off160 t1 0 = 200 * (8 * (t1.val % 8) + 3) + 192 := by decide +kernel
theorem chunk_off3 : ∀ (t1 : Fin k0_t1_loop.trips) (t3 : Fin k0_t15_loop.trips), k0_off162 t1 t3 0 = 200 * (8 * (t1.val % 8) + 3) + 16 * t3.val := by decide +kernel
theorem tail_off3 : ∀ t1 : Fin k0_t1_loop.trips, k0_off197 t1 0 = 200 * (8 * (t1.val % 8) + 3) + 192 := by decide +kernel
theorem wait_cond3 : ∀ t1 : Fin k0_t1_loop.trips, k0_cond26 t1 = 1#1 ↔ 0 < t1.val := by decide +kernel
theorem no_stage3 : ∀ t1 : Fin k0_t1_loop.trips, ¬ k0_cond25 t1 = 1#1 := by decide +kernel

theorem count_off4 : ∀ (t1 : Fin k0_t1_loop.trips) (t2 : Fin k0_t18_loop.trips), k0_off211 t1 t2 0 = 200 * (8 * (t1.val % 8) + 4) + 16 * t2.val := by decide +kernel
theorem last_off4 : ∀ t1 : Fin k0_t1_loop.trips, k0_off212 t1 0 = 200 * (8 * (t1.val % 8) + 4) + 192 := by decide +kernel
theorem chunk_off4 : ∀ (t1 : Fin k0_t1_loop.trips) (t3 : Fin k0_t19_loop.trips), k0_off214 t1 t3 0 = 200 * (8 * (t1.val % 8) + 4) + 16 * t3.val := by decide +kernel
theorem tail_off4 : ∀ t1 : Fin k0_t1_loop.trips, k0_off249 t1 0 = 200 * (8 * (t1.val % 8) + 4) + 192 := by decide +kernel
theorem wait_cond4 : ∀ t1 : Fin k0_t1_loop.trips, k0_cond34 t1 = 1#1 ↔ 0 < t1.val := by decide +kernel
theorem no_stage4 : ∀ t1 : Fin k0_t1_loop.trips, ¬ k0_cond33 t1 = 1#1 := by decide +kernel

theorem count_off5 : ∀ (t1 : Fin k0_t1_loop.trips) (t2 : Fin k0_t22_loop.trips), k0_off263 t1 t2 0 = 200 * (8 * (t1.val % 8) + 5) + 16 * t2.val := by decide +kernel
theorem last_off5 : ∀ t1 : Fin k0_t1_loop.trips, k0_off264 t1 0 = 200 * (8 * (t1.val % 8) + 5) + 192 := by decide +kernel
theorem chunk_off5 : ∀ (t1 : Fin k0_t1_loop.trips) (t3 : Fin k0_t23_loop.trips), k0_off266 t1 t3 0 = 200 * (8 * (t1.val % 8) + 5) + 16 * t3.val := by decide +kernel
theorem tail_off5 : ∀ t1 : Fin k0_t1_loop.trips, k0_off301 t1 0 = 200 * (8 * (t1.val % 8) + 5) + 192 := by decide +kernel
theorem wait_cond5 : ∀ t1 : Fin k0_t1_loop.trips, k0_cond42 t1 = 1#1 ↔ 0 < t1.val := by decide +kernel
theorem no_stage5 : ∀ t1 : Fin k0_t1_loop.trips, ¬ k0_cond41 t1 = 1#1 := by decide +kernel

theorem count_off6 : ∀ (t1 : Fin k0_t1_loop.trips) (t2 : Fin k0_t26_loop.trips), k0_off315 t1 t2 0 = 200 * (8 * (t1.val % 8) + 6) + 16 * t2.val := by decide +kernel
theorem last_off6 : ∀ t1 : Fin k0_t1_loop.trips, k0_off316 t1 0 = 200 * (8 * (t1.val % 8) + 6) + 192 := by decide +kernel
theorem chunk_off6 : ∀ (t1 : Fin k0_t1_loop.trips) (t3 : Fin k0_t27_loop.trips), k0_off318 t1 t3 0 = 200 * (8 * (t1.val % 8) + 6) + 16 * t3.val := by decide +kernel
theorem tail_off6 : ∀ t1 : Fin k0_t1_loop.trips, k0_off353 t1 0 = 200 * (8 * (t1.val % 8) + 6) + 192 := by decide +kernel
theorem wait_cond6 : ∀ t1 : Fin k0_t1_loop.trips, k0_cond50 t1 = 1#1 ↔ 0 < t1.val := by decide +kernel
theorem no_stage6 : ∀ t1 : Fin k0_t1_loop.trips, ¬ k0_cond49 t1 = 1#1 := by decide +kernel

theorem count_off7 : ∀ (t1 : Fin k0_t1_loop.trips) (t2 : Fin k0_t30_loop.trips), k0_off367 t1 t2 0 = 200 * (8 * (t1.val % 8) + 7) + 16 * t2.val := by decide +kernel
theorem last_off7 : ∀ t1 : Fin k0_t1_loop.trips, k0_off368 t1 0 = 200 * (8 * (t1.val % 8) + 7) + 192 := by decide +kernel
theorem chunk_off7 : ∀ (t1 : Fin k0_t1_loop.trips) (t3 : Fin k0_t31_loop.trips), k0_off370 t1 t3 0 = 200 * (8 * (t1.val % 8) + 7) + 16 * t3.val := by decide +kernel
theorem tail_off7 : ∀ t1 : Fin k0_t1_loop.trips, k0_off405 t1 0 = 200 * (8 * (t1.val % 8) + 7) + 192 := by decide +kernel
theorem wait_cond7 : ∀ t1 : Fin k0_t1_loop.trips, k0_cond58 t1 = 1#1 ↔ 0 < t1.val := by decide +kernel
theorem no_stage7 : ∀ t1 : Fin k0_t1_loop.trips, ¬ k0_cond57 t1 = 1#1 := by decide +kernel

/-- What a tile holds before trip `p` of its main loop. -/
def tripInv {F : FTy → Type} [FloatOps F] {Ix : Type} [DecidableEq Ix] {Name : Type} [DecidableEq Name] [Infinite Name] {U : Type} [URA U] [CountersIn U]
    {Lvl : Type} [Preorder Lvl] (d : Dev nD) (i : grid0.Coords) (ι : Ix) (O : CellTallies nD τ sig Ix)
    (arg2 : Memref sig .scVector .hbm S819200 .i32) (qa : PosShare TreeShare) (fa : Buf (Elt F) (arg2.view.loc (V d (cV i) (jV i))))
    (arg4 : Memref sig .scVector .hbm S52428800 .f32) (fo res : Buf (Elt F) (arg4.view.loc (V d (cV i) (jV i))))
    (arg5 : Memref sig .scVector .vmem S12816 .i32) (X : ℕ → BitVec 32) (arg6 : Memref sig .scVector .vmem S12864 .f32) (q : Fin 8 → PosShare TreeShare)
    (ft : Buf (Elt F) (arg6.view.loc (V d (cV i) (jV i)))) (arg7 : Memref sig .scVector .vmem S8x12800 .f32)
    (arg8 arg9 arg10 arg11 arg12 arg13 arg14 arg15 v311_r1 : DmaSems sig S_) (p : ℕ) : sProp (MT nD τ sig Ix (Elt F) Name U Lvl) :=
  iprop(xInv d (cV i) (jV i) arg5 X (wid i) p ∗ srcAt d (cV i) (jV i) arg2 qa fa ∗ semVal (V d (cV i) (jV i), SemLoc.dma v311_r1.sem) 0
    ∗ owe d (cV i) (jV i) ι O
    ∗ issued d (cV i) (jV i) ι arg6 (q 0) ft (lrow arg7 0 inb_S8x12800_S1x12800_0_0) arg4 fo res arg8.sem (128 * wid i + 0) p
    ∗ issued d (cV i) (jV i) ι arg6 (q 1) ft (lrow arg7 1 inb_S8x12800_S1x12800_1_0) arg4 fo res arg9.sem (128 * wid i + 1) p
    ∗ issued d (cV i) (jV i) ι arg6 (q 2) ft (lrow arg7 2 inb_S8x12800_S1x12800_2_0) arg4 fo res arg10.sem (128 * wid i + 2) p
    ∗ issued d (cV i) (jV i) ι arg6 (q 3) ft (lrow arg7 3 inb_S8x12800_S1x12800_3_0) arg4 fo res arg11.sem (128 * wid i + 3) p
    ∗ issued d (cV i) (jV i) ι arg6 (q 4) ft (lrow arg7 4 inb_S8x12800_S1x12800_4_0) arg4 fo res arg12.sem (128 * wid i + 4) p
    ∗ issued d (cV i) (jV i) ι arg6 (q 5) ft (lrow arg7 5 inb_S8x12800_S1x12800_5_0) arg4 fo res arg13.sem (128 * wid i + 5) p
    ∗ issued d (cV i) (jV i) ι arg6 (q 6) ft (lrow arg7 6 inb_S8x12800_S1x12800_6_0) arg4 fo res arg14.sem (128 * wid i + 6) p
    ∗ issued d (cV i) (jV i) ι arg6 (q 7) ft (lrow arg7 7 inb_S8x12800_S1x12800_7_0) arg4 fo res arg15.sem (128 * wid i + 7) p
    ∗ emp)

end Cert.KernelIdeal
-- ==== Proof.Row0Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p` of a tile. -/
theorem row0 {fa : Buf (Elt F) (arg2.view.loc (V d (cV i) (jV i)))} {qa : PosShare TreeShare} {c0 c1 : BitVec 32}
    (hX : ∀ j, j < 819200 → arg2.view.read (Elt F) fa (ix1 819200 j) = X j) (hres : IsRes d (cV i) (jV i) arg4 res arg6 ft X) (hv10 : v10 = mask8)
    {R : sProp 𝕄} {Q : (Σ' (_ : BitVec 32), BitVec 32) → sProp 𝕄}
    (h : ∀ a b, (iprop(issued d (cV i) (jV i) ι arg6 q ft (lrow arg7 0 inb_S8x12800_S1x12800_0_0) arg4 fo res arg8.sem (128 * wid i + 0) (k0_t1.val + 1) ∗ owe d (cV i) (jV i) ι O ∗ half d (cV i) (jV i) arg5 X (2 * wid i + k0_t1.val / 8) ∗ srcAt d (cV i) (jV i) arg2 qa fa ∗ semVal (V d (cV i) (jV i), SemLoc.dma v311_r1.sem) 0 ∗ R) : sProp 𝕄) ⊢ Q ⟨a, b⟩) :
    (iprop(xInv d (cV i) (jV i) arg5 X (wid i) k0_t1.val ∗ srcAt d (cV i) (jV i) arg2 qa fa ∗ semVal (V d (cV i) (jV i), SemLoc.dma v311_r1.sem) 0 ∗ owe d (cV i) (jV i) ι O ∗ issued d (cV i) (jV i) ι arg6 q ft (lrow arg7 0 inb_S8x12800_S1x12800_0_0) arg4 fo res arg8.sem (128 * wid i + 0) k0_t1.val ∗ R) : sProp 𝕄)
    ⊢ wp frame (wpE (defs₀ (F := F)) 𝒱 (V d (cV i) (jV i)) bd) Set.univ
      (k0_part193 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 c0 c1 k0_t1) Q := by
  have hp : k0_t1.val < 16 := Nat.lt_of_lt_of_le k0_t1.isLt k0_t1_abs.2.1
  have hw := wid_lt i
  have hwd : wid i = 2 * (i 1).val + (i 0).val := rfl
  refine stage_if hX (by omega) (stage_cond k0_t1) (fun _ => off1_eq (stage_off i k0_t1)) ?_
  refine after_stage ?_
  refine wait_if hp (wait_cond0 k0_t1) ?hN ?hw
  case hN => exact fun _ => rfl
  case hw =>
  refine open_half (b := 0) (by omega) fun fx hx hfx => ?_
  have hxo : 200 * (8 * (k0_t1.val % 8) + 0) + 200 ≤ 12800 := by omega
  refine count_loop (xs := rowX X (128 * wid i + 0 + 8 * k0_t1.val)) rfl ?hs ?hk
  case hs => exact fun j a hj ha => count_step hj hxo hx (off1_eq (count_off0 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off0 k0_t1)
  case ho => rw [k0_off5_eq]; exact congrArg (fun n => ![n]) (by omega)
  case hC =>
    intro v hz hK
    refine chunk_loop (xs := rowX X (128 * wid i + 0 + 8 * k0_t1.val)) rfl ?st ?k2
    case st =>
      intro k3 a ha
      have hk3 : k3.val < 12 := Nat.lt_of_lt_of_le k3.isLt k0_t3_abs.2.1
      refine chunk_trip hk3 hxo hx (off1_eq (chunk_off0 k0_t1 k3)) ha ?hP ?hA ?hB ?h
      case hP => exact fun h v k4 _ _ a => h k4 (Nat.lt_of_lt_of_le k4.isLt k0_t4_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off0 k0_t1)) hv10 rfl ?hP ?hA ?hB ?hE
    case hP => exact fun h v k4 _ _ a => h k4 (Nat.lt_of_lt_of_le k4.isLt k0_t5_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off52_eq]; exact congrArg (fun n => ![n]) (by omega)
  case hend =>
  refine close_half hfx ?_
  refine wp_retI ?_
  exact h _ _

end Cert.KernelIdeal
-- ==== Proof.Row1Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 1` of a tile. -/
theorem row1 {arg16 v99 : BitVec 32} (hres : IsRes d (cV i) (jV i) arg4 res arg6 ft X) (hv10 : v10 = mask8)
    {R : sProp 𝕄} {Q : (Σ' (_ : BitVec 32) (_ : BitVec 32) (_ : BitVec 32), BitVec 32) → sProp 𝕄}
    (h : ∀ a b c e, (iprop(issued d (cV i) (jV i) ι arg6 q ft (lrow arg7 1 inb_S8x12800_S1x12800_1_0) arg4 fo res arg9.sem (128 * wid i + 1) (k0_t1.val + 1) ∗ owe d (cV i) (jV i) ι O ∗ half d (cV i) (jV i) arg5 X (2 * wid i + k0_t1.val / 8) ∗ R) : sProp 𝕄) ⊢ Q ⟨a, b, c, e⟩) :
    (iprop(issued d (cV i) (jV i) ι arg6 q ft (lrow arg7 1 inb_S8x12800_S1x12800_1_0) arg4 fo res arg9.sem (128 * wid i + 1) k0_t1.val ∗ owe d (cV i) (jV i) ι O ∗ half d (cV i) (jV i) arg5 X (2 * wid i + k0_t1.val / 8) ∗ R) : sProp 𝕄)
    ⊢ wp frame (wpE (defs₀ (F := F)) 𝒱 (V d (cV i) (jV i)) bd) Set.univ
      (k0_part194 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v99) Q := by
  have hp : k0_t1.val < 16 := Nat.lt_of_lt_of_le k0_t1.isLt k0_t1_abs.2.1
  have hw := wid_lt i
  have hwd : wid i = 2 * (i 1).val + (i 0).val := rfl
  refine skip_if (no_stage1 k0_t1) ?_
  refine wait_if hp (wait_cond1 k0_t1) ?hN ?hw
  case hN => exact fun _ => rfl
  case hw =>
  refine open_half (b := 1) (by omega) fun fx hx hfx => ?_
  have hxo : 200 * (8 * (k0_t1.val % 8) + 1) + 200 ≤ 12800 := by omega
  refine count_loop (xs := rowX X (128 * wid i + 1 + 8 * k0_t1.val)) rfl ?hs ?hk
  case hs => exact fun j a hj ha => count_step hj hxo hx (off1_eq (count_off1 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off1 k0_t1)
  case ho => rw [k0_off57_eq]; exact congrArg (fun n => ![n]) (by omega)
  case hC =>
    intro v hz hK
    refine chunk_loop (xs := rowX X (128 * wid i + 1 + 8 * k0_t1.val)) rfl ?st ?k2
    case st =>
      intro k3 a ha
      have hk3 : k3.val < 12 := Nat.lt_of_lt_of_le k3.isLt k0_t7_abs.2.1
      refine chunk_trip hk3 hxo hx (off1_eq (chunk_off1 k0_t1 k3)) ha ?hP ?hA ?hB ?h
      case hP => exact fun h v k4 _ _ a => h k4 (Nat.lt_of_lt_of_le k4.isLt k0_t8_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off1 k0_t1)) hv10 rfl ?hP ?hA ?hB ?hE
    case hP => exact fun h v k4 _ _ a => h k4 (Nat.lt_of_lt_of_le k4.isLt k0_t9_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off104_eq]; exact congrArg (fun n => ![n]) (by omega)
  case hend =>
  refine close_half hfx ?_
  refine wp_retI ?_
  exact h _ _ _ _

end Cert.KernelIdeal
-- ==== Proof.Row2Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 2` of a tile. -/
theorem row2 {arg16 v129 v130 v131 c0_i32_66 : BitVec 32} (hres : IsRes d (cV i) (jV i) arg4 res arg6 ft X) (hv10 : v10 = mask8)
    {R : sProp 𝕄} {Q : (Σ' (_ : BitVec 32), BitVec 32) → sProp 𝕄}
    (h : ∀ a b, (iprop(issued d (cV i) (jV i) ι arg6 q ft (lrow arg7 2 inb_S8x12800_S1x12800_2_0) arg4 fo res arg10.sem (128 * wid i + 2) (k0_t1.val + 1) ∗ owe d (cV i) (jV i) ι O ∗ half d (cV i) (jV i) arg5 X (2 * wid i + k0_t1.val / 8) ∗ R) : sProp 𝕄) ⊢ Q ⟨a, b⟩) :
    (iprop(issued d (cV i) (jV i) ι arg6 q ft (lrow arg7 2 inb_S8x12800_S1x12800_2_0) arg4 fo res arg10.sem (128 * wid i + 2) k0_t1.val ∗ owe d (cV i) (jV i) ι O ∗ half d (cV i) (jV i) arg5 X (2 * wid i + k0_t1.val / 8) ∗ R) : sProp 𝕄)
    ⊢ wp frame (wpE (defs₀ (F := F)) 𝒱 (V d (cV i) (jV i)) bd) Set.univ
      (k0_part195 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v129 v130 v131 c0_i32_66) Q := by
  have hp : k0_t1.val < 16 := Nat.lt_of_lt_of_le k0_t1.isLt k0_t1_abs.2.1
  have hw := wid_lt i
  have hwd : wid i = 2 * (i 1).val + (i 0).val := rfl
  refine skip_if (no_stage2 k0_t1) ?_
  refine wait_if hp (wait_cond2 k0_t1) ?hN ?hw
  case hN => exact fun _ => rfl
  case hw =>
  refine open_half (b := 2) (by omega) fun fx hx hfx => ?_
  have hxo : 200 * (8 * (k0_t1.val % 8) + 2) + 200 ≤ 12800 := by omega
  refine count_loop (xs := rowX X (128 * wid i + 2 + 8 * k0_t1.val)) rfl ?hs ?hk
  case hs => exact fun j a hj ha => count_step hj hxo hx (off1_eq (count_off2 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off2 k0_t1)
  case ho => rw [k0_off109_eq]; exact congrArg (fun n => ![n]) (by omega)
  case hC =>
    intro v hz hK
    refine chunk_loop (xs := rowX X (128 * wid i + 2 + 8 * k0_t1.val)) rfl ?st ?k2
    case st =>
      intro k3 a ha
      have hk3 : k3.val < 12 := Nat.lt_of_lt_of_le k3.isLt k0_t11_abs.2.1
      refine chunk_trip hk3 hxo hx (off1_eq (chunk_off2 k0_t1 k3)) ha ?hP ?hA ?hB ?h
      case hP => exact fun h v k4 _ _ a => h k4 (Nat.lt_of_lt_of_le k4.isLt k0_t12_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off2 k0_t1)) hv10 rfl ?hP ?hA ?hB ?hE
    case hP => exact fun h v k4 _ _ a => h k4 (Nat.lt_of_lt_of_le k4.isLt k0_t13_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off156_eq]; exact congrArg (fun n => ![n]) (by omega)
  case hend =>
  refine close_half hfx ?_
  refine skip_if (no_stage3 k0_t1) ?_
  refine wp_retI ?_
  exact h _ _

end Cert.KernelIdeal
-- ==== Proof.Row3Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 3` of a tile. -/
theorem row3 {arg16 v159 v160 : BitVec 32} (hres : IsRes d (cV i) (jV i) arg4 res arg6 ft X) (hv10 : v10 = mask8)
    {R : sProp 𝕄} {Q : (Σ' (_ : BitVec 32), BitVec 32) → sProp 𝕄}
    (h : ∀ a b, (iprop(issued d (cV i) (jV i) ι arg6 q ft (lrow arg7 3 inb_S8x12800_S1x12800_3_0) arg4 fo res arg11.sem (128 * wid i + 3) (k0_t1.val + 1) ∗ owe d (cV i) (jV i) ι O ∗ half d (cV i) (jV i) arg5 X (2 * wid i + k0_t1.val / 8) ∗ R) : sProp 𝕄) ⊢ Q ⟨a, b⟩) :
    (iprop(issued d (cV i) (jV i) ι arg6 q ft (lrow arg7 3 inb_S8x12800_S1x12800_3_0) arg4 fo res arg11.sem (128 * wid i + 3) k0_t1.val ∗ owe d (cV i) (jV i) ι O ∗ half d (cV i) (jV i) arg5 X (2 * wid i + k0_t1.val / 8) ∗ R) : sProp 𝕄)
    ⊢ wp frame (wpE (defs₀ (F := F)) 𝒱 (V d (cV i) (jV i)) bd) Set.univ
      (k0_part196 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v159 v160) Q := by
  have hp : k0_t1.val < 16 := Nat.lt_of_lt_of_le k0_t1.isLt k0_t1_abs.2.1
  have hw := wid_lt i
  have hwd : wid i = 2 * (i 1).val + (i 0).val := rfl
  refine wait_if hp (wait_cond3 k0_t1) ?hN ?hw
  case hN => exact fun _ => rfl
  case hw =>
  refine open_half (b := 3) (by omega) fun fx hx hfx => ?_
  have hxo : 200 * (8 * (k0_t1.val % 8) + 3) + 200 ≤ 12800 := by omega
  refine count_loop (xs := rowX X (128 * wid i + 3 + 8 * k0_t1.val)) rfl ?hs ?hk
  case hs => exact fun j a hj ha => count_step hj hxo hx (off1_eq (count_off3 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off3 k0_t1)
  case ho => rw [k0_off161_eq]; exact congrArg (fun n => ![n]) (by omega)
  case hC =>
    intro v hz hK
    refine chunk_loop (xs := rowX X (128 * wid i + 3 + 8 * k0_t1.val)) rfl ?st ?k2
    case st =>
      intro k3 a ha
      have hk3 : k3.val < 12 := Nat.lt_of_lt_of_le k3.isLt k0_t15_abs.2.1
      refine chunk_trip hk3 hxo hx (off1_eq (chunk_off3 k0_t1 k3)) ha ?hP ?hA ?hB ?h
      case hP => exact fun h v k4 _ _ a => h k4 (Nat.lt_of_lt_of_le k4.isLt k0_t16_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off3 k0_t1)) hv10 rfl ?hP ?hA ?hB ?hE
    case hP => exact fun h v k4 _ _ a => h k4 (Nat.lt_of_lt_of_le k4.isLt k0_t17_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off208_eq]; exact congrArg (fun n => ![n]) (by omega)
  case hend =>
  refine close_half hfx ?_
  refine skip_if (no_stage4 k0_t1) ?_
  refine wp_retI ?_
  exact h _ _

end Cert.KernelIdeal
-- ==== Proof.Row4Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q q' : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 4` of a tile. -/
theorem row4 {arg16 v189 v190 : BitVec 32} (hres : IsRes d (cV i) (jV i) arg4 res arg6 ft X) (hv10 : v10 = mask8)
    {R D : sProp 𝕄} {Q : (Σ' (_ : BitVec 32) (_ : BitVec 32) (_ : BitVec 32), BitVec 32) → sProp 𝕄}
    (h : ∀ a b, (iprop(ready d (cV i) (jV i) arg6 q' ft (lrow arg7 5 inb_S8x12800_S1x12800_5_0) arg4 fo res arg13.sem (128 * wid i + 5) k0_t1.val ∗ owe d (cV i) (jV i) ι O ∗ half d (cV i) (jV i) arg5 X (2 * wid i + k0_t1.val / 8) ∗ R ∗ issued d (cV i) (jV i) ι arg6 q ft (lrow arg7 4 inb_S8x12800_S1x12800_4_0) arg4 fo res arg12.sem (128 * wid i + 4) (k0_t1.val + 1) ∗ D) : sProp 𝕄) ⊢ Q ⟨a, b, 0#32, 0#32⟩) :
    (iprop(issued d (cV i) (jV i) ι arg6 q ft (lrow arg7 4 inb_S8x12800_S1x12800_4_0) arg4 fo res arg12.sem (128 * wid i + 4) k0_t1.val ∗ owe d (cV i) (jV i) ι O ∗ half d (cV i) (jV i) arg5 X (2 * wid i + k0_t1.val / 8) ∗ (issued d (cV i) (jV i) ι arg6 q' ft (lrow arg7 5 inb_S8x12800_S1x12800_5_0) arg4 fo res arg13.sem (128 * wid i + 5) k0_t1.val ∗ R) ∗ D) : sProp 𝕄)
    ⊢ wp frame (wpE (defs₀ (F := F)) 𝒱 (V d (cV i) (jV i)) bd) Set.univ
      (k0_part197 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v189 v190) Q := by
  have hp : k0_t1.val < 16 := Nat.lt_of_lt_of_le k0_t1.isLt k0_t1_abs.2.1
  have hw := wid_lt i
  have hwd : wid i = 2 * (i 1).val + (i 0).val := rfl
  refine wait_if hp (wait_cond4 k0_t1) ?hN ?hw
  case hN => exact fun _ => rfl
  case hw =>
  refine open_half (b := 4) (by omega) fun fx hx hfx => ?_
  have hxo : 200 * (8 * (k0_t1.val % 8) + 4) + 200 ≤ 12800 := by omega
  refine count_loop (xs := rowX X (128 * wid i + 4 + 8 * k0_t1.val)) rfl ?hs ?hk
  case hs => exact fun j a hj ha => count_step hj hxo hx (off1_eq (count_off4 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off4 k0_t1)
  case ho => rw [k0_off213_eq]; exact congrArg (fun n => ![n]) (by omega)
  case hC =>
    intro v hz hK
    refine chunk_loop (xs := rowX X (128 * wid i + 4 + 8 * k0_t1.val)) rfl ?st ?k2
    case st =>
      intro k3 a ha
      have hk3 : k3.val < 12 := Nat.lt_of_lt_of_le k3.isLt k0_t19_abs.2.1
      refine chunk_trip hk3 hxo hx (off1_eq (chunk_off4 k0_t1 k3)) ha ?hP ?hA ?hB ?h
      case hP => exact fun h v k4 _ _ a => h k4 (Nat.lt_of_lt_of_le k4.isLt k0_t20_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off4 k0_t1)) hv10 rfl ?hP ?hA ?hB ?hE
    case hP => exact fun h v k4 _ _ a => h k4 (Nat.lt_of_lt_of_le k4.isLt k0_t21_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off260_eq]; exact congrArg (fun n => ![n]) (by omega)
  case hend =>
  refine close_half hfx ?_
  refine skip_if (no_stage5 k0_t1) ?_
  refine rot ?_
  refine wait_if hp (wait_cond5 k0_t1) ?hN ?hw
  case hN => exact fun _ => rfl
  case hw =>
  refine wp_retI ?_
  exact h _ _

end Cert.KernelIdeal
-- ==== Proof.Row5Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q q' : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 5` of a tile, then the wait and the count for row `8p + 6`. -/
theorem row5 {arg16 v219 v220 : BitVec 32} (hres : IsRes d (cV i) (jV i) arg4 res arg6 ft X) (hv10 : v10 = mask8)
    {R D : sProp 𝕄} {Q : (Σ' (_ : BitVec 32) (_ : BitVec 32) (_ : BitVec 32), BitVec 32) → sProp 𝕄}
    (h : ∀ a b c, (iprop(ready d (cV i) (jV i) arg6 q' ft (lrow arg7 6 inb_S8x12800_S1x12800_6_0) arg4 fo res arg14.sem (128 * wid i + 6) k0_t1.val ∗ owe d (cV i) (jV i) ι O ∗ half d (cV i) (jV i) arg5 X (2 * wid i + k0_t1.val / 8) ∗ R ∗ issued d (cV i) (jV i) ι arg6 q ft (lrow arg7 5 inb_S8x12800_S1x12800_5_0) arg4 fo res arg13.sem (128 * wid i + 5) (k0_t1.val + 1) ∗ D) : sProp 𝕄)
      ⊢ Q ⟨a, b, BitVec.ofNat 32 (zeros (rowX X (128 * wid i + 6 + 8 * k0_t1.val)) 0 192), c⟩) :
    (iprop(ready d (cV i) (jV i) arg6 q ft (lrow arg7 5 inb_S8x12800_S1x12800_5_0) arg4 fo res arg13.sem (128 * wid i + 5) k0_t1.val ∗ owe d (cV i) (jV i) ι O ∗ half d (cV i) (jV i) arg5 X (2 * wid i + k0_t1.val / 8) ∗ (issued d (cV i) (jV i) ι arg6 q' ft (lrow arg7 6 inb_S8x12800_S1x12800_6_0) arg4 fo res arg14.sem (128 * wid i + 6) k0_t1.val ∗ R) ∗ D) : sProp 𝕄)
    ⊢ wp frame (wpE (defs₀ (F := F)) 𝒱 (V d (cV i) (jV i)) bd) Set.univ
      (k0_part198 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v219 v220 0#32 0#32) Q := by
  have hp : k0_t1.val < 16 := Nat.lt_of_lt_of_le k0_t1.isLt k0_t1_abs.2.1
  have hw := wid_lt i
  have hwd : wid i = 2 * (i 1).val + (i 0).val := rfl
  refine open_half (b := 5) (by omega) fun fx hx hfx => ?_
  have hxo : 200 * (8 * (k0_t1.val % 8) + 5) + 200 ≤ 12800 := by omega
  refine count_loop (xs := rowX X (128 * wid i + 5 + 8 * k0_t1.val)) rfl ?hs ?hk
  case hs => exact fun j a hj ha => count_step hj hxo hx (off1_eq (count_off5 k0_t1 j)) ha
  case hk =>
  refine swap2 ?_
  refine row_enq (ι := ι) hp ?hb hxo hx ?hr ?ho4 rfl hv10 ?ho ?hC ?hend
  case hb => omega
  case hr => exact fun j hj => hres _ (by omega) j hj
  case ho4 => exact off1_eq (last_off5 k0_t1)
  case ho => rw [k0_off265_eq]; exact congrArg (fun n => ![n]) (by omega)
  case hC =>
    intro v hz hK
    refine chunk_loop (xs := rowX X (128 * wid i + 5 + 8 * k0_t1.val)) rfl ?st ?k2
    case st =>
      intro k3 a ha
      have hk3 : k3.val < 12 := Nat.lt_of_lt_of_le k3.isLt k0_t23_abs.2.1
      refine chunk_trip hk3 hxo hx (off1_eq (chunk_off5 k0_t1 k3)) ha ?hP ?hA ?hB ?h
      case hP => exact fun h v k4 _ _ a => h k4 (Nat.lt_of_lt_of_le k4.isLt k0_t24_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off5 k0_t1)) hv10 rfl ?hP ?hA ?hB ?hE
    case hP => exact fun h v k4 _ _ a => h k4 (Nat.lt_of_lt_of_le k4.isLt k0_t25_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off312_eq]; exact congrArg (fun n => ![n]) (by omega)
  case hend =>
  refine close_half hfx ?_
  refine skip_if (no_stage6 k0_t1) ?_
  refine rot ?_
  refine wait_if hp (wait_cond6 k0_t1) ?hN ?hw
  case hN => exact fun _ => rfl
  case hw =>
  refine open_half (b := 6) (by omega) fun fx hx hfx => ?_
  have hxo : 200 * (8 * (k0_t1.val % 8) + 6) + 200 ≤ 12800 := by omega
  refine count_loop (xs := rowX X (128 * wid i + 6 + 8 * k0_t1.val)) rfl ?hs ?hk
  case hs => exact fun j a hj ha => count_step hj hxo hx (off1_eq (count_off6 k0_t1 j)) ha
  case hk =>
  refine swap2 ?_
  refine close_half hfx ?_
  refine wp_retI ?_
  exact h _ _ _

end Cert.KernelIdeal
-- ==== Proof.Row6Ideal.lean ====
module

public import proofs.«01_k».proof.Proof.Gen.KernelIdeal.Skeleton
public import proofs.«01_k».proof.Proof.TileIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q q' : PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxHeartbeats 8000000 in
/-- Row `8p + 6` of a tile, then the wait and the count for row `8p + 7`, up to the load of its last words. -/
theorem row6 {arg16 v249 v250 v259 v260 : BitVec 32} (hres : IsRes d (cV i) (jV i) arg4 res arg6 ft X) (hv10 : v10 = mask8)
    (hc : v259 = BitVec.ofNat 32 (zeros (rowX X (128 * wid i + 6 + 8 * k0_t1.val)) 0 192))
    {R D : sProp 𝕄} {Q : (Σ' (_ : BitVec 32) (_ : BitVec 32) (_ : BitVec 32) (_ : Vec F S16 .i32), BitVec 32) → sProp 𝕄}
    (h : ∀ a b (v : IVec S16 32), (∀ t, t < 8 → lane v t = rowX X (128 * wid i + 7 + 8 * k0_t1.val) (192 + t)) →
      (iprop(ready d (cV i) (jV i) arg6 q' ft (lrow arg7 7 inb_S8x12800_S1x12800_7_0) arg4 fo res arg15.sem (128 * wid i + 7) k0_t1.val ∗ owe d (cV i) (jV i) ι O ∗ half d (cV i) (jV i) arg5 X (2 * wid i + k0_t1.val / 8) ∗ R ∗ issued d (cV i) (jV i) ι arg6 q ft (lrow arg7 6 inb_S8x12800_S1x12800_6_0) arg4 fo res arg14.sem (128 * wid i + 6) (k0_t1.val + 1) ∗ D) : sProp 𝕄)
      ⊢ Q ⟨a, b, BitVec.ofNat 32 (zeros (rowX X (128 * wid i + 7 + 8 * k0_t1.val)) 0 192), v, 0#32⟩) :
    (iprop(ready d (cV i) (jV i) arg6 q ft (lrow arg7 6 inb_S8x12800_S1x12800_6_0) arg4 fo res arg14.sem (128 * wid i + 6) k0_t1.val ∗ owe d (cV i) (jV i) ι O ∗ half d (cV i) (jV i) arg5 X (2 * wid i + k0_t1.val / 8) ∗ (issued d (cV i) (jV i) ι arg6 q' ft (lrow arg7 7 inb_S8x12800_S1x12800_7_0) arg4 fo res arg15.sem (128 * wid i + 7) k0_t1.val ∗ R) ∗ D) : sProp 𝕄)
    ⊢ wp frame (wpE (defs₀ (F := F)) 𝒱 (V d (cV i) (jV i)) bd) Set.univ
      (k0_part199 (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 (broadcast S16 1#32) (broadcast S16 0#32) v10 k0_t1 arg16 v249 v250 v259 v260) Q := by
  have hp : k0_t1.val < 16 := Nat.lt_of_lt_of_le k0_t1.isLt k0_t1_abs.2.1
  have hw := wid_lt i
  have hwd : wid i = 2 * (i 1).val + (i 0).val := rfl
  refine open_half (b := 6) (by omega) fun fx hx hfx => ?_
  have hxo : 200 * (8 * (k0_t1.val % 8) + 6) + 200 ≤ 12800 := by omega
  refine swap2 ?_
  refine row_enq (ι := ι) hp ?hb hxo hx ?hr ?ho4 hc hv10 ?ho ?hC ?hend
  case hb => omega
  case hr => exact fun j hj => hres _ (by omega) j hj
  case ho4 => exact off1_eq (last_off6 k0_t1)
  case ho => rw [k0_off317_eq]; exact congrArg (fun n => ![n]) (by omega)
  case hC =>
    intro v hz hK
    refine chunk_loop (xs := rowX X (128 * wid i + 6 + 8 * k0_t1.val)) rfl ?st ?k2
    case st =>
      intro k3 a ha
      have hk3 : k3.val < 12 := Nat.lt_of_lt_of_le k3.isLt k0_t27_abs.2.1
      refine chunk_trip hk3 hxo hx (off1_eq (chunk_off6 k0_t1 k3)) ha ?hP ?hA ?hB ?h
      case hP => exact fun h v k4 _ _ a => h k4 (Nat.lt_of_lt_of_le k4.isLt k0_t28_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off6 k0_t1)) hv10 rfl ?hP ?hA ?hB ?hE
    case hP => exact fun h v k4 _ _ a => h k4 (Nat.lt_of_lt_of_le k4.isLt k0_t29_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off364_eq]; exact congrArg (fun n => ![n]) (by omega)
  case hend =>
  refine close_half hfx ?_
  refine skip_if (no_stage7 k0_t1) ?_
  refine rot ?_
  refine wait_if hp (wait_cond7 k0_t1) ?hN ?hw
  case hN => exact fun _ => rfl
  case hw =>
  refine open_half (b := 7) (by omega) fun fx hx hfx => ?_
  have hxo : 200 * (8 * (k0_t1.val % 8) + 7) + 200 ≤ 12800 := by omega
  refine count_loop (xs := rowX X (128 * wid i + 7 + 8 * k0_t1.val)) rfl ?hs ?hk
  case hs => exact fun j a hj ha => count_step hj hxo hx (off1_eq (count_off7 k0_t1 j)) ha
  case hk =>
  refine load_last hxo hx (off1_eq (last_off7 k0_t1)) fun v hv => ?_
  refine swap2 ?_
  refine close_half hfx ?_
  refine wp_retI ?_
  exact h _ _ v hv

end Cert.KernelIdeal
-- ==== Proof.TripIdeal.lean ====
module

public import proofs.«01_k».proof.Proof.Gen.KernelIdeal.Skeleton
public import proofs.«01_k».proof.Proof.Row0Ideal
public import proofs.«01_k».proof.Proof.Row1Ideal
public import proofs.«01_k».proof.Proof.Row2Ideal
public import proofs.«01_k».proof.Proof.Row3Ideal
public import proofs.«01_k».proof.Proof.Row4Ideal
public import proofs.«01_k».proof.Proof.Row5Ideal
public import proofs.«01_k».proof.Proof.Row6Ideal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_} {v3 : BitVec 32} {v5 : BitVec 32} {v10 : IVec S16 1}
variable {d : Dev nD} {bd : Option 𝒱.V} {k0_t1 : Fin k0_t1_loop.trips}
variable {q : Fin 8 → PosShare TreeShare} {ft : Buf (Elt F) (arg6.view.loc (V d (cV i) (jV i)))} {X : ℕ → BitVec 32}
variable {fo res : Buf (Elt F) (arg4.view.loc (V d (cV i) (jV i)))} {ι : Ix} {O : CellTallies nD τ sig Ix}

set_option maxRecDepth 65536 in
set_option maxHeartbeats 8000000 in
/-- A trip of a tile's main loop: the rows `8p` to `8p + 7`. -/
theorem trip {fa : Buf (Elt F) (arg2.view.loc (V d (cV i) (jV i)))} {qa : PosShare TreeShare} (u : Unit)
    (hX : ∀ j, j < 819200 → arg2.view.read (Elt F) fa (ix1 819200 j) = X j) (hres : IsRes d (cV i) (jV i) arg4 res arg6 ft X) :
    (tripInv d i ι O arg2 qa fa arg4 fo res arg5 X arg6 q ft arg7 arg8 arg9 arg10 arg11 arg12 arg13 arg14 arg15 v311_r1 k0_t1.val : sProp 𝕄)
    ⊢ wp frame (wpE (defs₀ (F := F)) 𝒱 (V d (cV i) (jV i)) bd) Set.univ
      (k0_t1_body (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5 k0_t1 u)
      (fun _ => tripInv d i ι O arg2 qa fa arg4 fo res arg5 X arg6 q ft arg7 arg8 arg9 arg10 arg11 arg12 arg13 arg14 arg15 v311_r1 (k0_t1.val + 1)) := by
  have hp : k0_t1.val < 16 := Nat.lt_of_lt_of_le k0_t1.isLt k0_t1_abs.2.1
  have hw := wid_lt i
  have hwd : wid i = 2 * (i 1).val + (i 0).val := rfl
  have hv10 : cmpi .slt (iota .scVector S16 32 [0] iota_S16_d0_w32_scVector) (broadcast S16 8#32) = mask8 := rfl
  refine wp_seq ?_
  refine row0 hX hres hv10 fun _ _ => ?_
  refine to_queue ?_
  refine rot ?_
  refine wp_seq ?_
  refine row1 hres hv10 fun _ _ _ _ => ?_
  refine rot ?_
  refine wp_seq ?_
  refine row2 hres hv10 fun _ _ => ?_
  refine rot ?_
  refine wp_seq ?_
  refine row3 hres hv10 fun _ _ => ?_
  refine rot ?_
  refine wp_seq ?_
  refine row4 hres hv10 fun _ _ => ?_
  refine wp_seq ?_
  refine row5 hres hv10 fun _ _ _ => ?_
  refine wp_seq ?_
  refine row6 hres hv10 rfl fun _ _ v hv => ?_
  refine open_half (b := 7) (by omega) fun fx hx hfx => ?_
  have hxo : 200 * (8 * (k0_t1.val % 8) + 7) + 200 ≤ 12800 := by omega
  refine swap2 ?_
  refine row_case (ι := ι) hp ?hb hv ?hr rfl hv10 ?ho ?hC ?hend
  case hb => omega
  case hr => exact fun j hj => hres _ (by omega) j hj
  case ho => rw [k0_off369_eq]; exact congrArg (fun n => ![n]) (by omega)
  case hC =>
    intro hz hK
    refine chunk_loop (xs := rowX X (128 * wid i + 7 + 8 * k0_t1.val)) rfl ?st ?k2
    case st =>
      intro k3 a ha
      have hk3 : k3.val < 12 := Nat.lt_of_lt_of_le k3.isLt k0_t31_abs.2.1
      refine chunk_trip hk3 hxo hx (off1_eq (chunk_off7 k0_t1 k3)) ha ?hP ?hA ?hB ?h
      case hP => exact fun h v k4 _ _ a => h k4 (Nat.lt_of_lt_of_le k4.isLt k0_t32_abs.2.1) a
      case hA =>
        intro v hv hz hl h0
        refine fast_loop (N := 64) rfl ?hm fun j u hj => ?hs
        case hm => omega
        case hs =>
          refine fast_step ha h0 (by omega) (by omega) (by omega) (by omega) rfl (closed1 ?_)
          change (_ + _ : ℕ) = _; omega
      case h =>
        iintro H; isplitr; · ipureintro; rfl
        iexact H
      case hB =>
        intro v hv hz hl R' hk
        iterate 16
          refine tokAt ha (le_refl 16) hl (by omega) (by omega) (fun h _ _ => h) rfl rfl rfl rfl (closed1 ?_) (closed1 ?_) (closed1 ?_) (closed1 ?_) fun _ => ?_
          iterate 4 (change (_ + _ : ℕ) = _; omega)
        exact hk
    case k2 =>
    refine tail_trip hxo hx (off1_eq (tail_off7 k0_t1)) hv10 rfl ?hP ?hA ?hB ?hE
    case hP => exact fun h v k4 _ _ a => h k4 (Nat.lt_of_lt_of_le k4.isLt k0_t33_abs.2.1) a
    case hA =>
      intro v hv hz h0
      refine fast_loop (N := 32) rfl ?hm fun j u hj => ?hs
      case hm => omega
      case hs =>
        refine fast_step rfl h0 (by omega) (by omega) (by omega) (by omega) rfl (closed1 ?_)
        change (_ + _ : ℕ) = _; omega
    case hB =>
      intro v hv hz hl R' hk
      iterate 8
        refine tokAt rfl (N := 8) (by decide) hl (by omega) (by omega) (fun h _ _ => h) rfl rfl rfl rfl rfl rfl rfl rfl fun _ => ?_
      exact hk
    case hE =>
      refine enq_row hp ?hb ?ho (le_refl 12800) ?hr hK
      case hb => omega
      case hr => exact fun j hj => hres _ (by omega) j hj
      case ho => rw [k0_off416_eq]; exact congrArg (fun n => ![n]) (by omega)
  case hend =>
  refine close_half hfx ?_
  refine wp_retI ?_
  unfold tripInv
  iintro ⟨H7, HO, HX, -, H6, H5, H4, H3, H2, H1, H0, Hs, Hm⟩
  isplitl [HX]; · iapply xInv_next $$ HX
  isplitl [Hs]; · iexact Hs
  isplitl [Hm]; · iexact Hm
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

end Cert.KernelIdeal
-- ==== Proof.BodyIdeal.lean ====
module

public import proofs.«01_k».proof.Proof.Gen.KernelIdeal.Skeleton
public import proofs.«01_k».proof.Proof.Ends
public import proofs.«01_k».proof.Proof.TripIdeal

@[expose] public section
noncomputable section
namespace Cert.KernelIdeal
open Cert.Proof Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers

variable {F : FTy → Type} [FloatOps F]
variable {Ix : Type} [DecidableEq Ix] {Name : Type} [DecidableEq Name] [Infinite Name]
variable {U : Type} [URA U] [CountersIn U] {Lvl : Type} [Preorder Lvl] {𝒱 : Variants}
local notation "𝕄" => MT nD τ sig Ix (Elt F) Name U Lvl

variable {i : grid0.Coords} {arg2 : Memref sig .scVector .hbm S819200 .i32} {harg2 : arg2.IsWhole} {arg3 : Memref sig .scVector .hbm S12864 .f32} {harg3 : arg3.IsWhole} {arg4 : Memref sig .scVector .hbm S52428800 .f32} {harg4 : arg4.IsWhole} {arg5 : Memref sig .scVector .vmem S12816 .i32} {harg5 : arg5.IsWhole} {arg6 : Memref sig .scVector .vmem S12864 .f32} {harg6 : arg6.IsWhole} {arg7 : Memref sig .scVector .vmem S8x12800 .f32} {harg7 : arg7.IsWhole} {arg8 arg9 arg10 arg11 arg12 arg13 arg14 arg15 v68_r0 v311_r1 v311_r2 v311_r3 v311_r4 v311_r5 v311_r6 v311_r7 v311_r8 : DmaSems sig S_}  {v10 : IVec S16 1}
variable {d : Dev nD} {bd : Option 𝒱.V}
variable {ft : Buf (Elt F) (arg6.view.loc (V d (cV i) (jV i)))} {X : ℕ → BitVec 32} {tb : ℕ → Elt F .f32}
variable {fo res : Buf (Elt F) (arg4.view.loc (V d (cV i) (jV i)))} {ι : Ix} {O : CellTallies nD τ sig Ix}
variable {fa : Buf (Elt F) (arg2.view.loc (V d (cV i) (jV i)))} {qa : PosShare TreeShare}
variable {fm : Buf (Elt F) (arg3.view.loc (V d (cV i) (jV i)))} {qm : PosShare TreeShare}

/-! ## The lanes as a family -/

/-- The eight lanes' semaphores. -/
abbrev lsem (arg8 arg9 arg10 arg11 arg12 arg13 arg14 arg15 : DmaSems sig S_) (b : Fin 8) : DmaSem sig :=
  (![arg8, arg9, arg10, arg11, arg12, arg13, arg14, arg15] b : DmaSems sig S_).sem

/-- A lane's semaphore at rest. -/
def laneSem (d : Dev nD) (i : grid0.Coords) (arg8 arg9 arg10 arg11 arg12 arg13 arg14 arg15 : DmaSems sig S_) (b : Fin 8) : sProp 𝕄 :=
  semVal (V d (cV i) (jV i), SemLoc.dma (lsem arg8 arg9 arg10 arg11 arg12 arg13 arg14 arg15 b)) 0

/-- A lane's rows of the output, all of them at one contents. -/
def laneRows (d : Dev nD) (i : grid0.Coords) (arg4 : Memref sig .scVector .hbm S52428800 .f32) (g : Buf (Elt F) (arg4.view.loc (V d (cV i) (jV i)))) (b : Fin 8) : sProp 𝕄 :=
  bigSep (Finset.range 16) fun p => rowAt d (cV i) (jV i) arg4 (128 * wid i + b.val + 8 * p) g

theorem rows_zero (b : Fin 8) : (rows d (cV i) (jV i) arg4 fo res (128 * wid i + b.val) 0 : sProp 𝕄) = laneRows d i arg4 fo b := by
  unfold rows laneRows
  exact bigSep_congr fun p _ => by rw [if_neg (Nat.not_lt_zero p)]

theorem rows_all (b : Fin 8) : (rows d (cV i) (jV i) arg4 fo res (128 * wid i + b.val) 16 : sProp 𝕄) = laneRows d i arg4 res b := by
  unfold rows laneRows
  exact bigSep_congr fun p hp => by rw [if_pos (Finset.mem_range.mp hp)]

theorem rowAny_stage (b : Fin 8) : (rowAny d (cV i) (jV i) (lrow arg7 b.val (stage8_inb b)) : sProp 𝕄)
    = iprop(∃ f, arg7.view.loc (V d (cV i) (jV i)) ↦[stageSet arg7 b]{fullShare} f) := by
  have h : (lrow arg7 b.val (stage8_inb b)).view.set = stageSet arg7 b := by
    show ((arg7.view.slice (stageRect b)).reshape S12800 squeezes_S1x12800_S12800.numel_eq).set = _
    rw [View.set_reshape]
  unfold rowAny
  rw [h]

/-- A lane at rest, `p` of its rows at the result. -/
def laneAt (d : Dev nD) (i : grid0.Coords) (arg6 : Memref sig .scVector .vmem S12864 .f32) (ft : Buf (Elt F) (arg6.view.loc (V d (cV i) (jV i))))
    (arg7 : Memref sig .scVector .vmem S8x12800 .f32) (arg4 : Memref sig .scVector .hbm S52428800 .f32) (fo res : Buf (Elt F) (arg4.view.loc (V d (cV i) (jV i))))
    (arg8 arg9 arg10 arg11 arg12 arg13 arg14 arg15 : DmaSems sig S_) (p : ℕ) (b : Fin 8) : sProp 𝕄 :=
  ready d (cV i) (jV i) arg6 (shareTok fullShare 8 b) ft (lrow arg7 b.val (stage8_inb b)) arg4 fo res (lsem arg8 arg9 arg10 arg11 arg12 arg13 arg14 arg15 b) (128 * wid i + b.val) p

theorem lanes_eq (p : ℕ) : (bigSep Finset.univ (laneAt d i arg6 ft arg7 arg4 fo res arg8 arg9 arg10 arg11 arg12 arg13 arg14 arg15 p) : sProp 𝕄)
    = iprop(bigSep Finset.univ (laneSem d i arg8 arg9 arg10 arg11 arg12 arg13 arg14 arg15) ∗ (bigSep Finset.univ fun b : Fin 8 => tabAt d (cV i) (jV i) arg6 (shareTok fullShare 8 b) ft)
      ∗ (bigSep Finset.univ fun b => iprop(∃ f, arg7.view.loc (V d (cV i) (jV i)) ↦[stageSet arg7 b]{fullShare} f))
      ∗ bigSep Finset.univ fun b : Fin 8 => rows d (cV i) (jV i) arg4 fo res (128 * wid i + b.val) p) := by
  rw [show (laneAt d i arg6 ft arg7 arg4 fo res arg8 arg9 arg10 arg11 arg12 arg13 arg14 arg15 p : Fin 8 → sProp 𝕄) = fun b => iprop(laneSem d i arg8 arg9 arg10 arg11 arg12 arg13 arg14 arg15 b
      ∗ tabAt d (cV i) (jV i) arg6 (shareTok fullShare 8 b) ft ∗ (∃ f, arg7.view.loc (V d (cV i) (jV i)) ↦[stageSet arg7 b]{fullShare} f)
      ∗ rows d (cV i) (jV i) arg4 fo res (128 * wid i + b.val) p) from
    funext fun b => by unfold laneAt ready; rw [rowAny_stage]; rfl]
  rw [bigSep_sep', bigSep_sep', bigSep_sep']

/-! ## A tile's work -/

/-- What a tile holds between its table's fetch and its end, besides the lanes: the table's array with its semaphore, and what is left of
    the fetched table when each lane has its share. -/
def aside (d : Dev nD) (i : grid0.Coords) (arg3 : Memref sig .scVector .hbm S12864 .f32) (qm : PosShare TreeShare) (fm : Buf (Elt F) (arg3.view.loc (V d (cV i) (jV i))))
    (arg6 : Memref sig .scVector .vmem S12864 .f32) (ft : Buf (Elt F) (arg6.view.loc (V d (cV i) (jV i)))) (v68_r0 : DmaSems sig S_) : sProp 𝕄 :=
  iprop((tblAt d (cV i) (jV i) arg3 qm fm ∗ semVal (V d (cV i) (jV i), SemLoc.dma v68_r0.sem) 0) ∗ tabAt d (cV i) (jV i) arg6 (shareDrop fullShare 8) ft)

theorem to_loop {G : sProp 𝕄}
    (h : (iprop(aside d i arg3 qm fm arg6 ft v68_r0 ∗ xInv d (cV i) (jV i) arg5 X (wid i) 0
      ∗ srcAt d (cV i) (jV i) arg2 qa fa ∗ semVal (V d (cV i) (jV i), SemLoc.dma v311_r1.sem) 0 ∗ owe d (cV i) (jV i) ι O
      ∗ laneAt d i arg6 ft arg7 arg4 fo res arg8 arg9 arg10 arg11 arg12 arg13 arg14 arg15 0 0 ∗ laneAt d i arg6 ft arg7 arg4 fo res arg8 arg9 arg10 arg11 arg12 arg13 arg14 arg15 0 1 ∗ laneAt d i arg6 ft arg7 arg4 fo res arg8 arg9 arg10 arg11 arg12 arg13 arg14 arg15 0 2
        ∗ laneAt d i arg6 ft arg7 arg4 fo res arg8 arg9 arg10 arg11 arg12 arg13 arg14 arg15 0 3 ∗ laneAt d i arg6 ft arg7 arg4 fo res arg8 arg9 arg10 arg11 arg12 arg13 arg14 arg15 0 4 ∗ laneAt d i arg6 ft arg7 arg4 fo res arg8 arg9 arg10 arg11 arg12 arg13 arg14 arg15 0 5
        ∗ laneAt d i arg6 ft arg7 arg4 fo res arg8 arg9 arg10 arg11 arg12 arg13 arg14 arg15 0 6 ∗ laneAt d i arg6 ft arg7 arg4 fo res arg8 arg9 arg10 arg11 arg12 arg13 arg14 arg15 0 7 ∗ emp) : sProp 𝕄) ⊢ G) :
    (iprop(owe d (cV i) (jV i) ι O ∗ tabAt d (cV i) (jV i) arg6 fullShare ft ∗ (tblAt d (cV i) (jV i) arg3 qm fm ∗ semVal (V d (cV i) (jV i), SemLoc.dma v68_r0.sem) 0)
      ∗ (∃ fx, xAt d (cV i) (jV i) arg5 fx) ∗ (srcAt d (cV i) (jV i) arg2 qa fa ∗ semVal (V d (cV i) (jV i), SemLoc.dma v311_r1.sem) 0)
      ∗ (∃ f, arg7.view.loc (V d (cV i) (jV i)) ↦[arg7.view.set]{fullShare} f)
      ∗ bigSep Finset.univ (laneSem d i arg8 arg9 arg10 arg11 arg12 arg13 arg14 arg15) ∗ bigSep Finset.univ (laneRows d i arg4 fo)) : sProp 𝕄) ⊢ G := by
  refine BIBase.Entails.trans ?_ h
  unfold aside xInv
  rw [if_pos (by decide)]
  iintro ⟨HO, Ht, HF, Hx, ⟨Ha, Hs⟩, H7, Hsem, Hrow⟩
  ihave Ht := (pointsTo_toks_split fullShare 8) $$ Ht
  icases Ht with ⟨Htd, Hts⟩
  ihave H7 := (stage_split arg7) $$ H7
  ihave HL := (BIBase.Entails.of_eq (lanes_eq (i := i) (arg4 := arg4) (fo := fo) (res := res) (arg7 := arg7) (arg6 := arg6) (ft := ft) (d := d) (arg8 := arg8) (arg9 := arg9) (arg10 := arg10) (arg11 := arg11) (arg12 := arg12) (arg13 := arg13) (arg14 := arg14) (arg15 := arg15) 0).symm) $$ [Hsem Hts H7 Hrow]
  · isplitl [Hsem]; · iexact Hsem
    isplitl [Hts]; · iexact Hts
    isplitl [H7]; · iexact H7
    rw [show (fun b : Fin 8 => (rows d (cV i) (jV i) arg4 fo res (128 * wid i + b.val) 0 : sProp 𝕄)) = laneRows d i arg4 fo from funext rows_zero]
    iexact Hrow
  ihave HL := (BIBase.Entails.of_eq (bigSep_fin8 _)) $$ HL
  icases HL with ⟨H0, H1, H2, H3, H4, H5, H6, H7⟩
  isplitl [HF Htd]
  · isplitl [HF]; · iexact HF
    iexact Htd
  isplitl [Hx]; · iexact Hx
  isplitl [Ha]; · iexact Ha
  isplitl [Hs]; · iexact Hs
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

/-- After the loop, the first lane to the front. -/
theorem to_waits {A B C E N R G : sProp 𝕄} {S : sProp 𝕄} {L0 : sProp 𝕄} (h : (iprop(L0 ∗ E ∗ (A ∗ B ∗ C ∗ S) ∗ N ∗ R) : sProp 𝕄) ⊢ G) :
    (iprop(A ∗ B ∗ C ∗ S ∗ E ∗ L0 ∗ N ∗ R) : sProp 𝕄) ⊢ G := by
  refine BIBase.Entails.trans ?_ h
  iintro ⟨HA, HB, HC, HS, HE, HL, HN, HR⟩
  isplitl [HL]; · iexact HL
  isplitl [HE]; · iexact HE
  isplitl [HA HB HC HS]
  · isplitl [HA]; · iexact HA
    isplitl [HB]; · iexact HB
    isplitl [HC]; · iexact HC
    iexact HS
  isplitl [HN]; · iexact HN
  iexact HR

/-- What a tile ends with. -/
theorem to_end :
    (iprop(emp ∗ owe d (cV i) (jV i) ι O
      ∗ (laneAt d i arg6 ft arg7 arg4 fo res arg8 arg9 arg10 arg11 arg12 arg13 arg14 arg15 16 7 ∗ laneAt d i arg6 ft arg7 arg4 fo res arg8 arg9 arg10 arg11 arg12 arg13 arg14 arg15 16 6 ∗ laneAt d i arg6 ft arg7 arg4 fo res arg8 arg9 arg10 arg11 arg12 arg13 arg14 arg15 16 5
        ∗ laneAt d i arg6 ft arg7 arg4 fo res arg8 arg9 arg10 arg11 arg12 arg13 arg14 arg15 16 4 ∗ laneAt d i arg6 ft arg7 arg4 fo res arg8 arg9 arg10 arg11 arg12 arg13 arg14 arg15 16 3 ∗ laneAt d i arg6 ft arg7 arg4 fo res arg8 arg9 arg10 arg11 arg12 arg13 arg14 arg15 16 2
        ∗ laneAt d i arg6 ft arg7 arg4 fo res arg8 arg9 arg10 arg11 arg12 arg13 arg14 arg15 16 1 ∗ laneAt d i arg6 ft arg7 arg4 fo res arg8 arg9 arg10 arg11 arg12 arg13 arg14 arg15 16 0
        ∗ aside d i arg3 qm fm arg6 ft v68_r0 ∗ xInv d (cV i) (jV i) arg5 X (wid i) 16 ∗ srcAt d (cV i) (jV i) arg2 qa fa ∗ semVal (V d (cV i) (jV i), SemLoc.dma v311_r1.sem) 0)
      ∗ emp) : sProp 𝕄)
    ⊢ iprop((tblAt d (cV i) (jV i) arg3 qm fm ∗ semVal (V d (cV i) (jV i), SemLoc.dma v68_r0.sem) 0) ∗ (∃ ft, tabAt d (cV i) (jV i) arg6 fullShare ft)
      ∗ owe d (cV i) (jV i) ι O ∗ (∃ fx, xAt d (cV i) (jV i) arg5 fx) ∗ (srcAt d (cV i) (jV i) arg2 qa fa ∗ semVal (V d (cV i) (jV i), SemLoc.dma v311_r1.sem) 0)
      ∗ (∃ f, arg7.view.loc (V d (cV i) (jV i)) ↦[arg7.view.set]{fullShare} f)
      ∗ bigSep Finset.univ (laneSem d i arg8 arg9 arg10 arg11 arg12 arg13 arg14 arg15) ∗ bigSep Finset.univ (laneRows d i arg4 res)) := by
  unfold aside xInv
  rw [if_pos (by decide)]
  iintro ⟨-, HO, ⟨H7, H6, H5, H4, H3, H2, H1, H0, ⟨HF, Htd⟩, Hx, Ha, Hs⟩, -⟩
  ihave HL := (BIBase.Entails.of_eq (bigSep_fin8 (laneAt d i arg6 ft arg7 arg4 fo res arg8 arg9 arg10 arg11 arg12 arg13 arg14 arg15 16)).symm) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave HL := (BIBase.Entails.of_eq (lanes_eq 16)) $$ HL
  icases HL with ⟨Hsem, Hts, Hst, Hrow⟩
  isplitl [HF]; · iexact HF
  isplitl [Htd Hts]
  · iexists ft
    iapply (pointsTo_toks_join fullShare 8)
    isplitl [Htd]; · iexact Htd
    iexact Hts
  isplitl [HO]; · iexact HO
  isplitl [Hx]; · iexact Hx
  isplitl [Ha Hs]
  · isplitl [Ha]; · iexact Ha
    iexact Hs
  isplitl [Hst]
  · iapply (stage_join arg7); iexact Hst
  isplitl [Hsem]; · iexact Hsem
  rw [show (fun b : Fin 8 => (rows d (cV i) (jV i) arg4 fo res (128 * wid i + b.val) 16 : sProp 𝕄)) = laneRows d i arg4 res from funext rows_all]
  iexact Hrow

set_option maxRecDepth 65536 in
set_option maxHeartbeats 8000000 in
/-- The main loop of a tile. -/
theorem main_loop {v3 v5 : BitVec 32} {q : Fin 8 → PosShare TreeShare} {R : sProp 𝕄} {Q : Unit → sProp 𝕄}
    (hX : ∀ j, j < 819200 → arg2.view.read (Elt F) fa (ix1 819200 j) = X j) (hres : IsRes d (cV i) (jV i) arg4 res arg6 ft X)
    (h : ∀ u, (iprop(R ∗ tripInv d i ι O arg2 qa fa arg4 fo res arg5 X arg6 q ft arg7 arg8 arg9 arg10 arg11 arg12 arg13 arg14 arg15 v311_r1 16) : sProp 𝕄) ⊢ Q u) :
    (iprop(R ∗ tripInv d i ι O arg2 qa fa arg4 fo res arg5 X arg6 q ft arg7 arg8 arg9 arg10 arg11 arg12 arg13 arg14 arg15 v311_r1 0) : sProp 𝕄)
    ⊢ wp frame (wpE (defs₀ (F := F)) 𝒱 (V d (cV i) (jV i)) bd) Set.univ
      (Scf.Loop.for k0_t1_loop k0_t1_ok ⟨⟩ (k0_t1_body (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5)) Q := by
  iintro H
  iapply (Scf.wp_for (M := 𝕄) frame (wpE (defs₀ (F := F)) 𝒱 (V d (cV i) (jV i)) bd) Set.univ k0_t1_loop.lb k0_t1_loop.ub k0_t1_loop.st k0_t1_ok PUnit.unit
    (k0_t1_body (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8 v3 v5)
    (fun p _ => iprop(R ∗ tripInv d i ι O arg2 qa fa arg4 fo res arg5 X arg6 q ft arg7 arg8 arg9 arg10 arg11 arg12 arg13 arg14 arg15 v311_r1 p))
    (fun p u => (sep_mono_right (trip (k0_t1 := p) u hX hres)).trans (wp_frame_l frame (wpE (defs₀ (F := F)) 𝒱 (V d (cV i) (jV i)) bd) Set.univ)))
  isplitl [H]; · iexact H
  iintro %u H
  iapply (h u); iexact H

set_option maxRecDepth 65536 in
set_option maxHeartbeats 8000000 in
/-- A tile's work: from its part of the output at any contents to its part at the result. -/
theorem body (hX : ∀ j, j < 819200 → arg2.view.read (Elt F) fa (ix1 819200 j) = X j) (hT : ∀ n, arg3.view.read (Elt F) fm (ix1 12864 n) = tb n)
    (hres : ∀ r, r < 4096 → ∀ j, j < 12800 → (outRow arg4 r).view.read (Elt F) res (ix1 12800 j) = tgt tb (rowX X r) j) :
    (iprop((tblAt d (cV i) (jV i) arg3 qm fm ∗ semVal (V d (cV i) (jV i), SemLoc.dma v68_r0.sem) 0) ∗ (∃ ft, tabAt d (cV i) (jV i) arg6 fullShare ft)
      ∗ owe d (cV i) (jV i) ι O ∗ (∃ fx, xAt d (cV i) (jV i) arg5 fx) ∗ (srcAt d (cV i) (jV i) arg2 qa fa ∗ semVal (V d (cV i) (jV i), SemLoc.dma v311_r1.sem) 0)
      ∗ (∃ f, arg7.view.loc (V d (cV i) (jV i)) ↦[arg7.view.set]{fullShare} f)
      ∗ bigSep Finset.univ (laneSem d i arg8 arg9 arg10 arg11 arg12 arg13 arg14 arg15) ∗ bigSep Finset.univ (laneRows d i arg4 fo)) : sProp 𝕄)
    ⊢ wp frame (wpE (defs₀ (F := F)) 𝒱 (V d (cV i) (jV i)) bd) Set.univ (cc0__pos_embed_sc (F := F) i arg2 harg2 arg3 harg3 arg4 harg4 arg5 harg5 arg6 harg6 arg7 harg7 arg8 arg9 arg10 arg11 arg12 arg13 arg14 arg15 v68_r0 v311_r1 v311_r2 v311_r3 v311_r4 v311_r5 v311_r6 v311_r7 v311_r8)
      fun _ => iprop((tblAt d (cV i) (jV i) arg3 qm fm ∗ semVal (V d (cV i) (jV i), SemLoc.dma v68_r0.sem) 0) ∗ (∃ ft, tabAt d (cV i) (jV i) arg6 fullShare ft)
      ∗ owe d (cV i) (jV i) ι O ∗ (∃ fx, xAt d (cV i) (jV i) arg5 fx) ∗ (srcAt d (cV i) (jV i) arg2 qa fa ∗ semVal (V d (cV i) (jV i), SemLoc.dma v311_r1.sem) 0)
      ∗ (∃ f, arg7.view.loc (V d (cV i) (jV i)) ↦[arg7.view.set]{fullShare} f)
      ∗ bigSep Finset.univ (laneSem d i arg8 arg9 arg10 arg11 arg12 arg13 arg14 arg15) ∗ bigSep Finset.univ (laneRows d i arg4 res)) := by
  refine wp_seq ?_
  refine table_fetch hT fun ft hft => ?_
  refine to_loop (fo := fo) (res := res) (X := X) ?_
  refine wp_seq ?_
  refine main_loop hX ?hr fun _ => ?_
  case hr => intro r hr j hj; rw [hft]; exact hres r hr j hj
  unfold tripInv
  refine to_waits ?_
  refine last_wait ?hN0 ?_
  case hN0 => rfl
  refine last_wait ?hN1 ?_
  case hN1 => rfl
  refine wp_retI ?_
  refine wp_seq ?_
  refine last_wait ?hN2 ?_
  case hN2 => rfl
  refine last_wait ?hN3 ?_
  case hN3 => rfl
  refine last_wait ?hN4 ?_
  case hN4 => rfl
  refine last_wait ?hN5 ?_
  case hN5 => rfl
  refine last_wait ?hN6 ?_
  case hN6 => rfl
  refine wp_retI ?_
  refine last_one ?_
  refine last_wait ?hN7 ?_
  case hN7 => rfl
  refine wp_retI ?_
  exact to_end

end Cert.KernelIdeal
-- ==== Proof.TaskIdeal.lean ====
module

public import proofs.«01_k».proof.Defs
public import proofs.«01_k».proof.Proof.BodyIdeal
public import proofs.«01_k».proof.Proof.Deal
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

/-!
# A tile's task as the launch asks for it

The call gives each of the thirty-two tiles a share of the two flat arrays and its rows of the output, and takes them
back, the rows at the result. Here are the arrays, what the call's handshakes carry, and a tile's task.
-/

@[expose] public section

noncomputable section

namespace Cert.KernelIdeal

open Cert.Proof Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

-- the kernel's arrays and buffers as its call passes them: tokens, table, output, token buffer, table buffer, staging rows
abbrev aV : Memref sig .scVector .hbm S819200 .i32 := Memref.whole main_v0_scv
abbrev mV : Memref sig .scVector .hbm S12864 .f32 := Memref.whole main_v1_scv
abbrev oV : Memref sig .scVector .hbm S52428800 .f32 := Memref.whole main_v2_scv
abbrev xB : Memref sig .scVector .vmem S12816 .i32 := Memref.whole cc0_scratch0
abbrev tB : Memref sig .scVector .vmem S12864 .f32 := Memref.whole cc0_scratch1
abbrev wB : Memref sig .scVector .vmem S8x12800 .f32 := Memref.whole cc0_scratch2

abbrev a0' : DevRef τ sig := Proc.devRef .tc (main_arg0 : Ref sig .tc)
abbrev a1' : DevRef τ sig := Proc.devRef .tc (main_arg1 : Ref sig .tc)
abbrev x' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opX : HloOp τ sig (Elt F) := StableHlo.reshape main_arg0 main_v0 (rfl : (.i32 : EltTy) = .i32) shapeCasts_S4096x200_S819200
abbrev opT : HloOp τ sig (Elt F) := StableHlo.reshape main_arg1 main_v1 (rfl : (.f32 : EltTy) = .f32) shapeCasts_S201x64_S12864
abbrev opR : HloOp τ sig (Elt F) := StableHlo.reshape main_v2 main_v3 (rfl : (.f32 : EltTy) = .f32) shapeCasts_S52428800_S4096x200x64

/-- The arrays at the start, before the call, and after it. -/
def V0 (d : Dev nD) : Valuation τ sig (Elt F) := fun b => m (d, b)
def V2 (d : Dev nD) : Valuation τ sig (Elt F) := (opT (F := F)).result ((opX (F := F)).result (V0 m d))

/-- The flat tokens and the flat table. -/
def xFlat (d : Dev nD) : Buf (Elt F) (xLoc d) := V2 m d x'
def tFlat (d : Dev nD) : Buf (Elt F) (tLoc d) := V2 m d t'
def xNum (d : Dev nD) (j : ℕ) : BitVec 32 := xFlat m d (ix1 819200 j)
def tNum (d : Dev nD) (j : ℕ) : Elt F .f32 := tFlat m d (ix1 12864 j)
/-- The flat output: word `j` of row `r` is the table's word for token position `j / 64`. -/
def resNum (d : Dev nD) (n : ℕ) : Elt F .f32 := tgt (tNum m d) (rowX (xNum m d) (n / 12800)) (n % 12800)
def res (d : Dev nD) : Buf (Elt F) (oLoc d) := fun i : S52428800.Idx => resNum m d (i 0).val

def V4 (d : Dev nD) : Valuation τ sig (Elt F) := Function.update (V2 m d) o' (res m d)

/-- What `main` leaves. -/
def out (d : Dev nD) : Buf (Elt F) (rLoc d) := (opR (F := F)).result (V4 m d) r'

theorem V2_o (d : Dev nD) : V2 m d o' = m (oLoc d) := by
  unfold V2
  rw [(opT (F := F)).result_of_not_mem _ (show o' ∉ ({t'} : Finset (DevRef τ sig)) by decide),
    (opX (F := F)).result_of_not_mem _ (show o' ∉ ({x'} : Finset (DevRef τ sig)) by decide)]
  rfl
theorem V2_a0 (d : Dev nD) : V2 m d a0' = m (a0Loc d) := by
  unfold V2
  rw [(opT (F := F)).result_of_not_mem _ (show a0' ∉ ({t'} : Finset (DevRef τ sig)) by decide),
    (opX (F := F)).result_of_not_mem _ (show a0' ∉ ({x'} : Finset (DevRef τ sig)) by decide)]
  rfl
theorem V2_a1 (d : Dev nD) : V2 m d a1' = m (a1Loc d) := by
  unfold V2
  rw [(opT (F := F)).result_of_not_mem _ (show a1' ∉ ({t'} : Finset (DevRef τ sig)) by decide),
    (opX (F := F)).result_of_not_mem _ (show a1' ∉ ({x'} : Finset (DevRef τ sig)) by decide)]
  rfl
theorem V4_o (d : Dev nD) : V4 m d o' = res m d := Function.update_self _ _ _
theorem V4_ne (d : Dev nD) {b : DevRef τ sig} (h : b ≠ o') : V4 m d b = V2 m d b := Function.update_of_ne h _ _

variable [FloatOps F]

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- Tile `s` of core `c`. -/
abbrev tileAt (c : Fin 2) (s : Fin 16) : grid0.Coords := coordsV c s

/-- A tile's share of the tokens, its share of the table and its rows of the output at `g`. -/
def tileRes (d : Dev nD) (L : grid0.Coords) (g : Buf (Elt F) (oLoc d)) : sProp 𝕄 :=
  iprop((srcAt d (cV L) (jV L) aV (shareTokN fullShare (wid L)) (xFlat m d) ∗ tblAt d (cV L) (jV L) mV (shareTokN fullShare (wid L)) (tFlat m d))
    ∗ bigSep Finset.univ (laneRows d L oV g))

instance tileRes_storable (d : Dev nD) (L : grid0.Coords) (g : Buf (Elt F) (oLoc d)) : BI.Storable (upEmb : UEmb _ 𝕄) (tileRes m d L g) := by
  unfold tileRes laneRows; infer_instance

/-- A core's tiles. -/
def coreRes (d : Dev nD) (c : Fin 2) (g : Buf (Elt F) (oLoc d)) : sProp 𝕄 := bigSep Finset.univ fun s : Fin 16 => tileRes m d (tileAt c s) g

instance coreRes_storable (d : Dev nD) (c : Fin 2) (g : Buf (Elt F) (oLoc d)) : BI.Storable (upEmb : UEmb _ 𝕄) (coreRes m d c g) := by
  unfold coreRes; infer_instance

def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (res m d)
  go := fun q d c i => match q with | 0 => tileRes m d (tileAt (Fin.cast nCore_zero c) (Fin.cast nSub_zero i)) (m (oLoc d))
  td := fun q d c i => match q with | 0 => tileRes m d (tileAt (Fin.cast nCore_zero c) (Fin.cast nSub_zero i)) (res m d)
  x := fun _ _ => iprop(emp)

theorem P_st (d : Dev nD) (c : Fin ((K (F := F)).nCore 0)) : (P m).st 0 d c = coreRes m d (Fin.cast nCore_zero c) (m (oLoc d)) := by
  simp only [P]
theorem P_dn (d : Dev nD) (c : Fin ((K (F := F)).nCore 0)) : (P m).dn 0 d c = coreRes m d (Fin.cast nCore_zero c) (res m d) := by
  simp only [P]
theorem P_go (d : Dev nD) (c : Fin ((K (F := F)).nCore 0)) (i : Fin ((K (F := F)).nSub 0)) :
    (P m).go 0 d c i = tileRes m d (tileAt (Fin.cast nCore_zero c) (Fin.cast nSub_zero i)) (m (oLoc d)) := by
  simp only [P]
theorem P_td (d : Dev nD) (c : Fin ((K (F := F)).nCore 0)) (i : Fin ((K (F := F)).nSub 0)) :
    (P m).td 0 d c i = tileRes m d (tileAt (Fin.cast nCore_zero c) (Fin.cast nSub_zero i)) (res m d) := by
  simp only [P]

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## A tile's semaphores and buffers -/

section Tile

variable (d : Dev nD) (L : grid0.Coords)

/-- The semaphores of the two fetches, then the lanes'. -/
abbrev fetchSem : Fin 2 → DmaSem sig := ![cc0_scoped0.sem, cc0_scoped1.sem]
abbrev usedSem : Fin 10 → DmaSem sig :=
  ![cc0_scoped0.sem, cc0_scoped1.sem, cc0_scratch3.sem, cc0_scratch4.sem, cc0_scratch5.sem, cc0_scratch6.sem, cc0_scratch7.sem, cc0_scratch8.sem, cc0_scratch9.sem, cc0_scratch10.sem]

abbrev usedCell (k : Fin 10) : GSem nD τ sig := (V d (cV L) (jV L), SemLoc.dma (usedSem k))

omit [FloatOps F] in
theorem usedSem_injective : Function.Injective fun k => (SemLoc.dma (usedSem k) : SemLoc sig) := by decide
omit [FloatOps F] in
theorem usedSem_scoped : ∀ k, (SemLoc.dma (usedSem k) : SemLoc sig).isScoped .scVector = true := by decide

omit [FloatOps F] in
theorem ownSems0_V : (ownSems0 (V d (cV L) (jV L)) : sProp 𝕄)
    = iprop((bigSep Finset.univ fun k => semVal (usedCell d L k) 0)
      ∗ bigSep (ownCells (V d (cV L) (jV L)) \ Finset.univ.image (usedCell d L)) fun g => semVal g 0) := by
  unfold SparseCore.Cfg.ownSems0
  exact Cert.Proof.bigSep_pick (usedCell d L) (fun k k' e => usedSem_injective (Prod.mk.inj e).2)
    (fun k => (mem_ownCells (g := usedCell d L k)).mpr ⟨rfl, usedSem_scoped k⟩) fun g => semVal g 0

omit [FloatOps F] in
/-- The semaphores used: the fetches' two and the lanes' eight. -/
theorem usedSems_eq : (bigSep Finset.univ fun k => (semVal (usedCell d L k) 0 : sProp 𝕄))
    = iprop(semVal (V d (cV L) (jV L), SemLoc.dma cc0_scoped0.sem) 0 ∗ semVal (V d (cV L) (jV L), SemLoc.dma cc0_scoped1.sem) 0
      ∗ bigSep Finset.univ (laneSem d L cc0_scratch3 cc0_scratch4 cc0_scratch5 cc0_scratch6 cc0_scratch7 cc0_scratch8 cc0_scratch9 cc0_scratch10)) := by
  rw [bigSep_univ_head, bigSep_univ_head]
  refine congrArg (fun X => iprop(semVal _ 0 ∗ semVal _ 0 ∗ X)) (bigSep_congr fun b _ => ?_)
  fin_cases b <;> rfl

abbrev usedBuf : Fin 3 → Ref sig .scVector := ![cc0_scratch0, cc0_scratch1, cc0_scratch2]

omit [FloatOps F] in
theorem usedBuf_injective : Function.Injective usedBuf := by decide

omit [FloatOps F] in
theorem usedBuf_mem (k : Fin 3) : (Proc.scVector (cV L) (jV L)).devRef (usedBuf k) ∈ ownRefs (τ := τ) (.scVector (cV L) (jV L)) := by
  refine SparseCore.Cfg.mem_ownRefs_of_owner (p := Proc.scVector (cV L) (jV L)) (b := (Proc.scVector (cV L) (jV L)).devRef (usedBuf k)) ?_
  fin_cases k <;> rfl

omit [FloatOps F] in
theorem ownBufs_V : (ownBufs (V d (cV L) (jV L)) : sProp 𝕄)
    = iprop((bigSep Finset.univ fun k => iprop(∃ f, (V d (cV L) (jV L)).loc (usedBuf k) ↦{fullShare} f))
      ∗ bigSep (ownRefs (τ := τ) (.scVector (cV L) (jV L)) \ Finset.univ.image fun k => (Proc.scVector (cV L) (jV L)).devRef (usedBuf k))
          fun b => iprop(∃ f, ((d, b) : Loc nD τ sig) ↦{fullShare} f)) := by
  unfold SparseCore.Cfg.ownBufs
  exact Cert.Proof.bigSep_pick (fun k => (Proc.scVector (cV L) (jV L)).devRef (usedBuf k))
    (fun k k' e => usedBuf_injective (Proc.devRef_injective _ e)) (usedBuf_mem L)
    fun b => iprop(∃ f, ((d, b) : Loc nD τ sig) ↦{fullShare} f)

omit [FloatOps F] in
/-- The buffers used, as the kernel names them. -/
theorem usedBufs_eq : (bigSep Finset.univ fun k => (iprop(∃ f, (V d (cV L) (jV L)).loc (usedBuf k) ↦{fullShare} f) : sProp 𝕄))
    = iprop((∃ f, xAt d (cV L) (jV L) xB f) ∗ (∃ f, tabAt d (cV L) (jV L) tB fullShare f)
      ∗ ∃ f, wB.view.loc (V d (cV L) (jV L)) ↦[wB.view.set]{fullShare} f) := by
  unfold xAt tabAt
  rw [show (xB).view.set = Finset.univ from View.set_whole _, show (tB).view.set = Finset.univ from View.set_whole _,
    show (wB).view.set = Finset.univ from View.set_whole _]
  rw [bigSep_univ_head, bigSep_univ_head, bigSep_univ_of_subsingleton (0 : Fin 1)]
  rfl

/-! ## A tile's task -/

theorem hX (j : ℕ) (_ : j < 819200) : (aV).view.read (Elt F) (xFlat m d) (ix1 819200 j) = xNum m d j := rfl
theorem hT (n : ℕ) : (mV).view.read (Elt F) (tFlat m d) (ix1 12864 n) = tNum m d n := rfl

theorem hres (r : ℕ) (hr : r < 4096) (j : ℕ) (hj : j < 12800) :
    (outRow oV r).view.read (Elt F) (res m d) (ix1 12800 j) = tgt (tNum m d) (rowX (xNum m d) r) j := by
  have h : (outRow oV r).view.read (Elt F) (res m d) (ix1 12800 j)
      = res m d ((Rect.unit (s := OUTS) ![12800 * (r % 4096)] ROW.size (row_inb r)).emb (ix1 12800 j)) := rfl
  rw [h, emb1 (N := 52428800) (by omega) (row_inb r) hj]
  show resNum m d ((12800 * (r % 4096) + j) % 52428800) = _
  rw [Nat.mod_eq_of_lt hr, Nat.mod_eq_of_lt (by omega)]
  unfold resNum
  rw [show (12800 * r + j) / 12800 = r by omega, show (12800 * r + j) % 12800 = j by omega]

theorem tile_body (hF : (K (F := F)).Facts) (O : CellTallies nD τ sig (HIx 1)) (W : Waits sig (HIx 1)) (hO : ∀ g, O g none = 0) :
    iprop(levAts (K (F := F)).L (K (F := F)).lev ∗ emp ∗ tileRes m d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pos_embed_sc L aV (Memref.isWhole_whole _) mV (Memref.isWhole_whole _) oV (Memref.isWhole_whole _) xB (Memref.isWhole_whole _) tB (Memref.isWhole_whole _) wB (Memref.isWhole_whole _)
            cc0_scratch3 cc0_scratch4 cc0_scratch5 cc0_scratch6 cc0_scratch7 cc0_scratch8 cc0_scratch9 cc0_scratch10
            cc0_scoped0 cc0_scoped1 cc0_scoped2 cc0_scoped3 cc0_scoped4 cc0_scoped5 cc0_scoped6 cc0_scoped7 cc0_scoped8)
          fun _ => iprop(tileRes m d L (res m d) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V, usedSems_eq, usedBufs_eq]
  unfold tileRes
  iintro ⟨#Hlv, -, ⟨⟨Ha, Hm⟩, Ho⟩, ⟨⟨Hx, Ht, Hw⟩, Hbufs⟩, ⟨⟨Hs0, Hs1, Hs⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (V d (cV L) (jV L)) none) Set.univ) $$ [Ha Hm Ho Hx Ht Hw Hs0 Hs1 Hs HO Hmw]
  · iapply (body (i := L) (d := d) (ι := (default : HIx 1)) (O := O) (fo := m (oLoc d)) (hX m d) (hT m d) (hres m d))
    isplitl [Hm Hs0]
    · isplitl [Hm]; · iexact Hm
      iexact Hs0
    isplitl [Ht]; · iexact Ht
    isplitl [HO Hmw]
    · unfold owe
      isplitl [HO]; · iexists _; iexact HO
      iexact Hmw
    isplitl [Hx]; · iexact Hx
    isplitl [Ha Hs1]
    · isplitl [Ha]; · iexact Ha
      iexact Hs1
    isplitl [Hw]; · iexact Hw
    isplitl [Hs]; · iexact Hs
    iexact Ho
  iintro %u H
  unfold owe
  icases H with ⟨⟨Hm, Hs0⟩, Ht, ⟨⟨%W', HO⟩, -⟩, Hx, ⟨Ha, Hs1⟩, Hw, Hs, Ho⟩
  isplitl [Ha Hm Ho]
  · isplitl [Ha Hm]
    · isplitl [Ha]; · iexact Ha
      iexact Hm
    iexact Ho
  isplitl [Hx Ht Hw Hbufs]
  · isplitl [Hx Ht Hw]
    · isplitl [Hx]; · iexact Hx
      isplitl [Ht]; · iexact Ht
      iexact Hw
    iexact Hbufs
  isplitl [Hs0 Hs1 Hs Hsems]
  · isplitl [Hs0 Hs1 Hs]
    · isplitl [Hs0]; · iexact Hs0
      isplitl [Hs1]; · iexact Hs1
      iexact Hs
    iexact Hsems
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 0 ()
      = SparseCore.onTile hcore0 hsub0 (fun c s => cc0__pos_embed_sc (coordsV c s)
          aV (Memref.isWhole_whole _) mV (Memref.isWhole_whole _) oV (Memref.isWhole_whole _) xB (Memref.isWhole_whole _) tB (Memref.isWhole_whole _) wB (Memref.isWhole_whole _)
            cc0_scratch3 cc0_scratch4 cc0_scratch5 cc0_scratch6 cc0_scratch7 cc0_scratch8 cc0_scratch9 cc0_scratch10
            cc0_scoped0 cc0_scoped1 cc0_scoped2 cc0_scoped3 cc0_scoped4 cc0_scoped5 cc0_scoped6 cc0_scoped7 cc0_scoped8) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Tile

end Cert.KernelIdeal
-- ==== Proof.LaunchIdeal.lean ====
module

public import proofs.«01_k».proof.Defs
public import proofs.«01_k».proof.Proof.TaskIdeal
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

/-!
# The launch

`main` flattens the tokens and the table, calls the kernel on the thirty-two tiles and folds the result. Each tile is
given a share of the two flat arrays and its rows of the output; it brings them back, the rows at the result.
-/

@[expose] public section

noncomputable section

namespace Cert.KernelIdeal

open Cert.Proof Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays split and join -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (P m).st 0 d c ⊢ |={Set.univ}=> iprop((bigSep Finset.univ fun i => (P m).go 0 d c i) ∗ ((bigSep Finset.univ fun i => (P m).td 0 d c i) -∗ (P m).dn 0 d c))
  simp only [P_st, P_dn, P_go, P_td]
  rw [bigSep_tasks (F := F) (fun i => tileRes m d (tileAt (Fin.cast nCore_zero c) i) (m (oLoc d))),
    bigSep_tasks (F := F) (fun i => tileRes m d (tileAt (Fin.cast nCore_zero c) i) (res m d))]
  unfold coreRes
  iintro H; imodintro
  isplitl [H]; · iexact H
  iintro H; iexact H

/-- What the call takes and brings back: a share of the tokens and of the table for every tile, and the whole output. -/
theorem cores_eq (d : Dev nD) (g : Buf (Elt F) (oLoc d)) :
    (bigSep Finset.univ fun c : Fin 2 => coreRes m d c g)
      = iprop(((bigSep (Finset.range 32) fun w => xLoc d ↦{shareTokN fullShare w} xFlat m d) ∗ bigSep (Finset.range 32) fun w => tLoc d ↦{shareTokN fullShare w} tFlat m d)
        ∗ (oLoc d ↦{fullShare} g) : sProp 𝕄) := by
  have hO : (oLoc d ↦{fullShare} g : sProp 𝕄) = bigSep (Finset.range 4096) fun r => rowAt d (cV (tileAt 0 0)) (jV (tileAt 0 0)) oV r g := by
    rw [← out_rows, show (oV).view.set = Finset.univ from View.set_whole _]
  rw [hO, ← rows_range, ← tiles_range, ← tiles_range]
  simp only [← bigSep_sep']
  refine bigSep_congr fun c _ => ?_
  unfold coreRes
  refine bigSep_congr fun s _ => ?_
  unfold tileRes srcAt tblAt
  rw [show (aV).view.set = Finset.univ from View.set_whole _, show (mV).view.set = Finset.univ from View.set_whole _]
  rfl

theorem st0_eq (d : Dev nD) : (bigSep Finset.univ fun c : Fin ((K (F := F)).nCore 0) => (P m).st 0 d c)
    = bigSep Finset.univ fun c : Fin 2 => coreRes m d c (m (oLoc d)) := by
  simp only [P_st]
  exact bigSep_cores (F := F) fun c => coreRes m d c (m (oLoc d))
theorem dn0_eq (d : Dev nD) : (bigSep Finset.univ fun c : Fin ((K (F := F)).nCore 0) => (P m).dn 0 d c)
    = bigSep Finset.univ fun c : Fin 2 => coreRes m d c (res m d) := by
  simp only [P_dn]
  exact bigSep_cores (F := F) fun c => coreRes m d c (res m d)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` on the TensorCore -/

/-- The arrays of `main`. -/
abbrev S6 : Finset (DevRef τ sig) := {a0', a1', x', t', o', r'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ (xLoc d ↦{fullShare} W x') ∗ (tLoc d ↦{fullShare} W t')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (xLoc d ↦{fullShare} W main_v0) ∗ (tLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (V0 m d) := by
  rw [unscopedBufs_eq, held_S6]; rfl

/-- The arrays before the call, after it, and at the end. -/
theorem held_V2 (d : Dev nD) :
    (held (T d) S6 ((opT (F := F)).result ((opX (F := F)).result (V0 m d))) : sProp 𝕄)
      = iprop((a0Loc d ↦{fullShare} m (a0Loc d)) ∗ (a1Loc d ↦{fullShare} m (a1Loc d)) ∗ (xLoc d ↦{fullShare} xFlat m d) ∗ (tLoc d ↦{fullShare} tFlat m d)
          ∗ (oLoc d ↦{fullShare} m (oLoc d)) ∗ rLoc d ↦{fullShare} V2 m d r') := by
  show held (SparseCore.T d) S6 (V2 m d) = _
  rw [held_S6, V2_a0, V2_a1, V2_o]; rfl
theorem held_V4 (d : Dev nD) :
    (held (T d) S6 (V4 m d) : sProp 𝕄)
      = iprop((a0Loc d ↦{fullShare} m (a0Loc d)) ∗ (a1Loc d ↦{fullShare} m (a1Loc d)) ∗ (xLoc d ↦{fullShare} xFlat m d) ∗ (tLoc d ↦{fullShare} tFlat m d)
          ∗ (oLoc d ↦{fullShare} res m d) ∗ rLoc d ↦{fullShare} V2 m d r') := by
  rw [held_S6, V4_o, V4_ne m d (show a0' ≠ o' by decide), V4_ne m d (show a1' ≠ o' by decide), V4_ne m d (show x' ≠ o' by decide),
    V4_ne m d (show t' ≠ o' by decide), V4_ne m d (show r' ≠ o' by decide), V2_a0, V2_a1]; rfl
theorem held_V5 (d : Dev nD) :
    (held (T d) S6 ((opR (F := F)).result (V4 m d)) : sProp 𝕄)
      = iprop((a0Loc d ↦{fullShare} m (a0Loc d)) ∗ (a1Loc d ↦{fullShare} m (a1Loc d)) ∗ (xLoc d ↦{fullShare} (opR (F := F)).result (V4 m d) x')
          ∗ (tLoc d ↦{fullShare} (opR (F := F)).result (V4 m d) t') ∗ (oLoc d ↦{fullShare} (opR (F := F)).result (V4 m d) o') ∗ rLoc d ↦{fullShare} out m d) := by
  rw [held_S6, (opR (F := F)).result_of_not_mem (V4 m d) (b := a0') (show a0' ∉ ({r'} : Finset (DevRef τ sig)) by decide),
    (opR (F := F)).result_of_not_mem (V4 m d) (b := a1') (show a1' ∉ ({r'} : Finset (DevRef τ sig)) by decide),
    V4_ne m d (show a0' ≠ o' by decide), V4_ne m d (show a1' ≠ o' by decide), V2_a0, V2_a1]; rfl

theorem hbX : (opX (F := F)).bufs ⊆ S6 := show ({a0', x'} : Finset (DevRef τ sig)) ⊆ S6 by decide
theorem hbT : (opT (F := F)).bufs ⊆ S6 := show ({a1', t'} : Finset (DevRef τ sig)) ⊆ S6 by decide
theorem hbR : (opR (F := F)).bufs ⊆ S6 := show ({o', r'} : Finset (DevRef τ sig)) ⊆ S6 by decide

abbrev FIN (d : Dev nD) : sProp 𝕄 := iprop((a0Loc d ↦{fullShare} m (a0Loc d)) ∗ (a1Loc d ↦{fullShare} m (a1Loc d)) ∗ rLoc d ↦{fullShare} out m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hbX (V := V0 m d)) $$ [Hb Hheld]
  · isplitl [Hb] <;> iassumption
  iintro ⟨Hb, Hheld⟩
  rw [wp_ret]; imodintro
  iapply (wp_hlo_within 𝒱 (SparseCore.T d) none Set.univ (op := opT) (S := S6) hbT (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨H0, H1, Hx, Ht, Ho, Hr⟩
  ihave Hx := (pointsTo_toks_range (ℓ := xLoc d) (f := xFlat m d) fullShare 32).1 $$ Hx
  icases Hx with ⟨Hxd, Hxs⟩
  ihave Ht := (pointsTo_toks_range (ℓ := tLoc d) (f := tFlat m d) fullShare 32).1 $$ Ht
  icases Ht with ⟨Htd, Hts'⟩
  iapply ((K (F := F)).wp_run (D (F := F)) 𝒱 (EH := EH) (P := P m) κ d 0) $$ [Hst Hxs Hts' Ho Hb H0 H1 Hxd Htd Hr Hts]
  isplitr; · iexact Hctx
  isplitl [Hst]; · iexact Hst
  isplitl [Hxs Hts' Ho]
  · rw [st0_eq, cores_eq]
    isplitl [Hxs Hts']
    · isplitl [Hxs]; · iexact Hxs
      iexact Hts'
    iexact Ho
  iintro ⟨Hst, Hdn⟩
  ihave Hdn := (Entails.of_eq ((dn0_eq m d).trans (cores_eq m d _))) $$ Hdn
  icases Hdn with ⟨⟨Hxs, Hts'⟩, Ho⟩
  ihave Hx := (pointsTo_toks_range (ℓ := xLoc d) (f := xFlat m d) fullShare 32).2 $$ [Hxd Hxs]
  · isplitl [Hxd]; · iexact Hxd
    iexact Hxs
  ihave Ht := (pointsTo_toks_range (ℓ := tLoc d) (f := tFlat m d) fullShare 32).2 $$ [Htd Hts']
  · isplitl [Htd]; · iexact Htd
    iexact Hts'
  iapply (wp_hlo_within 𝒱 (SparseCore.T d) none Set.univ (op := opR) (S := S6) hbR (V := V4 m d)) $$ [Hb H0 H1 Hx Ht Ho Hr]
  · isplitl [Hb]; · iexact Hb
    rw [held_V4]
    isplitl [H0]; · iexact H0
    isplitl [H1]; · iexact H1
    isplitl [Hx]; · iexact Hx
    isplitl [Ht]; · iexact Ht
    isplitl [Ho]; · iexact Ho
    iexact Hr
  iintro ⟨Hb, Hheld⟩
  ihave Hh := (Entails.of_eq (held_V5 (F := F) m d)) $$ Hheld
  icases Hh with ⟨H0, H1, -, -, -, Hr⟩
  rw [wp_ret]; imodintro; imodintro
  isplitl [Hst]; · iexact Hst
  isplitr [Hb Hts]
  · isplitl [H0]; · iexact H0
    isplitl [H1]; · iexact H1
    iexact Hr
  isplitl [Hb] <;> iassumption

def fq (d : Dev nD) (s' : Phys nD τ sig (Elt F)) : Prop :=
  s'.mem.mem (rLoc d) = out m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The program's run and the frame -/

def QC : PUnit × MemSt nD τ sig (Elt F) → Prop := fun r =>
  (∀ c : Dev nD, r.2.mem (rLoc c) = out m c ∧ r.2.mem (a0Loc c) = m (a0Loc c) ∧ r.2.mem (a1Loc c) = m (a1Loc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal
-- ==== Proof.Take.lean ====
module

public import proofs.«01_k».proof.Proof.Words
public import Idealize.ShloMosaic.Lib.Routing.Ops
public import Idealize.ShloMosaic.Lib.ValueIdxCore
public import Idealize.ShloMosaic.Lib.Pipeline.Value

/-!
# The reference's operations at an index

The positions of the tokens (a running sum of the mask, times the mask) and `jnp.take` of a table's rows at them.
-/

@[expose] public section

noncomputable section

namespace Cert.Proof

open Idealize.ShloMosaic
open Idealize.ShloMosaic.ValueIdx (ix2 ix3 ix0 eq_ix0 eq_ix2 eq_ix3)
open Idealize.ShloMosaic.Routing (shape0 shape1 shape2 shape3)

/-! ## The running sum -/

theorem sum_cnt (xs : ℕ → BitVec 32) (n : ℕ) : ((List.range n).map fun i => if xs i = 0#32 then 0 else 1).sum = cnt xs n := by
  induction n with
  | zero => rfl
  | succ n ih => rw [List.range_succ, List.map_append, List.sum_append, ih, cnt_succ]; simp

theorem cnt_congr {xs ys : ℕ → BitVec 32} {n : ℕ} (h : ∀ k, k < n → xs k = ys k) : cnt xs n = cnt ys n := by
  induction n with
  | zero => rfl
  | succ n ih => rw [cnt_succ, cnt_succ, ih fun k hk => h k (by omega), h n (by omega)]

/-- A position depends on the tokens up to its own. -/
theorem pos_congr {xs ys : ℕ → BitVec 32} {j : ℕ} (h : ∀ k, k < j + 1 → xs k = ys k) : pos xs j = pos ys j := by
  unfold pos
  rw [cnt_congr h, h j (by omega)]

/-- The running sum along the rows, at a row, is the running sum of that row alone. -/
theorem window_row {B N Nm1 : ℕ} (x : IVec (shape2 B N) 32) (init : IVec shape0 32)
    (h : (shape2 B N).ReduceWindows (![1, N] : Fin 2 → ℕ) ![1, 1] ![0, Nm1] ![0, 0] (shape2 B N))
    (h' : (shape2 1 N).ReduceWindows (![1, N] : Fin 2 → ℕ) ![1, 1] ![0, Nm1] ![0, 0] (shape2 1 N)) (hu : 0 < shape0.numel) (r : Fin B) (j : Fin N) :
    Host.reduceWindow IntOp.addi ![1, N] ![1, 1] ![0, Nm1] ![0, 0] x init h hu (ix2 r j)
      = Host.reduceWindow IntOp.addi ![1, N] ![1, 1] ![0, Nm1] ![0, 0] (fun y : (shape2 1 N).Idx => x (ix2 r (y 1))) init h' hu (ix2 (0 : Fin 1) j) := by
  unfold Host.reduceWindow
  dsimp only
  refine congrArg (fun g => List.foldl g _ _) (funext fun v => funext fun n => congrArg (IntOp.addi v) ?_)
  have hw0 : ((⟨2, ![1, N]⟩ : Shape).rowMajor.symm n 0).val = 0 := Nat.lt_one_iff.mp ((⟨2, ![1, N]⟩ : Shape).rowMajor.symm n 0).isLt
  have hr := r.isLt
  by_cases hq : Nm1 ≤ j.val * 1 + ((⟨2, ![1, N]⟩ : Shape).rowMajor.symm n 1).val ∧ j.val * 1 + ((⟨2, ![1, N]⟩ : Shape).rowMajor.symm n 1).val - Nm1 < N
  · rw [dif_pos, dif_pos]
    · refine congrArg x (funext fun a => Fin.ext ?_)
      match a with
      | ⟨0, _⟩ =>
        show r.val * 1 + ((⟨2, ![1, N]⟩ : Shape).rowMajor.symm n 0).val - 0 = r.val
        omega
      | ⟨1, _⟩ => rfl
    · intro a
      match a with
      | ⟨0, _⟩ =>
        show 0 ≤ 0 * 1 + ((⟨2, ![1, N]⟩ : Shape).rowMajor.symm n 0).val ∧ 0 * 1 + ((⟨2, ![1, N]⟩ : Shape).rowMajor.symm n 0).val - 0 < 1
        omega
      | ⟨1, _⟩ => exact hq
    · intro a
      match a with
      | ⟨0, _⟩ =>
        show 0 ≤ r.val * 1 + ((⟨2, ![1, N]⟩ : Shape).rowMajor.symm n 0).val ∧ r.val * 1 + ((⟨2, ![1, N]⟩ : Shape).rowMajor.symm n 0).val - 0 < B
        omega
      | ⟨1, _⟩ => exact hq
  · rw [dif_neg fun h => hq (h 1), dif_neg fun h => hq (h 1)]

/-! ## The positions -/

/-- Row `r` of the tokens. -/
def rowOf {B N : ℕ} [NeZero N] (A : IVec (shape2 B N) 32) (r : Fin B) (k : ℕ) : BitVec 32 := A (ix2 r (Fin.ofNat N k))

theorem rowOf_fin {B N : ℕ} [NeZero N] (A : IVec (shape2 B N) 32) (r : Fin B) (j : Fin N) : rowOf A r j.val = A (ix2 r j) := by
  unfold rowOf
  rw [Fin.ofNat_val_eq_self]

theorem mask_at {s : Shape} (A Z : IVec s 32) (h) (i : s.Idx) (hZ : Z i = 0#32) :
    extui 32 (cmpi .ne A Z) h i = BitVec.ofNat 32 (if A i = 0#32 then 0 else 1) := by
  show BitVec.setWidth 32 (BitVec.ofBool (A i != Z i)) = _
  rw [hZ]
  by_cases hA : A i = 0#32
  · rw [if_pos hA, hA]; rfl
  · rw [if_neg hA, show (A i != 0#32) = true from bne_iff_ne.mpr hA]; rfl

/-- The running sum of the mask, times the mask: the position of the token. -/
theorem pos_at {B N Nm1 : ℕ} [NeZero N] (hN : Nm1 + 1 = N) (A : IVec (shape2 B N) 32) (M : IVec (shape2 B N) 32)
    (hM : ∀ r j, M (ix2 r j) = BitVec.ofNat 32 (if A (ix2 r j) = 0#32 then 0 else 1)) (init : IVec shape0 32) (hinit : init ix0 = 0#32)
    (h : (shape2 B N).ReduceWindows (![1, N] : Fin 2 → ℕ) ![1, 1] ![0, Nm1] ![0, 0] (shape2 B N))
    (h' : (shape2 1 N).ReduceWindows (![1, N] : Fin 2 → ℕ) ![1, 1] ![0, Nm1] ![0, 0] (shape2 1 N)) (hu : 0 < shape0.numel) (r : Fin B) (j : Fin N) :
    muli (Host.reduceWindow IntOp.addi ![1, N] ![1, 1] ![0, Nm1] ![0, 0] M init h hu) M (ix2 r j) = BitVec.ofNat 32 (pos (rowOf A r) j.val) := by
  show Host.reduceWindow IntOp.addi ![1, N] ![1, 1] ![0, Nm1] ![0, 0] M init h hu (ix2 r j) * M (ix2 r j) = _
  rw [window_row M init h h' hu r j,
    Routing.cumsum2 hN _ (fun i => if rowOf A r i = 0#32 then 0 else 1) (fun i => by rw [rowOf_fin]; exact hM r i) init hinit h' hu j, sum_cnt, hM, ← rowOf_fin A r j]
  unfold pos
  by_cases hA : rowOf A r j.val = 0#32
  · rw [if_pos hA, if_pos hA]; exact BitVec.mul_zero
  · rw [if_neg hA, if_neg hA]; exact BitVec.mul_one _

/-! ## The take -/

section Take

variable {α : Type}

/-- `jnp.take(table, positions, axis=0)`: whole rows of a table at a rectangle of row numbers. -/
abbrev takeDims (N R C B : ℕ) (wf : GatherDims.WF ⟨2, ![N, B]⟩ ⟨3, ![R, C, 1]⟩ ⟨3, ![R, C, B]⟩ [2] [0] [] [0] [] 2 ![1, B]) :
    GatherDims ⟨2, ![N, B]⟩ ⟨3, ![R, C, 1]⟩ ⟨3, ![R, C, B]⟩ where
  offsetDims := [2]
  collapsedSliceDims := [0]
  operandBatchingDims := []
  startIndicesBatchingDims := []
  startIndexMap := [0]
  indexVectorDim := 2
  sliceSizes := ![1, B]
  wf := wf

theorem toInt_ofNat {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

theorem gather_rows {N R C B : ℕ} (wf) (x : (⟨2, ![N, B]⟩ : Shape).Idx → α) (idx : IVec ⟨3, ![R, C, 1]⟩ 32) (r : Fin R) (c : Fin C) (e : Fin B) (b : Fin N)
    (hb : idx (ix3 r c (0 : Fin 1)) = BitVec.ofNat 32 b.val) (hN : N < 2 ^ 31) :
    Host.gather (takeDims N R C B wf) x idx (ix3 r c e) = x (ix2 b e) := by
  unfold Host.gather
  refine congrArg x (funext fun a => Fin.ext ?_)
  show (takeDims N R C B wf).start (ix3 r c e) idx a + (takeDims N R C B wf).batchCoord (ix3 r c e) a + (takeDims N R C B wf).offCoord (ix3 r c e) a = _
  rw [GatherDims.batchCoord_eq_zero _ _ _ List.not_mem_nil]
  have hb' := b.isLt
  have ha : a = 0 ∨ a = 1 := by
    match a with
    | ⟨0, _⟩ => exact .inl rfl
    | ⟨1, _⟩ => exact .inr rfl
  rcases ha with rfl | rfl
  · have h0 : (0 : Fin 2) ∈ (takeDims N R C B wf).startIndexMap := List.mem_singleton.mpr rfl
    have hsi : (takeDims N R C B wf).siIdx (ix3 r c e) ⟨List.idxOf (0 : Fin 2) (takeDims N R C B wf).startIndexMap, List.idxOf_lt_length_iff.2 h0⟩
        = ix3 r c (0 : Fin 1) := by
      funext b'; refine Fin.ext ?_
      match b' with
      | ⟨0, _⟩ => rfl
      | ⟨1, _⟩ => rfl
      | ⟨2, _⟩ => rfl
    rw [GatherDims.offCoord_eq_zero _ _ _ fun h => ((GatherDims.mem_sKept _ _).mp h).1 (List.mem_singleton.mpr rfl)]
    unfold GatherDims.start
    rw [dif_pos h0, hsi, hb, toInt_ofNat (by omega)]
    show min b.val (N - 1) + 0 + 0 = b.val
    omega
  · have h1 : (1 : Fin 2) ∉ (takeDims N R C B wf).startIndexMap := fun h => absurd (congrArg Fin.val (List.mem_singleton.mp h)) Nat.one_ne_zero
    have h2 : (1 : Fin 2) ∈ (takeDims N R C B wf).sKept := (GatherDims.mem_sKept _ _).mpr ⟨h1, List.not_mem_nil⟩
    unfold GatherDims.start GatherDims.offCoord
    rw [dif_neg h1, dif_pos h2]
    show 0 + 0 + e.val = e.val
    omega

theorem reduce_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize List.filter _ _ = l
  induction l with
  | nil => rfl
  | cons a l ih => rw [List.foldl_cons, hx]; exact ih

/-- A number that is not negative is not wrapped. -/
theorem wrap_at {s : Shape} (w z d : IVec s 32) (i : s.Idx) {k : ℕ} (hw : w i = BitVec.ofNat 32 k) (hk : k < 2 ^ 31) (hz : z i = 0#32) :
    select (cmpi .slt w z) d w i = BitVec.ofNat 32 k := by
  show (if BitVec.ofBool ((w i).slt (z i)) = 1#1 then d i else w i) = _
  have h0 : (BitVec.ofNat 32 k).slt 0#32 = false := by
    rw [BitVec.slt, toInt_ofNat hk]
    simp
  rw [hz, hw, h0]
  rfl

/-- A number in the table's range passes the range test. -/
theorem inRange_at {s : Shape} (w lo hi : IVec s 32) (i : s.Idx) {k n : ℕ} (hw : w i = BitVec.ofNat 32 k) (hk : k ≤ n) (hn : n < 2 ^ 31)
    (hlo : lo i = 0#32) (hhi : hi i = BitVec.ofNat 32 n) : andi (cmpi .sge w lo) (cmpi .sle w hi) i = 1#1 := by
  show BitVec.ofBool ((lo i).sle (w i)) &&& BitVec.ofBool ((w i).sle (hi i)) = 1#1
  have h1 : (0#32).sle (BitVec.ofNat 32 k) = true := by
    rw [BitVec.sle, toInt_ofNat (n := k) (by omega)]
    exact decide_eq_true (Int.natCast_nonneg k)
  have h2 : (BitVec.ofNat 32 k).sle (BitVec.ofNat 32 n) = true := by
    rw [BitVec.sle, toInt_ofNat (by omega), toInt_ofNat hn]
    simpa using hk
  rw [hlo, hhi, hw, h1, h2]
  rfl

theorem select_one {s : Shape} (c : IVec s 1) (a b : s.Idx → α) (i : s.Idx) (h : c i = 1#1) : select c a b i = a i := by
  show (if c i = 1 then a i else b i) = a i
  exact if_pos h

end Take

end Cert.Proof
-- ==== Proof.Reference.lean ====
module

public import proofs.«01_k».proof.Defs
public import proofs.«01_k».proof.Proof.Take
public import proofs.«01_k».proof.Proof.Gen.ReferenceIdeal
public import proofs.«01_k».proof.Proof.Gen.ReferenceIdeal.Run
public import Idealize.ShloMosaic.Lib.Routing.OpsSearch

/-!
# What the reference leaves

Element `(r, j, e)` of the result is the table's element `e` of the row that is the position of token `j` of row `r`.
-/

@[expose] public section

noncomputable section

namespace Cert.ReferenceIdeal

open Cert.Proof Cert.ReferenceIdeal.Gen
open Idealize.ShloMosaic Idealize.SL.Sem
open Idealize.ShloMosaic.ValueIdx (ix2 ix3 ix0 eq_ix0 eq_ix2 eq_ix3)
open Idealize.ShloMosaic.Routing (shape0 shape1 shape2 shape3 bc0 bcLane)

variable {F : FTy → Type} [FloatOps F]

/-- The row of the table for token `(r, j)`. -/
def posFin (A : IVec S4096x200 32) (r : Fin 4096) (j : Fin 200) : Fin 201 :=
  ⟨pos (rowOf A r) j.val, by have h := pos_le (rowOf A r) j.val; have h' := j.isLt; omega⟩

/-- `jnp.take` of the table at row numbers in its range. -/
theorem take_at (tab : S201x64.Idx → Elt F .f32) (q : IVec S4096x200 32) (k : Fin 4096 → Fin 200 → Fin 201)
    (hq : ∀ r j, q (ix2 r j) = BitVec.ofNat 32 (k r j).val) (nan : S4096x200x64.Idx → Elt F .f32) (r : Fin 4096) (j : Fin 200) (e : Fin 64) :
    select (broadcastInDim S4096x200x64 ![0, 1] bcast_S4096x200_S4096x200x64_0_1 (Host.reduce IntOp.andi
        (andi (cmpi .sge (broadcastInDim S4096x200x1 ![0, 1] bcast_S4096x200_S4096x200x1_0_1 q) (broadcastInDim S4096x200x1 ![] bcast_S_S4096x200x1 (constantI S_ 32 0#32)))
          (cmpi .sle (broadcastInDim S4096x200x1 ![0, 1] bcast_S4096x200_S4096x200x1_0_1 q)
            (broadcastInDim S4096x200x1 ![0, 1, 2] bcast_S1x1x1_S4096x200x1_0_1_2 (broadcastInDim S1x1x1 ![2] bcast_S1_S1x1x1_2 (constantI S1 32 200#32)))))
        (constantI S_ 1 1#1) reducesTo_S4096x200x1_S4096x200_d2 h_S_))
      (Host.gather gather_S201x64_S4096x200x1_S4096x200x64_2_0_n_n_0_2_164 tab (broadcastInDim S4096x200x1 ![0, 1] bcast_S4096x200_S4096x200x1_0_1 q))
      nan (ix3 r j e) = tab (ix2 (k r j) e) := by
  have hl : ∀ r j, broadcastInDim S4096x200x1 ![0, 1] bcast_S4096x200_S4096x200x1_0_1 q (ix3 r j (0 : Fin 1)) = BitVec.ofNat 32 (k r j).val := fun r j =>
    (bcLane (a := 4096) (b := 200) bcast_S4096x200_S4096x200x1_0_1 q r j).trans (hq r j)
  refine (select_one _ _ _ _ ?_).trans (gather_rows (N := 201) (R := 4096) (C := 200) (B := 64) _ tab _ r j e (k r j) (hl r j) (by decide))
  refine reduce_ones _ _ _ _ (fun i => ?_) (fun _ => rfl) _
  obtain ⟨p, l, z, rfl⟩ : ∃ (p : Fin 4096) (l : Fin 200) (z : Fin 1), i = ix3 p l z := ⟨_, _, _, eq_ix3 i⟩
  obtain rfl : z = 0 := Subsingleton.elim z 0
  exact inRange_at _ _ _ _ (n := 200) (hl p l) (by have h := (k p l).isLt; omega) (by decide) rfl rfl

set_option maxRecDepth 65536 in
theorem res_at (m : (ℓ : Loc nD τ sig) → Buf (Elt F) ℓ) (c : Dev nD) (r : Fin 4096) (j : Fin 200) (e : Fin 64) :
    Value.res_main_v5 m c (ix3 r j e)
      = m ((c.tc : Thread nD τ).loc main_arg1) (ix2 (posFin (m ((c.tc : Thread nD τ).loc main_arg0)) r j) e) := by
  unfold Value.res_main_v5
  refine take_at _ _ (posFin (m ((c.tc : Thread nD τ).loc main_arg0))) (fun r j => ?_) _ r j e
  refine wrap_at _ _ _ _ ?_ (by have h := (posFin (m ((c.tc : Thread nD τ).loc main_arg0)) r j).isLt; omega) rfl
  exact pos_at (B := 4096) (N := 200) (Nm1 := 199) rfl (m ((c.tc : Thread nD τ).loc main_arg0)) _ (fun r j => mask_at _ _ _ _ rfl) _ rfl _ (by decide) _ r j

/-- The reference runs, its arguments end unchanged, every counter at zero: it has no semaphore. -/
theorem frame : Cert.quiescent_ReferenceIdeal := fun m ρ _ =>
  (θ_run Cert.ReferenceIdeal.defs _ _).mono (fun r h => ⟨fun c => (h c).2, sem_eq_zero_of_no_sems (by decide) r.2⟩) (Value.run (F := Ideal) m ρ)

end Cert.ReferenceIdeal
-- ==== Proof.Agree.lean ====
module

public import proofs.«01_k».proof.Proof.LaunchIdeal
public import proofs.«01_k».proof.Proof.Reference

/-!
# The kernel leaves what the reference leaves

The kernel's result read at an element, the flat arrays folded: the table's element of the row that is the token's position.
-/

@[expose] public section

noncomputable section

namespace Cert.KernelIdeal

open Cert.Proof Cert.KernelIdeal.Gen
open Idealize.ShloMosaic Idealize.SL.Sem
open Idealize.ShloMosaic.ValueIdx (ix2 ix3 ix0 eq_ix0 eq_ix2 eq_ix3)

variable {F : FTy → Type} [FloatOps F]
variable (m : (ℓ : Loc nD τ sig) → Buf (Elt F) ℓ)

theorem xNum_at (d : Dev nD) (r : Fin 4096) (j : Fin 200) : xNum m d (200 * r.val + j.val) = m (a0Loc d) (ix2 r j) := by
  have hr := r.isLt
  have hj := j.isLt
  unfold xNum xFlat V2
  rw [(opT (F := F)).result_of_not_mem _ (show x' ∉ ({t'} : Finset (DevRef τ sig)) by decide)]
  refine (congrFun (StableHlo.reshape_result main_arg0 main_v0 _ _ _ _ (V0 m d)) _).trans ?_
  refine shapeCast_apply _ _ _ (ix2 r j) ?_
  refine (Shape.rowMajor_val_two (d := ![4096, 200]) _).trans (Eq.trans ?_ (Shape.rowMajor_val_one (d := ![819200]) _).symm)
  show r.val * 200 + j.val = (200 * r.val + j.val) % 819200
  omega

theorem tNum_at (d : Dev nD) (b : Fin 201) (e : Fin 64) : tNum m d (64 * b.val + e.val) = m (a1Loc d) (ix2 b e) := by
  have hb := b.isLt
  have he := e.isLt
  unfold tNum tFlat V2
  refine (congrFun (StableHlo.reshape_result main_arg1 main_v1 _ _ _ _ _) _).trans ?_
  refine (shapeCast_apply _ _ _ (ix2 b e) ?_).trans ?_
  · refine (Shape.rowMajor_val_two (d := ![201, 64]) _).trans (Eq.trans ?_ (Shape.rowMajor_val_one (d := ![12864]) _).symm)
    show b.val * 64 + e.val = (64 * b.val + e.val) % 12864
    omega
  · exact congrFun ((opX (F := F)).result_of_not_mem (V0 m d) (b := a1') (show a1' ∉ ({x'} : Finset (DevRef τ sig)) by decide)) _

theorem out_at (d : Dev nD) (r : Fin 4096) (j : Fin 200) (e : Fin 64) :
    out m d (ix3 r j e) = m (a1Loc d) (ix2 (Cert.ReferenceIdeal.posFin (m (a0Loc d)) r j) e) := by
  have hr := r.isLt
  have hj := j.isLt
  have he := e.isLt
  unfold out
  refine (congrFun (StableHlo.reshape_result main_v2 main_v3 _ _ _ _ (V4 m d)) _).trans ?_
  refine (shapeCast_apply _ _ _ (ix1 52428800 (12800 * r.val + (64 * j.val + e.val))) ?_).trans ?_
  · refine (Shape.rowMajor_val_one (d := ![52428800]) _).trans (Eq.trans ?_ (Shape.rowMajor_val_three (d := ![4096, 200, 64]) _).symm)
    show (12800 * r.val + (64 * j.val + e.val)) % 52428800 = (r.val * 200 + j.val) * 64 + e.val
    omega
  · refine (congrFun (V4_o m d) _).trans ?_
    show resNum m d ((12800 * r.val + (64 * j.val + e.val)) % 52428800) = _
    rw [Nat.mod_eq_of_lt (by omega)]
    unfold resNum tgt
    rw [show (12800 * r.val + (64 * j.val + e.val)) / 12800 = r.val by omega, show (12800 * r.val + (64 * j.val + e.val)) % 12800 = 64 * j.val + e.val by omega,
      show (64 * j.val + e.val) / 64 = j.val by omega, show (64 * j.val + e.val) % 64 = e.val by omega,
      pos_congr (ys := rowOf (m (a0Loc d)) r) (fun k hk => ?_)]
    · exact tNum_at m d (Cert.ReferenceIdeal.posFin (m (a0Loc d)) r j) e
    · have hk' : k < 200 := by omega
      exact (xNum_at m d r ⟨k, hk'⟩).trans (rowOf_fin (m (a0Loc d)) r ⟨k, hk'⟩).symm

end Cert.KernelIdeal

namespace Cert.Proof

open Idealize.ShloMosaic Idealize.SL.Sem
open Idealize.ShloMosaic.ValueIdx (ix2 ix3 eq_ix3)

/-- The two results, from equal arguments. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v5 m' c = Cert.KernelIdeal.out m c := by
  funext i
  obtain ⟨r, j, e, rfl⟩ : ∃ (r : Fin 4096) (j : Fin 200) (e : Fin 64), i = ix3 r j e := ⟨_, _, _, eq_ix3 i⟩
  rw [Cert.ReferenceIdeal.res_at, h0, h1]
  exact (Cert.KernelIdeal.out_at m c r j e).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Reference
public import proofs.«01_k».proof.Proof.Agree
public import Idealize.ShloMosaic.Adequacy
public import Idealize.ShloMosaic.Init

@[expose] public section

noncomputable section

-- The claims about Kernel, KernelIdeal, ReferenceIdeal also say that every semaphore counter ends at zero.

namespace Cert.Proof

open Idealize.ShloMosaic Idealize.SL.Sem

theorem frame_Kernel : Cert.quiescent_Kernel := fun m ρ _ =>
  (θ_run Cert.Kernel.defs _ _).mono (fun _ h => ⟨fun c => (h.1 c).2, h.2⟩) (Cert.Kernel.run_main (F := Bits) m ρ)

theorem frame_KernelIdeal : Cert.quiescent_KernelIdeal := fun m ρ _ =>
  (θ_run Cert.KernelIdeal.defs _ _).mono (fun _ h => ⟨fun c => (h.1 c).2, h.2⟩) (Cert.KernelIdeal.run_main (F := Ideal) m ρ)

theorem algebraic : Cert.algebraic_KernelIdeal_ReferenceIdeal := by
  intro m ρ m' ρ' _ hagree
  refine ⟨fun c => Cert.KernelIdeal.out m c, ?_, ?_⟩
  · exact (θ_run Cert.KernelIdeal.defs _ _).mono (fun _ h c => h.1 c) (Cert.KernelIdeal.run_main (F := Ideal) m ρ)
  · exact (θ_run Cert.ReferenceIdeal.defs _ _).mono
      (fun _ h c => ⟨(h c).1.trans (out_eq m m' c (hagree c).1 (hagree c).2), (h c).2⟩) (Cert.ReferenceIdeal.Value.run (F := Ideal) m' ρ')

theorem claim : Cert.Claim := ⟨Cert.Kernel.Gen.facts, Cert.KernelIdeal.Gen.facts, Cert.ReferenceIdeal.Gen.facts,
  frame_Kernel, frame_KernelIdeal, Cert.ReferenceIdeal.frame, trivial, algebraic⟩

end Cert.Proof

end
